-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_some_block : Cert.Pre_some_block.Facts] (m : (ℓ : Loc Cert.Kernel2.nD Cert.Kernel2.τ Cert.Kernel2.sig) → Buf (Elt Bits) ℓ) : Prop :=
  ∀ c : Dev Cert.Kernel2.nD,
    (Cert.Pre_some_block.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_some_block : Cert.Pre_some_block.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_some_block.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_some_block [hPre_some_block : Cert.Pre_some_block.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_some_block.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_some_block : Cert.Pre_some_block.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_some_block : Cert.Pre_some_block.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_some_block [hReference2Ideal : Cert.Reference2Ideal.Facts] [hPre_some_block : Cert.Pre_some_block.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_some_block m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_some_block : Cert.Pre_some_block.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v129_0)) (v1 : (c : Dev Cert.Kernel3Ideal.nD) → Buf (Elt Ideal) ((c.tc : Thread Cert.Kernel3Ideal.nD Cert.Kernel3Ideal.τ).loc Cert.Kernel3Ideal.main_v129_1)) (v2 : (c : Dev Cert.Kernel3Ideal.nD) → Buf (Elt Ideal) ((c.tc : Thread Cert.Kernel3Ideal.nD Cert.Kernel3Ideal.τ).loc Cert.Kernel3Ideal.main_v129_2)) (v3 : (c : Dev Cert.Kernel3Ideal.nD) → Buf (Elt Ideal) ((c.tc : Thread Cert.Kernel3Ideal.nD Cert.Kernel3Ideal.τ).loc Cert.Kernel3Ideal.main_v129_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v129_0) = v0 c
          ∧ r.2.mem ((c.tc : Thread Cert.Kernel3Ideal.nD Cert.Kernel3Ideal.τ).loc Cert.Kernel3Ideal.main_v129_1) = v1 c
          ∧ r.2.mem ((c.tc : Thread Cert.Kernel3Ideal.nD Cert.Kernel3Ideal.τ).loc Cert.Kernel3Ideal.main_v129_2) = v2 c
          ∧ r.2.mem ((c.tc : Thread Cert.Kernel3Ideal.nD Cert.Kernel3Ideal.τ).loc Cert.Kernel3Ideal.main_v129_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v187) = v1 c
          ∧ r.2.mem ((c.tc : Thread Cert.Reference3Ideal.nD Cert.Reference3Ideal.τ).loc Cert.Reference3Ideal.main_v260) = v2 c
          ∧ r.2.mem ((c.tc : Thread Cert.Reference3Ideal.nD Cert.Reference3Ideal.τ).loc Cert.Reference3Ideal.main_v262) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_some_block : Cert.Pre_some_block.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_some_block := hPre_some_block)
    ∧ quiescent_Kernel2Ideal (hKernel2Ideal := hKernel2Ideal) (hPre_some_block := hPre_some_block)
    ∧ quiescent_Reference2Ideal (hReference2Ideal := hReference2Ideal)
    ∧ quiescent_Reference2Ideal_pre_some_block (hReference2Ideal := hReference2Ideal) (hPre_some_block := hPre_some_block)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_some_block := hPre_some_block)
    ∧ preserves_Kernel3_Kernel3Ideal
    ∧ algebraic_Kernel3Ideal_Reference3Ideal (hKernel3Ideal := hKernel3Ideal) (hReference3Ideal := hReference3Ideal)
-- ==== Pre_some_block.lean ====
abbrev S32 : Shape := ⟨1, ![32]⟩
abbrev S286720x1024 : Shape := ⟨2, ![286720, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1 : Shape := ⟨1, ![1]⟩
abbrev S_ : Shape := ⟨0, ![]⟩

class Facts : Prop where
  slices_S32_S1_31 : S32.Slices ![31] S1
  shapeCasts_S1_S_ : S1.ShapeCasts S_

variable [Facts]

def fn {F : FTy → Type} [FloatOps F] (main_arg0 : IVec S32 32) (main_arg1 : FVec F S286720x1024 .f32) (main_arg2 : FVec F S32x1024x2048 .f32) (main_arg3 : FVec F S32x2048 .f32) (main_arg4 : FVec F S32x1024x1024 .f32) (main_arg5 : FVec F S32x1024 .f32) : IVec S_ 1 :=
  let main_v0 : IVec S1 32 := (extractStridedSlice S1 ![31] · slices_S32_S1_31) main_arg0
  let main_v1 : IVec S_ 32 := shapeCast S_ main_v0 shapeCasts_S1_S_
  let main_c : IVec S_ 32 := constantI S_ 32 512#32
  let main_v2 : IVec S_ 1 := cmpi .sge main_v1 main_c
  main_v2
-- ==== Kernel.lean ====
abbrev S32x2048x8x64 : Shape := ⟨4, ![32, 2048, 8, 64]⟩
abbrev S_ : Shape := ⟨0, ![]⟩
abbrev S32x128x16x512 : Shape := ⟨4, ![32, 128, 16, 512]⟩
abbrev S32x16x128x512 : Shape := ⟨4, ![32, 16, 128, 512]⟩
abbrev S32x16x128x1536 : Shape := ⟨4, ![32, 16, 128, 1536]⟩
abbrev S32x16x128x128 : Shape := ⟨4, ![32, 16, 128, 128]⟩
abbrev S1x16x128x1536 : Shape := ⟨4, ![1, 16, 128, 1536]⟩
abbrev S1x16x128x512 : Shape := ⟨4, ![1, 16, 128, 512]⟩
abbrev S1x16x128x128 : Shape := ⟨4, ![1, 16, 128, 128]⟩
abbrev S8x8x128x128 : Shape := ⟨4, ![8, 8, 128, 128]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 19
  | .vmem => 8
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x2048x8x64, .f32⟩
  | .hbm, ⟨8, _⟩ => ⟨S32x2048x8x64, .f32⟩
  | .hbm, ⟨9, _⟩ => ⟨S32x128x16x512, .f32⟩
  | .hbm, ⟨10, _⟩ => ⟨S32x16x128x512, .f32⟩
  | .hbm, ⟨11, _⟩ => ⟨S32x128x16x512, .f32⟩
  | .hbm, ⟨12, _⟩ => ⟨S32x16x128x512, .f32⟩
  | .hbm, ⟨13, _⟩ => ⟨S32x128x16x512, .f32⟩
  | .hbm, ⟨14, _⟩ => ⟨S32x16x128x512, .f32⟩
  | .hbm, ⟨15, _⟩ => ⟨S32x16x128x1536, .f32⟩
  | .hbm, ⟨16, _⟩ => ⟨S32x16x128x1536, .bf16⟩
  | .hbm, ⟨17, _⟩ => ⟨S32x16x128x512, .bf16⟩
  | .hbm, ⟨18, _⟩ => ⟨S32x16x128x128, .f32⟩
  | .local _ .vmem, ⟨0, _⟩ => ⟨S1x16x128x1536, .bf16⟩
  | .local _ .vmem, ⟨1, _⟩ => ⟨S1x16x128x1536, .bf16⟩
  | .local _ .vmem, ⟨2, _⟩ => ⟨S1x16x128x512, .bf16⟩
  | .local _ .vmem, ⟨3, _⟩ => ⟨S1x16x128x512, .bf16⟩
  | .local _ .vmem, ⟨4, _⟩ => ⟨S1x16x128x128, .f32⟩
  | .local _ .vmem, ⟨5, _⟩ => ⟨S1x16x128x128, .f32⟩
  | .local _ .vmem, ⟨6, _⟩ => ⟨S8x8x128x128, .f32⟩
  | .local _ .vmem, ⟨7, _⟩ => ⟨S8x8x128x128, .bf16⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v9 : BitVec 32 := Scalar.addi c0_i32 c2_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_34 : BitVec 32 := 1#32
  let c0_i32_35 : BitVec 32 := 0#32
  let v59 : BitVec 1 := Scalar.cmpi .eq c1_i32_34 c0_i32_35
  let c1_i32_36 : BitVec 32 := 1#32
  let v60 : BitVec 32 := Scalar.select v59 c1_i32_36 c1_i32_34
  let v61 : BitVec 32 := Scalar.remsi v11 v60
  let c0_i32_38 : BitVec 32 := 0#32
  let v63 : BitVec 1 := Scalar.cmpi .slt v61 c0_i32_38
  let c0_i32_39 : BitVec 32 := 0#32
  let v64 : BitVec 1 := Scalar.cmpi .slt v60 c0_i32_39
  let v65 : BitVec 1 := Scalar.xori v63 v64
  let c0_i32_37 : BitVec 32 := 0#32
  let v62 : BitVec 1 := Scalar.cmpi .ne v61 c0_i32_37
  let v66 : BitVec 1 := Scalar.andi v65 v62
  let v67 : BitVec 32 := Scalar.addi v61 v60
  let v68 : BitVec 32 := Scalar.select v66 v67 v61
  let c128_i32 : BitVec 32 := 128#32
  let v69 : BitVec 32 := Scalar.muli v68 c128_i32
  v69
def k0_mult2 (k0_t1 : Fin k0_t1_loop.trips) : BitVec 32 :=
  let c0_i32_43 : BitVec 32 := 0#32
  let c0_i32_42 : BitVec 32 := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_34 : BitVec 32 := 1#32
  let c0_i32_35 : BitVec 32 := 0#32
  let v59 : BitVec 1 := Scalar.cmpi .eq c1_i32_34 c0_i32_35
  let c1_i32_36 : BitVec 32 := 1#32
  let v60 : BitVec 32 := Scalar.select v59 c1_i32_36 c1_i32_34
  let v61 : BitVec 32 := Scalar.remsi v11 v60
  let c0_i32_38 : BitVec 32 := 0#32
  let v63 : BitVec 1 := Scalar.cmpi .slt v61 c0_i32_38
  let c0_i32_39 : BitVec 32 := 0#32
  let v64 : BitVec 1 := Scalar.cmpi .slt v60 c0_i32_39
  let v65 : BitVec 1 := Scalar.xori v63 v64
  let c0_i32_37 : BitVec 32 := 0#32
  let v62 : BitVec 1 := Scalar.cmpi .ne v61 c0_i32_37
  let v66 : BitVec 1 := Scalar.andi v65 v62
  let v67 : BitVec 32 := Scalar.addi v61 v60
  let v68 : BitVec 32 := Scalar.select v66 v67 v61
  let c128_i32_40 : BitVec 32 := 128#32
  let v71 : BitVec 32 := Scalar.muli v68 c128_i32_40
  let c64_i32_41 : BitVec 32 := 64#32
  let v72 : BitVec 32 := Scalar.subi v71 c64_i32_41
  let v73 : BitVec 32 := Scalar.maxsi c0_i32_42 v72
  let v74 : BitVec 32 := Scalar.minsi c0_i32_43 v73
  v74
def k0_off1 (k0_t1 : Fin k0_t1_loop.trips) (c0_i32_2 : BitVec 32) : Fin 4 → Nat :=
  let c0 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_28 : BitVec 32 := 0#32
  let v43 : BitVec 1 := Scalar.cmpi .sgt v11 c0_i32_28
  let v44 : BitVec 32 := Scalar.extui v43
  let c0_i32_29 : BitVec 32 := 0#32
  let v45 : BitVec 1 := Scalar.cmpi .slt v11 c0_i32_29
  let v46 : BitVec 32 := Scalar.extui v45
  let v47 : BitVec 32 := Scalar.subi v44 v46
  let c1_i32_27 : BitVec 32 := 1#32
  let c0_i32_30 : BitVec 32 := 0#32
  let v48 : BitVec 1 := Scalar.cmpi .sgt c1_i32_27 c0_i32_30
  let v49 : BitVec 32 := Scalar.extui v48
  let c0_i32_31 : BitVec 32 := 0#32
  let v50 : BitVec 1 := Scalar.cmpi .slt c1_i32_27 c0_i32_31
  let v51 : BitVec 32 := Scalar.extui v50
  let v52 : BitVec 32 := Scalar.subi v49 v51
  let v53 : BitVec 1 := Scalar.cmpi .ne v47 v52
  let v54 : BitVec 32 := Scalar.remsi v11 c1_i32_27
  let c0_i32_32 : BitVec 32 := 0#32
  let v55 : BitVec 1 := Scalar.cmpi .ne v54 c0_i32_32
  let v56 : BitVec 1 := Scalar.andi v53 v55
  let v42 : BitVec 32 := Scalar.divsi v11 c1_i32_27
  let c1_i32_33 : BitVec 32 := 1#32
  let v57 : BitVec 32 := Scalar.subi v42 c1_i32_33
  let v58 : BitVec 32 := Scalar.select v56 v57 v42
  let v83 : Index := Scalar.indexCast v58
  let c1_i32_34 : BitVec 32 := 1#32
  let c0_i32_35 : BitVec 32 := 0#32
  let v59 : BitVec 1 := Scalar.cmpi .eq c1_i32_34 c0_i32_35
  let c1_i32_36 : BitVec 32 := 1#32
  let v60 : BitVec 32 := Scalar.select v59 c1_i32_36 c1_i32_34
  let v61 : BitVec 32 := Scalar.remsi v11 v60
  let c0_i32_38 : BitVec 32 := 0#32
  let v63 : BitVec 1 := Scalar.cmpi .slt v61 c0_i32_38
  let c0_i32_39 : BitVec 32 := 0#32
  let v64 : BitVec 1 := Scalar.cmpi .slt v60 c0_i32_39
  let v65 : BitVec 1 := Scalar.xori v63 v64
  let c0_i32_37 : BitVec 32 := 0#32
  let v62 : BitVec 1 := Scalar.cmpi .ne v61 c0_i32_37
  let v66 : BitVec 1 := Scalar.andi v65 v62
  let v67 : BitVec 32 := Scalar.addi v61 v60
  let v68 : BitVec 32 := Scalar.select v66 v67 v61
  let c128_i32 : BitVec 32 := 128#32
  let v69 : BitVec 32 := Scalar.muli v68 c128_i32
  let v70 : BitVec 32 := v69
  let v84 : Index := Scalar.indexCast v70
  let c0_46 : Index := 0#32
  ![0, v83.toNat, v84.toNat, 0]
def k0_off2 (k0_t1 : Fin k0_t1_loop.trips) (c0_i32_2 : BitVec 32) : Fin 4 → Nat :=
  let c0_47 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_28 : BitVec 32 := 0#32
  let v43 : BitVec 1 := Scalar.cmpi .sgt v11 c0_i32_28
  let v44 : BitVec 32 := Scalar.extui v43
  let c0_i32_29 : BitVec 32 := 0#32
  let v45 : BitVec 1 := Scalar.cmpi .slt v11 c0_i32_29
  let v46 : BitVec 32 := Scalar.extui v45
  let v47 : BitVec 32 := Scalar.subi v44 v46
  let c1_i32_27 : BitVec 32 := 1#32
  let c0_i32_30 : BitVec 32 := 0#32
  let v48 : BitVec 1 := Scalar.cmpi .sgt c1_i32_27 c0_i32_30
  let v49 : BitVec 32 := Scalar.extui v48
  let c0_i32_31 : BitVec 32 := 0#32
  let v50 : BitVec 1 := Scalar.cmpi .slt c1_i32_27 c0_i32_31
  let v51 : BitVec 32 := Scalar.extui v50
  let v52 : BitVec 32 := Scalar.subi v49 v51
  let v53 : BitVec 1 := Scalar.cmpi .ne v47 v52
  let v54 : BitVec 32 := Scalar.remsi v11 c1_i32_27
  let c0_i32_32 : BitVec 32 := 0#32
  let v55 : BitVec 1 := Scalar.cmpi .ne v54 c0_i32_32
  let v56 : BitVec 1 := Scalar.andi v53 v55
  let v42 : BitVec 32 := Scalar.divsi v11 c1_i32_27
  let c1_i32_33 : BitVec 32 := 1#32
  let v57 : BitVec 32 := Scalar.subi v42 c1_i32_33
  let v58 : BitVec 32 := Scalar.select v56 v57 v42
  let v87 : Index := Scalar.indexCast v58
  let c0_i32_43 : BitVec 32 := 0#32
  let c0_i32_42 : BitVec 32 := 0#32
  let c1_i32_34 : BitVec 32 := 1#32
  let c0_i32_35 : BitVec 32 := 0#32
  let v59 : BitVec 1 := Scalar.cmpi .eq c1_i32_34 c0_i32_35
  let c1_i32_36 : BitVec 32 := 1#32
  let v60 : BitVec 32 := Scalar.select v59 c1_i32_36 c1_i32_34
  let v61 : BitVec 32 := Scalar.remsi v11 v60
  let c0_i32_38 : BitVec 32 := 0#32
  let v63 : BitVec 1 := Scalar.cmpi .slt v61 c0_i32_38
  let c0_i32_39 : BitVec 32 := 0#32
  let v64 : BitVec 1 := Scalar.cmpi .slt v60 c0_i32_39
  let v65 : BitVec 1 := Scalar.xori v63 v64
  let c0_i32_37 : BitVec 32 := 0#32
  let v62 : BitVec 1 := Scalar.cmpi .ne v61 c0_i32_37
  let v66 : BitVec 1 := Scalar.andi v65 v62
  let v67 : BitVec 32 := Scalar.addi v61 v60
  let v68 : BitVec 32 := Scalar.select v66 v67 v61
  let c128_i32_40 : BitVec 32 := 128#32
  let v71 : BitVec 32 := Scalar.muli v68 c128_i32_40
  let c64_i32_41 : BitVec 32 := 64#32
  let v72 : BitVec 32 := Scalar.subi v71 c64_i32_41
  let v73 : BitVec 32 := Scalar.maxsi c0_i32_42 v72
  let v74 : BitVec 32 := Scalar.minsi c0_i32_43 v73
  let v75 : BitVec 32 := v74
  let v88 : Index := Scalar.indexCast v75
  let c512 : Index := 512#32
  ![0, v87.toNat, v88.toNat, 512]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_69 : BitVec 32 := 1#32
  let c0_i32_70 : BitVec 32 := 0#32
  let v125 : BitVec 1 := Scalar.cmpi .eq c1_i32_69 c0_i32_70
  let c1_i32_71 : BitVec 32 := 1#32
  let v126 : BitVec 32 := Scalar.select v125 c1_i32_71 c1_i32_69
  let v127 : BitVec 32 := Scalar.remsi v13 v126
  let c0_i32_73 : BitVec 32 := 0#32
  let v129 : BitVec 1 := Scalar.cmpi .slt v127 c0_i32_73
  let c0_i32_74 : BitVec 32 := 0#32
  let v130 : BitVec 1 := Scalar.cmpi .slt v126 c0_i32_74
  let v131 : BitVec 1 := Scalar.xori v129 v130
  let c0_i32_72 : BitVec 32 := 0#32
  let v128 : BitVec 1 := Scalar.cmpi .ne v127 c0_i32_72
  let v132 : BitVec 1 := Scalar.andi v131 v128
  let v133 : BitVec 32 := Scalar.addi v127 v126
  let v134 : BitVec 32 := Scalar.select v132 v133 v127
  let c128_i32_75 : BitVec 32 := 128#32
  let v135 : BitVec 32 := Scalar.muli v134 c128_i32_75
  v135
def k0_mult4 (k0_t1 : Fin k0_t1_loop.trips) : BitVec 32 :=
  let c0_i32_79 : BitVec 32 := 0#32
  let c0_i32_78 : BitVec 32 := 0#32
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_69 : BitVec 32 := 1#32
  let c0_i32_70 : BitVec 32 := 0#32
  let v125 : BitVec 1 := Scalar.cmpi .eq c1_i32_69 c0_i32_70
  let c1_i32_71 : BitVec 32 := 1#32
  let v126 : BitVec 32 := Scalar.select v125 c1_i32_71 c1_i32_69
  let v127 : BitVec 32 := Scalar.remsi v13 v126
  let c0_i32_73 : BitVec 32 := 0#32
  let v129 : BitVec 1 := Scalar.cmpi .slt v127 c0_i32_73
  let c0_i32_74 : BitVec 32 := 0#32
  let v130 : BitVec 1 := Scalar.cmpi .slt v126 c0_i32_74
  let v131 : BitVec 1 := Scalar.xori v129 v130
  let c0_i32_72 : BitVec 32 := 0#32
  let v128 : BitVec 1 := Scalar.cmpi .ne v127 c0_i32_72
  let v132 : BitVec 1 := Scalar.andi v131 v128
  let v133 : BitVec 32 := Scalar.addi v127 v126
  let v134 : BitVec 32 := Scalar.select v132 v133 v127
  let c128_i32_76 : BitVec 32 := 128#32
  let v137 : BitVec 32 := Scalar.muli v134 c128_i32_76
  let c64_i32_77 : BitVec 32 := 64#32
  let v138 : BitVec 32 := Scalar.subi v137 c64_i32_77
  let v139 : BitVec 32 := Scalar.maxsi c0_i32_78 v138
  let v140 : BitVec 32 := Scalar.minsi c0_i32_79 v139
  v140
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_108 : BitVec 32 := 1#32
  let c0_i32_109 : BitVec 32 := 0#32
  let v191 : BitVec 1 := Scalar.cmpi .eq c1_i32_108 c0_i32_109
  let c1_i32_110 : BitVec 32 := 1#32
  let v192 : BitVec 32 := Scalar.select v191 c1_i32_110 c1_i32_108
  let v193 : BitVec 32 := Scalar.remsi v15 v192
  let c0_i32_112 : BitVec 32 := 0#32
  let v195 : BitVec 1 := Scalar.cmpi .slt v193 c0_i32_112
  let c0_i32_113 : BitVec 32 := 0#32
  let v196 : BitVec 1 := Scalar.cmpi .slt v192 c0_i32_113
  let v197 : BitVec 1 := Scalar.xori v195 v196
  let c0_i32_111 : BitVec 32 := 0#32
  let v194 : BitVec 1 := Scalar.cmpi .ne v193 c0_i32_111
  let v198 : BitVec 1 := Scalar.andi v197 v194
  let v199 : BitVec 32 := Scalar.addi v193 v192
  let v200 : BitVec 32 := Scalar.select v198 v199 v193
  let c128_i32_114 : BitVec 32 := 128#32
  let v201 : BitVec 32 := Scalar.muli v200 c128_i32_114
  v201
def k0_mult6 (k0_t1 : Fin k0_t1_loop.trips) : BitVec 32 :=
  let c0_i32_118 : BitVec 32 := 0#32
  let c0_i32_117 : BitVec 32 := 0#32
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_108 : BitVec 32 := 1#32
  let c0_i32_109 : BitVec 32 := 0#32
  let v191 : BitVec 1 := Scalar.cmpi .eq c1_i32_108 c0_i32_109
  let c1_i32_110 : BitVec 32 := 1#32
  let v192 : BitVec 32 := Scalar.select v191 c1_i32_110 c1_i32_108
  let v193 : BitVec 32 := Scalar.remsi v15 v192
  let c0_i32_112 : BitVec 32 := 0#32
  let v195 : BitVec 1 := Scalar.cmpi .slt v193 c0_i32_112
  let c0_i32_113 : BitVec 32 := 0#32
  let v196 : BitVec 1 := Scalar.cmpi .slt v192 c0_i32_113
  let v197 : BitVec 1 := Scalar.xori v195 v196
  let c0_i32_111 : BitVec 32 := 0#32
  let v194 : BitVec 1 := Scalar.cmpi .ne v193 c0_i32_111
  let v198 : BitVec 1 := Scalar.andi v197 v194
  let v199 : BitVec 32 := Scalar.addi v193 v192
  let v200 : BitVec 32 := Scalar.select v198 v199 v193
  let c128_i32_115 : BitVec 32 := 128#32
  let v203 : BitVec 32 := Scalar.muli v200 c128_i32_115
  let c64_i32_116 : BitVec 32 := 64#32
  let v204 : BitVec 32 := Scalar.subi v203 c64_i32_116
  let v205 : BitVec 32 := Scalar.maxsi c0_i32_117 v204
  let v206 : BitVec 32 := Scalar.minsi c0_i32_118 v205
  v206
def k0_mult7 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_146 : BitVec 32 := 1#32
  let c0_i32_147 : BitVec 32 := 0#32
  let v257 : BitVec 1 := Scalar.cmpi .eq c1_i32_146 c0_i32_147
  let c1_i32_148 : BitVec 32 := 1#32
  let v258 : BitVec 32 := Scalar.select v257 c1_i32_148 c1_i32_146
  let v259 : BitVec 32 := Scalar.remsi v17 v258
  let c0_i32_150 : BitVec 32 := 0#32
  let v261 : BitVec 1 := Scalar.cmpi .slt v259 c0_i32_150
  let c0_i32_151 : BitVec 32 := 0#32
  let v262 : BitVec 1 := Scalar.cmpi .slt v258 c0_i32_151
  let v263 : BitVec 1 := Scalar.xori v261 v262
  let c0_i32_149 : BitVec 32 := 0#32
  let v260 : BitVec 1 := Scalar.cmpi .ne v259 c0_i32_149
  let v264 : BitVec 1 := Scalar.andi v263 v260
  let v265 : BitVec 32 := Scalar.addi v259 v258
  let v266 : BitVec 32 := Scalar.select v264 v265 v259
  let c128_i32_152 : BitVec 32 := 128#32
  let v267 : BitVec 32 := Scalar.muli v266 c128_i32_152
  v267
def k0_mult8 (k0_t1 : Fin k0_t1_loop.trips) : BitVec 32 :=
  let c0_i32_156 : BitVec 32 := 0#32
  let c0_i32_155 : BitVec 32 := 0#32
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_146 : BitVec 32 := 1#32
  let c0_i32_147 : BitVec 32 := 0#32
  let v257 : BitVec 1 := Scalar.cmpi .eq c1_i32_146 c0_i32_147
  let c1_i32_148 : BitVec 32 := 1#32
  let v258 : BitVec 32 := Scalar.select v257 c1_i32_148 c1_i32_146
  let v259 : BitVec 32 := Scalar.remsi v17 v258
  let c0_i32_150 : BitVec 32 := 0#32
  let v261 : BitVec 1 := Scalar.cmpi .slt v259 c0_i32_150
  let c0_i32_151 : BitVec 32 := 0#32
  let v262 : BitVec 1 := Scalar.cmpi .slt v258 c0_i32_151
  let v263 : BitVec 1 := Scalar.xori v261 v262
  let c0_i32_149 : BitVec 32 := 0#32
  let v260 : BitVec 1 := Scalar.cmpi .ne v259 c0_i32_149
  let v264 : BitVec 1 := Scalar.andi v263 v260
  let v265 : BitVec 32 := Scalar.addi v259 v258
  let v266 : BitVec 32 := Scalar.select v264 v265 v259
  let c128_i32_153 : BitVec 32 := 128#32
  let v269 : BitVec 32 := Scalar.muli v266 c128_i32_153
  let c64_i32_154 : BitVec 32 := 64#32
  let v270 : BitVec 32 := Scalar.subi v269 c64_i32_154
  let v271 : BitVec 32 := Scalar.maxsi c0_i32_155 v270
  let v272 : BitVec 32 := Scalar.minsi c0_i32_156 v271
  v272
def k0_mult9 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_184 : BitVec 32 := 1#32
  let c0_i32_185 : BitVec 32 := 0#32
  let v323 : BitVec 1 := Scalar.cmpi .eq c1_i32_184 c0_i32_185
  let c1_i32_186 : BitVec 32 := 1#32
  let v324 : BitVec 32 := Scalar.select v323 c1_i32_186 c1_i32_184
  let v325 : BitVec 32 := Scalar.remsi v19 v324
  let c0_i32_188 : BitVec 32 := 0#32
  let v327 : BitVec 1 := Scalar.cmpi .slt v325 c0_i32_188
  let c0_i32_189 : BitVec 32 := 0#32
  let v328 : BitVec 1 := Scalar.cmpi .slt v324 c0_i32_189
  let v329 : BitVec 1 := Scalar.xori v327 v328
  let c0_i32_187 : BitVec 32 := 0#32
  let v326 : BitVec 1 := Scalar.cmpi .ne v325 c0_i32_187
  let v330 : BitVec 1 := Scalar.andi v329 v326
  let v331 : BitVec 32 := Scalar.addi v325 v324
  let v332 : BitVec 32 := Scalar.select v330 v331 v325
  let c128_i32_190 : BitVec 32 := 128#32
  let v333 : BitVec 32 := Scalar.muli v332 c128_i32_190
  v333
def k0_mult10 (k0_t1 : Fin k0_t1_loop.trips) : BitVec 32 :=
  let c0_i32_194 : BitVec 32 := 0#32
  let c0_i32_193 : BitVec 32 := 0#32
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_184 : BitVec 32 := 1#32
  let c0_i32_185 : BitVec 32 := 0#32
  let v323 : BitVec 1 := Scalar.cmpi .eq c1_i32_184 c0_i32_185
  let c1_i32_186 : BitVec 32 := 1#32
  let v324 : BitVec 32 := Scalar.select v323 c1_i32_186 c1_i32_184
  let v325 : BitVec 32 := Scalar.remsi v19 v324
  let c0_i32_188 : BitVec 32 := 0#32
  let v327 : BitVec 1 := Scalar.cmpi .slt v325 c0_i32_188
  let c0_i32_189 : BitVec 32 := 0#32
  let v328 : BitVec 1 := Scalar.cmpi .slt v324 c0_i32_189
  let v329 : BitVec 1 := Scalar.xori v327 v328
  let c0_i32_187 : BitVec 32 := 0#32
  let v326 : BitVec 1 := Scalar.cmpi .ne v325 c0_i32_187
  let v330 : BitVec 1 := Scalar.andi v329 v326
  let v331 : BitVec 32 := Scalar.addi v325 v324
  let v332 : BitVec 32 := Scalar.select v330 v331 v325
  let c128_i32_191 : BitVec 32 := 128#32
  let v335 : BitVec 32 := Scalar.muli v332 c128_i32_191
  let c64_i32_192 : BitVec 32 := 64#32
  let v336 : BitVec 32 := Scalar.subi v335 c64_i32_192
  let v337 : BitVec 32 := Scalar.maxsi c0_i32_193 v336
  let v338 : BitVec 32 := Scalar.minsi c0_i32_194 v337
  v338
def k0_mult11 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_222 : BitVec 32 := 1#32
  let c0_i32_223 : BitVec 32 := 0#32
  let v389 : BitVec 1 := Scalar.cmpi .eq c1_i32_222 c0_i32_223
  let c1_i32_224 : BitVec 32 := 1#32
  let v390 : BitVec 32 := Scalar.select v389 c1_i32_224 c1_i32_222
  let v391 : BitVec 32 := Scalar.remsi v21 v390
  let c0_i32_226 : BitVec 32 := 0#32
  let v393 : BitVec 1 := Scalar.cmpi .slt v391 c0_i32_226
  let c0_i32_227 : BitVec 32 := 0#32
  let v394 : BitVec 1 := Scalar.cmpi .slt v390 c0_i32_227
  let v395 : BitVec 1 := Scalar.xori v393 v394
  let c0_i32_225 : BitVec 32 := 0#32
  let v392 : BitVec 1 := Scalar.cmpi .ne v391 c0_i32_225
  let v396 : BitVec 1 := Scalar.andi v395 v392
  let v397 : BitVec 32 := Scalar.addi v391 v390
  let v398 : BitVec 32 := Scalar.select v396 v397 v391
  let c128_i32_228 : BitVec 32 := 128#32
  let v399 : BitVec 32 := Scalar.muli v398 c128_i32_228
  v399
def k0_mult12 (k0_t1 : Fin k0_t1_loop.trips) : BitVec 32 :=
  let c0_i32_232 : BitVec 32 := 0#32
  let c0_i32_231 : BitVec 32 := 0#32
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_222 : BitVec 32 := 1#32
  let c0_i32_223 : BitVec 32 := 0#32
  let v389 : BitVec 1 := Scalar.cmpi .eq c1_i32_222 c0_i32_223
  let c1_i32_224 : BitVec 32 := 1#32
  let v390 : BitVec 32 := Scalar.select v389 c1_i32_224 c1_i32_222
  let v391 : BitVec 32 := Scalar.remsi v21 v390
  let c0_i32_226 : BitVec 32 := 0#32
  let v393 : BitVec 1 := Scalar.cmpi .slt v391 c0_i32_226
  let c0_i32_227 : BitVec 32 := 0#32
  let v394 : BitVec 1 := Scalar.cmpi .slt v390 c0_i32_227
  let v395 : BitVec 1 := Scalar.xori v393 v394
  let c0_i32_225 : BitVec 32 := 0#32
  let v392 : BitVec 1 := Scalar.cmpi .ne v391 c0_i32_225
  let v396 : BitVec 1 := Scalar.andi v395 v392
  let v397 : BitVec 32 := Scalar.addi v391 v390
  let v398 : BitVec 32 := Scalar.select v396 v397 v391
  let c128_i32_229 : BitVec 32 := 128#32
  let v401 : BitVec 32 := Scalar.muli v398 c128_i32_229
  let c64_i32_230 : BitVec 32 := 64#32
  let v402 : BitVec 32 := Scalar.subi v401 c64_i32_230
  let v403 : BitVec 32 := Scalar.maxsi c0_i32_231 v402
  let v404 : BitVec 32 := Scalar.minsi c0_i32_232 v403
  v404
def k0_mult13 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_260 : BitVec 32 := 1#32
  let c0_i32_261 : BitVec 32 := 0#32
  let v455 : BitVec 1 := Scalar.cmpi .eq c1_i32_260 c0_i32_261
  let c1_i32_262 : BitVec 32 := 1#32
  let v456 : BitVec 32 := Scalar.select v455 c1_i32_262 c1_i32_260
  let v457 : BitVec 32 := Scalar.remsi v23 v456
  let c0_i32_264 : BitVec 32 := 0#32
  let v459 : BitVec 1 := Scalar.cmpi .slt v457 c0_i32_264
  let c0_i32_265 : BitVec 32 := 0#32
  let v460 : BitVec 1 := Scalar.cmpi .slt v456 c0_i32_265
  let v461 : BitVec 1 := Scalar.xori v459 v460
  let c0_i32_263 : BitVec 32 := 0#32
  let v458 : BitVec 1 := Scalar.cmpi .ne v457 c0_i32_263
  let v462 : BitVec 1 := Scalar.andi v461 v458
  let v463 : BitVec 32 := Scalar.addi v457 v456
  let v464 : BitVec 32 := Scalar.select v462 v463 v457
  let c128_i32_266 : BitVec 32 := 128#32
  let v465 : BitVec 32 := Scalar.muli v464 c128_i32_266
  v465
def k0_mult14 (k0_t1 : Fin k0_t1_loop.trips) : BitVec 32 :=
  let c0_i32_270 : BitVec 32 := 0#32
  let c0_i32_269 : BitVec 32 := 0#32
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_260 : BitVec 32 := 1#32
  let c0_i32_261 : BitVec 32 := 0#32
  let v455 : BitVec 1 := Scalar.cmpi .eq c1_i32_260 c0_i32_261
  let c1_i32_262 : BitVec 32 := 1#32
  let v456 : BitVec 32 := Scalar.select v455 c1_i32_262 c1_i32_260
  let v457 : BitVec 32 := Scalar.remsi v23 v456
  let c0_i32_264 : BitVec 32 := 0#32
  let v459 : BitVec 1 := Scalar.cmpi .slt v457 c0_i32_264
  let c0_i32_265 : BitVec 32 := 0#32
  let v460 : BitVec 1 := Scalar.cmpi .slt v456 c0_i32_265
  let v461 : BitVec 1 := Scalar.xori v459 v460
  let c0_i32_263 : BitVec 32 := 0#32
  let v458 : BitVec 1 := Scalar.cmpi .ne v457 c0_i32_263
  let v462 : BitVec 1 := Scalar.andi v461 v458
  let v463 : BitVec 32 := Scalar.addi v457 v456
  let v464 : BitVec 32 := Scalar.select v462 v463 v457
  let c128_i32_267 : BitVec 32 := 128#32
  let v467 : BitVec 32 := Scalar.muli v464 c128_i32_267
  let c64_i32_268 : BitVec 32 := 64#32
  let v468 : BitVec 32 := Scalar.subi v467 c64_i32_268
  let v469 : BitVec 32 := Scalar.maxsi c0_i32_269 v468
  let v470 : BitVec 32 := Scalar.minsi c0_i32_270 v469
  v470
def k0_mult15 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_298 : BitVec 32 := 1#32
  let c0_i32_299 : BitVec 32 := 0#32
  let v521 : BitVec 1 := Scalar.cmpi .eq c1_i32_298 c0_i32_299
  let c1_i32_300 : BitVec 32 := 1#32
  let v522 : BitVec 32 := Scalar.select v521 c1_i32_300 c1_i32_298
  let v523 : BitVec 32 := Scalar.remsi v25 v522
  let c0_i32_302 : BitVec 32 := 0#32
  let v525 : BitVec 1 := Scalar.cmpi .slt v523 c0_i32_302
  let c0_i32_303 : BitVec 32 := 0#32
  let v526 : BitVec 1 := Scalar.cmpi .slt v522 c0_i32_303
  let v527 : BitVec 1 := Scalar.xori v525 v526
  let c0_i32_301 : BitVec 32 := 0#32
  let v524 : BitVec 1 := Scalar.cmpi .ne v523 c0_i32_301
  let v528 : BitVec 1 := Scalar.andi v527 v524
  let v529 : BitVec 32 := Scalar.addi v523 v522
  let v530 : BitVec 32 := Scalar.select v528 v529 v523
  let c128_i32_304 : BitVec 32 := 128#32
  let v531 : BitVec 32 := Scalar.muli v530 c128_i32_304
  v531
def k0_mult16 (k0_t1 : Fin k0_t1_loop.trips) : BitVec 32 :=
  let c0_i32_308 : BitVec 32 := 0#32
  let c0_i32_307 : BitVec 32 := 0#32
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_298 : BitVec 32 := 1#32
  let c0_i32_299 : BitVec 32 := 0#32
  let v521 : BitVec 1 := Scalar.cmpi .eq c1_i32_298 c0_i32_299
  let c1_i32_300 : BitVec 32 := 1#32
  let v522 : BitVec 32 := Scalar.select v521 c1_i32_300 c1_i32_298
  let v523 : BitVec 32 := Scalar.remsi v25 v522
  let c0_i32_302 : BitVec 32 := 0#32
  let v525 : BitVec 1 := Scalar.cmpi .slt v523 c0_i32_302
  let c0_i32_303 : BitVec 32 := 0#32
  let v526 : BitVec 1 := Scalar.cmpi .slt v522 c0_i32_303
  let v527 : BitVec 1 := Scalar.xori v525 v526
  let c0_i32_301 : BitVec 32 := 0#32
  let v524 : BitVec 1 := Scalar.cmpi .ne v523 c0_i32_301
  let v528 : BitVec 1 := Scalar.andi v527 v524
  let v529 : BitVec 32 := Scalar.addi v523 v522
  let v530 : BitVec 32 := Scalar.select v528 v529 v523
  let c128_i32_305 : BitVec 32 := 128#32
  let v533 : BitVec 32 := Scalar.muli v530 c128_i32_305
  let c64_i32_306 : BitVec 32 := 64#32
  let v534 : BitVec 32 := Scalar.subi v533 c64_i32_306
  let v535 : BitVec 32 := Scalar.maxsi c0_i32_307 v534
  let v536 : BitVec 32 := Scalar.minsi c0_i32_308 v535
  v536
def k0_mult17 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_336 : BitVec 32 := 1#32
  let c0_i32_337 : BitVec 32 := 0#32
  let v587 : BitVec 1 := Scalar.cmpi .eq c1_i32_336 c0_i32_337
  let c1_i32_338 : BitVec 32 := 1#32
  let v588 : BitVec 32 := Scalar.select v587 c1_i32_338 c1_i32_336
  let v589 : BitVec 32 := Scalar.remsi v11 v588
  let c0_i32_340 : BitVec 32 := 0#32
  let v591 : BitVec 1 := Scalar.cmpi .slt v589 c0_i32_340
  let c0_i32_341 : BitVec 32 := 0#32
  let v592 : BitVec 1 := Scalar.cmpi .slt v588 c0_i32_341
  let v593 : BitVec 1 := Scalar.xori v591 v592
  let c0_i32_339 : BitVec 32 := 0#32
  let v590 : BitVec 1 := Scalar.cmpi .ne v589 c0_i32_339
  let v594 : BitVec 1 := Scalar.andi v593 v590
  let v595 : BitVec 32 := Scalar.addi v589 v588
  let v596 : BitVec 32 := Scalar.select v594 v595 v589
  let c128_i32_342 : BitVec 32 := 128#32
  let v597 : BitVec 32 := Scalar.muli v596 c128_i32_342
  v597
def k0_mult18 (k0_t1 : Fin k0_t1_loop.trips) : BitVec 32 :=
  let c0_i32_346 : BitVec 32 := 0#32
  let c0_i32_345 : BitVec 32 := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_336 : BitVec 32 := 1#32
  let c0_i32_337 : BitVec 32 := 0#32
  let v587 : BitVec 1 := Scalar.cmpi .eq c1_i32_336 c0_i32_337
  let c1_i32_338 : BitVec 32 := 1#32
  let v588 : BitVec 32 := Scalar.select v587 c1_i32_338 c1_i32_336
  let v589 : BitVec 32 := Scalar.remsi v11 v588
  let c0_i32_340 : BitVec 32 := 0#32
  let v591 : BitVec 1 := Scalar.cmpi .slt v589 c0_i32_340
  let c0_i32_341 : BitVec 32 := 0#32
  let v592 : BitVec 1 := Scalar.cmpi .slt v588 c0_i32_341
  let v593 : BitVec 1 := Scalar.xori v591 v592
  let c0_i32_339 : BitVec 32 := 0#32
  let v590 : BitVec 1 := Scalar.cmpi .ne v589 c0_i32_339
  let v594 : BitVec 1 := Scalar.andi v593 v590
  let v595 : BitVec 32 := Scalar.addi v589 v588
  let v596 : BitVec 32 := Scalar.select v594 v595 v589
  let c128_i32_343 : BitVec 32 := 128#32
  let v599 : BitVec 32 := Scalar.muli v596 c128_i32_343
  let c64_i32_344 : BitVec 32 := 64#32
  let v600 : BitVec 32 := Scalar.subi v599 c64_i32_344
  let v601 : BitVec 32 := Scalar.maxsi c0_i32_345 v600
  let v602 : BitVec 32 := Scalar.minsi c0_i32_346 v601
  v602
def k0_off3 (k0_t1 : Fin k0_t1_loop.trips) (c0_i32_2 : BitVec 32) : Fin 4 → Nat :=
  let c0_349 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_330 : BitVec 32 := 0#32
  let v571 : BitVec 1 := Scalar.cmpi .sgt v11 c0_i32_330
  let v572 : BitVec 32 := Scalar.extui v571
  let c0_i32_331 : BitVec 32 := 0#32
  let v573 : BitVec 1 := Scalar.cmpi .slt v11 c0_i32_331
  let v574 : BitVec 32 := Scalar.extui v573
  let v575 : BitVec 32 := Scalar.subi v572 v574
  let c1_i32_329 : BitVec 32 := 1#32
  let c0_i32_332 : BitVec 32 := 0#32
  let v576 : BitVec 1 := Scalar.cmpi .sgt c1_i32_329 c0_i32_332
  let v577 : BitVec 32 := Scalar.extui v576
  let c0_i32_333 : BitVec 32 := 0#32
  let v578 : BitVec 1 := Scalar.cmpi .slt c1_i32_329 c0_i32_333
  let v579 : BitVec 32 := Scalar.extui v578
  let v580 : BitVec 32 := Scalar.subi v577 v579
  let v581 : BitVec 1 := Scalar.cmpi .ne v575 v580
  let v582 : BitVec 32 := Scalar.remsi v11 c1_i32_329
  let c0_i32_334 : BitVec 32 := 0#32
  let v583 : BitVec 1 := Scalar.cmpi .ne v582 c0_i32_334
  let v584 : BitVec 1 := Scalar.andi v581 v583
  let v570 : BitVec 32 := Scalar.divsi v11 c1_i32_329
  let c1_i32_335 : BitVec 32 := 1#32
  let v585 : BitVec 32 := Scalar.subi v570 c1_i32_335
  let v586 : BitVec 32 := Scalar.select v584 v585 v570
  let v611 : Index := Scalar.indexCast v586
  let c1_i32_336 : BitVec 32 := 1#32
  let c0_i32_337 : BitVec 32 := 0#32
  let v587 : BitVec 1 := Scalar.cmpi .eq c1_i32_336 c0_i32_337
  let c1_i32_338 : BitVec 32 := 1#32
  let v588 : BitVec 32 := Scalar.select v587 c1_i32_338 c1_i32_336
  let v589 : BitVec 32 := Scalar.remsi v11 v588
  let c0_i32_340 : BitVec 32 := 0#32
  let v591 : BitVec 1 := Scalar.cmpi .slt v589 c0_i32_340
  let c0_i32_341 : BitVec 32 := 0#32
  let v592 : BitVec 1 := Scalar.cmpi .slt v588 c0_i32_341
  let v593 : BitVec 1 := Scalar.xori v591 v592
  let c0_i32_339 : BitVec 32 := 0#32
  let v590 : BitVec 1 := Scalar.cmpi .ne v589 c0_i32_339
  let v594 : BitVec 1 := Scalar.andi v593 v590
  let v595 : BitVec 32 := Scalar.addi v589 v588
  let v596 : BitVec 32 := Scalar.select v594 v595 v589
  let c128_i32_342 : BitVec 32 := 128#32
  let v597 : BitVec 32 := Scalar.muli v596 c128_i32_342
  let v598 : BitVec 32 := v597
  let v612 : Index := Scalar.indexCast v598
  let c128 : Index := 128#32
  ![0, v611.toNat, v612.toNat, 128]
def k0_off4 (k0_t1 : Fin k0_t1_loop.trips) (c0_i32_2 : BitVec 32) : Fin 4 → Nat :=
  let c0_350 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_330 : BitVec 32 := 0#32
  let v571 : BitVec 1 := Scalar.cmpi .sgt v11 c0_i32_330
  let v572 : BitVec 32 := Scalar.extui v571
  let c0_i32_331 : BitVec 32 := 0#32
  let v573 : BitVec 1 := Scalar.cmpi .slt v11 c0_i32_331
  let v574 : BitVec 32 := Scalar.extui v573
  let v575 : BitVec 32 := Scalar.subi v572 v574
  let c1_i32_329 : BitVec 32 := 1#32
  let c0_i32_332 : BitVec 32 := 0#32
  let v576 : BitVec 1 := Scalar.cmpi .sgt c1_i32_329 c0_i32_332
  let v577 : BitVec 32 := Scalar.extui v576
  let c0_i32_333 : BitVec 32 := 0#32
  let v578 : BitVec 1 := Scalar.cmpi .slt c1_i32_329 c0_i32_333
  let v579 : BitVec 32 := Scalar.extui v578
  let v580 : BitVec 32 := Scalar.subi v577 v579
  let v581 : BitVec 1 := Scalar.cmpi .ne v575 v580
  let v582 : BitVec 32 := Scalar.remsi v11 c1_i32_329
  let c0_i32_334 : BitVec 32 := 0#32
  let v583 : BitVec 1 := Scalar.cmpi .ne v582 c0_i32_334
  let v584 : BitVec 1 := Scalar.andi v581 v583
  let v570 : BitVec 32 := Scalar.divsi v11 c1_i32_329
  let c1_i32_335 : BitVec 32 := 1#32
  let v585 : BitVec 32 := Scalar.subi v570 c1_i32_335
  let v586 : BitVec 32 := Scalar.select v584 v585 v570
  let v615 : Index := Scalar.indexCast v586
  let c0_i32_346 : BitVec 32 := 0#32
  let c0_i32_345 : BitVec 32 := 0#32
  let c1_i32_336 : BitVec 32 := 1#32
  let c0_i32_337 : BitVec 32 := 0#32
  let v587 : BitVec 1 := Scalar.cmpi .eq c1_i32_336 c0_i32_337
  let c1_i32_338 : BitVec 32 := 1#32
  let v588 : BitVec 32 := Scalar.select v587 c1_i32_338 c1_i32_336
  let v589 : BitVec 32 := Scalar.remsi v11 v588
  let c0_i32_340 : BitVec 32 := 0#32
  let v591 : BitVec 1 := Scalar.cmpi .slt v589 c0_i32_340
  let c0_i32_341 : BitVec 32 := 0#32
  let v592 : BitVec 1 := Scalar.cmpi .slt v588 c0_i32_341
  let v593 : BitVec 1 := Scalar.xori v591 v592
  let c0_i32_339 : BitVec 32 := 0#32
  let v590 : BitVec 1 := Scalar.cmpi .ne v589 c0_i32_339
  let v594 : BitVec 1 := Scalar.andi v593 v590
  let v595 : BitVec 32 := Scalar.addi v589 v588
  let v596 : BitVec 32 := Scalar.select v594 v595 v589
  let c128_i32_343 : BitVec 32 := 128#32
  let v599 : BitVec 32 := Scalar.muli v596 c128_i32_343
  let c64_i32_344 : BitVec 32 := 64#32
  let v600 : BitVec 32 := Scalar.subi v599 c64_i32_344
  let v601 : BitVec 32 := Scalar.maxsi c0_i32_345 v600
  let v602 : BitVec 32 := Scalar.minsi c0_i32_346 v601
  let v603 : BitVec 32 := v602
  let v616 : Index := Scalar.indexCast v603
  let c640 : Index := 640#32
  ![0, v615.toNat, v616.toNat, 640]
def k0_mult19 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_373 : BitVec 32 := 1#32
  let c0_i32_374 : BitVec 32 := 0#32
  let v653 : BitVec 1 := Scalar.cmpi .eq c1_i32_373 c0_i32_374
  let c1_i32_375 : BitVec 32 := 1#32
  let v654 : BitVec 32 := Scalar.select v653 c1_i32_375 c1_i32_373
  let v655 : BitVec 32 := Scalar.remsi v13 v654
  let c0_i32_377 : BitVec 32 := 0#32
  let v657 : BitVec 1 := Scalar.cmpi .slt v655 c0_i32_377
  let c0_i32_378 : BitVec 32 := 0#32
  let v658 : BitVec 1 := Scalar.cmpi .slt v654 c0_i32_378
  let v659 : BitVec 1 := Scalar.xori v657 v658
  let c0_i32_376 : BitVec 32 := 0#32
  let v656 : BitVec 1 := Scalar.cmpi .ne v655 c0_i32_376
  let v660 : BitVec 1 := Scalar.andi v659 v656
  let v661 : BitVec 32 := Scalar.addi v655 v654
  let v662 : BitVec 32 := Scalar.select v660 v661 v655
  let c128_i32_379 : BitVec 32 := 128#32
  let v663 : BitVec 32 := Scalar.muli v662 c128_i32_379
  v663
def k0_mult20 (k0_t1 : Fin k0_t1_loop.trips) : BitVec 32 :=
  let c0_i32_383 : BitVec 32 := 0#32
  let c0_i32_382 : BitVec 32 := 0#32
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_373 : BitVec 32 := 1#32
  let c0_i32_374 : BitVec 32 := 0#32
  let v653 : BitVec 1 := Scalar.cmpi .eq c1_i32_373 c0_i32_374
  let c1_i32_375 : BitVec 32 := 1#32
  let v654 : BitVec 32 := Scalar.select v653 c1_i32_375 c1_i32_373
  let v655 : BitVec 32 := Scalar.remsi v13 v654
  let c0_i32_377 : BitVec 32 := 0#32
  let v657 : BitVec 1 := Scalar.cmpi .slt v655 c0_i32_377
  let c0_i32_378 : BitVec 32 := 0#32
  let v658 : BitVec 1 := Scalar.cmpi .slt v654 c0_i32_378
  let v659 : BitVec 1 := Scalar.xori v657 v658
  let c0_i32_376 : BitVec 32 := 0#32
  let v656 : BitVec 1 := Scalar.cmpi .ne v655 c0_i32_376
  let v660 : BitVec 1 := Scalar.andi v659 v656
  let v661 : BitVec 32 := Scalar.addi v655 v654
  let v662 : BitVec 32 := Scalar.select v660 v661 v655
  let c128_i32_380 : BitVec 32 := 128#32
  let v665 : BitVec 32 := Scalar.muli v662 c128_i32_380
  let c64_i32_381 : BitVec 32 := 64#32
  let v666 : BitVec 32 := Scalar.subi v665 c64_i32_381
  let v667 : BitVec 32 := Scalar.maxsi c0_i32_382 v666
  let v668 : BitVec 32 := Scalar.minsi c0_i32_383 v667
  v668
def k0_mult21 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_412 : BitVec 32 := 1#32
  let c0_i32_413 : BitVec 32 := 0#32
  let v719 : BitVec 1 := Scalar.cmpi .eq c1_i32_412 c0_i32_413
  let c1_i32_414 : BitVec 32 := 1#32
  let v720 : BitVec 32 := Scalar.select v719 c1_i32_414 c1_i32_412
  let v721 : BitVec 32 := Scalar.remsi v15 v720
  let c0_i32_416 : BitVec 32 := 0#32
  let v723 : BitVec 1 := Scalar.cmpi .slt v721 c0_i32_416
  let c0_i32_417 : BitVec 32 := 0#32
  let v724 : BitVec 1 := Scalar.cmpi .slt v720 c0_i32_417
  let v725 : BitVec 1 := Scalar.xori v723 v724
  let c0_i32_415 : BitVec 32 := 0#32
  let v722 : BitVec 1 := Scalar.cmpi .ne v721 c0_i32_415
  let v726 : BitVec 1 := Scalar.andi v725 v722
  let v727 : BitVec 32 := Scalar.addi v721 v720
  let v728 : BitVec 32 := Scalar.select v726 v727 v721
  let c128_i32_418 : BitVec 32 := 128#32
  let v729 : BitVec 32 := Scalar.muli v728 c128_i32_418
  v729
def k0_mult22 (k0_t1 : Fin k0_t1_loop.trips) : BitVec 32 :=
  let c0_i32_422 : BitVec 32 := 0#32
  let c0_i32_421 : BitVec 32 := 0#32
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_412 : BitVec 32 := 1#32
  let c0_i32_413 : BitVec 32 := 0#32
  let v719 : BitVec 1 := Scalar.cmpi .eq c1_i32_412 c0_i32_413
  let c1_i32_414 : BitVec 32 := 1#32
  let v720 : BitVec 32 := Scalar.select v719 c1_i32_414 c1_i32_412
  let v721 : BitVec 32 := Scalar.remsi v15 v720
  let c0_i32_416 : BitVec 32 := 0#32
  let v723 : BitVec 1 := Scalar.cmpi .slt v721 c0_i32_416
  let c0_i32_417 : BitVec 32 := 0#32
  let v724 : BitVec 1 := Scalar.cmpi .slt v720 c0_i32_417
  let v725 : BitVec 1 := Scalar.xori v723 v724
  let c0_i32_415 : BitVec 32 := 0#32
  let v722 : BitVec 1 := Scalar.cmpi .ne v721 c0_i32_415
  let v726 : BitVec 1 := Scalar.andi v725 v722
  let v727 : BitVec 32 := Scalar.addi v721 v720
  let v728 : BitVec 32 := Scalar.select v726 v727 v721
  let c128_i32_419 : BitVec 32 := 128#32
  let v731 : BitVec 32 := Scalar.muli v728 c128_i32_419
  let c64_i32_420 : BitVec 32 := 64#32
  let v732 : BitVec 32 := Scalar.subi v731 c64_i32_420
  let v733 : BitVec 32 := Scalar.maxsi c0_i32_421 v732
  let v734 : BitVec 32 := Scalar.minsi c0_i32_422 v733
  v734
def k0_mult23 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_451 : BitVec 32 := 1#32
  let c0_i32_452 : BitVec 32 := 0#32
  let v785 : BitVec 1 := Scalar.cmpi .eq c1_i32_451 c0_i32_452
  let c1_i32_453 : BitVec 32 := 1#32
  let v786 : BitVec 32 := Scalar.select v785 c1_i32_453 c1_i32_451
  let v787 : BitVec 32 := Scalar.remsi v17 v786
  let c0_i32_455 : BitVec 32 := 0#32
  let v789 : BitVec 1 := Scalar.cmpi .slt v787 c0_i32_455
  let c0_i32_456 : BitVec 32 := 0#32
  let v790 : BitVec 1 := Scalar.cmpi .slt v786 c0_i32_456
  let v791 : BitVec 1 := Scalar.xori v789 v790
  let c0_i32_454 : BitVec 32 := 0#32
  let v788 : BitVec 1 := Scalar.cmpi .ne v787 c0_i32_454
  let v792 : BitVec 1 := Scalar.andi v791 v788
  let v793 : BitVec 32 := Scalar.addi v787 v786
  let v794 : BitVec 32 := Scalar.select v792 v793 v787
  let c128_i32_457 : BitVec 32 := 128#32
  let v795 : BitVec 32 := Scalar.muli v794 c128_i32_457
  v795
def k0_mult24 (k0_t1 : Fin k0_t1_loop.trips) : BitVec 32 :=
  let c0_i32_461 : BitVec 32 := 0#32
  let c0_i32_460 : BitVec 32 := 0#32
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_451 : BitVec 32 := 1#32
  let c0_i32_452 : BitVec 32 := 0#32
  let v785 : BitVec 1 := Scalar.cmpi .eq c1_i32_451 c0_i32_452
  let c1_i32_453 : BitVec 32 := 1#32
  let v786 : BitVec 32 := Scalar.select v785 c1_i32_453 c1_i32_451
  let v787 : BitVec 32 := Scalar.remsi v17 v786
  let c0_i32_455 : BitVec 32 := 0#32
  let v789 : BitVec 1 := Scalar.cmpi .slt v787 c0_i32_455
  let c0_i32_456 : BitVec 32 := 0#32
  let v790 : BitVec 1 := Scalar.cmpi .slt v786 c0_i32_456
  let v791 : BitVec 1 := Scalar.xori v789 v790
  let c0_i32_454 : BitVec 32 := 0#32
  let v788 : BitVec 1 := Scalar.cmpi .ne v787 c0_i32_454
  let v792 : BitVec 1 := Scalar.andi v791 v788
  let v793 : BitVec 32 := Scalar.addi v787 v786
  let v794 : BitVec 32 := Scalar.select v792 v793 v787
  let c128_i32_458 : BitVec 32 := 128#32
  let v797 : BitVec 32 := Scalar.muli v794 c128_i32_458
  let c64_i32_459 : BitVec 32 := 64#32
  let v798 : BitVec 32 := Scalar.subi v797 c64_i32_459
  let v799 : BitVec 32 := Scalar.maxsi c0_i32_460 v798
  let v800 : BitVec 32 := Scalar.minsi c0_i32_461 v799
  v800
def k0_mult25 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_490 : BitVec 32 := 1#32
  let c0_i32_491 : BitVec 32 := 0#32
  let v851 : BitVec 1 := Scalar.cmpi .eq c1_i32_490 c0_i32_491
  let c1_i32_492 : BitVec 32 := 1#32
  let v852 : BitVec 32 := Scalar.select v851 c1_i32_492 c1_i32_490
  let v853 : BitVec 32 := Scalar.remsi v19 v852
  let c0_i32_494 : BitVec 32 := 0#32
  let v855 : BitVec 1 := Scalar.cmpi .slt v853 c0_i32_494
  let c0_i32_495 : BitVec 32 := 0#32
  let v856 : BitVec 1 := Scalar.cmpi .slt v852 c0_i32_495
  let v857 : BitVec 1 := Scalar.xori v855 v856
  let c0_i32_493 : BitVec 32 := 0#32
  let v854 : BitVec 1 := Scalar.cmpi .ne v853 c0_i32_493
  let v858 : BitVec 1 := Scalar.andi v857 v854
  let v859 : BitVec 32 := Scalar.addi v853 v852
  let v860 : BitVec 32 := Scalar.select v858 v859 v853
  let c128_i32_496 : BitVec 32 := 128#32
  let v861 : BitVec 32 := Scalar.muli v860 c128_i32_496
  v861
def k0_mult26 (k0_t1 : Fin k0_t1_loop.trips) : BitVec 32 :=
  let c0_i32_500 : BitVec 32 := 0#32
  let c0_i32_499 : BitVec 32 := 0#32
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_490 : BitVec 32 := 1#32
  let c0_i32_491 : BitVec 32 := 0#32
  let v851 : BitVec 1 := Scalar.cmpi .eq c1_i32_490 c0_i32_491
  let c1_i32_492 : BitVec 32 := 1#32
  let v852 : BitVec 32 := Scalar.select v851 c1_i32_492 c1_i32_490
  let v853 : BitVec 32 := Scalar.remsi v19 v852
  let c0_i32_494 : BitVec 32 := 0#32
  let v855 : BitVec 1 := Scalar.cmpi .slt v853 c0_i32_494
  let c0_i32_495 : BitVec 32 := 0#32
  let v856 : BitVec 1 := Scalar.cmpi .slt v852 c0_i32_495
  let v857 : BitVec 1 := Scalar.xori v855 v856
  let c0_i32_493 : BitVec 32 := 0#32
  let v854 : BitVec 1 := Scalar.cmpi .ne v853 c0_i32_493
  let v858 : BitVec 1 := Scalar.andi v857 v854
  let v859 : BitVec 32 := Scalar.addi v853 v852
  let v860 : BitVec 32 := Scalar.select v858 v859 v853
  let c128_i32_497 : BitVec 32 := 128#32
  let v863 : BitVec 32 := Scalar.muli v860 c128_i32_497
  let c64_i32_498 : BitVec 32 := 64#32
  let v864 : BitVec 32 := Scalar.subi v863 c64_i32_498
  let v865 : BitVec 32 := Scalar.maxsi c0_i32_499 v864
  let v866 : BitVec 32 := Scalar.minsi c0_i32_500 v865
  v866
def k0_mult27 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_529 : BitVec 32 := 1#32
  let c0_i32_530 : BitVec 32 := 0#32
  let v917 : BitVec 1 := Scalar.cmpi .eq c1_i32_529 c0_i32_530
  let c1_i32_531 : BitVec 32 := 1#32
  let v918 : BitVec 32 := Scalar.select v917 c1_i32_531 c1_i32_529
  let v919 : BitVec 32 := Scalar.remsi v21 v918
  let c0_i32_533 : BitVec 32 := 0#32
  let v921 : BitVec 1 := Scalar.cmpi .slt v919 c0_i32_533
  let c0_i32_534 : BitVec 32 := 0#32
  let v922 : BitVec 1 := Scalar.cmpi .slt v918 c0_i32_534
  let v923 : BitVec 1 := Scalar.xori v921 v922
  let c0_i32_532 : BitVec 32 := 0#32
  let v920 : BitVec 1 := Scalar.cmpi .ne v919 c0_i32_532
  let v924 : BitVec 1 := Scalar.andi v923 v920
  let v925 : BitVec 32 := Scalar.addi v919 v918
  let v926 : BitVec 32 := Scalar.select v924 v925 v919
  let c128_i32_535 : BitVec 32 := 128#32
  let v927 : BitVec 32 := Scalar.muli v926 c128_i32_535
  v927
def k0_mult28 (k0_t1 : Fin k0_t1_loop.trips) : BitVec 32 :=
  let c0_i32_539 : BitVec 32 := 0#32
  let c0_i32_538 : BitVec 32 := 0#32
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_529 : BitVec 32 := 1#32
  let c0_i32_530 : BitVec 32 := 0#32
  let v917 : BitVec 1 := Scalar.cmpi .eq c1_i32_529 c0_i32_530
  let c1_i32_531 : BitVec 32 := 1#32
  let v918 : BitVec 32 := Scalar.select v917 c1_i32_531 c1_i32_529
  let v919 : BitVec 32 := Scalar.remsi v21 v918
  let c0_i32_533 : BitVec 32 := 0#32
  let v921 : BitVec 1 := Scalar.cmpi .slt v919 c0_i32_533
  let c0_i32_534 : BitVec 32 := 0#32
  let v922 : BitVec 1 := Scalar.cmpi .slt v918 c0_i32_534
  let v923 : BitVec 1 := Scalar.xori v921 v922
  let c0_i32_532 : BitVec 32 := 0#32
  let v920 : BitVec 1 := Scalar.cmpi .ne v919 c0_i32_532
  let v924 : BitVec 1 := Scalar.andi v923 v920
  let v925 : BitVec 32 := Scalar.addi v919 v918
  let v926 : BitVec 32 := Scalar.select v924 v925 v919
  let c128_i32_536 : BitVec 32 := 128#32
  let v929 : BitVec 32 := Scalar.muli v926 c128_i32_536
  let c64_i32_537 : BitVec 32 := 64#32
  let v930 : BitVec 32 := Scalar.subi v929 c64_i32_537
  let v931 : BitVec 32 := Scalar.maxsi c0_i32_538 v930
  let v932 : BitVec 32 := Scalar.minsi c0_i32_539 v931
  v932
def k0_mult29 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_568 : BitVec 32 := 1#32
  let c0_i32_569 : BitVec 32 := 0#32
  let v983 : BitVec 1 := Scalar.cmpi .eq c1_i32_568 c0_i32_569
  let c1_i32_570 : BitVec 32 := 1#32
  let v984 : BitVec 32 := Scalar.select v983 c1_i32_570 c1_i32_568
  let v985 : BitVec 32 := Scalar.remsi v23 v984
  let c0_i32_572 : BitVec 32 := 0#32
  let v987 : BitVec 1 := Scalar.cmpi .slt v985 c0_i32_572
  let c0_i32_573 : BitVec 32 := 0#32
  let v988 : BitVec 1 := Scalar.cmpi .slt v984 c0_i32_573
  let v989 : BitVec 1 := Scalar.xori v987 v988
  let c0_i32_571 : BitVec 32 := 0#32
  let v986 : BitVec 1 := Scalar.cmpi .ne v985 c0_i32_571
  let v990 : BitVec 1 := Scalar.andi v989 v986
  let v991 : BitVec 32 := Scalar.addi v985 v984
  let v992 : BitVec 32 := Scalar.select v990 v991 v985
  let c128_i32_574 : BitVec 32 := 128#32
  let v993 : BitVec 32 := Scalar.muli v992 c128_i32_574
  v993
def k0_mult30 (k0_t1 : Fin k0_t1_loop.trips) : BitVec 32 :=
  let c0_i32_578 : BitVec 32 := 0#32
  let c0_i32_577 : BitVec 32 := 0#32
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_568 : BitVec 32 := 1#32
  let c0_i32_569 : BitVec 32 := 0#32
  let v983 : BitVec 1 := Scalar.cmpi .eq c1_i32_568 c0_i32_569
  let c1_i32_570 : BitVec 32 := 1#32
  let v984 : BitVec 32 := Scalar.select v983 c1_i32_570 c1_i32_568
  let v985 : BitVec 32 := Scalar.remsi v23 v984
  let c0_i32_572 : BitVec 32 := 0#32
  let v987 : BitVec 1 := Scalar.cmpi .slt v985 c0_i32_572
  let c0_i32_573 : BitVec 32 := 0#32
  let v988 : BitVec 1 := Scalar.cmpi .slt v984 c0_i32_573
  let v989 : BitVec 1 := Scalar.xori v987 v988
  let c0_i32_571 : BitVec 32 := 0#32
  let v986 : BitVec 1 := Scalar.cmpi .ne v985 c0_i32_571
  let v990 : BitVec 1 := Scalar.andi v989 v986
  let v991 : BitVec 32 := Scalar.addi v985 v984
  let v992 : BitVec 32 := Scalar.select v990 v991 v985
  let c128_i32_575 : BitVec 32 := 128#32
  let v995 : BitVec 32 := Scalar.muli v992 c128_i32_575
  let c64_i32_576 : BitVec 32 := 64#32
  let v996 : BitVec 32 := Scalar.subi v995 c64_i32_576
  let v997 : BitVec 32 := Scalar.maxsi c0_i32_577 v996
  let v998 : BitVec 32 := Scalar.minsi c0_i32_578 v997
  v998
def k0_mult31 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_607 : BitVec 32 := 1#32
  let c0_i32_608 : BitVec 32 := 0#32
  let v1049 : BitVec 1 := Scalar.cmpi .eq c1_i32_607 c0_i32_608
  let c1_i32_609 : BitVec 32 := 1#32
  let v1050 : BitVec 32 := Scalar.select v1049 c1_i32_609 c1_i32_607
  let v1051 : BitVec 32 := Scalar.remsi v25 v1050
  let c0_i32_611 : BitVec 32 := 0#32
  let v1053 : BitVec 1 := Scalar.cmpi .slt v1051 c0_i32_611
  let c0_i32_612 : BitVec 32 := 0#32
  let v1054 : BitVec 1 := Scalar.cmpi .slt v1050 c0_i32_612
  let v1055 : BitVec 1 := Scalar.xori v1053 v1054
  let c0_i32_610 : BitVec 32 := 0#32
  let v1052 : BitVec 1 := Scalar.cmpi .ne v1051 c0_i32_610
  let v1056 : BitVec 1 := Scalar.andi v1055 v1052
  let v1057 : BitVec 32 := Scalar.addi v1051 v1050
  let v1058 : BitVec 32 := Scalar.select v1056 v1057 v1051
  let c128_i32_613 : BitVec 32 := 128#32
  let v1059 : BitVec 32 := Scalar.muli v1058 c128_i32_613
  v1059
def k0_mult32 (k0_t1 : Fin k0_t1_loop.trips) : BitVec 32 :=
  let c0_i32_617 : BitVec 32 := 0#32
  let c0_i32_616 : BitVec 32 := 0#32
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_607 : BitVec 32 := 1#32
  let c0_i32_608 : BitVec 32 := 0#32
  let v1049 : BitVec 1 := Scalar.cmpi .eq c1_i32_607 c0_i32_608
  let c1_i32_609 : BitVec 32 := 1#32
  let v1050 : BitVec 32 := Scalar.select v1049 c1_i32_609 c1_i32_607
  let v1051 : BitVec 32 := Scalar.remsi v25 v1050
  let c0_i32_611 : BitVec 32 := 0#32
  let v1053 : BitVec 1 := Scalar.cmpi .slt v1051 c0_i32_611
  let c0_i32_612 : BitVec 32 := 0#32
  let v1054 : BitVec 1 := Scalar.cmpi .slt v1050 c0_i32_612
  let v1055 : BitVec 1 := Scalar.xori v1053 v1054
  let c0_i32_610 : BitVec 32 := 0#32
  let v1052 : BitVec 1 := Scalar.cmpi .ne v1051 c0_i32_610
  let v1056 : BitVec 1 := Scalar.andi v1055 v1052
  let v1057 : BitVec 32 := Scalar.addi v1051 v1050
  let v1058 : BitVec 32 := Scalar.select v1056 v1057 v1051
  let c128_i32_614 : BitVec 32 := 128#32
  let v1061 : BitVec 32 := Scalar.muli v1058 c128_i32_614
  let c64_i32_615 : BitVec 32 := 64#32
  let v1062 : BitVec 32 := Scalar.subi v1061 c64_i32_615
  let v1063 : BitVec 32 := Scalar.maxsi c0_i32_616 v1062
  let v1064 : BitVec 32 := Scalar.minsi c0_i32_617 v1063
  v1064
def k0_mult33 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_646 : BitVec 32 := 1#32
  let c0_i32_647 : BitVec 32 := 0#32
  let v1115 : BitVec 1 := Scalar.cmpi .eq c1_i32_646 c0_i32_647
  let c1_i32_648 : BitVec 32 := 1#32
  let v1116 : BitVec 32 := Scalar.select v1115 c1_i32_648 c1_i32_646
  let v1117 : BitVec 32 := Scalar.remsi v11 v1116
  let c0_i32_650 : BitVec 32 := 0#32
  let v1119 : BitVec 1 := Scalar.cmpi .slt v1117 c0_i32_650
  let c0_i32_651 : BitVec 32 := 0#32
  let v1120 : BitVec 1 := Scalar.cmpi .slt v1116 c0_i32_651
  let v1121 : BitVec 1 := Scalar.xori v1119 v1120
  let c0_i32_649 : BitVec 32 := 0#32
  let v1118 : BitVec 1 := Scalar.cmpi .ne v1117 c0_i32_649
  let v1122 : BitVec 1 := Scalar.andi v1121 v1118
  let v1123 : BitVec 32 := Scalar.addi v1117 v1116
  let v1124 : BitVec 32 := Scalar.select v1122 v1123 v1117
  let c128_i32_652 : BitVec 32 := 128#32
  let v1125 : BitVec 32 := Scalar.muli v1124 c128_i32_652
  v1125
def k0_mult34 (k0_t1 : Fin k0_t1_loop.trips) : BitVec 32 :=
  let c0_i32_656 : BitVec 32 := 0#32
  let c0_i32_655 : BitVec 32 := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_646 : BitVec 32 := 1#32
  let c0_i32_647 : BitVec 32 := 0#32
  let v1115 : BitVec 1 := Scalar.cmpi .eq c1_i32_646 c0_i32_647
  let c1_i32_648 : BitVec 32 := 1#32
  let v1116 : BitVec 32 := Scalar.select v1115 c1_i32_648 c1_i32_646
  let v1117 : BitVec 32 := Scalar.remsi v11 v1116
  let c0_i32_650 : BitVec 32 := 0#32
  let v1119 : BitVec 1 := Scalar.cmpi .slt v1117 c0_i32_650
  let c0_i32_651 : BitVec 32 := 0#32
  let v1120 : BitVec 1 := Scalar.cmpi .slt v1116 c0_i32_651
  let v1121 : BitVec 1 := Scalar.xori v1119 v1120
  let c0_i32_649 : BitVec 32 := 0#32
  let v1118 : BitVec 1 := Scalar.cmpi .ne v1117 c0_i32_649
  let v1122 : BitVec 1 := Scalar.andi v1121 v1118
  let v1123 : BitVec 32 := Scalar.addi v1117 v1116
  let v1124 : BitVec 32 := Scalar.select v1122 v1123 v1117
  let c128_i32_653 : BitVec 32 := 128#32
  let v1127 : BitVec 32 := Scalar.muli v1124 c128_i32_653
  let c64_i32_654 : BitVec 32 := 64#32
  let v1128 : BitVec 32 := Scalar.subi v1127 c64_i32_654
  let v1129 : BitVec 32 := Scalar.maxsi c0_i32_655 v1128
  let v1130 : BitVec 32 := Scalar.minsi c0_i32_656 v1129
  v1130
def k0_off5 (k0_t1 : Fin k0_t1_loop.trips) (c0_i32_2 : BitVec 32) : Fin 4 → Nat :=
  let c0_659 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_640 : BitVec 32 := 0#32
  let v1099 : BitVec 1 := Scalar.cmpi .sgt v11 c0_i32_640
  let v1100 : BitVec 32 := Scalar.extui v1099
  let c0_i32_641 : BitVec 32 := 0#32
  let v1101 : BitVec 1 := Scalar.cmpi .slt v11 c0_i32_641
  let v1102 : BitVec 32 := Scalar.extui v1101
  let v1103 : BitVec 32 := Scalar.subi v1100 v1102
  let c1_i32_639 : BitVec 32 := 1#32
  let c0_i32_642 : BitVec 32 := 0#32
  let v1104 : BitVec 1 := Scalar.cmpi .sgt c1_i32_639 c0_i32_642
  let v1105 : BitVec 32 := Scalar.extui v1104
  let c0_i32_643 : BitVec 32 := 0#32
  let v1106 : BitVec 1 := Scalar.cmpi .slt c1_i32_639 c0_i32_643
  let v1107 : BitVec 32 := Scalar.extui v1106
  let v1108 : BitVec 32 := Scalar.subi v1105 v1107
  let v1109 : BitVec 1 := Scalar.cmpi .ne v1103 v1108
  let v1110 : BitVec 32 := Scalar.remsi v11 c1_i32_639
  let c0_i32_644 : BitVec 32 := 0#32
  let v1111 : BitVec 1 := Scalar.cmpi .ne v1110 c0_i32_644
  let v1112 : BitVec 1 := Scalar.andi v1109 v1111
  let v1098 : BitVec 32 := Scalar.divsi v11 c1_i32_639
  let c1_i32_645 : BitVec 32 := 1#32
  let v1113 : BitVec 32 := Scalar.subi v1098 c1_i32_645
  let v1114 : BitVec 32 := Scalar.select v1112 v1113 v1098
  let v1139 : Index := Scalar.indexCast v1114
  let c1_i32_646 : BitVec 32 := 1#32
  let c0_i32_647 : BitVec 32 := 0#32
  let v1115 : BitVec 1 := Scalar.cmpi .eq c1_i32_646 c0_i32_647
  let c1_i32_648 : BitVec 32 := 1#32
  let v1116 : BitVec 32 := Scalar.select v1115 c1_i32_648 c1_i32_646
  let v1117 : BitVec 32 := Scalar.remsi v11 v1116
  let c0_i32_650 : BitVec 32 := 0#32
  let v1119 : BitVec 1 := Scalar.cmpi .slt v1117 c0_i32_650
  let c0_i32_651 : BitVec 32 := 0#32
  let v1120 : BitVec 1 := Scalar.cmpi .slt v1116 c0_i32_651
  let v1121 : BitVec 1 := Scalar.xori v1119 v1120
  let c0_i32_649 : BitVec 32 := 0#32
  let v1118 : BitVec 1 := Scalar.cmpi .ne v1117 c0_i32_649
  let v1122 : BitVec 1 := Scalar.andi v1121 v1118
  let v1123 : BitVec 32 := Scalar.addi v1117 v1116
  let v1124 : BitVec 32 := Scalar.select v1122 v1123 v1117
  let c128_i32_652 : BitVec 32 := 128#32
  let v1125 : BitVec 32 := Scalar.muli v1124 c128_i32_652
  let v1126 : BitVec 32 := v1125
  let v1140 : Index := Scalar.indexCast v1126
  let c256 : Index := 256#32
  ![0, v1139.toNat, v1140.toNat, 256]
def k0_off6 (k0_t1 : Fin k0_t1_loop.trips) (c0_i32_2 : BitVec 32) : Fin 4 → Nat :=
  let c0_660 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_640 : BitVec 32 := 0#32
  let v1099 : BitVec 1 := Scalar.cmpi .sgt v11 c0_i32_640
  let v1100 : BitVec 32 := Scalar.extui v1099
  let c0_i32_641 : BitVec 32 := 0#32
  let v1101 : BitVec 1 := Scalar.cmpi .slt v11 c0_i32_641
  let v1102 : BitVec 32 := Scalar.extui v1101
  let v1103 : BitVec 32 := Scalar.subi v1100 v1102
  let c1_i32_639 : BitVec 32 := 1#32
  let c0_i32_642 : BitVec 32 := 0#32
  let v1104 : BitVec 1 := Scalar.cmpi .sgt c1_i32_639 c0_i32_642
  let v1105 : BitVec 32 := Scalar.extui v1104
  let c0_i32_643 : BitVec 32 := 0#32
  let v1106 : BitVec 1 := Scalar.cmpi .slt c1_i32_639 c0_i32_643
  let v1107 : BitVec 32 := Scalar.extui v1106
  let v1108 : BitVec 32 := Scalar.subi v1105 v1107
  let v1109 : BitVec 1 := Scalar.cmpi .ne v1103 v1108
  let v1110 : BitVec 32 := Scalar.remsi v11 c1_i32_639
  let c0_i32_644 : BitVec 32 := 0#32
  let v1111 : BitVec 1 := Scalar.cmpi .ne v1110 c0_i32_644
  let v1112 : BitVec 1 := Scalar.andi v1109 v1111
  let v1098 : BitVec 32 := Scalar.divsi v11 c1_i32_639
  let c1_i32_645 : BitVec 32 := 1#32
  let v1113 : BitVec 32 := Scalar.subi v1098 c1_i32_645
  let v1114 : BitVec 32 := Scalar.select v1112 v1113 v1098
  let v1143 : Index := Scalar.indexCast v1114
  let c0_i32_656 : BitVec 32 := 0#32
  let c0_i32_655 : BitVec 32 := 0#32
  let c1_i32_646 : BitVec 32 := 1#32
  let c0_i32_647 : BitVec 32 := 0#32
  let v1115 : BitVec 1 := Scalar.cmpi .eq c1_i32_646 c0_i32_647
  let c1_i32_648 : BitVec 32 := 1#32
  let v1116 : BitVec 32 := Scalar.select v1115 c1_i32_648 c1_i32_646
  let v1117 : BitVec 32 := Scalar.remsi v11 v1116
  let c0_i32_650 : BitVec 32 := 0#32
  let v1119 : BitVec 1 := Scalar.cmpi .slt v1117 c0_i32_650
  let c0_i32_651 : BitVec 32 := 0#32
  let v1120 : BitVec 1 := Scalar.cmpi .slt v1116 c0_i32_651
  let v1121 : BitVec 1 := Scalar.xori v1119 v1120
  let c0_i32_649 : BitVec 32 := 0#32
  let v1118 : BitVec 1 := Scalar.cmpi .ne v1117 c0_i32_649
  let v1122 : BitVec 1 := Scalar.andi v1121 v1118
  let v1123 : BitVec 32 := Scalar.addi v1117 v1116
  let v1124 : BitVec 32 := Scalar.select v1122 v1123 v1117
  let c128_i32_653 : BitVec 32 := 128#32
  let v1127 : BitVec 32 := Scalar.muli v1124 c128_i32_653
  let c64_i32_654 : BitVec 32 := 64#32
  let v1128 : BitVec 32 := Scalar.subi v1127 c64_i32_654
  let v1129 : BitVec 32 := Scalar.maxsi c0_i32_655 v1128
  let v1130 : BitVec 32 := Scalar.minsi c0_i32_656 v1129
  let v1131 : BitVec 32 := v1130
  let v1144 : Index := Scalar.indexCast v1131
  let c768 : Index := 768#32
  ![0, v1143.toNat, v1144.toNat, 768]
def k0_mult35 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_683 : BitVec 32 := 1#32
  let c0_i32_684 : BitVec 32 := 0#32
  let v1181 : BitVec 1 := Scalar.cmpi .eq c1_i32_683 c0_i32_684
  let c1_i32_685 : BitVec 32 := 1#32
  let v1182 : BitVec 32 := Scalar.select v1181 c1_i32_685 c1_i32_683
  let v1183 : BitVec 32 := Scalar.remsi v13 v1182
  let c0_i32_687 : BitVec 32 := 0#32
  let v1185 : BitVec 1 := Scalar.cmpi .slt v1183 c0_i32_687
  let c0_i32_688 : BitVec 32 := 0#32
  let v1186 : BitVec 1 := Scalar.cmpi .slt v1182 c0_i32_688
  let v1187 : BitVec 1 := Scalar.xori v1185 v1186
  let c0_i32_686 : BitVec 32 := 0#32
  let v1184 : BitVec 1 := Scalar.cmpi .ne v1183 c0_i32_686
  let v1188 : BitVec 1 := Scalar.andi v1187 v1184
  let v1189 : BitVec 32 := Scalar.addi v1183 v1182
  let v1190 : BitVec 32 := Scalar.select v1188 v1189 v1183
  let c128_i32_689 : BitVec 32 := 128#32
  let v1191 : BitVec 32 := Scalar.muli v1190 c128_i32_689
  v1191
def k0_mult36 (k0_t1 : Fin k0_t1_loop.trips) : BitVec 32 :=
  let c0_i32_693 : BitVec 32 := 0#32
  let c0_i32_692 : BitVec 32 := 0#32
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_683 : BitVec 32 := 1#32
  let c0_i32_684 : BitVec 32 := 0#32
  let v1181 : BitVec 1 := Scalar.cmpi .eq c1_i32_683 c0_i32_684
  let c1_i32_685 : BitVec 32 := 1#32
  let v1182 : BitVec 32 := Scalar.select v1181 c1_i32_685 c1_i32_683
  let v1183 : BitVec 32 := Scalar.remsi v13 v1182
  let c0_i32_687 : BitVec 32 := 0#32
  let v1185 : BitVec 1 := Scalar.cmpi .slt v1183 c0_i32_687
  let c0_i32_688 : BitVec 32 := 0#32
  let v1186 : BitVec 1 := Scalar.cmpi .slt v1182 c0_i32_688
  let v1187 : BitVec 1 := Scalar.xori v1185 v1186
  let c0_i32_686 : BitVec 32 := 0#32
  let v1184 : BitVec 1 := Scalar.cmpi .ne v1183 c0_i32_686
  let v1188 : BitVec 1 := Scalar.andi v1187 v1184
  let v1189 : BitVec 32 := Scalar.addi v1183 v1182
  let v1190 : BitVec 32 := Scalar.select v1188 v1189 v1183
  let c128_i32_690 : BitVec 32 := 128#32
  let v1193 : BitVec 32 := Scalar.muli v1190 c128_i32_690
  let c64_i32_691 : BitVec 32 := 64#32
  let v1194 : BitVec 32 := Scalar.subi v1193 c64_i32_691
  let v1195 : BitVec 32 := Scalar.maxsi c0_i32_692 v1194
  let v1196 : BitVec 32 := Scalar.minsi c0_i32_693 v1195
  v1196
def k0_mult37 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_722 : BitVec 32 := 1#32
  let c0_i32_723 : BitVec 32 := 0#32
  let v1247 : BitVec 1 := Scalar.cmpi .eq c1_i32_722 c0_i32_723
  let c1_i32_724 : BitVec 32 := 1#32
  let v1248 : BitVec 32 := Scalar.select v1247 c1_i32_724 c1_i32_722
  let v1249 : BitVec 32 := Scalar.remsi v15 v1248
  let c0_i32_726 : BitVec 32 := 0#32
  let v1251 : BitVec 1 := Scalar.cmpi .slt v1249 c0_i32_726
  let c0_i32_727 : BitVec 32 := 0#32
  let v1252 : BitVec 1 := Scalar.cmpi .slt v1248 c0_i32_727
  let v1253 : BitVec 1 := Scalar.xori v1251 v1252
  let c0_i32_725 : BitVec 32 := 0#32
  let v1250 : BitVec 1 := Scalar.cmpi .ne v1249 c0_i32_725
  let v1254 : BitVec 1 := Scalar.andi v1253 v1250
  let v1255 : BitVec 32 := Scalar.addi v1249 v1248
  let v1256 : BitVec 32 := Scalar.select v1254 v1255 v1249
  let c128_i32_728 : BitVec 32 := 128#32
  let v1257 : BitVec 32 := Scalar.muli v1256 c128_i32_728
  v1257
def k0_mult38 (k0_t1 : Fin k0_t1_loop.trips) : BitVec 32 :=
  let c0_i32_732 : BitVec 32 := 0#32
  let c0_i32_731 : BitVec 32 := 0#32
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_722 : BitVec 32 := 1#32
  let c0_i32_723 : BitVec 32 := 0#32
  let v1247 : BitVec 1 := Scalar.cmpi .eq c1_i32_722 c0_i32_723
  let c1_i32_724 : BitVec 32 := 1#32
  let v1248 : BitVec 32 := Scalar.select v1247 c1_i32_724 c1_i32_722
  let v1249 : BitVec 32 := Scalar.remsi v15 v1248
  let c0_i32_726 : BitVec 32 := 0#32
  let v1251 : BitVec 1 := Scalar.cmpi .slt v1249 c0_i32_726
  let c0_i32_727 : BitVec 32 := 0#32
  let v1252 : BitVec 1 := Scalar.cmpi .slt v1248 c0_i32_727
  let v1253 : BitVec 1 := Scalar.xori v1251 v1252
  let c0_i32_725 : BitVec 32 := 0#32
  let v1250 : BitVec 1 := Scalar.cmpi .ne v1249 c0_i32_725
  let v1254 : BitVec 1 := Scalar.andi v1253 v1250
  let v1255 : BitVec 32 := Scalar.addi v1249 v1248
  let v1256 : BitVec 32 := Scalar.select v1254 v1255 v1249
  let c128_i32_729 : BitVec 32 := 128#32
  let v1259 : BitVec 32 := Scalar.muli v1256 c128_i32_729
  let c64_i32_730 : BitVec 32 := 64#32
  let v1260 : BitVec 32 := Scalar.subi v1259 c64_i32_730
  let v1261 : BitVec 32 := Scalar.maxsi c0_i32_731 v1260
  let v1262 : BitVec 32 := Scalar.minsi c0_i32_732 v1261
  v1262
def k0_mult39 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_761 : BitVec 32 := 1#32
  let c0_i32_762 : BitVec 32 := 0#32
  let v1313 : BitVec 1 := Scalar.cmpi .eq c1_i32_761 c0_i32_762
  let c1_i32_763 : BitVec 32 := 1#32
  let v1314 : BitVec 32 := Scalar.select v1313 c1_i32_763 c1_i32_761
  let v1315 : BitVec 32 := Scalar.remsi v17 v1314
  let c0_i32_765 : BitVec 32 := 0#32
  let v1317 : BitVec 1 := Scalar.cmpi .slt v1315 c0_i32_765
  let c0_i32_766 : BitVec 32 := 0#32
  let v1318 : BitVec 1 := Scalar.cmpi .slt v1314 c0_i32_766
  let v1319 : BitVec 1 := Scalar.xori v1317 v1318
  let c0_i32_764 : BitVec 32 := 0#32
  let v1316 : BitVec 1 := Scalar.cmpi .ne v1315 c0_i32_764
  let v1320 : BitVec 1 := Scalar.andi v1319 v1316
  let v1321 : BitVec 32 := Scalar.addi v1315 v1314
  let v1322 : BitVec 32 := Scalar.select v1320 v1321 v1315
  let c128_i32_767 : BitVec 32 := 128#32
  let v1323 : BitVec 32 := Scalar.muli v1322 c128_i32_767
  v1323
def k0_mult40 (k0_t1 : Fin k0_t1_loop.trips) : BitVec 32 :=
  let c0_i32_771 : BitVec 32 := 0#32
  let c0_i32_770 : BitVec 32 := 0#32
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_761 : BitVec 32 := 1#32
  let c0_i32_762 : BitVec 32 := 0#32
  let v1313 : BitVec 1 := Scalar.cmpi .eq c1_i32_761 c0_i32_762
  let c1_i32_763 : BitVec 32 := 1#32
  let v1314 : BitVec 32 := Scalar.select v1313 c1_i32_763 c1_i32_761
  let v1315 : BitVec 32 := Scalar.remsi v17 v1314
  let c0_i32_765 : BitVec 32 := 0#32
  let v1317 : BitVec 1 := Scalar.cmpi .slt v1315 c0_i32_765
  let c0_i32_766 : BitVec 32 := 0#32
  let v1318 : BitVec 1 := Scalar.cmpi .slt v1314 c0_i32_766
  let v1319 : BitVec 1 := Scalar.xori v1317 v1318
  let c0_i32_764 : BitVec 32 := 0#32
  let v1316 : BitVec 1 := Scalar.cmpi .ne v1315 c0_i32_764
  let v1320 : BitVec 1 := Scalar.andi v1319 v1316
  let v1321 : BitVec 32 := Scalar.addi v1315 v1314
  let v1322 : BitVec 32 := Scalar.select v1320 v1321 v1315
  let c128_i32_768 : BitVec 32 := 128#32
  let v1325 : BitVec 32 := Scalar.muli v1322 c128_i32_768
  let c64_i32_769 : BitVec 32 := 64#32
  let v1326 : BitVec 32 := Scalar.subi v1325 c64_i32_769
  let v1327 : BitVec 32 := Scalar.maxsi c0_i32_770 v1326
  let v1328 : BitVec 32 := Scalar.minsi c0_i32_771 v1327
  v1328
def k0_mult41 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_800 : BitVec 32 := 1#32
  let c0_i32_801 : BitVec 32 := 0#32
  let v1379 : BitVec 1 := Scalar.cmpi .eq c1_i32_800 c0_i32_801
  let c1_i32_802 : BitVec 32 := 1#32
  let v1380 : BitVec 32 := Scalar.select v1379 c1_i32_802 c1_i32_800
  let v1381 : BitVec 32 := Scalar.remsi v19 v1380
  let c0_i32_804 : BitVec 32 := 0#32
  let v1383 : BitVec 1 := Scalar.cmpi .slt v1381 c0_i32_804
  let c0_i32_805 : BitVec 32 := 0#32
  let v1384 : BitVec 1 := Scalar.cmpi .slt v1380 c0_i32_805
  let v1385 : BitVec 1 := Scalar.xori v1383 v1384
  let c0_i32_803 : BitVec 32 := 0#32
  let v1382 : BitVec 1 := Scalar.cmpi .ne v1381 c0_i32_803
  let v1386 : BitVec 1 := Scalar.andi v1385 v1382
  let v1387 : BitVec 32 := Scalar.addi v1381 v1380
  let v1388 : BitVec 32 := Scalar.select v1386 v1387 v1381
  let c128_i32_806 : BitVec 32 := 128#32
  let v1389 : BitVec 32 := Scalar.muli v1388 c128_i32_806
  v1389
def k0_mult42 (k0_t1 : Fin k0_t1_loop.trips) : BitVec 32 :=
  let c0_i32_810 : BitVec 32 := 0#32
  let c0_i32_809 : BitVec 32 := 0#32
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_800 : BitVec 32 := 1#32
  let c0_i32_801 : BitVec 32 := 0#32
  let v1379 : BitVec 1 := Scalar.cmpi .eq c1_i32_800 c0_i32_801
  let c1_i32_802 : BitVec 32 := 1#32
  let v1380 : BitVec 32 := Scalar.select v1379 c1_i32_802 c1_i32_800
  let v1381 : BitVec 32 := Scalar.remsi v19 v1380
  let c0_i32_804 : BitVec 32 := 0#32
  let v1383 : BitVec 1 := Scalar.cmpi .slt v1381 c0_i32_804
  let c0_i32_805 : BitVec 32 := 0#32
  let v1384 : BitVec 1 := Scalar.cmpi .slt v1380 c0_i32_805
  let v1385 : BitVec 1 := Scalar.xori v1383 v1384
  let c0_i32_803 : BitVec 32 := 0#32
  let v1382 : BitVec 1 := Scalar.cmpi .ne v1381 c0_i32_803
  let v1386 : BitVec 1 := Scalar.andi v1385 v1382
  let v1387 : BitVec 32 := Scalar.addi v1381 v1380
  let v1388 : BitVec 32 := Scalar.select v1386 v1387 v1381
  let c128_i32_807 : BitVec 32 := 128#32
  let v1391 : BitVec 32 := Scalar.muli v1388 c128_i32_807
  let c64_i32_808 : BitVec 32 := 64#32
  let v1392 : BitVec 32 := Scalar.subi v1391 c64_i32_808
  let v1393 : BitVec 32 := Scalar.maxsi c0_i32_809 v1392
  let v1394 : BitVec 32 := Scalar.minsi c0_i32_810 v1393
  v1394
def k0_mult43 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_839 : BitVec 32 := 1#32
  let c0_i32_840 : BitVec 32 := 0#32
  let v1445 : BitVec 1 := Scalar.cmpi .eq c1_i32_839 c0_i32_840
  let c1_i32_841 : BitVec 32 := 1#32
  let v1446 : BitVec 32 := Scalar.select v1445 c1_i32_841 c1_i32_839
  let v1447 : BitVec 32 := Scalar.remsi v21 v1446
  let c0_i32_843 : BitVec 32 := 0#32
  let v1449 : BitVec 1 := Scalar.cmpi .slt v1447 c0_i32_843
  let c0_i32_844 : BitVec 32 := 0#32
  let v1450 : BitVec 1 := Scalar.cmpi .slt v1446 c0_i32_844
  let v1451 : BitVec 1 := Scalar.xori v1449 v1450
  let c0_i32_842 : BitVec 32 := 0#32
  let v1448 : BitVec 1 := Scalar.cmpi .ne v1447 c0_i32_842
  let v1452 : BitVec 1 := Scalar.andi v1451 v1448
  let v1453 : BitVec 32 := Scalar.addi v1447 v1446
  let v1454 : BitVec 32 := Scalar.select v1452 v1453 v1447
  let c128_i32_845 : BitVec 32 := 128#32
  let v1455 : BitVec 32 := Scalar.muli v1454 c128_i32_845
  v1455
def k0_mult44 (k0_t1 : Fin k0_t1_loop.trips) : BitVec 32 :=
  let c0_i32_849 : BitVec 32 := 0#32
  let c0_i32_848 : BitVec 32 := 0#32
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_839 : BitVec 32 := 1#32
  let c0_i32_840 : BitVec 32 := 0#32
  let v1445 : BitVec 1 := Scalar.cmpi .eq c1_i32_839 c0_i32_840
  let c1_i32_841 : BitVec 32 := 1#32
  let v1446 : BitVec 32 := Scalar.select v1445 c1_i32_841 c1_i32_839
  let v1447 : BitVec 32 := Scalar.remsi v21 v1446
  let c0_i32_843 : BitVec 32 := 0#32
  let v1449 : BitVec 1 := Scalar.cmpi .slt v1447 c0_i32_843
  let c0_i32_844 : BitVec 32 := 0#32
  let v1450 : BitVec 1 := Scalar.cmpi .slt v1446 c0_i32_844
  let v1451 : BitVec 1 := Scalar.xori v1449 v1450
  let c0_i32_842 : BitVec 32 := 0#32
  let v1448 : BitVec 1 := Scalar.cmpi .ne v1447 c0_i32_842
  let v1452 : BitVec 1 := Scalar.andi v1451 v1448
  let v1453 : BitVec 32 := Scalar.addi v1447 v1446
  let v1454 : BitVec 32 := Scalar.select v1452 v1453 v1447
  let c128_i32_846 : BitVec 32 := 128#32
  let v1457 : BitVec 32 := Scalar.muli v1454 c128_i32_846
  let c64_i32_847 : BitVec 32 := 64#32
  let v1458 : BitVec 32 := Scalar.subi v1457 c64_i32_847
  let v1459 : BitVec 32 := Scalar.maxsi c0_i32_848 v1458
  let v1460 : BitVec 32 := Scalar.minsi c0_i32_849 v1459
  v1460
def k0_mult45 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_878 : BitVec 32 := 1#32
  let c0_i32_879 : BitVec 32 := 0#32
  let v1511 : BitVec 1 := Scalar.cmpi .eq c1_i32_878 c0_i32_879
  let c1_i32_880 : BitVec 32 := 1#32
  let v1512 : BitVec 32 := Scalar.select v1511 c1_i32_880 c1_i32_878
  let v1513 : BitVec 32 := Scalar.remsi v23 v1512
  let c0_i32_882 : BitVec 32 := 0#32
  let v1515 : BitVec 1 := Scalar.cmpi .slt v1513 c0_i32_882
  let c0_i32_883 : BitVec 32 := 0#32
  let v1516 : BitVec 1 := Scalar.cmpi .slt v1512 c0_i32_883
  let v1517 : BitVec 1 := Scalar.xori v1515 v1516
  let c0_i32_881 : BitVec 32 := 0#32
  let v1514 : BitVec 1 := Scalar.cmpi .ne v1513 c0_i32_881
  let v1518 : BitVec 1 := Scalar.andi v1517 v1514
  let v1519 : BitVec 32 := Scalar.addi v1513 v1512
  let v1520 : BitVec 32 := Scalar.select v1518 v1519 v1513
  let c128_i32_884 : BitVec 32 := 128#32
  let v1521 : BitVec 32 := Scalar.muli v1520 c128_i32_884
  v1521
def k0_mult46 (k0_t1 : Fin k0_t1_loop.trips) : BitVec 32 :=
  let c0_i32_888 : BitVec 32 := 0#32
  let c0_i32_887 : BitVec 32 := 0#32
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_878 : BitVec 32 := 1#32
  let c0_i32_879 : BitVec 32 := 0#32
  let v1511 : BitVec 1 := Scalar.cmpi .eq c1_i32_878 c0_i32_879
  let c1_i32_880 : BitVec 32 := 1#32
  let v1512 : BitVec 32 := Scalar.select v1511 c1_i32_880 c1_i32_878
  let v1513 : BitVec 32 := Scalar.remsi v23 v1512
  let c0_i32_882 : BitVec 32 := 0#32
  let v1515 : BitVec 1 := Scalar.cmpi .slt v1513 c0_i32_882
  let c0_i32_883 : BitVec 32 := 0#32
  let v1516 : BitVec 1 := Scalar.cmpi .slt v1512 c0_i32_883
  let v1517 : BitVec 1 := Scalar.xori v1515 v1516
  let c0_i32_881 : BitVec 32 := 0#32
  let v1514 : BitVec 1 := Scalar.cmpi .ne v1513 c0_i32_881
  let v1518 : BitVec 1 := Scalar.andi v1517 v1514
  let v1519 : BitVec 32 := Scalar.addi v1513 v1512
  let v1520 : BitVec 32 := Scalar.select v1518 v1519 v1513
  let c128_i32_885 : BitVec 32 := 128#32
  let v1523 : BitVec 32 := Scalar.muli v1520 c128_i32_885
  let c64_i32_886 : BitVec 32 := 64#32
  let v1524 : BitVec 32 := Scalar.subi v1523 c64_i32_886
  let v1525 : BitVec 32 := Scalar.maxsi c0_i32_887 v1524
  let v1526 : BitVec 32 := Scalar.minsi c0_i32_888 v1525
  v1526
def k0_mult47 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_917 : BitVec 32 := 1#32
  let c0_i32_918 : BitVec 32 := 0#32
  let v1577 : BitVec 1 := Scalar.cmpi .eq c1_i32_917 c0_i32_918
  let c1_i32_919 : BitVec 32 := 1#32
  let v1578 : BitVec 32 := Scalar.select v1577 c1_i32_919 c1_i32_917
  let v1579 : BitVec 32 := Scalar.remsi v25 v1578
  let c0_i32_921 : BitVec 32 := 0#32
  let v1581 : BitVec 1 := Scalar.cmpi .slt v1579 c0_i32_921
  let c0_i32_922 : BitVec 32 := 0#32
  let v1582 : BitVec 1 := Scalar.cmpi .slt v1578 c0_i32_922
  let v1583 : BitVec 1 := Scalar.xori v1581 v1582
  let c0_i32_920 : BitVec 32 := 0#32
  let v1580 : BitVec 1 := Scalar.cmpi .ne v1579 c0_i32_920
  let v1584 : BitVec 1 := Scalar.andi v1583 v1580
  let v1585 : BitVec 32 := Scalar.addi v1579 v1578
  let v1586 : BitVec 32 := Scalar.select v1584 v1585 v1579
  let c128_i32_923 : BitVec 32 := 128#32
  let v1587 : BitVec 32 := Scalar.muli v1586 c128_i32_923
  v1587
def k0_mult48 (k0_t1 : Fin k0_t1_loop.trips) : BitVec 32 :=
  let c0_i32_927 : BitVec 32 := 0#32
  let c0_i32_926 : BitVec 32 := 0#32
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_917 : BitVec 32 := 1#32
  let c0_i32_918 : BitVec 32 := 0#32
  let v1577 : BitVec 1 := Scalar.cmpi .eq c1_i32_917 c0_i32_918
  let c1_i32_919 : BitVec 32 := 1#32
  let v1578 : BitVec 32 := Scalar.select v1577 c1_i32_919 c1_i32_917
  let v1579 : BitVec 32 := Scalar.remsi v25 v1578
  let c0_i32_921 : BitVec 32 := 0#32
  let v1581 : BitVec 1 := Scalar.cmpi .slt v1579 c0_i32_921
  let c0_i32_922 : BitVec 32 := 0#32
  let v1582 : BitVec 1 := Scalar.cmpi .slt v1578 c0_i32_922
  let v1583 : BitVec 1 := Scalar.xori v1581 v1582
  let c0_i32_920 : BitVec 32 := 0#32
  let v1580 : BitVec 1 := Scalar.cmpi .ne v1579 c0_i32_920
  let v1584 : BitVec 1 := Scalar.andi v1583 v1580
  let v1585 : BitVec 32 := Scalar.addi v1579 v1578
  let v1586 : BitVec 32 := Scalar.select v1584 v1585 v1579
  let c128_i32_924 : BitVec 32 := 128#32
  let v1589 : BitVec 32 := Scalar.muli v1586 c128_i32_924
  let c64_i32_925 : BitVec 32 := 64#32
  let v1590 : BitVec 32 := Scalar.subi v1589 c64_i32_925
  let v1591 : BitVec 32 := Scalar.maxsi c0_i32_926 v1590
  let v1592 : BitVec 32 := Scalar.minsi c0_i32_927 v1591
  v1592
def k0_mult49 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_956 : BitVec 32 := 1#32
  let c0_i32_957 : BitVec 32 := 0#32
  let v1643 : BitVec 1 := Scalar.cmpi .eq c1_i32_956 c0_i32_957
  let c1_i32_958 : BitVec 32 := 1#32
  let v1644 : BitVec 32 := Scalar.select v1643 c1_i32_958 c1_i32_956
  let v1645 : BitVec 32 := Scalar.remsi v11 v1644
  let c0_i32_960 : BitVec 32 := 0#32
  let v1647 : BitVec 1 := Scalar.cmpi .slt v1645 c0_i32_960
  let c0_i32_961 : BitVec 32 := 0#32
  let v1648 : BitVec 1 := Scalar.cmpi .slt v1644 c0_i32_961
  let v1649 : BitVec 1 := Scalar.xori v1647 v1648
  let c0_i32_959 : BitVec 32 := 0#32
  let v1646 : BitVec 1 := Scalar.cmpi .ne v1645 c0_i32_959
  let v1650 : BitVec 1 := Scalar.andi v1649 v1646
  let v1651 : BitVec 32 := Scalar.addi v1645 v1644
  let v1652 : BitVec 32 := Scalar.select v1650 v1651 v1645
  let c128_i32_962 : BitVec 32 := 128#32
  let v1653 : BitVec 32 := Scalar.muli v1652 c128_i32_962
  v1653
def k0_mult50 (k0_t1 : Fin k0_t1_loop.trips) : BitVec 32 :=
  let c0_i32_966 : BitVec 32 := 0#32
  let c0_i32_965 : BitVec 32 := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_956 : BitVec 32 := 1#32
  let c0_i32_957 : BitVec 32 := 0#32
  let v1643 : BitVec 1 := Scalar.cmpi .eq c1_i32_956 c0_i32_957
  let c1_i32_958 : BitVec 32 := 1#32
  let v1644 : BitVec 32 := Scalar.select v1643 c1_i32_958 c1_i32_956
  let v1645 : BitVec 32 := Scalar.remsi v11 v1644
  let c0_i32_960 : BitVec 32 := 0#32
  let v1647 : BitVec 1 := Scalar.cmpi .slt v1645 c0_i32_960
  let c0_i32_961 : BitVec 32 := 0#32
  let v1648 : BitVec 1 := Scalar.cmpi .slt v1644 c0_i32_961
  let v1649 : BitVec 1 := Scalar.xori v1647 v1648
  let c0_i32_959 : BitVec 32 := 0#32
  let v1646 : BitVec 1 := Scalar.cmpi .ne v1645 c0_i32_959
  let v1650 : BitVec 1 := Scalar.andi v1649 v1646
  let v1651 : BitVec 32 := Scalar.addi v1645 v1644
  let v1652 : BitVec 32 := Scalar.select v1650 v1651 v1645
  let c128_i32_963 : BitVec 32 := 128#32
  let v1655 : BitVec 32 := Scalar.muli v1652 c128_i32_963
  let c64_i32_964 : BitVec 32 := 64#32
  let v1656 : BitVec 32 := Scalar.subi v1655 c64_i32_964
  let v1657 : BitVec 32 := Scalar.maxsi c0_i32_965 v1656
  let v1658 : BitVec 32 := Scalar.minsi c0_i32_966 v1657
  v1658
def k0_off7 (k0_t1 : Fin k0_t1_loop.trips) (c0_i32_2 : BitVec 32) : Fin 4 → Nat :=
  let c0_969 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_950 : BitVec 32 := 0#32
  let v1627 : BitVec 1 := Scalar.cmpi .sgt v11 c0_i32_950
  let v1628 : BitVec 32 := Scalar.extui v1627
  let c0_i32_951 : BitVec 32 := 0#32
  let v1629 : BitVec 1 := Scalar.cmpi .slt v11 c0_i32_951
  let v1630 : BitVec 32 := Scalar.extui v1629
  let v1631 : BitVec 32 := Scalar.subi v1628 v1630
  let c1_i32_949 : BitVec 32 := 1#32
  let c0_i32_952 : BitVec 32 := 0#32
  let v1632 : BitVec 1 := Scalar.cmpi .sgt c1_i32_949 c0_i32_952
  let v1633 : BitVec 32 := Scalar.extui v1632
  let c0_i32_953 : BitVec 32 := 0#32
  let v1634 : BitVec 1 := Scalar.cmpi .slt c1_i32_949 c0_i32_953
  let v1635 : BitVec 32 := Scalar.extui v1634
  let v1636 : BitVec 32 := Scalar.subi v1633 v1635
  let v1637 : BitVec 1 := Scalar.cmpi .ne v1631 v1636
  let v1638 : BitVec 32 := Scalar.remsi v11 c1_i32_949
  let c0_i32_954 : BitVec 32 := 0#32
  let v1639 : BitVec 1 := Scalar.cmpi .ne v1638 c0_i32_954
  let v1640 : BitVec 1 := Scalar.andi v1637 v1639
  let v1626 : BitVec 32 := Scalar.divsi v11 c1_i32_949
  let c1_i32_955 : BitVec 32 := 1#32
  let v1641 : BitVec 32 := Scalar.subi v1626 c1_i32_955
  let v1642 : BitVec 32 := Scalar.select v1640 v1641 v1626
  let v1667 : Index := Scalar.indexCast v1642
  let c1_i32_956 : BitVec 32 := 1#32
  let c0_i32_957 : BitVec 32 := 0#32
  let v1643 : BitVec 1 := Scalar.cmpi .eq c1_i32_956 c0_i32_957
  let c1_i32_958 : BitVec 32 := 1#32
  let v1644 : BitVec 32 := Scalar.select v1643 c1_i32_958 c1_i32_956
  let v1645 : BitVec 32 := Scalar.remsi v11 v1644
  let c0_i32_960 : BitVec 32 := 0#32
  let v1647 : BitVec 1 := Scalar.cmpi .slt v1645 c0_i32_960
  let c0_i32_961 : BitVec 32 := 0#32
  let v1648 : BitVec 1 := Scalar.cmpi .slt v1644 c0_i32_961
  let v1649 : BitVec 1 := Scalar.xori v1647 v1648
  let c0_i32_959 : BitVec 32 := 0#32
  let v1646 : BitVec 1 := Scalar.cmpi .ne v1645 c0_i32_959
  let v1650 : BitVec 1 := Scalar.andi v1649 v1646
  let v1651 : BitVec 32 := Scalar.addi v1645 v1644
  let v1652 : BitVec 32 := Scalar.select v1650 v1651 v1645
  let c128_i32_962 : BitVec 32 := 128#32
  let v1653 : BitVec 32 := Scalar.muli v1652 c128_i32_962
  let v1654 : BitVec 32 := v1653
  let v1668 : Index := Scalar.indexCast v1654
  let c384 : Index := 384#32
  ![0, v1667.toNat, v1668.toNat, 384]
def k0_off8 (k0_t1 : Fin k0_t1_loop.trips) (c0_i32_2 : BitVec 32) : Fin 4 → Nat :=
  let c0_970 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_950 : BitVec 32 := 0#32
  let v1627 : BitVec 1 := Scalar.cmpi .sgt v11 c0_i32_950
  let v1628 : BitVec 32 := Scalar.extui v1627
  let c0_i32_951 : BitVec 32 := 0#32
  let v1629 : BitVec 1 := Scalar.cmpi .slt v11 c0_i32_951
  let v1630 : BitVec 32 := Scalar.extui v1629
  let v1631 : BitVec 32 := Scalar.subi v1628 v1630
  let c1_i32_949 : BitVec 32 := 1#32
  let c0_i32_952 : BitVec 32 := 0#32
  let v1632 : BitVec 1 := Scalar.cmpi .sgt c1_i32_949 c0_i32_952
  let v1633 : BitVec 32 := Scalar.extui v1632
  let c0_i32_953 : BitVec 32 := 0#32
  let v1634 : BitVec 1 := Scalar.cmpi .slt c1_i32_949 c0_i32_953
  let v1635 : BitVec 32 := Scalar.extui v1634
  let v1636 : BitVec 32 := Scalar.subi v1633 v1635
  let v1637 : BitVec 1 := Scalar.cmpi .ne v1631 v1636
  let v1638 : BitVec 32 := Scalar.remsi v11 c1_i32_949
  let c0_i32_954 : BitVec 32 := 0#32
  let v1639 : BitVec 1 := Scalar.cmpi .ne v1638 c0_i32_954
  let v1640 : BitVec 1 := Scalar.andi v1637 v1639
  let v1626 : BitVec 32 := Scalar.divsi v11 c1_i32_949
  let c1_i32_955 : BitVec 32 := 1#32
  let v1641 : BitVec 32 := Scalar.subi v1626 c1_i32_955
  let v1642 : BitVec 32 := Scalar.select v1640 v1641 v1626
  let v1671 : Index := Scalar.indexCast v1642
  let c0_i32_966 : BitVec 32 := 0#32
  let c0_i32_965 : BitVec 32 := 0#32
  let c1_i32_956 : BitVec 32 := 1#32
  let c0_i32_957 : BitVec 32 := 0#32
  let v1643 : BitVec 1 := Scalar.cmpi .eq c1_i32_956 c0_i32_957
  let c1_i32_958 : BitVec 32 := 1#32
  let v1644 : BitVec 32 := Scalar.select v1643 c1_i32_958 c1_i32_956
  let v1645 : BitVec 32 := Scalar.remsi v11 v1644
  let c0_i32_960 : BitVec 32 := 0#32
  let v1647 : BitVec 1 := Scalar.cmpi .slt v1645 c0_i32_960
  let c0_i32_961 : BitVec 32 := 0#32
  let v1648 : BitVec 1 := Scalar.cmpi .slt v1644 c0_i32_961
  let v1649 : BitVec 1 := Scalar.xori v1647 v1648
  let c0_i32_959 : BitVec 32 := 0#32
  let v1646 : BitVec 1 := Scalar.cmpi .ne v1645 c0_i32_959
  let v1650 : BitVec 1 := Scalar.andi v1649 v1646
  let v1651 : BitVec 32 := Scalar.addi v1645 v1644
  let v1652 : BitVec 32 := Scalar.select v1650 v1651 v1645
  let c128_i32_963 : BitVec 32 := 128#32
  let v1655 : BitVec 32 := Scalar.muli v1652 c128_i32_963
  let c64_i32_964 : BitVec 32 := 64#32
  let v1656 : BitVec 32 := Scalar.subi v1655 c64_i32_964
  let v1657 : BitVec 32 := Scalar.maxsi c0_i32_965 v1656
  let v1658 : BitVec 32 := Scalar.minsi c0_i32_966 v1657
  let v1659 : BitVec 32 := v1658
  let v1672 : Index := Scalar.indexCast v1659
  let c896 : Index := 896#32
  ![0, v1671.toNat, v1672.toNat, 896]
def k0_mult51 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_993 : BitVec 32 := 1#32
  let c0_i32_994 : BitVec 32 := 0#32
  let v1709 : BitVec 1 := Scalar.cmpi .eq c1_i32_993 c0_i32_994
  let c1_i32_995 : BitVec 32 := 1#32
  let v1710 : BitVec 32 := Scalar.select v1709 c1_i32_995 c1_i32_993
  let v1711 : BitVec 32 := Scalar.remsi v13 v1710
  let c0_i32_997 : BitVec 32 := 0#32
  let v1713 : BitVec 1 := Scalar.cmpi .slt v1711 c0_i32_997
  let c0_i32_998 : BitVec 32 := 0#32
  let v1714 : BitVec 1 := Scalar.cmpi .slt v1710 c0_i32_998
  let v1715 : BitVec 1 := Scalar.xori v1713 v1714
  let c0_i32_996 : BitVec 32 := 0#32
  let v1712 : BitVec 1 := Scalar.cmpi .ne v1711 c0_i32_996
  let v1716 : BitVec 1 := Scalar.andi v1715 v1712
  let v1717 : BitVec 32 := Scalar.addi v1711 v1710
  let v1718 : BitVec 32 := Scalar.select v1716 v1717 v1711
  let c128_i32_999 : BitVec 32 := 128#32
  let v1719 : BitVec 32 := Scalar.muli v1718 c128_i32_999
  v1719
def k0_mult52 (k0_t1 : Fin k0_t1_loop.trips) : BitVec 32 :=
  let c0_i32_1003 : BitVec 32 := 0#32
  let c0_i32_1002 : BitVec 32 := 0#32
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_993 : BitVec 32 := 1#32
  let c0_i32_994 : BitVec 32 := 0#32
  let v1709 : BitVec 1 := Scalar.cmpi .eq c1_i32_993 c0_i32_994
  let c1_i32_995 : BitVec 32 := 1#32
  let v1710 : BitVec 32 := Scalar.select v1709 c1_i32_995 c1_i32_993
  let v1711 : BitVec 32 := Scalar.remsi v13 v1710
  let c0_i32_997 : BitVec 32 := 0#32
  let v1713 : BitVec 1 := Scalar.cmpi .slt v1711 c0_i32_997
  let c0_i32_998 : BitVec 32 := 0#32
  let v1714 : BitVec 1 := Scalar.cmpi .slt v1710 c0_i32_998
  let v1715 : BitVec 1 := Scalar.xori v1713 v1714
  let c0_i32_996 : BitVec 32 := 0#32
  let v1712 : BitVec 1 := Scalar.cmpi .ne v1711 c0_i32_996
  let v1716 : BitVec 1 := Scalar.andi v1715 v1712
  let v1717 : BitVec 32 := Scalar.addi v1711 v1710
  let v1718 : BitVec 32 := Scalar.select v1716 v1717 v1711
  let c128_i32_1000 : BitVec 32 := 128#32
  let v1721 : BitVec 32 := Scalar.muli v1718 c128_i32_1000
  let c64_i32_1001 : BitVec 32 := 64#32
  let v1722 : BitVec 32 := Scalar.subi v1721 c64_i32_1001
  let v1723 : BitVec 32 := Scalar.maxsi c0_i32_1002 v1722
  let v1724 : BitVec 32 := Scalar.minsi c0_i32_1003 v1723
  v1724
def k0_mult53 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_1032 : BitVec 32 := 1#32
  let c0_i32_1033 : BitVec 32 := 0#32
  let v1775 : BitVec 1 := Scalar.cmpi .eq c1_i32_1032 c0_i32_1033
  let c1_i32_1034 : BitVec 32 := 1#32
  let v1776 : BitVec 32 := Scalar.select v1775 c1_i32_1034 c1_i32_1032
  let v1777 : BitVec 32 := Scalar.remsi v15 v1776
  let c0_i32_1036 : BitVec 32 := 0#32
  let v1779 : BitVec 1 := Scalar.cmpi .slt v1777 c0_i32_1036
  let c0_i32_1037 : BitVec 32 := 0#32
  let v1780 : BitVec 1 := Scalar.cmpi .slt v1776 c0_i32_1037
  let v1781 : BitVec 1 := Scalar.xori v1779 v1780
  let c0_i32_1035 : BitVec 32 := 0#32
  let v1778 : BitVec 1 := Scalar.cmpi .ne v1777 c0_i32_1035
  let v1782 : BitVec 1 := Scalar.andi v1781 v1778
  let v1783 : BitVec 32 := Scalar.addi v1777 v1776
  let v1784 : BitVec 32 := Scalar.select v1782 v1783 v1777
  let c128_i32_1038 : BitVec 32 := 128#32
  let v1785 : BitVec 32 := Scalar.muli v1784 c128_i32_1038
  v1785
def k0_mult54 (k0_t1 : Fin k0_t1_loop.trips) : BitVec 32 :=
  let c0_i32_1042 : BitVec 32 := 0#32
  let c0_i32_1041 : BitVec 32 := 0#32
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_1032 : BitVec 32 := 1#32
  let c0_i32_1033 : BitVec 32 := 0#32
  let v1775 : BitVec 1 := Scalar.cmpi .eq c1_i32_1032 c0_i32_1033
  let c1_i32_1034 : BitVec 32 := 1#32
  let v1776 : BitVec 32 := Scalar.select v1775 c1_i32_1034 c1_i32_1032
  let v1777 : BitVec 32 := Scalar.remsi v15 v1776
  let c0_i32_1036 : BitVec 32 := 0#32
  let v1779 : BitVec 1 := Scalar.cmpi .slt v1777 c0_i32_1036
  let c0_i32_1037 : BitVec 32 := 0#32
  let v1780 : BitVec 1 := Scalar.cmpi .slt v1776 c0_i32_1037
  let v1781 : BitVec 1 := Scalar.xori v1779 v1780
  let c0_i32_1035 : BitVec 32 := 0#32
  let v1778 : BitVec 1 := Scalar.cmpi .ne v1777 c0_i32_1035
  let v1782 : BitVec 1 := Scalar.andi v1781 v1778
  let v1783 : BitVec 32 := Scalar.addi v1777 v1776
  let v1784 : BitVec 32 := Scalar.select v1782 v1783 v1777
  let c128_i32_1039 : BitVec 32 := 128#32
  let v1787 : BitVec 32 := Scalar.muli v1784 c128_i32_1039
  let c64_i32_1040 : BitVec 32 := 64#32
  let v1788 : BitVec 32 := Scalar.subi v1787 c64_i32_1040
  let v1789 : BitVec 32 := Scalar.maxsi c0_i32_1041 v1788
  let v1790 : BitVec 32 := Scalar.minsi c0_i32_1042 v1789
  v1790
def k0_mult55 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_1071 : BitVec 32 := 1#32
  let c0_i32_1072 : BitVec 32 := 0#32
  let v1841 : BitVec 1 := Scalar.cmpi .eq c1_i32_1071 c0_i32_1072
  let c1_i32_1073 : BitVec 32 := 1#32
  let v1842 : BitVec 32 := Scalar.select v1841 c1_i32_1073 c1_i32_1071
  let v1843 : BitVec 32 := Scalar.remsi v17 v1842
  let c0_i32_1075 : BitVec 32 := 0#32
  let v1845 : BitVec 1 := Scalar.cmpi .slt v1843 c0_i32_1075
  let c0_i32_1076 : BitVec 32 := 0#32
  let v1846 : BitVec 1 := Scalar.cmpi .slt v1842 c0_i32_1076
  let v1847 : BitVec 1 := Scalar.xori v1845 v1846
  let c0_i32_1074 : BitVec 32 := 0#32
  let v1844 : BitVec 1 := Scalar.cmpi .ne v1843 c0_i32_1074
  let v1848 : BitVec 1 := Scalar.andi v1847 v1844
  let v1849 : BitVec 32 := Scalar.addi v1843 v1842
  let v1850 : BitVec 32 := Scalar.select v1848 v1849 v1843
  let c128_i32_1077 : BitVec 32 := 128#32
  let v1851 : BitVec 32 := Scalar.muli v1850 c128_i32_1077
  v1851
def k0_mult56 (k0_t1 : Fin k0_t1_loop.trips) : BitVec 32 :=
  let c0_i32_1081 : BitVec 32 := 0#32
  let c0_i32_1080 : BitVec 32 := 0#32
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_1071 : BitVec 32 := 1#32
  let c0_i32_1072 : BitVec 32 := 0#32
  let v1841 : BitVec 1 := Scalar.cmpi .eq c1_i32_1071 c0_i32_1072
  let c1_i32_1073 : BitVec 32 := 1#32
  let v1842 : BitVec 32 := Scalar.select v1841 c1_i32_1073 c1_i32_1071
  let v1843 : BitVec 32 := Scalar.remsi v17 v1842
  let c0_i32_1075 : BitVec 32 := 0#32
  let v1845 : BitVec 1 := Scalar.cmpi .slt v1843 c0_i32_1075
  let c0_i32_1076 : BitVec 32 := 0#32
  let v1846 : BitVec 1 := Scalar.cmpi .slt v1842 c0_i32_1076
  let v1847 : BitVec 1 := Scalar.xori v1845 v1846
  let c0_i32_1074 : BitVec 32 := 0#32
  let v1844 : BitVec 1 := Scalar.cmpi .ne v1843 c0_i32_1074
  let v1848 : BitVec 1 := Scalar.andi v1847 v1844
  let v1849 : BitVec 32 := Scalar.addi v1843 v1842
  let v1850 : BitVec 32 := Scalar.select v1848 v1849 v1843
  let c128_i32_1078 : BitVec 32 := 128#32
  let v1853 : BitVec 32 := Scalar.muli v1850 c128_i32_1078
  let c64_i32_1079 : BitVec 32 := 64#32
  let v1854 : BitVec 32 := Scalar.subi v1853 c64_i32_1079
  let v1855 : BitVec 32 := Scalar.maxsi c0_i32_1080 v1854
  let v1856 : BitVec 32 := Scalar.minsi c0_i32_1081 v1855
  v1856
def k0_mult57 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_1110 : BitVec 32 := 1#32
  let c0_i32_1111 : BitVec 32 := 0#32
  let v1907 : BitVec 1 := Scalar.cmpi .eq c1_i32_1110 c0_i32_1111
  let c1_i32_1112 : BitVec 32 := 1#32
  let v1908 : BitVec 32 := Scalar.select v1907 c1_i32_1112 c1_i32_1110
  let v1909 : BitVec 32 := Scalar.remsi v19 v1908
  let c0_i32_1114 : BitVec 32 := 0#32
  let v1911 : BitVec 1 := Scalar.cmpi .slt v1909 c0_i32_1114
  let c0_i32_1115 : BitVec 32 := 0#32
  let v1912 : BitVec 1 := Scalar.cmpi .slt v1908 c0_i32_1115
  let v1913 : BitVec 1 := Scalar.xori v1911 v1912
  let c0_i32_1113 : BitVec 32 := 0#32
  let v1910 : BitVec 1 := Scalar.cmpi .ne v1909 c0_i32_1113
  let v1914 : BitVec 1 := Scalar.andi v1913 v1910
  let v1915 : BitVec 32 := Scalar.addi v1909 v1908
  let v1916 : BitVec 32 := Scalar.select v1914 v1915 v1909
  let c128_i32_1116 : BitVec 32 := 128#32
  let v1917 : BitVec 32 := Scalar.muli v1916 c128_i32_1116
  v1917
def k0_mult58 (k0_t1 : Fin k0_t1_loop.trips) : BitVec 32 :=
  let c0_i32_1120 : BitVec 32 := 0#32
  let c0_i32_1119 : BitVec 32 := 0#32
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_1110 : BitVec 32 := 1#32
  let c0_i32_1111 : BitVec 32 := 0#32
  let v1907 : BitVec 1 := Scalar.cmpi .eq c1_i32_1110 c0_i32_1111
  let c1_i32_1112 : BitVec 32 := 1#32
  let v1908 : BitVec 32 := Scalar.select v1907 c1_i32_1112 c1_i32_1110
  let v1909 : BitVec 32 := Scalar.remsi v19 v1908
  let c0_i32_1114 : BitVec 32 := 0#32
  let v1911 : BitVec 1 := Scalar.cmpi .slt v1909 c0_i32_1114
  let c0_i32_1115 : BitVec 32 := 0#32
  let v1912 : BitVec 1 := Scalar.cmpi .slt v1908 c0_i32_1115
  let v1913 : BitVec 1 := Scalar.xori v1911 v1912
  let c0_i32_1113 : BitVec 32 := 0#32
  let v1910 : BitVec 1 := Scalar.cmpi .ne v1909 c0_i32_1113
  let v1914 : BitVec 1 := Scalar.andi v1913 v1910
  let v1915 : BitVec 32 := Scalar.addi v1909 v1908
  let v1916 : BitVec 32 := Scalar.select v1914 v1915 v1909
  let c128_i32_1117 : BitVec 32 := 128#32
  let v1919 : BitVec 32 := Scalar.muli v1916 c128_i32_1117
  let c64_i32_1118 : BitVec 32 := 64#32
  let v1920 : BitVec 32 := Scalar.subi v1919 c64_i32_1118
  let v1921 : BitVec 32 := Scalar.maxsi c0_i32_1119 v1920
  let v1922 : BitVec 32 := Scalar.minsi c0_i32_1120 v1921
  v1922
def k0_mult59 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_1149 : BitVec 32 := 1#32
  let c0_i32_1150 : BitVec 32 := 0#32
  let v1973 : BitVec 1 := Scalar.cmpi .eq c1_i32_1149 c0_i32_1150
  let c1_i32_1151 : BitVec 32 := 1#32
  let v1974 : BitVec 32 := Scalar.select v1973 c1_i32_1151 c1_i32_1149
  let v1975 : BitVec 32 := Scalar.remsi v21 v1974
  let c0_i32_1153 : BitVec 32 := 0#32
  let v1977 : BitVec 1 := Scalar.cmpi .slt v1975 c0_i32_1153
  let c0_i32_1154 : BitVec 32 := 0#32
  let v1978 : BitVec 1 := Scalar.cmpi .slt v1974 c0_i32_1154
  let v1979 : BitVec 1 := Scalar.xori v1977 v1978
  let c0_i32_1152 : BitVec 32 := 0#32
  let v1976 : BitVec 1 := Scalar.cmpi .ne v1975 c0_i32_1152
  let v1980 : BitVec 1 := Scalar.andi v1979 v1976
  let v1981 : BitVec 32 := Scalar.addi v1975 v1974
  let v1982 : BitVec 32 := Scalar.select v1980 v1981 v1975
  let c128_i32_1155 : BitVec 32 := 128#32
  let v1983 : BitVec 32 := Scalar.muli v1982 c128_i32_1155
  v1983
def k0_mult60 (k0_t1 : Fin k0_t1_loop.trips) : BitVec 32 :=
  let c0_i32_1159 : BitVec 32 := 0#32
  let c0_i32_1158 : BitVec 32 := 0#32
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_1149 : BitVec 32 := 1#32
  let c0_i32_1150 : BitVec 32 := 0#32
  let v1973 : BitVec 1 := Scalar.cmpi .eq c1_i32_1149 c0_i32_1150
  let c1_i32_1151 : BitVec 32 := 1#32
  let v1974 : BitVec 32 := Scalar.select v1973 c1_i32_1151 c1_i32_1149
  let v1975 : BitVec 32 := Scalar.remsi v21 v1974
  let c0_i32_1153 : BitVec 32 := 0#32
  let v1977 : BitVec 1 := Scalar.cmpi .slt v1975 c0_i32_1153
  let c0_i32_1154 : BitVec 32 := 0#32
  let v1978 : BitVec 1 := Scalar.cmpi .slt v1974 c0_i32_1154
  let v1979 : BitVec 1 := Scalar.xori v1977 v1978
  let c0_i32_1152 : BitVec 32 := 0#32
  let v1976 : BitVec 1 := Scalar.cmpi .ne v1975 c0_i32_1152
  let v1980 : BitVec 1 := Scalar.andi v1979 v1976
  let v1981 : BitVec 32 := Scalar.addi v1975 v1974
  let v1982 : BitVec 32 := Scalar.select v1980 v1981 v1975
  let c128_i32_1156 : BitVec 32 := 128#32
  let v1985 : BitVec 32 := Scalar.muli v1982 c128_i32_1156
  let c64_i32_1157 : BitVec 32 := 64#32
  let v1986 : BitVec 32 := Scalar.subi v1985 c64_i32_1157
  let v1987 : BitVec 32 := Scalar.maxsi c0_i32_1158 v1986
  let v1988 : BitVec 32 := Scalar.minsi c0_i32_1159 v1987
  v1988
def k0_mult61 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_1188 : BitVec 32 := 1#32
  let c0_i32_1189 : BitVec 32 := 0#32
  let v2039 : BitVec 1 := Scalar.cmpi .eq c1_i32_1188 c0_i32_1189
  let c1_i32_1190 : BitVec 32 := 1#32
  let v2040 : BitVec 32 := Scalar.select v2039 c1_i32_1190 c1_i32_1188
  let v2041 : BitVec 32 := Scalar.remsi v23 v2040
  let c0_i32_1192 : BitVec 32 := 0#32
  let v2043 : BitVec 1 := Scalar.cmpi .slt v2041 c0_i32_1192
  let c0_i32_1193 : BitVec 32 := 0#32
  let v2044 : BitVec 1 := Scalar.cmpi .slt v2040 c0_i32_1193
  let v2045 : BitVec 1 := Scalar.xori v2043 v2044
  let c0_i32_1191 : BitVec 32 := 0#32
  let v2042 : BitVec 1 := Scalar.cmpi .ne v2041 c0_i32_1191
  let v2046 : BitVec 1 := Scalar.andi v2045 v2042
  let v2047 : BitVec 32 := Scalar.addi v2041 v2040
  let v2048 : BitVec 32 := Scalar.select v2046 v2047 v2041
  let c128_i32_1194 : BitVec 32 := 128#32
  let v2049 : BitVec 32 := Scalar.muli v2048 c128_i32_1194
  v2049
def k0_mult62 (k0_t1 : Fin k0_t1_loop.trips) : BitVec 32 :=
  let c0_i32_1198 : BitVec 32 := 0#32
  let c0_i32_1197 : BitVec 32 := 0#32
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_1188 : BitVec 32 := 1#32
  let c0_i32_1189 : BitVec 32 := 0#32
  let v2039 : BitVec 1 := Scalar.cmpi .eq c1_i32_1188 c0_i32_1189
  let c1_i32_1190 : BitVec 32 := 1#32
  let v2040 : BitVec 32 := Scalar.select v2039 c1_i32_1190 c1_i32_1188
  let v2041 : BitVec 32 := Scalar.remsi v23 v2040
  let c0_i32_1192 : BitVec 32 := 0#32
  let v2043 : BitVec 1 := Scalar.cmpi .slt v2041 c0_i32_1192
  let c0_i32_1193 : BitVec 32 := 0#32
  let v2044 : BitVec 1 := Scalar.cmpi .slt v2040 c0_i32_1193
  let v2045 : BitVec 1 := Scalar.xori v2043 v2044
  let c0_i32_1191 : BitVec 32 := 0#32
  let v2042 : BitVec 1 := Scalar.cmpi .ne v2041 c0_i32_1191
  let v2046 : BitVec 1 := Scalar.andi v2045 v2042
  let v2047 : BitVec 32 := Scalar.addi v2041 v2040
  let v2048 : BitVec 32 := Scalar.select v2046 v2047 v2041
  let c128_i32_1195 : BitVec 32 := 128#32
  let v2051 : BitVec 32 := Scalar.muli v2048 c128_i32_1195
  let c64_i32_1196 : BitVec 32 := 64#32
  let v2052 : BitVec 32 := Scalar.subi v2051 c64_i32_1196
  let v2053 : BitVec 32 := Scalar.maxsi c0_i32_1197 v2052
  let v2054 : BitVec 32 := Scalar.minsi c0_i32_1198 v2053
  v2054
def k0_mult63 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_1227 : BitVec 32 := 1#32
  let c0_i32_1228 : BitVec 32 := 0#32
  let v2105 : BitVec 1 := Scalar.cmpi .eq c1_i32_1227 c0_i32_1228
  let c1_i32_1229 : BitVec 32 := 1#32
  let v2106 : BitVec 32 := Scalar.select v2105 c1_i32_1229 c1_i32_1227
  let v2107 : BitVec 32 := Scalar.remsi v25 v2106
  let c0_i32_1231 : BitVec 32 := 0#32
  let v2109 : BitVec 1 := Scalar.cmpi .slt v2107 c0_i32_1231
  let c0_i32_1232 : BitVec 32 := 0#32
  let v2110 : BitVec 1 := Scalar.cmpi .slt v2106 c0_i32_1232
  let v2111 : BitVec 1 := Scalar.xori v2109 v2110
  let c0_i32_1230 : BitVec 32 := 0#32
  let v2108 : BitVec 1 := Scalar.cmpi .ne v2107 c0_i32_1230
  let v2112 : BitVec 1 := Scalar.andi v2111 v2108
  let v2113 : BitVec 32 := Scalar.addi v2107 v2106
  let v2114 : BitVec 32 := Scalar.select v2112 v2113 v2107
  let c128_i32_1233 : BitVec 32 := 128#32
  let v2115 : BitVec 32 := Scalar.muli v2114 c128_i32_1233
  v2115
def k0_mult64 (k0_t1 : Fin k0_t1_loop.trips) : BitVec 32 :=
  let c0_i32_1237 : BitVec 32 := 0#32
  let c0_i32_1236 : BitVec 32 := 0#32
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_1227 : BitVec 32 := 1#32
  let c0_i32_1228 : BitVec 32 := 0#32
  let v2105 : BitVec 1 := Scalar.cmpi .eq c1_i32_1227 c0_i32_1228
  let c1_i32_1229 : BitVec 32 := 1#32
  let v2106 : BitVec 32 := Scalar.select v2105 c1_i32_1229 c1_i32_1227
  let v2107 : BitVec 32 := Scalar.remsi v25 v2106
  let c0_i32_1231 : BitVec 32 := 0#32
  let v2109 : BitVec 1 := Scalar.cmpi .slt v2107 c0_i32_1231
  let c0_i32_1232 : BitVec 32 := 0#32
  let v2110 : BitVec 1 := Scalar.cmpi .slt v2106 c0_i32_1232
  let v2111 : BitVec 1 := Scalar.xori v2109 v2110
  let c0_i32_1230 : BitVec 32 := 0#32
  let v2108 : BitVec 1 := Scalar.cmpi .ne v2107 c0_i32_1230
  let v2112 : BitVec 1 := Scalar.andi v2111 v2108
  let v2113 : BitVec 32 := Scalar.addi v2107 v2106
  let v2114 : BitVec 32 := Scalar.select v2112 v2113 v2107
  let c128_i32_1234 : BitVec 32 := 128#32
  let v2117 : BitVec 32 := Scalar.muli v2114 c128_i32_1234
  let c64_i32_1235 : BitVec 32 := 64#32
  let v2118 : BitVec 32 := Scalar.subi v2117 c64_i32_1235
  let v2119 : BitVec 32 := Scalar.maxsi c0_i32_1236 v2118
  let v2120 : BitVec 32 := Scalar.minsi c0_i32_1237 v2119
  v2120
def k0_off9 (k0_t1 : Fin k0_t1_loop.trips) (c0_i32_2 : BitVec 32) : Fin 4 → Nat :=
  let c0_1899 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_28 : BitVec 32 := 0#32
  let v43 : BitVec 1 := Scalar.cmpi .sgt v11 c0_i32_28
  let v44 : BitVec 32 := Scalar.extui v43
  let c0_i32_29 : BitVec 32 := 0#32
  let v45 : BitVec 1 := Scalar.cmpi .slt v11 c0_i32_29
  let v46 : BitVec 32 := Scalar.extui v45
  let v47 : BitVec 32 := Scalar.subi v44 v46
  let c1_i32_27 : BitVec 32 := 1#32
  let c0_i32_30 : BitVec 32 := 0#32
  let v48 : BitVec 1 := Scalar.cmpi .sgt c1_i32_27 c0_i32_30
  let v49 : BitVec 32 := Scalar.extui v48
  let c0_i32_31 : BitVec 32 := 0#32
  let v50 : BitVec 1 := Scalar.cmpi .slt c1_i32_27 c0_i32_31
  let v51 : BitVec 32 := Scalar.extui v50
  let v52 : BitVec 32 := Scalar.subi v49 v51
  let v53 : BitVec 1 := Scalar.cmpi .ne v47 v52
  let v54 : BitVec 32 := Scalar.remsi v11 c1_i32_27
  let c0_i32_32 : BitVec 32 := 0#32
  let v55 : BitVec 1 := Scalar.cmpi .ne v54 c0_i32_32
  let v56 : BitVec 1 := Scalar.andi v53 v55
  let v42 : BitVec 32 := Scalar.divsi v11 c1_i32_27
  let c1_i32_33 : BitVec 32 := 1#32
  let v57 : BitVec 32 := Scalar.subi v42 c1_i32_33
  let v58 : BitVec 32 := Scalar.select v56 v57 v42
  let v3178 : Index := Scalar.indexCast v58
  let c0_i32_43 : BitVec 32 := 0#32
  let c0_i32_42 : BitVec 32 := 0#32
  let c1_i32_34 : BitVec 32 := 1#32
  let c0_i32_35 : BitVec 32 := 0#32
  let v59 : BitVec 1 := Scalar.cmpi .eq c1_i32_34 c0_i32_35
  let c1_i32_36 : BitVec 32 := 1#32
  let v60 : BitVec 32 := Scalar.select v59 c1_i32_36 c1_i32_34
  let v61 : BitVec 32 := Scalar.remsi v11 v60
  let c0_i32_38 : BitVec 32 := 0#32
  let v63 : BitVec 1 := Scalar.cmpi .slt v61 c0_i32_38
  let c0_i32_39 : BitVec 32 := 0#32
  let v64 : BitVec 1 := Scalar.cmpi .slt v60 c0_i32_39
  let v65 : BitVec 1 := Scalar.xori v63 v64
  let c0_i32_37 : BitVec 32 := 0#32
  let v62 : BitVec 1 := Scalar.cmpi .ne v61 c0_i32_37
  let v66 : BitVec 1 := Scalar.andi v65 v62
  let v67 : BitVec 32 := Scalar.addi v61 v60
  let v68 : BitVec 32 := Scalar.select v66 v67 v61
  let c128_i32_40 : BitVec 32 := 128#32
  let v71 : BitVec 32 := Scalar.muli v68 c128_i32_40
  let c64_i32_41 : BitVec 32 := 64#32
  let v72 : BitVec 32 := Scalar.subi v71 c64_i32_41
  let v73 : BitVec 32 := Scalar.maxsi c0_i32_42 v72
  let v74 : BitVec 32 := Scalar.minsi c0_i32_43 v73
  let v75 : BitVec 32 := v74
  let v3179 : Index := Scalar.indexCast v75
  let c1024 : Index := 1024#32
  ![0, v3178.toNat, v3179.toNat, 1024]
def k0_off10 (k0_t1 : Fin k0_t1_loop.trips) (c0_i32_2 : BitVec 32) : Fin 4 → Nat :=
  let c0_1912 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_28 : BitVec 32 := 0#32
  let v43 : BitVec 1 := Scalar.cmpi .sgt v11 c0_i32_28
  let v44 : BitVec 32 := Scalar.extui v43
  let c0_i32_29 : BitVec 32 := 0#32
  let v45 : BitVec 1 := Scalar.cmpi .slt v11 c0_i32_29
  let v46 : BitVec 32 := Scalar.extui v45
  let v47 : BitVec 32 := Scalar.subi v44 v46
  let c1_i32_27 : BitVec 32 := 1#32
  let c0_i32_30 : BitVec 32 := 0#32
  let v48 : BitVec 1 := Scalar.cmpi .sgt c1_i32_27 c0_i32_30
  let v49 : BitVec 32 := Scalar.extui v48
  let c0_i32_31 : BitVec 32 := 0#32
  let v50 : BitVec 1 := Scalar.cmpi .slt c1_i32_27 c0_i32_31
  let v51 : BitVec 32 := Scalar.extui v50
  let v52 : BitVec 32 := Scalar.subi v49 v51
  let v53 : BitVec 1 := Scalar.cmpi .ne v47 v52
  let v54 : BitVec 32 := Scalar.remsi v11 c1_i32_27
  let c0_i32_32 : BitVec 32 := 0#32
  let v55 : BitVec 1 := Scalar.cmpi .ne v54 c0_i32_32
  let v56 : BitVec 1 := Scalar.andi v53 v55
  let v42 : BitVec 32 := Scalar.divsi v11 c1_i32_27
  let c1_i32_33 : BitVec 32 := 1#32
  let v57 : BitVec 32 := Scalar.subi v42 c1_i32_33
  let v58 : BitVec 32 := Scalar.select v56 v57 v42
  let v3196 : Index := Scalar.indexCast v58
  let c1_i32_34 : BitVec 32 := 1#32
  let c0_i32_35 : BitVec 32 := 0#32
  let v59 : BitVec 1 := Scalar.cmpi .eq c1_i32_34 c0_i32_35
  let c1_i32_36 : BitVec 32 := 1#32
  let v60 : BitVec 32 := Scalar.select v59 c1_i32_36 c1_i32_34
  let v61 : BitVec 32 := Scalar.remsi v11 v60
  let c0_i32_38 : BitVec 32 := 0#32
  let v63 : BitVec 1 := Scalar.cmpi .slt v61 c0_i32_38
  let c0_i32_39 : BitVec 32 := 0#32
  let v64 : BitVec 1 := Scalar.cmpi .slt v60 c0_i32_39
  let v65 : BitVec 1 := Scalar.xori v63 v64
  let c0_i32_37 : BitVec 32 := 0#32
  let v62 : BitVec 1 := Scalar.cmpi .ne v61 c0_i32_37
  let v66 : BitVec 1 := Scalar.andi v65 v62
  let v67 : BitVec 32 := Scalar.addi v61 v60
  let v68 : BitVec 32 := Scalar.select v66 v67 v61
  let c128_i32 : BitVec 32 := 128#32
  let v69 : BitVec 32 := Scalar.muli v68 c128_i32
  let v70 : BitVec 32 := v69
  let v3197 : Index := Scalar.indexCast v70
  let c0_1913 : Index := 0#32
  ![0, v3196.toNat, v3197.toNat, 0]
def k0_off11 (k0_t1 : Fin k0_t1_loop.trips) (c0_i32_2 : BitVec 32) : Fin 4 → Nat :=
  let c0_2042 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_330 : BitVec 32 := 0#32
  let v571 : BitVec 1 := Scalar.cmpi .sgt v11 c0_i32_330
  let v572 : BitVec 32 := Scalar.extui v571
  let c0_i32_331 : BitVec 32 := 0#32
  let v573 : BitVec 1 := Scalar.cmpi .slt v11 c0_i32_331
  let v574 : BitVec 32 := Scalar.extui v573
  let v575 : BitVec 32 := Scalar.subi v572 v574
  let c1_i32_329 : BitVec 32 := 1#32
  let c0_i32_332 : BitVec 32 := 0#32
  let v576 : BitVec 1 := Scalar.cmpi .sgt c1_i32_329 c0_i32_332
  let v577 : BitVec 32 := Scalar.extui v576
  let c0_i32_333 : BitVec 32 := 0#32
  let v578 : BitVec 1 := Scalar.cmpi .slt c1_i32_329 c0_i32_333
  let v579 : BitVec 32 := Scalar.extui v578
  let v580 : BitVec 32 := Scalar.subi v577 v579
  let v581 : BitVec 1 := Scalar.cmpi .ne v575 v580
  let v582 : BitVec 32 := Scalar.remsi v11 c1_i32_329
  let c0_i32_334 : BitVec 32 := 0#32
  let v583 : BitVec 1 := Scalar.cmpi .ne v582 c0_i32_334
  let v584 : BitVec 1 := Scalar.andi v581 v583
  let v570 : BitVec 32 := Scalar.divsi v11 c1_i32_329
  let c1_i32_335 : BitVec 32 := 1#32
  let v585 : BitVec 32 := Scalar.subi v570 c1_i32_335
  let v586 : BitVec 32 := Scalar.select v584 v585 v570
  let v3410 : Index := Scalar.indexCast v586
  let c0_i32_346 : BitVec 32 := 0#32
  let c0_i32_345 : BitVec 32 := 0#32
  let c1_i32_336 : BitVec 32 := 1#32
  let c0_i32_337 : BitVec 32 := 0#32
  let v587 : BitVec 1 := Scalar.cmpi .eq c1_i32_336 c0_i32_337
  let c1_i32_338 : BitVec 32 := 1#32
  let v588 : BitVec 32 := Scalar.select v587 c1_i32_338 c1_i32_336
  let v589 : BitVec 32 := Scalar.remsi v11 v588
  let c0_i32_340 : BitVec 32 := 0#32
  let v591 : BitVec 1 := Scalar.cmpi .slt v589 c0_i32_340
  let c0_i32_341 : BitVec 32 := 0#32
  let v592 : BitVec 1 := Scalar.cmpi .slt v588 c0_i32_341
  let v593 : BitVec 1 := Scalar.xori v591 v592
  let c0_i32_339 : BitVec 32 := 0#32
  let v590 : BitVec 1 := Scalar.cmpi .ne v589 c0_i32_339
  let v594 : BitVec 1 := Scalar.andi v593 v590
  let v595 : BitVec 32 := Scalar.addi v589 v588
  let v596 : BitVec 32 := Scalar.select v594 v595 v589
  let c128_i32_343 : BitVec 32 := 128#32
  let v599 : BitVec 32 := Scalar.muli v596 c128_i32_343
  let c64_i32_344 : BitVec 32 := 64#32
  let v600 : BitVec 32 := Scalar.subi v599 c64_i32_344
  let v601 : BitVec 32 := Scalar.maxsi c0_i32_345 v600
  let v602 : BitVec 32 := Scalar.minsi c0_i32_346 v601
  let v603 : BitVec 32 := v602
  let v3411 : Index := Scalar.indexCast v603
  let c1152 : Index := 1152#32
  ![0, v3410.toNat, v3411.toNat, 1152]
def k0_off12 (k0_t1 : Fin k0_t1_loop.trips) (c0_i32_2 : BitVec 32) : Fin 4 → Nat :=
  let c0_2055 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_330 : BitVec 32 := 0#32
  let v571 : BitVec 1 := Scalar.cmpi .sgt v11 c0_i32_330
  let v572 : BitVec 32 := Scalar.extui v571
  let c0_i32_331 : BitVec 32 := 0#32
  let v573 : BitVec 1 := Scalar.cmpi .slt v11 c0_i32_331
  let v574 : BitVec 32 := Scalar.extui v573
  let v575 : BitVec 32 := Scalar.subi v572 v574
  let c1_i32_329 : BitVec 32 := 1#32
  let c0_i32_332 : BitVec 32 := 0#32
  let v576 : BitVec 1 := Scalar.cmpi .sgt c1_i32_329 c0_i32_332
  let v577 : BitVec 32 := Scalar.extui v576
  let c0_i32_333 : BitVec 32 := 0#32
  let v578 : BitVec 1 := Scalar.cmpi .slt c1_i32_329 c0_i32_333
  let v579 : BitVec 32 := Scalar.extui v578
  let v580 : BitVec 32 := Scalar.subi v577 v579
  let v581 : BitVec 1 := Scalar.cmpi .ne v575 v580
  let v582 : BitVec 32 := Scalar.remsi v11 c1_i32_329
  let c0_i32_334 : BitVec 32 := 0#32
  let v583 : BitVec 1 := Scalar.cmpi .ne v582 c0_i32_334
  let v584 : BitVec 1 := Scalar.andi v581 v583
  let v570 : BitVec 32 := Scalar.divsi v11 c1_i32_329
  let c1_i32_335 : BitVec 32 := 1#32
  let v585 : BitVec 32 := Scalar.subi v570 c1_i32_335
  let v586 : BitVec 32 := Scalar.select v584 v585 v570
  let v3428 : Index := Scalar.indexCast v586
  let c1_i32_336 : BitVec 32 := 1#32
  let c0_i32_337 : BitVec 32 := 0#32
  let v587 : BitVec 1 := Scalar.cmpi .eq c1_i32_336 c0_i32_337
  let c1_i32_338 : BitVec 32 := 1#32
  let v588 : BitVec 32 := Scalar.select v587 c1_i32_338 c1_i32_336
  let v589 : BitVec 32 := Scalar.remsi v11 v588
  let c0_i32_340 : BitVec 32 := 0#32
  let v591 : BitVec 1 := Scalar.cmpi .slt v589 c0_i32_340
  let c0_i32_341 : BitVec 32 := 0#32
  let v592 : BitVec 1 := Scalar.cmpi .slt v588 c0_i32_341
  let v593 : BitVec 1 := Scalar.xori v591 v592
  let c0_i32_339 : BitVec 32 := 0#32
  let v590 : BitVec 1 := Scalar.cmpi .ne v589 c0_i32_339
  let v594 : BitVec 1 := Scalar.andi v593 v590
  let v595 : BitVec 32 := Scalar.addi v589 v588
  let v596 : BitVec 32 := Scalar.select v594 v595 v589
  let c128_i32_342 : BitVec 32 := 128#32
  let v597 : BitVec 32 := Scalar.muli v596 c128_i32_342
  let v598 : BitVec 32 := v597
  let v3429 : Index := Scalar.indexCast v598
  let c128_2056 : Index := 128#32
  ![0, v3428.toNat, v3429.toNat, 128]
def k0_off13 (k0_t1 : Fin k0_t1_loop.trips) (c0_i32_2 : BitVec 32) : Fin 4 → Nat :=
  let c0_2185 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_640 : BitVec 32 := 0#32
  let v1099 : BitVec 1 := Scalar.cmpi .sgt v11 c0_i32_640
  let v1100 : BitVec 32 := Scalar.extui v1099
  let c0_i32_641 : BitVec 32 := 0#32
  let v1101 : BitVec 1 := Scalar.cmpi .slt v11 c0_i32_641
  let v1102 : BitVec 32 := Scalar.extui v1101
  let v1103 : BitVec 32 := Scalar.subi v1100 v1102
  let c1_i32_639 : BitVec 32 := 1#32
  let c0_i32_642 : BitVec 32 := 0#32
  let v1104 : BitVec 1 := Scalar.cmpi .sgt c1_i32_639 c0_i32_642
  let v1105 : BitVec 32 := Scalar.extui v1104
  let c0_i32_643 : BitVec 32 := 0#32
  let v1106 : BitVec 1 := Scalar.cmpi .slt c1_i32_639 c0_i32_643
  let v1107 : BitVec 32 := Scalar.extui v1106
  let v1108 : BitVec 32 := Scalar.subi v1105 v1107
  let v1109 : BitVec 1 := Scalar.cmpi .ne v1103 v1108
  let v1110 : BitVec 32 := Scalar.remsi v11 c1_i32_639
  let c0_i32_644 : BitVec 32 := 0#32
  let v1111 : BitVec 1 := Scalar.cmpi .ne v1110 c0_i32_644
  let v1112 : BitVec 1 := Scalar.andi v1109 v1111
  let v1098 : BitVec 32 := Scalar.divsi v11 c1_i32_639
  let c1_i32_645 : BitVec 32 := 1#32
  let v1113 : BitVec 32 := Scalar.subi v1098 c1_i32_645
  let v1114 : BitVec 32 := Scalar.select v1112 v1113 v1098
  let v3642 : Index := Scalar.indexCast v1114
  let c0_i32_656 : BitVec 32 := 0#32
  let c0_i32_655 : BitVec 32 := 0#32
  let c1_i32_646 : BitVec 32 := 1#32
  let c0_i32_647 : BitVec 32 := 0#32
  let v1115 : BitVec 1 := Scalar.cmpi .eq c1_i32_646 c0_i32_647
  let c1_i32_648 : BitVec 32 := 1#32
  let v1116 : BitVec 32 := Scalar.select v1115 c1_i32_648 c1_i32_646
  let v1117 : BitVec 32 := Scalar.remsi v11 v1116
  let c0_i32_650 : BitVec 32 := 0#32
  let v1119 : BitVec 1 := Scalar.cmpi .slt v1117 c0_i32_650
  let c0_i32_651 : BitVec 32 := 0#32
  let v1120 : BitVec 1 := Scalar.cmpi .slt v1116 c0_i32_651
  let v1121 : BitVec 1 := Scalar.xori v1119 v1120
  let c0_i32_649 : BitVec 32 := 0#32
  let v1118 : BitVec 1 := Scalar.cmpi .ne v1117 c0_i32_649
  let v1122 : BitVec 1 := Scalar.andi v1121 v1118
  let v1123 : BitVec 32 := Scalar.addi v1117 v1116
  let v1124 : BitVec 32 := Scalar.select v1122 v1123 v1117
  let c128_i32_653 : BitVec 32 := 128#32
  let v1127 : BitVec 32 := Scalar.muli v1124 c128_i32_653
  let c64_i32_654 : BitVec 32 := 64#32
  let v1128 : BitVec 32 := Scalar.subi v1127 c64_i32_654
  let v1129 : BitVec 32 := Scalar.maxsi c0_i32_655 v1128
  let v1130 : BitVec 32 := Scalar.minsi c0_i32_656 v1129
  let v1131 : BitVec 32 := v1130
  let v3643 : Index := Scalar.indexCast v1131
  let c1280 : Index := 1280#32
  ![0, v3642.toNat, v3643.toNat, 1280]
def k0_off14 (k0_t1 : Fin k0_t1_loop.trips) (c0_i32_2 : BitVec 32) : Fin 4 → Nat :=
  let c0_2198 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_640 : BitVec 32 := 0#32
  let v1099 : BitVec 1 := Scalar.cmpi .sgt v11 c0_i32_640
  let v1100 : BitVec 32 := Scalar.extui v1099
  let c0_i32_641 : BitVec 32 := 0#32
  let v1101 : BitVec 1 := Scalar.cmpi .slt v11 c0_i32_641
  let v1102 : BitVec 32 := Scalar.extui v1101
  let v1103 : BitVec 32 := Scalar.subi v1100 v1102
  let c1_i32_639 : BitVec 32 := 1#32
  let c0_i32_642 : BitVec 32 := 0#32
  let v1104 : BitVec 1 := Scalar.cmpi .sgt c1_i32_639 c0_i32_642
  let v1105 : BitVec 32 := Scalar.extui v1104
  let c0_i32_643 : BitVec 32 := 0#32
  let v1106 : BitVec 1 := Scalar.cmpi .slt c1_i32_639 c0_i32_643
  let v1107 : BitVec 32 := Scalar.extui v1106
  let v1108 : BitVec 32 := Scalar.subi v1105 v1107
  let v1109 : BitVec 1 := Scalar.cmpi .ne v1103 v1108
  let v1110 : BitVec 32 := Scalar.remsi v11 c1_i32_639
  let c0_i32_644 : BitVec 32 := 0#32
  let v1111 : BitVec 1 := Scalar.cmpi .ne v1110 c0_i32_644
  let v1112 : BitVec 1 := Scalar.andi v1109 v1111
  let v1098 : BitVec 32 := Scalar.divsi v11 c1_i32_639
  let c1_i32_645 : BitVec 32 := 1#32
  let v1113 : BitVec 32 := Scalar.subi v1098 c1_i32_645
  let v1114 : BitVec 32 := Scalar.select v1112 v1113 v1098
  let v3660 : Index := Scalar.indexCast v1114
  let c1_i32_646 : BitVec 32 := 1#32
  let c0_i32_647 : BitVec 32 := 0#32
  let v1115 : BitVec 1 := Scalar.cmpi .eq c1_i32_646 c0_i32_647
  let c1_i32_648 : BitVec 32 := 1#32
  let v1116 : BitVec 32 := Scalar.select v1115 c1_i32_648 c1_i32_646
  let v1117 : BitVec 32 := Scalar.remsi v11 v1116
  let c0_i32_650 : BitVec 32 := 0#32
  let v1119 : BitVec 1 := Scalar.cmpi .slt v1117 c0_i32_650
  let c0_i32_651 : BitVec 32 := 0#32
  let v1120 : BitVec 1 := Scalar.cmpi .slt v1116 c0_i32_651
  let v1121 : BitVec 1 := Scalar.xori v1119 v1120
  let c0_i32_649 : BitVec 32 := 0#32
  let v1118 : BitVec 1 := Scalar.cmpi .ne v1117 c0_i32_649
  let v1122 : BitVec 1 := Scalar.andi v1121 v1118
  let v1123 : BitVec 32 := Scalar.addi v1117 v1116
  let v1124 : BitVec 32 := Scalar.select v1122 v1123 v1117
  let c128_i32_652 : BitVec 32 := 128#32
  let v1125 : BitVec 32 := Scalar.muli v1124 c128_i32_652
  let v1126 : BitVec 32 := v1125
  let v3661 : Index := Scalar.indexCast v1126
  let c256_2199 : Index := 256#32
  ![0, v3660.toNat, v3661.toNat, 256]
def k0_off15 (k0_t1 : Fin k0_t1_loop.trips) (c0_i32_2 : BitVec 32) : Fin 4 → Nat :=
  let c0_2328 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_950 : BitVec 32 := 0#32
  let v1627 : BitVec 1 := Scalar.cmpi .sgt v11 c0_i32_950
  let v1628 : BitVec 32 := Scalar.extui v1627
  let c0_i32_951 : BitVec 32 := 0#32
  let v1629 : BitVec 1 := Scalar.cmpi .slt v11 c0_i32_951
  let v1630 : BitVec 32 := Scalar.extui v1629
  let v1631 : BitVec 32 := Scalar.subi v1628 v1630
  let c1_i32_949 : BitVec 32 := 1#32
  let c0_i32_952 : BitVec 32 := 0#32
  let v1632 : BitVec 1 := Scalar.cmpi .sgt c1_i32_949 c0_i32_952
  let v1633 : BitVec 32 := Scalar.extui v1632
  let c0_i32_953 : BitVec 32 := 0#32
  let v1634 : BitVec 1 := Scalar.cmpi .slt c1_i32_949 c0_i32_953
  let v1635 : BitVec 32 := Scalar.extui v1634
  let v1636 : BitVec 32 := Scalar.subi v1633 v1635
  let v1637 : BitVec 1 := Scalar.cmpi .ne v1631 v1636
  let v1638 : BitVec 32 := Scalar.remsi v11 c1_i32_949
  let c0_i32_954 : BitVec 32 := 0#32
  let v1639 : BitVec 1 := Scalar.cmpi .ne v1638 c0_i32_954
  let v1640 : BitVec 1 := Scalar.andi v1637 v1639
  let v1626 : BitVec 32 := Scalar.divsi v11 c1_i32_949
  let c1_i32_955 : BitVec 32 := 1#32
  let v1641 : BitVec 32 := Scalar.subi v1626 c1_i32_955
  let v1642 : BitVec 32 := Scalar.select v1640 v1641 v1626
  let v3874 : Index := Scalar.indexCast v1642
  let c0_i32_966 : BitVec 32 := 0#32
  let c0_i32_965 : BitVec 32 := 0#32
  let c1_i32_956 : BitVec 32 := 1#32
  let c0_i32_957 : BitVec 32 := 0#32
  let v1643 : BitVec 1 := Scalar.cmpi .eq c1_i32_956 c0_i32_957
  let c1_i32_958 : BitVec 32 := 1#32
  let v1644 : BitVec 32 := Scalar.select v1643 c1_i32_958 c1_i32_956
  let v1645 : BitVec 32 := Scalar.remsi v11 v1644
  let c0_i32_960 : BitVec 32 := 0#32
  let v1647 : BitVec 1 := Scalar.cmpi .slt v1645 c0_i32_960
  let c0_i32_961 : BitVec 32 := 0#32
  let v1648 : BitVec 1 := Scalar.cmpi .slt v1644 c0_i32_961
  let v1649 : BitVec 1 := Scalar.xori v1647 v1648
  let c0_i32_959 : BitVec 32 := 0#32
  let v1646 : BitVec 1 := Scalar.cmpi .ne v1645 c0_i32_959
  let v1650 : BitVec 1 := Scalar.andi v1649 v1646
  let v1651 : BitVec 32 := Scalar.addi v1645 v1644
  let v1652 : BitVec 32 := Scalar.select v1650 v1651 v1645
  let c128_i32_963 : BitVec 32 := 128#32
  let v1655 : BitVec 32 := Scalar.muli v1652 c128_i32_963
  let c64_i32_964 : BitVec 32 := 64#32
  let v1656 : BitVec 32 := Scalar.subi v1655 c64_i32_964
  let v1657 : BitVec 32 := Scalar.maxsi c0_i32_965 v1656
  let v1658 : BitVec 32 := Scalar.minsi c0_i32_966 v1657
  let v1659 : BitVec 32 := v1658
  let v3875 : Index := Scalar.indexCast v1659
  let c1408 : Index := 1408#32
  ![0, v3874.toNat, v3875.toNat, 1408]
def k0_off16 (k0_t1 : Fin k0_t1_loop.trips) (c0_i32_2 : BitVec 32) : Fin 4 → Nat :=
  let c0_2341 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_950 : BitVec 32 := 0#32
  let v1627 : BitVec 1 := Scalar.cmpi .sgt v11 c0_i32_950
  let v1628 : BitVec 32 := Scalar.extui v1627
  let c0_i32_951 : BitVec 32 := 0#32
  let v1629 : BitVec 1 := Scalar.cmpi .slt v11 c0_i32_951
  let v1630 : BitVec 32 := Scalar.extui v1629
  let v1631 : BitVec 32 := Scalar.subi v1628 v1630
  let c1_i32_949 : BitVec 32 := 1#32
  let c0_i32_952 : BitVec 32 := 0#32
  let v1632 : BitVec 1 := Scalar.cmpi .sgt c1_i32_949 c0_i32_952
  let v1633 : BitVec 32 := Scalar.extui v1632
  let c0_i32_953 : BitVec 32 := 0#32
  let v1634 : BitVec 1 := Scalar.cmpi .slt c1_i32_949 c0_i32_953
  let v1635 : BitVec 32 := Scalar.extui v1634
  let v1636 : BitVec 32 := Scalar.subi v1633 v1635
  let v1637 : BitVec 1 := Scalar.cmpi .ne v1631 v1636
  let v1638 : BitVec 32 := Scalar.remsi v11 c1_i32_949
  let c0_i32_954 : BitVec 32 := 0#32
  let v1639 : BitVec 1 := Scalar.cmpi .ne v1638 c0_i32_954
  let v1640 : BitVec 1 := Scalar.andi v1637 v1639
  let v1626 : BitVec 32 := Scalar.divsi v11 c1_i32_949
  let c1_i32_955 : BitVec 32 := 1#32
  let v1641 : BitVec 32 := Scalar.subi v1626 c1_i32_955
  let v1642 : BitVec 32 := Scalar.select v1640 v1641 v1626
  let v3892 : Index := Scalar.indexCast v1642
  let c1_i32_956 : BitVec 32 := 1#32
  let c0_i32_957 : BitVec 32 := 0#32
  let v1643 : BitVec 1 := Scalar.cmpi .eq c1_i32_956 c0_i32_957
  let c1_i32_958 : BitVec 32 := 1#32
  let v1644 : BitVec 32 := Scalar.select v1643 c1_i32_958 c1_i32_956
  let v1645 : BitVec 32 := Scalar.remsi v11 v1644
  let c0_i32_960 : BitVec 32 := 0#32
  let v1647 : BitVec 1 := Scalar.cmpi .slt v1645 c0_i32_960
  let c0_i32_961 : BitVec 32 := 0#32
  let v1648 : BitVec 1 := Scalar.cmpi .slt v1644 c0_i32_961
  let v1649 : BitVec 1 := Scalar.xori v1647 v1648
  let c0_i32_959 : BitVec 32 := 0#32
  let v1646 : BitVec 1 := Scalar.cmpi .ne v1645 c0_i32_959
  let v1650 : BitVec 1 := Scalar.andi v1649 v1646
  let v1651 : BitVec 32 := Scalar.addi v1645 v1644
  let v1652 : BitVec 32 := Scalar.select v1650 v1651 v1645
  let c128_i32_962 : BitVec 32 := 128#32
  let v1653 : BitVec 32 := Scalar.muli v1652 c128_i32_962
  let v1654 : BitVec 32 := v1653
  let v3893 : Index := Scalar.indexCast v1654
  let c384_2342 : Index := 384#32
  ![0, v3892.toNat, v3893.toNat, 384]
def k0_mult65 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let c0_i32_2 : BitVec 32 := 0#32
  let v11 : BitVec 32 := Scalar.addi v10 c0_i32_2
  let c1_i32_2471 : BitVec 32 := 1#32
  let c0_i32_2472 : BitVec 32 := 0#32
  let v4106 : BitVec 1 := Scalar.cmpi .eq c1_i32_2471 c0_i32_2472
  let c1_i32_2473 : BitVec 32 := 1#32
  let v4107 : BitVec 32 := Scalar.select v4106 c1_i32_2473 c1_i32_2471
  let v4108 : BitVec 32 := Scalar.remsi v11 v4107
  let c0_i32_2475 : BitVec 32 := 0#32
  let v4110 : BitVec 1 := Scalar.cmpi .slt v4108 c0_i32_2475
  let c0_i32_2476 : BitVec 32 := 0#32
  let v4111 : BitVec 1 := Scalar.cmpi .slt v4107 c0_i32_2476
  let v4112 : BitVec 1 := Scalar.xori v4110 v4111
  let c0_i32_2474 : BitVec 32 := 0#32
  let v4109 : BitVec 1 := Scalar.cmpi .ne v4108 c0_i32_2474
  let v4113 : BitVec 1 := Scalar.andi v4112 v4109
  let v4114 : BitVec 32 := Scalar.addi v4108 v4107
  let v4115 : BitVec 32 := Scalar.select v4113 v4114 v4108
  let c128_i32_2477 : BitVec 32 := 128#32
  let v4116 : BitVec 32 := Scalar.muli v4115 c128_i32_2477
  v4116
def k0_off17 (k0_t1 : Fin k0_t1_loop.trips) (c0_i32_2 : BitVec 32) : Fin 4 → Nat :=
  let c0_2487 : Index := 0#32
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := Scalar.addi v10 c0_i32_2
  let c0_i32_2481 : BitVec 32 := 0#32
  let v4125 : BitVec 1 := Scalar.cmpi .sgt v11 c0_i32_2481
  let v4126 : BitVec 32 := Scalar.extui v4125
  let c0_i32_2482 : BitVec 32 := 0#32
  let v4127 : BitVec 1 := Scalar.cmpi .slt v11 c0_i32_2482
  let v4128 : BitVec 32 := Scalar.extui v4127
  let v4129 : BitVec 32 := Scalar.subi v4126 v4128
  let c1_i32_2480 : BitVec 32 := 1#32
  let c0_i32_2483 : BitVec 32 := 0#32
  let v4130 : BitVec 1 := Scalar.cmpi .sgt c1_i32_2480 c0_i32_2483
  let v4131 : BitVec 32 := Scalar.extui v4130
  let c0_i32_2484 : BitVec 32 := 0#32
  let v4132 : BitVec 1 := Scalar.cmpi .slt c1_i32_2480 c0_i32_2484
  let v4133 : BitVec 32 := Scalar.extui v4132
  let v4134 : BitVec 32 := Scalar.subi v4131 v4133
  let v4135 : BitVec 1 := Scalar.cmpi .ne v4129 v4134
  let v4136 : BitVec 32 := Scalar.remsi v11 c1_i32_2480
  let c0_i32_2485 : BitVec 32 := 0#32
  let v4137 : BitVec 1 := Scalar.cmpi .ne v4136 c0_i32_2485
  let v4138 : BitVec 1 := Scalar.andi v4135 v4137
  let v4124 : BitVec 32 := Scalar.divsi v11 c1_i32_2480
  let c1_i32_2486 : BitVec 32 := 1#32
  let v4139 : BitVec 32 := Scalar.subi v4124 c1_i32_2486
  let v4140 : BitVec 32 := Scalar.select v4138 v4139 v4124
  let v4141 : Index := Scalar.indexCast v4140
  let c1_i32_2471 : BitVec 32 := 1#32
  let c0_i32_2472 : BitVec 32 := 0#32
  let v4106 : BitVec 1 := Scalar.cmpi .eq c1_i32_2471 c0_i32_2472
  let c1_i32_2473 : BitVec 32 := 1#32
  let v4107 : BitVec 32 := Scalar.select v4106 c1_i32_2473 c1_i32_2471
  let v4108 : BitVec 32 := Scalar.remsi v11 v4107
  let c0_i32_2475 : BitVec 32 := 0#32
  let v4110 : BitVec 1 := Scalar.cmpi .slt v4108 c0_i32_2475
  let c0_i32_2476 : BitVec 32 := 0#32
  let v4111 : BitVec 1 := Scalar.cmpi .slt v4107 c0_i32_2476
  let v4112 : BitVec 1 := Scalar.xori v4110 v4111
  let c0_i32_2474 : BitVec 32 := 0#32
  let v4109 : BitVec 1 := Scalar.cmpi .ne v4108 c0_i32_2474
  let v4113 : BitVec 1 := Scalar.andi v4112 v4109
  let v4114 : BitVec 32 := Scalar.addi v4108 v4107
  let v4115 : BitVec 32 := Scalar.select v4113 v4114 v4108
  let c128_i32_2477 : BitVec 32 := 128#32
  let v4116 : BitVec 32 := Scalar.muli v4115 c128_i32_2477
  let v4117 : BitVec 32 := v4116
  let v4142 : Index := Scalar.indexCast v4117
  let c0_2488 : Index := 0#32
  ![0, v4141.toNat, v4142.toNat, 0]
def k0_mult66 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_3 : BitVec 32 := 8#32
  let v12 : BitVec 32 := Scalar.muli arg6 c8_i32_3
  let c1_i32_4 : BitVec 32 := 1#32
  let v13 : BitVec 32 := Scalar.addi v12 c1_i32_4
  let c1_i32_2489 : BitVec 32 := 1#32
  let c0_i32_2490 : BitVec 32 := 0#32
  let v4146 : BitVec 1 := Scalar.cmpi .eq c1_i32_2489 c0_i32_2490
  let c1_i32_2491 : BitVec 32 := 1#32
  let v4147 : BitVec 32 := Scalar.select v4146 c1_i32_2491 c1_i32_2489
  let v4148 : BitVec 32 := Scalar.remsi v13 v4147
  let c0_i32_2493 : BitVec 32 := 0#32
  let v4150 : BitVec 1 := Scalar.cmpi .slt v4148 c0_i32_2493
  let c0_i32_2494 : BitVec 32 := 0#32
  let v4151 : BitVec 1 := Scalar.cmpi .slt v4147 c0_i32_2494
  let v4152 : BitVec 1 := Scalar.xori v4150 v4151
  let c0_i32_2492 : BitVec 32 := 0#32
  let v4149 : BitVec 1 := Scalar.cmpi .ne v4148 c0_i32_2492
  let v4153 : BitVec 1 := Scalar.andi v4152 v4149
  let v4154 : BitVec 32 := Scalar.addi v4148 v4147
  let v4155 : BitVec 32 := Scalar.select v4153 v4154 v4148
  let c128_i32_2495 : BitVec 32 := 128#32
  let v4156 : BitVec 32 := Scalar.muli v4155 c128_i32_2495
  v4156
def k0_mult67 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_5 : BitVec 32 := 8#32
  let v14 : BitVec 32 := Scalar.muli arg6 c8_i32_5
  let c2_i32_6 : BitVec 32 := 2#32
  let v15 : BitVec 32 := Scalar.addi v14 c2_i32_6
  let c1_i32_2507 : BitVec 32 := 1#32
  let c0_i32_2508 : BitVec 32 := 0#32
  let v4186 : BitVec 1 := Scalar.cmpi .eq c1_i32_2507 c0_i32_2508
  let c1_i32_2509 : BitVec 32 := 1#32
  let v4187 : BitVec 32 := Scalar.select v4186 c1_i32_2509 c1_i32_2507
  let v4188 : BitVec 32 := Scalar.remsi v15 v4187
  let c0_i32_2511 : BitVec 32 := 0#32
  let v4190 : BitVec 1 := Scalar.cmpi .slt v4188 c0_i32_2511
  let c0_i32_2512 : BitVec 32 := 0#32
  let v4191 : BitVec 1 := Scalar.cmpi .slt v4187 c0_i32_2512
  let v4192 : BitVec 1 := Scalar.xori v4190 v4191
  let c0_i32_2510 : BitVec 32 := 0#32
  let v4189 : BitVec 1 := Scalar.cmpi .ne v4188 c0_i32_2510
  let v4193 : BitVec 1 := Scalar.andi v4192 v4189
  let v4194 : BitVec 32 := Scalar.addi v4188 v4187
  let v4195 : BitVec 32 := Scalar.select v4193 v4194 v4188
  let c128_i32_2513 : BitVec 32 := 128#32
  let v4196 : BitVec 32 := Scalar.muli v4195 c128_i32_2513
  v4196
def k0_mult68 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_7 : BitVec 32 := 8#32
  let v16 : BitVec 32 := Scalar.muli arg6 c8_i32_7
  let c3_i32 : BitVec 32 := 3#32
  let v17 : BitVec 32 := Scalar.addi v16 c3_i32
  let c1_i32_2525 : BitVec 32 := 1#32
  let c0_i32_2526 : BitVec 32 := 0#32
  let v4226 : BitVec 1 := Scalar.cmpi .eq c1_i32_2525 c0_i32_2526
  let c1_i32_2527 : BitVec 32 := 1#32
  let v4227 : BitVec 32 := Scalar.select v4226 c1_i32_2527 c1_i32_2525
  let v4228 : BitVec 32 := Scalar.remsi v17 v4227
  let c0_i32_2529 : BitVec 32 := 0#32
  let v4230 : BitVec 1 := Scalar.cmpi .slt v4228 c0_i32_2529
  let c0_i32_2530 : BitVec 32 := 0#32
  let v4231 : BitVec 1 := Scalar.cmpi .slt v4227 c0_i32_2530
  let v4232 : BitVec 1 := Scalar.xori v4230 v4231
  let c0_i32_2528 : BitVec 32 := 0#32
  let v4229 : BitVec 1 := Scalar.cmpi .ne v4228 c0_i32_2528
  let v4233 : BitVec 1 := Scalar.andi v4232 v4229
  let v4234 : BitVec 32 := Scalar.addi v4228 v4227
  let v4235 : BitVec 32 := Scalar.select v4233 v4234 v4228
  let c128_i32_2531 : BitVec 32 := 128#32
  let v4236 : BitVec 32 := Scalar.muli v4235 c128_i32_2531
  v4236
def k0_mult69 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_8 : BitVec 32 := 8#32
  let v18 : BitVec 32 := Scalar.muli arg6 c8_i32_8
  let c4_i32 : BitVec 32 := 4#32
  let v19 : BitVec 32 := Scalar.addi v18 c4_i32
  let c1_i32_2543 : BitVec 32 := 1#32
  let c0_i32_2544 : BitVec 32 := 0#32
  let v4266 : BitVec 1 := Scalar.cmpi .eq c1_i32_2543 c0_i32_2544
  let c1_i32_2545 : BitVec 32 := 1#32
  let v4267 : BitVec 32 := Scalar.select v4266 c1_i32_2545 c1_i32_2543
  let v4268 : BitVec 32 := Scalar.remsi v19 v4267
  let c0_i32_2547 : BitVec 32 := 0#32
  let v4270 : BitVec 1 := Scalar.cmpi .slt v4268 c0_i32_2547
  let c0_i32_2548 : BitVec 32 := 0#32
  let v4271 : BitVec 1 := Scalar.cmpi .slt v4267 c0_i32_2548
  let v4272 : BitVec 1 := Scalar.xori v4270 v4271
  let c0_i32_2546 : BitVec 32 := 0#32
  let v4269 : BitVec 1 := Scalar.cmpi .ne v4268 c0_i32_2546
  let v4273 : BitVec 1 := Scalar.andi v4272 v4269
  let v4274 : BitVec 32 := Scalar.addi v4268 v4267
  let v4275 : BitVec 32 := Scalar.select v4273 v4274 v4268
  let c128_i32_2549 : BitVec 32 := 128#32
  let v4276 : BitVec 32 := Scalar.muli v4275 c128_i32_2549
  v4276
def k0_mult70 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_9 : BitVec 32 := 8#32
  let v20 : BitVec 32 := Scalar.muli arg6 c8_i32_9
  let c5_i32 : BitVec 32 := 5#32
  let v21 : BitVec 32 := Scalar.addi v20 c5_i32
  let c1_i32_2561 : BitVec 32 := 1#32
  let c0_i32_2562 : BitVec 32 := 0#32
  let v4306 : BitVec 1 := Scalar.cmpi .eq c1_i32_2561 c0_i32_2562
  let c1_i32_2563 : BitVec 32 := 1#32
  let v4307 : BitVec 32 := Scalar.select v4306 c1_i32_2563 c1_i32_2561
  let v4308 : BitVec 32 := Scalar.remsi v21 v4307
  let c0_i32_2565 : BitVec 32 := 0#32
  let v4310 : BitVec 1 := Scalar.cmpi .slt v4308 c0_i32_2565
  let c0_i32_2566 : BitVec 32 := 0#32
  let v4311 : BitVec 1 := Scalar.cmpi .slt v4307 c0_i32_2566
  let v4312 : BitVec 1 := Scalar.xori v4310 v4311
  let c0_i32_2564 : BitVec 32 := 0#32
  let v4309 : BitVec 1 := Scalar.cmpi .ne v4308 c0_i32_2564
  let v4313 : BitVec 1 := Scalar.andi v4312 v4309
  let v4314 : BitVec 32 := Scalar.addi v4308 v4307
  let v4315 : BitVec 32 := Scalar.select v4313 v4314 v4308
  let c128_i32_2567 : BitVec 32 := 128#32
  let v4316 : BitVec 32 := Scalar.muli v4315 c128_i32_2567
  v4316
def k0_mult71 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_10 : BitVec 32 := 8#32
  let v22 : BitVec 32 := Scalar.muli arg6 c8_i32_10
  let c6_i32 : BitVec 32 := 6#32
  let v23 : BitVec 32 := Scalar.addi v22 c6_i32
  let c1_i32_2579 : BitVec 32 := 1#32
  let c0_i32_2580 : BitVec 32 := 0#32
  let v4346 : BitVec 1 := Scalar.cmpi .eq c1_i32_2579 c0_i32_2580
  let c1_i32_2581 : BitVec 32 := 1#32
  let v4347 : BitVec 32 := Scalar.select v4346 c1_i32_2581 c1_i32_2579
  let v4348 : BitVec 32 := Scalar.remsi v23 v4347
  let c0_i32_2583 : BitVec 32 := 0#32
  let v4350 : BitVec 1 := Scalar.cmpi .slt v4348 c0_i32_2583
  let c0_i32_2584 : BitVec 32 := 0#32
  let v4351 : BitVec 1 := Scalar.cmpi .slt v4347 c0_i32_2584
  let v4352 : BitVec 1 := Scalar.xori v4350 v4351
  let c0_i32_2582 : BitVec 32 := 0#32
  let v4349 : BitVec 1 := Scalar.cmpi .ne v4348 c0_i32_2582
  let v4353 : BitVec 1 := Scalar.andi v4352 v4349
  let v4354 : BitVec 32 := Scalar.addi v4348 v4347
  let v4355 : BitVec 32 := Scalar.select v4353 v4354 v4348
  let c128_i32_2585 : BitVec 32 := 128#32
  let v4356 : BitVec 32 := Scalar.muli v4355 c128_i32_2585
  v4356
def k0_mult72 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_11 : BitVec 32 := 8#32
  let v24 : BitVec 32 := Scalar.muli arg6 c8_i32_11
  let c7_i32 : BitVec 32 := 7#32
  let v25 : BitVec 32 := Scalar.addi v24 c7_i32
  let c1_i32_2597 : BitVec 32 := 1#32
  let c0_i32_2598 : BitVec 32 := 0#32
  let v4386 : BitVec 1 := Scalar.cmpi .eq c1_i32_2597 c0_i32_2598
  let c1_i32_2599 : BitVec 32 := 1#32
  let v4387 : BitVec 32 := Scalar.select v4386 c1_i32_2599 c1_i32_2597
  let v4388 : BitVec 32 := Scalar.remsi v25 v4387
  let c0_i32_2601 : BitVec 32 := 0#32
  let v4390 : BitVec 1 := Scalar.cmpi .slt v4388 c0_i32_2601
  let c0_i32_2602 : BitVec 32 := 0#32
  let v4391 : BitVec 1 := Scalar.cmpi .slt v4387 c0_i32_2602
  let v4392 : BitVec 1 := Scalar.xori v4390 v4391
  let c0_i32_2600 : BitVec 32 := 0#32
  let v4389 : BitVec 1 := Scalar.cmpi .ne v4388 c0_i32_2600
  let v4393 : BitVec 1 := Scalar.andi v4392 v4389
  let v4394 : BitVec 32 := Scalar.addi v4388 v4387
  let v4395 : BitVec 32 := Scalar.select v4393 v4394 v4388
  let c128_i32_2603 : BitVec 32 := 128#32
  let v4396 : BitVec 32 := Scalar.muli v4395 c128_i32_2603
  v4396
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
abbrev S32x2048x8x64 : Shape := ⟨4, ![32, 2048, 8, 64]⟩
abbrev S32x128x16x8x64 : Shape := ⟨5, ![32, 128, 16, 8, 64]⟩
abbrev S32x16x128x8x64 : Shape := ⟨5, ![32, 16, 128, 8, 64]⟩
abbrev S32x16x8x128x128 : Shape := ⟨5, ![32, 16, 8, 128, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x1x128x128 : Shape := ⟨5, ![1, 1, 1, 128, 128]⟩
abbrev S32x16x8x128 : Shape := ⟨4, ![32, 16, 8, 128]⟩
abbrev S32x16x8x128x1 : Shape := ⟨5, ![32, 16, 8, 128, 1]⟩
abbrev S32x16x128x8 : Shape := ⟨4, ![32, 16, 128, 8]⟩
abbrev S32x16x8x64x128 : Shape := ⟨5, ![32, 16, 8, 64, 128]⟩
abbrev S32x16x128x8x1 : Shape := ⟨5, ![32, 16, 128, 8, 1]⟩
abbrev S32x16x128x512 : Shape := ⟨4, ![32, 16, 128, 512]⟩
abbrev S32x16x128x128 : Shape := ⟨4, ![32, 16, 128, 128]⟩

abbrev nBuf : Space → Nat
  | .hbm => 54
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S32x128x16x8x64, .f32⟩
  | .hbm, ⟨4, _⟩ => ⟨S32x16x128x8x64, .f32⟩
  | .hbm, ⟨5, _⟩ => ⟨S32x128x16x8x64, .f32⟩
  | .hbm, ⟨6, _⟩ => ⟨S32x16x128x8x64, .f32⟩
  | .hbm, ⟨7, _⟩ => ⟨S32x128x16x8x64, .f32⟩
  | .hbm, ⟨8, _⟩ => ⟨S32x16x128x8x64, .f32⟩
  | .hbm, ⟨9, _⟩ => ⟨S32x16x8x128x128, .f32⟩
  | .hbm, ⟨10, _⟩ => ⟨S_, .f32⟩
  | .hbm, ⟨11, _⟩ => ⟨S32x16x8x128x128, .f32⟩
  | .hbm, ⟨12, _⟩ => ⟨S32x16x8x128x128, .f32⟩
  | .hbm, ⟨13, _⟩ => ⟨S128, .i32⟩
  | .hbm, ⟨14, _⟩ => ⟨S128x1, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S1x1x1x128x128, .i1⟩
  | .hbm, ⟨24, _⟩ => ⟨S_, .f32⟩
  | .hbm, ⟨25, _⟩ => ⟨S_, .f32⟩
  | .hbm, ⟨26, _⟩ => ⟨S32x16x8x128x128, .i1⟩
  | .hbm, ⟨27, _⟩ => ⟨S32x16x8x128x128, .f32⟩
  | .hbm, ⟨28, _⟩ => ⟨S32x16x8x128x128, .f32⟩
  | .hbm, ⟨29, _⟩ => ⟨S_, .f32⟩
  | .hbm, ⟨30, _⟩ => ⟨S32x16x8x128, .f32⟩
  | .hbm, ⟨31, _⟩ => ⟨S32x16x8x128x1, .f32⟩
  | .hbm, ⟨32, _⟩ => ⟨S32x16x8x128x128, .f32⟩
  | .hbm, ⟨33, _⟩ => ⟨S32x16x8x128x128, .f32⟩
  | .hbm, ⟨34, _⟩ => ⟨S32x16x8x128x128, .f32⟩
  | .hbm, ⟨35, _⟩ => ⟨S_, .f32⟩
  | .hbm, ⟨36, _⟩ => ⟨S32x16x8x128, .f32⟩
  | .hbm, ⟨37, _⟩ => ⟨S32x16x8x128x1, .f32⟩
  | .hbm, ⟨38, _⟩ => ⟨S32x16x8x128x1, .f32⟩
  | .hbm, ⟨39, _⟩ => ⟨S32x16x8x128x1, .f32⟩
  | .hbm, ⟨40, _⟩ => ⟨S32x16x8x128, .f32⟩
  | .hbm, ⟨41, _⟩ => ⟨S32x16x128x8, .f32⟩
  | .hbm, ⟨42, _⟩ => ⟨S32x16x8x64x128, .f32⟩
  | .hbm, ⟨43, _⟩ => ⟨S32x16x128x8x64, .f32⟩
  | .hbm, ⟨44, _⟩ => ⟨S32x16x8x128, .f32⟩
  | .hbm, ⟨45, _⟩ => ⟨S32x16x128x8, .f32⟩
  | .hbm, ⟨46, _⟩ => ⟨S32x16x128x8x1, .f32⟩
  | .hbm, ⟨47, _⟩ => ⟨S32x16x128x8x64, .f32⟩
  | .hbm, ⟨48, _⟩ => ⟨S32x16x128x8x64, .f32⟩
  | .hbm, ⟨49, _⟩ => ⟨S32x16x128x512, .f32⟩
  | .hbm, ⟨50, _⟩ => ⟨S32x16x128x512, .bf16⟩
  | .hbm, ⟨51, _⟩ => ⟨S_, .i32⟩
  | .hbm, ⟨52, _⟩ => ⟨S_, .f32⟩
  | .hbm, ⟨53, _⟩ => ⟨S32x16x128x128, .f32⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_call1_v0 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel2.lean ====
abbrev S32 : Shape := ⟨1, ![32]⟩
abbrev S286720x1024 : Shape := ⟨2, ![286720, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S560 : Shape := ⟨1, ![560]⟩
abbrev S_ : Shape := ⟨0, ![]⟩
abbrev S1x32 : Shape := ⟨2, ![1, 32]⟩
abbrev S560x1 : Shape := ⟨2, ![560, 1]⟩
abbrev S560x32 : Shape := ⟨2, ![560, 32]⟩
abbrev S1 : Shape := ⟨1, ![1]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 44
  | .vmem => 12
  | .smem => 2
  | _ => 0

abbrev bufTy : (tb : Table) → Fin (tcTables nBuf tb) → BufTy
  | .hbm, ⟨0, _⟩ => ⟨S32, .i32⟩
  | .hbm, ⟨1, _⟩ => ⟨S286720x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S560, .i32⟩
  | .hbm, ⟨7, _⟩ => ⟨S_, .i32⟩
  | .hbm, ⟨8, _⟩ => ⟨S560, .i32⟩
  | .hbm, ⟨9, _⟩ => ⟨S560, .i32⟩
  | .hbm, ⟨10, _⟩ => ⟨S1x32, .i32⟩
  | .hbm, ⟨11, _⟩ => ⟨S560x1, .i32⟩
  | .hbm, ⟨12, _⟩ => ⟨S560x32, .i32⟩
  | .hbm, ⟨13, _⟩ => ⟨S560x32, .i32⟩
  | .hbm, ⟨14, _⟩ => ⟨S560x32, .i1⟩
  | .hbm, ⟨15, _⟩ => ⟨S560x32, .i32⟩
  | .hbm, ⟨16, _⟩ => ⟨S_, .i32⟩
  | .hbm, ⟨17, _⟩ => ⟨S560, .i32⟩
  | .hbm, ⟨18, _⟩ => ⟨S_, .i32⟩
  | .hbm, ⟨19, _⟩ => ⟨S560, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i1⟩
  | .hbm, ⟨29, _⟩ => ⟨S1, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S1, .i1⟩
  | .hbm, ⟨34, _⟩ => ⟨S1, .i1⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S286720x1024, .bf16⟩
  | .hbm, ⟨39, _⟩ => ⟨S32x1024x2048, .bf16⟩
  | .hbm, ⟨40, _⟩ => ⟨S32x1x2048, .f32⟩
  | .hbm, ⟨41, _⟩ => ⟨S32x1024x1024, .bf16⟩
  | .hbm, ⟨42, _⟩ => ⟨S32x1x1024, .f32⟩
  | .hbm, ⟨43, _⟩ => ⟨S286720x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .smem, ⟨0, _⟩ => ⟨S560, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v12 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v11 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![560], ![false]⟩

abbrev pre0 : Pipeline.Prefetch sig := ⟨2, ![main_v11.idx, main_v13.idx], fun | 0 => main_v11.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S286720x1024 : Shape := ⟨2, ![286720, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S560x512x1024 : Shape := ⟨3, ![560, 512, 1024]⟩
abbrev S560 : Shape := ⟨1, ![560]⟩
abbrev S1x32 : Shape := ⟨2, ![1, 32]⟩
abbrev S_ : Shape := ⟨0, ![]⟩
abbrev S560x1 : Shape := ⟨2, ![560, 1]⟩
abbrev S560x32 : Shape := ⟨2, ![560, 32]⟩
abbrev S560x1024x2048 : Shape := ⟨3, ![560, 1024, 2048]⟩
abbrev S560x512x2048 : Shape := ⟨3, ![560, 512, 2048]⟩
abbrev S560x2048 : Shape := ⟨2, ![560, 2048]⟩
abbrev S560x1x2048 : Shape := ⟨3, ![560, 1, 2048]⟩
abbrev S560x1024x1024 : Shape := ⟨3, ![560, 1024, 1024]⟩
abbrev S560x1024 : Shape := ⟨2, ![560, 1024]⟩
abbrev S560x1x1024 : Shape := ⟨3, ![560, 1, 1024]⟩
abbrev S1 : Shape := ⟨1, ![1]⟩
abbrev S560x1x1 : Shape := ⟨3, ![560, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S32, .i32⟩
  | .hbm, ⟨1, _⟩ => ⟨S286720x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S560x512x1024, .f32⟩
  | .hbm, ⟨7, _⟩ => ⟨S560, .i32⟩
  | .hbm, ⟨8, _⟩ => ⟨S1x32, .i32⟩
  | .hbm, ⟨9, _⟩ => ⟨S_, .i32⟩
  | .hbm, ⟨10, _⟩ => ⟨S560, .i32⟩
  | .hbm, ⟨11, _⟩ => ⟨S560, .i32⟩
  | .hbm, ⟨12, _⟩ => ⟨S560x1, .i32⟩
  | .hbm, ⟨13, _⟩ => ⟨S560x32, .i32⟩
  | .hbm, ⟨14, _⟩ => ⟨S560x32, .i32⟩
  | .hbm, ⟨15, _⟩ => ⟨S560x32, .i1⟩
  | .hbm, ⟨16, _⟩ => ⟨S560x32, .i32⟩
  | .hbm, ⟨17, _⟩ => ⟨S_, .i32⟩
  | .hbm, ⟨18, _⟩ => ⟨S560, .i32⟩
  | .hbm, ⟨19, _⟩ => ⟨S_, .i32⟩
  | .hbm, ⟨20, _⟩ => ⟨S560, .i32⟩
  | .hbm, ⟨21, _⟩ => ⟨S560, .i32⟩
  | .hbm, ⟨22, _⟩ => ⟨S560x1, .i32⟩
  | .hbm, ⟨23, _⟩ => ⟨S560x1024x2048, .f32⟩
  | .hbm, ⟨24, _⟩ => ⟨S560x512x2048, .f32⟩
  | .hbm, ⟨25, _⟩ => ⟨S560x1, .i32⟩
  | .hbm, ⟨26, _⟩ => ⟨S560x2048, .f32⟩
  | .hbm, ⟨27, _⟩ => ⟨S560x1x2048, .f32⟩
  | .hbm, ⟨28, _⟩ => ⟨S560x512x2048, .f32⟩
  | .hbm, ⟨29, _⟩ => ⟨S560x512x2048, .f32⟩
  | .hbm, ⟨30, _⟩ => ⟨S560x512x1024, .f32⟩
  | .hbm, ⟨31, _⟩ => ⟨S_, .f32⟩
  | .hbm, ⟨32, _⟩ => ⟨S560x512x1024, .f32⟩
  | .hbm, ⟨33, _⟩ => ⟨S560x512x1024, .f32⟩
  | .hbm, ⟨34, _⟩ => ⟨S560x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S560x512x1024, .f32⟩
  | .hbm, ⟨39, _⟩ => ⟨S560x512x1024, .f32⟩
  | .hbm, ⟨40, _⟩ => ⟨S_, .f32⟩
  | .hbm, ⟨41, _⟩ => ⟨S560x512x1024, .f32⟩
  | .hbm, ⟨42, _⟩ => ⟨S560x512x1024, .f32⟩
  | .hbm, ⟨43, _⟩ => ⟨S_, .f32⟩
  | .hbm, ⟨44, _⟩ => ⟨S560x512x1024, .f32⟩
  | .hbm, ⟨45, _⟩ => ⟨S560x512x1024, .f32⟩
  | .hbm, ⟨46, _⟩ => ⟨S_, .f32⟩
  | .hbm, ⟨47, _⟩ => ⟨S560x512x1024, .f32⟩
  | .hbm, ⟨48, _⟩ => ⟨S560x512x1024, .f32⟩
  | .hbm, ⟨49, _⟩ => ⟨S560x512x1024, .f32⟩
  | .hbm, ⟨50, _⟩ => ⟨S560x512x1024, .f32⟩
  | .hbm, ⟨51, _⟩ => ⟨S_, .f32⟩
  | .hbm, ⟨52, _⟩ => ⟨S560x512x1024, .f32⟩
  | .hbm, ⟨53, _⟩ => ⟨S560x512x1024, .f32⟩
  | .hbm, ⟨54, _⟩ => ⟨S_, .f32⟩
  | .hbm, ⟨55, _⟩ => ⟨S560x512x1024, .f32⟩
  | .hbm, ⟨56, _⟩ => ⟨S560x512x1024, .f32⟩
  | .hbm, ⟨57, _⟩ => ⟨S560x512x1024, .f32⟩
  | .hbm, ⟨58, _⟩ => ⟨S560x512x1024, .f32⟩
  | .hbm, ⟨59, _⟩ => ⟨S560x1, .i32⟩
  | .hbm, ⟨60, _⟩ => ⟨S560x1024x1024, .f32⟩
  | .hbm, ⟨61, _⟩ => ⟨S560x512x1024, .f32⟩
  | .hbm, ⟨62, _⟩ => ⟨S560x1, .i32⟩
  | .hbm, ⟨63, _⟩ => ⟨S560x1024, .f32⟩
  | .hbm, ⟨64, _⟩ => ⟨S560x1x1024, .f32⟩
  | .hbm, ⟨65, _⟩ => ⟨S560x512x1024, .f32⟩
  | .hbm, ⟨66, _⟩ => ⟨S560x512x1024, .f32⟩
  | .hbm, ⟨67, _⟩ => ⟨S1, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S560, .i32⟩
  | .hbm, ⟨83, _⟩ => ⟨S560, .i1⟩
  | .hbm, ⟨84, _⟩ => ⟨S560x1x1, .i1⟩
  | .hbm, ⟨85, _⟩ => ⟨S_, .f32⟩
  | .hbm, ⟨86, _⟩ => ⟨S_, .f32⟩
  | .hbm, ⟨87, _⟩ => ⟨S560x512x1024, .i1⟩
  | .hbm, ⟨88, _⟩ => ⟨S560x512x1024, .f32⟩
  | .hbm, ⟨89, _⟩ => ⟨S560x512x1024, .f32⟩
  | .hbm, ⟨90, _⟩ => ⟨S286720x1024, .f32⟩
  | .hbm, ⟨91, _⟩ => ⟨S286720x1024, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_v0 : Ref sig .tc := ⟨.hbm, 59, rfl⟩
abbrev main_v36 : Ref sig .tc := ⟨.hbm, 60, rfl⟩
abbrev main_v37 : Ref sig .tc := ⟨.hbm, 61, rfl⟩
abbrev main_call4_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_v5 : Ref sig .tc := ⟨.hbm, 75, rfl⟩
abbrev main_call5_c : Ref sig .tc := ⟨.hbm, 76, rfl⟩
abbrev main_call5_v6 : Ref sig .tc := ⟨.hbm, 77, rfl⟩
abbrev main_call5_v7 : Ref sig .tc := ⟨.hbm, 78, rfl⟩
abbrev main_call5_c_0 : Ref sig .tc := ⟨.hbm, 79, rfl⟩
abbrev main_call5_v8 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_9 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x6x1024 : Shape := ⟨3, ![32, 6, 1024]⟩
abbrev S1x1024 : Shape := ⟨2, ![1, 1024]⟩
abbrev S1024x7168 : Shape := ⟨2, ![1024, 7168]⟩
abbrev S3x64 : Shape := ⟨2, ![3, 64]⟩
abbrev S_ : Shape := ⟨0, ![]⟩
abbrev S8x512 : Shape := ⟨2, ![8, 512]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1 : Shape := ⟨1, ![1]⟩
abbrev S512x1 : Shape := ⟨2, ![512, 1]⟩
abbrev S1x512 : Shape := ⟨2, ![1, 512]⟩
abbrev S512x512 : Shape := ⟨2, ![512, 512]⟩
abbrev S1024x5120 : Shape := ⟨2, ![1024, 5120]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x128 : Shape := ⟨3, ![1, 2048, 128]⟩
abbrev S3x2048x128 : Shape := ⟨3, ![3, 2048, 128]⟩
abbrev S4x512x1 : Shape := ⟨3, ![4, 512, 1]⟩
abbrev S4x1x512 : Shape := ⟨3, ![4, 1, 512]⟩
abbrev S4x128x4 : Shape := ⟨3, ![4, 128, 4]⟩
abbrev S4x4x128 : Shape := ⟨3, ![4, 4, 128]⟩
abbrev S4x32x16 : Shape := ⟨3, ![4, 32, 16]⟩
abbrev S4x16x32 : Shape := ⟨3, ![4, 16, 32]⟩
abbrev S1x3x2048x128 : Shape := ⟨4, ![1, 3, 2048, 128]⟩
abbrev S3x3x2048x128 : Shape := ⟨4, ![3, 3, 2048, 128]⟩
abbrev S32x1x2048x1536 : Shape := ⟨4, ![32, 1, 2048, 1536]⟩
abbrev S32x4x512x1536 : Shape := ⟨4, ![32, 4, 512, 1536]⟩
abbrev S32x16x128x1536 : Shape := ⟨4, ![32, 16, 128, 1536]⟩
abbrev S32x2048x512 : Shape := ⟨3, ![32, 2048, 512]⟩
abbrev S1x512x1024 : Shape := ⟨3, ![1, 512, 1024]⟩
abbrev S1x6x1024 : Shape := ⟨3, ![1, 6, 1024]⟩
abbrev S3x3x512x128 : Shape := ⟨4, ![3, 3, 512, 128]⟩
abbrev S1x1x512x1536 : Shape := ⟨4, ![1, 1, 512, 1536]⟩
abbrev S1x4x128x1536 : Shape := ⟨4, ![1, 4, 128, 1536]⟩
abbrev S1x16x32x1536 : Shape := ⟨4, ![1, 16, 32, 1536]⟩
abbrev S1x512x512 : Shape := ⟨3, ![1, 512, 512]⟩
abbrev S8x512x128 : Shape := ⟨3, ![8, 512, 128]⟩
abbrev S512x1024 : Shape := ⟨2, ![512, 1024]⟩
abbrev S6x1024 : Shape := ⟨2, ![6, 1024]⟩
abbrev S512x128 : Shape := ⟨2, ![512, 128]⟩
abbrev S1x512x128 : Shape := ⟨3, ![1, 512, 128]⟩
abbrev S1x1x512x128 : Shape := ⟨4, ![1, 1, 512, 128]⟩
abbrev S1024x512 : Shape := ⟨2, ![1024, 512]⟩
abbrev S1x1x512x512 : Shape := ⟨4, ![1, 1, 512, 512]⟩
abbrev S1x128x128 : Shape := ⟨3, ![1, 128, 128]⟩
abbrev S128x128 : Shape := ⟨2, ![128, 128]⟩
abbrev S128x512 : Shape := ⟨2, ![128, 512]⟩
abbrev S1x1x128x512 : Shape := ⟨4, ![1, 1, 128, 512]⟩
abbrev S1x32x128 : Shape := ⟨3, ![1, 32, 128]⟩
abbrev S32x128 : Shape := ⟨2, ![32, 128]⟩
abbrev S32x512 : Shape := ⟨2, ![32, 512]⟩
abbrev S1x1x32x512 : Shape := ⟨4, ![1, 1, 32, 512]⟩

abbrev nBuf : Space → Nat
  | .hbm => 176
  | .vmem => 19
  | .smem => 0
  | _ => 0

abbrev hbmTy0_0 (i : Nat) : BufTy := match i % 128 with
  | 0 => ⟨S32x2048x1024, .f32⟩
  | 1 => ⟨S32x6x1024, .f32⟩
  | 2 => ⟨S1x1024, .f32⟩
  | 3 => ⟨S1024x7168, .f32⟩
  | 4 => ⟨S3x64, .f32⟩
  | 5 => ⟨S3x64, .f32⟩
  | 6 => ⟨S_, .f32⟩
  | 7 => ⟨S8x512, .f32⟩
  | 8 => ⟨S1x64, .f32⟩
  | 9 => ⟨S64, .f32⟩
  | 10 => ⟨S1x64, .f32⟩
  | 11 => ⟨S8x64, .f32⟩
  | 12 => ⟨S512, .f32⟩
  | 13 => ⟨S_, .i32⟩
  | 14 => ⟨S1, .i32⟩
  | 15 => ⟨S8x512, .f32⟩
  | 16 => ⟨S1x64, .f32⟩
  | 17 => ⟨S64, .f32⟩
  | 18 => ⟨S1x64, .f32⟩
  | 19 => ⟨S8x64, .f32⟩
  | 20 => ⟨S512, .f32⟩
  | 21 => ⟨S_, .i32⟩
  | 22 => ⟨S1, .i32⟩
  | 23 => ⟨S8x512, .f32⟩
  | 24 => ⟨S1x64, .f32⟩
  | 25 => ⟨S64, .f32⟩
  | 26 => ⟨S1x64, .f32⟩
  | 27 => ⟨S8x64, .f32⟩
  | 28 => ⟨S512, .f32⟩
  | 29 => ⟨S_, .i32⟩
  | 30 => ⟨S1, .i32⟩
  | 31 => ⟨S8x512, .f32⟩
  | 32 => ⟨S1x64, .f32⟩
  | 33 => ⟨S64, .f32⟩
  | 34 => ⟨S1x64, .f32⟩
  | 35 => ⟨S8x64, .f32⟩
  | 36 => ⟨S512, .f32⟩
  | 37 => ⟨S_, .i32⟩
  | 38 => ⟨S1, .i32⟩
  | 39 => ⟨S8x512, .f32⟩
  | 40 => ⟨S1x64, .f32⟩
  | 41 => ⟨S64, .f32⟩
  | 42 => ⟨S1x64, .f32⟩
  | 43 => ⟨S8x64, .f32⟩
  | 44 => ⟨S512, .f32⟩
  | 45 => ⟨S_, .i32⟩
  | 46 => ⟨S1, .i32⟩
  | 47 => ⟨S8x512, .f32⟩
  | 48 => ⟨S1x64, .f32⟩
  | 49 => ⟨S64, .f32⟩
  | 50 => ⟨S1x64, .f32⟩
  | 51 => ⟨S8x64, .f32⟩
  | 52 => ⟨S512, .f32⟩
  | 53 => ⟨S_, .i32⟩
  | 54 => ⟨S1, .i32⟩
  | 55 => ⟨S8x512, .f32⟩
  | 56 => ⟨S512, .i32⟩
  | 57 => ⟨S_, .i32⟩
  | 58 => ⟨S_, .i32⟩
  | 59 => ⟨S512, .i32⟩
  | 60 => ⟨S512, .i32⟩
  | 61 => ⟨S512, .i32⟩
  | 62 => ⟨S_, .i32⟩
  | 63 => ⟨S512, .i32⟩
  | 64 => ⟨S512, .i1⟩
  | 65 => ⟨S512, .i32⟩
  | 66 => ⟨S512, .i32⟩
  | 67 => ⟨S_, .i32⟩
  | 68 => ⟨S512, .i32⟩
  | 69 => ⟨S512, .i1⟩
  | 70 => ⟨S512, .i1⟩
  | 71 => ⟨S_, .i32⟩
  | 72 => ⟨S512, .i32⟩
  | 73 => ⟨S512, .i32⟩
  | 74 => ⟨S512, .i32⟩
  | 75 => ⟨S512x1, .i32⟩
  | 76 => ⟨S1x512, .i32⟩
  | 77 => ⟨S512x512, .i32⟩
  | 78 => ⟨S512x512, .i32⟩
  | 79 => ⟨S512x512, .i1⟩
  | 80 => ⟨S512x512, .f32⟩
  | 81 => ⟨S_, .f32⟩
  | 82 => ⟨S512x512, .f32⟩
  | 83 => ⟨S512x512, .f32⟩
  | 84 => ⟨S512x512, .bf16⟩
  | 85 => ⟨S1024x5120, .f32⟩
  | 86 => ⟨S1024x5120, .bf16⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S2048, .f32⟩
  | 99 => ⟨S2048x1, .f32⟩
  | 100 => ⟨S1x8, .f32⟩
  | 101 => ⟨S2048x8, .f32⟩
  | 102 => ⟨S2048x8, .f32⟩
  | 103 => ⟨S2048x8, .f32⟩
  | 104 => ⟨S2048x8, .f32⟩
  | 105 => ⟨S2048x8, .f32⟩
  | 106 => ⟨S_, .f32⟩
  | 107 => ⟨S2048x48, .f32⟩
  | 108 => ⟨S_, .f32⟩
  | 109 => ⟨S2048x48, .f32⟩
  | 110 => ⟨S_, .f32⟩
  | 111 => ⟨S2048x8, .f32⟩
  | 112 => ⟨S2048x64, .f32⟩
  | 113 => ⟨S2048x64, .f32⟩
  | 114 => ⟨S2048x8, .f32⟩
  | 115 => ⟨S2048x64, .f32⟩
  | 116 => ⟨S1x2048x1x64, .f32⟩
  | 117 => ⟨S1x2048x2x64, .f32⟩
  | 118 => ⟨S2048x128, .f32⟩
  | 119 => ⟨S1x2048x1x64, .f32⟩
  | 120 => ⟨S1x2048x2x64, .f32⟩
  | 121 => ⟨S2048x128, .f32⟩
  | 122 => ⟨S1x2048x1x64, .f32⟩
  | 123 => ⟨S1x2048x2x64, .f32⟩
  | 124 => ⟨S2048x128, .f32⟩
  | 125 => ⟨S1x2048x128, .f32⟩
  | 126 => ⟨S1x2048x128, .f32⟩
  | 127 => ⟨S1x2048x128, .f32⟩
  | _ => ⟨S32x2048x1024, .f32⟩

abbrev hbmTy0_1 (i : Nat) : BufTy := match i % 128 with
  | 0 => ⟨S3x2048x128, .f32⟩
  | 1 => ⟨S2048, .i32⟩
  | 2 => ⟨S4x512x1, .i32⟩
  | 3 => ⟨S4x1x512, .i32⟩
  | 4 => ⟨S2048, .i32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S3x2048x128, .f32⟩
  | 14 => ⟨S2048, .i32⟩
  | 15 => ⟨S4x128x4, .i32⟩
  | 16 => ⟨S4x4x128, .i32⟩
  | 17 => ⟨S2048, .i32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S3x2048x128, .f32⟩
  | 27 => ⟨S2048, .i32⟩
  | 28 => ⟨S4x32x16, .i32⟩
  | 29 => ⟨S4x16x32, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S2048x1, .i32⟩
  | 39 => ⟨S3x2048x128, .f32⟩
  | 40 => ⟨S1x3x2048x128, .f32⟩
  | 41 => ⟨S1x3x2048x128, .f32⟩
  | 42 => ⟨S1x3x2048x128, .f32⟩
  | 43 => ⟨S3x3x2048x128, .f32⟩
  | 44 => ⟨S32x1x2048x1536, .bf16⟩
  | 45 => ⟨S32x4x512x1536, .bf16⟩
  | 46 => ⟨S32x16x128x1536, .bf16⟩
  | 47 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5120, .bf16⟩
  | .local _ .vmem, ⟨6, _⟩ => ⟨S8x512, .f32⟩
  | .local _ .vmem, ⟨7, _⟩ => ⟨S3x3x512x128, .f32⟩
  | .local _ .vmem, ⟨8, _⟩ => ⟨S3x3x512x128, .f32⟩
  | .local _ .vmem, ⟨9, _⟩ => ⟨S512x512, .bf16⟩
  | .local _ .vmem, ⟨10, _⟩ => ⟨S1x1x512x1536, .bf16⟩
  | .local _ .vmem, ⟨11, _⟩ => ⟨S1x1x512x1536, .bf16⟩
  | .local _ .vmem, ⟨12, _⟩ => ⟨S1x4x128x1536, .bf16⟩
  | .local _ .vmem, ⟨13, _⟩ => ⟨S1x4x128x1536, .bf16⟩
  | .local _ .vmem, ⟨14, _⟩ => ⟨S1x16x32x1536, .bf16⟩
  | .local _ .vmem, ⟨15, _⟩ => ⟨S1x16x32x1536, .bf16⟩
  | .local _ .vmem, ⟨16, _⟩ => ⟨S1x512x512, .bf16⟩
  | .local _ .vmem, ⟨17, _⟩ => ⟨S1x512x512, .bf16⟩
  | .local _ .vmem, ⟨18, _⟩ => ⟨S8x512x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_10 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_13 : Ref sig .tc := ⟨.hbm, 133, rfl⟩
abbrev main_v96 : Ref sig .tc := ⟨.hbm, 134, rfl⟩
abbrev main_v97 : Ref sig .tc := ⟨.hbm, 135, rfl⟩
abbrev main_c_14 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_15 : Ref sig .tc := ⟨.hbm, 146, rfl⟩
abbrev main_v107 : Ref sig .tc := ⟨.hbm, 147, rfl⟩
abbrev main_v108 : Ref sig .tc := ⟨.hbm, 148, rfl⟩
abbrev main_c_16 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_17 : Ref sig .tc := ⟨.hbm, 159, rfl⟩
abbrev main_v118 : Ref sig .tc := ⟨.hbm, 160, rfl⟩
abbrev main_v119 : Ref sig .tc := ⟨.hbm, 161, rfl⟩
abbrev main_c_18 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129_0 : Ref sig .tc := ⟨.hbm, 172, rfl⟩
abbrev main_v129_1 : Ref sig .tc := ⟨.hbm, 173, rfl⟩
abbrev main_v129_2 : Ref sig .tc := ⟨.hbm, 174, rfl⟩
abbrev main_v129_3 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S3x3x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x32x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S32x2048x1024 : Shape := ⟨3, ![32, 2048, 1024]⟩
abbrev S32x6x1024 : Shape := ⟨3, ![32, 6, 1024]⟩
abbrev S1x1024 : Shape := ⟨2, ![1, 1024]⟩
abbrev S1024x7168 : Shape := ⟨2, ![1024, 7168]⟩
abbrev S3x64 : Shape := ⟨2, ![3, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x7168 : Shape := ⟨3, ![32, 2048, 7168]⟩
abbrev S32x2048x4608 : Shape := ⟨3, ![32, 2048, 4608]⟩
abbrev S32x2048x3x3x8x64 : Shape := ⟨6, ![32, 2048, 3, 3, 8, 64]⟩
abbrev S32x2048x1x1x8x64 : Shape := ⟨6, ![32, 2048, 1, 1, 8, 64]⟩
abbrev S32x2048x8x64 : Shape := ⟨4, ![32, 2048, 8, 64]⟩
abbrev S1x64 : Shape := ⟨2, ![1, 64]⟩
abbrev S64 : Shape := ⟨1, ![64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x8x8 : Shape := ⟨4, ![32, 2048, 8, 8]⟩
abbrev S32x2048x8x48 : Shape := ⟨4, ![32, 2048, 8, 48]⟩
abbrev S32x2048x512 : Shape := ⟨3, ![32, 2048, 512]⟩
abbrev S32x2048x1536 : Shape := ⟨3, ![32, 2048, 1536]⟩
abbrev S32x2048x1x1536 : Shape := ⟨4, ![32, 2048, 1, 1536]⟩
abbrev S32x1x2048x1536 : Shape := ⟨4, ![32, 1, 2048, 1536]⟩
abbrev S32x512x4x1536 : Shape := ⟨4, ![32, 512, 4, 1536]⟩
abbrev S32x4x512x1536 : Shape := ⟨4, ![32, 4, 512, 1536]⟩
abbrev S32x128x16x1536 : Shape := ⟨4, ![32, 128, 16, 1536]⟩
abbrev S32x16x128x1536 : Shape := ⟨4, ![32, 16, 128, 1536]⟩

abbrev nBuf : Space → Nat
  | .hbm => 297
  | .vmem => 0
  | .smem => 0
  | _ => 0

abbrev hbmTy0_0 (i : Nat) : BufTy := match i % 128 with
  | 0 => ⟨S32x2048x1024, .f32⟩
  | 1 => ⟨S32x6x1024, .f32⟩
  | 2 => ⟨S1x1024, .f32⟩
  | 3 => ⟨S1024x7168, .f32⟩
  | 4 => ⟨S3x64, .f32⟩
  | 5 => ⟨S3x64, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S2048, .f32⟩
  | 18 => ⟨S2048x1, .f32⟩
  | 19 => ⟨S1x8, .f32⟩
  | 20 => ⟨S2048x8, .f32⟩
  | 21 => ⟨S2048x8, .f32⟩
  | 22 => ⟨S2048x8, .f32⟩
  | 23 => ⟨S2048x8, .f32⟩
  | 24 => ⟨S1x2048x1x8, .f32⟩
  | 25 => ⟨S2048x8, .f32⟩
  | 26 => ⟨S1x2048x1x8, .f32⟩
  | 27 => ⟨S32x2048x1024, .f32⟩
  | 28 => ⟨S_, .f32⟩
  | 29 => ⟨S32x2048, .f32⟩
  | 30 => ⟨S32x2048x1, .f32⟩
  | 31 => ⟨S_, .f32⟩
  | 32 => ⟨S32x2048x1, .f32⟩
  | 33 => ⟨S32x2048x1, .f32⟩
  | 34 => ⟨S_, .f32⟩
  | 35 => ⟨S32x2048x1, .f32⟩
  | 36 => ⟨S32x2048x1, .f32⟩
  | 37 => ⟨S32x2048x1, .f32⟩
  | 38 => ⟨S32x2048x1024, .f32⟩
  | 39 => ⟨S32x2048x1024, .f32⟩
  | 40 => ⟨S1x1x1024, .f32⟩
  | 41 => ⟨S32x2048x1024, .f32⟩
  | 42 => ⟨S32x2048x1024, .f32⟩
  | 43 => ⟨S32x1x1024, .f32⟩
  | 44 => ⟨S_, .f32⟩
  | 45 => ⟨S32x1x1024, .f32⟩
  | 46 => ⟨S32x1x1024, .f32⟩
  | 47 => ⟨S32x2048x1024, .f32⟩
  | 48 => ⟨S32x2048x1024, .f32⟩
  | 49 => ⟨S32x1x1024, .f32⟩
  | 50 => ⟨S32x2048x1024, .f32⟩
  | 51 => ⟨S32x2048x1024, .f32⟩
  | 52 => ⟨S32x2048x7168, .f32⟩
  | 53 => ⟨S32x2048x4608, .f32⟩
  | 54 => ⟨S32x2048x3x3x8x64, .f32⟩
  | 55 => ⟨S32x2048x1x1x8x64, .f32⟩
  | 56 => ⟨S32x2048x8x64, .f32⟩
  | 57 => ⟨S1x64, .f32⟩
  | 58 => ⟨S64, .f32⟩
  | 59 => ⟨S32x2048x8x64, .f32⟩
  | 60 => ⟨S_, .f32⟩
  | 61 => ⟨S32x2048x8, .f32⟩
  | 62 => ⟨S32x2048x8x1, .f32⟩
  | 63 => ⟨S_, .f32⟩
  | 64 => ⟨S32x2048x8x1, .f32⟩
  | 65 => ⟨S32x2048x8x1, .f32⟩
  | 66 => ⟨S_, .f32⟩
  | 67 => ⟨S32x2048x8x1, .f32⟩
  | 68 => ⟨S32x2048x8x1, .f32⟩
  | 69 => ⟨S32x2048x8x1, .f32⟩
  | 70 => ⟨S32x2048x8x64, .f32⟩
  | 71 => ⟨S32x2048x8x64, .f32⟩
  | 72 => ⟨S1x1x1x64, .f32⟩
  | 73 => ⟨S32x2048x8x64, .f32⟩
  | 74 => ⟨S32x2048x8x64, .f32⟩
  | 75 => ⟨S32x2048x8x8, .f32⟩
  | 76 => ⟨S32x2048x8x8, .f32⟩
  | 77 => ⟨S32x2048x8x48, .f32⟩
  | 78 => ⟨S32x2048x8x8, .f32⟩
  | 79 => ⟨S32x2048x8x8, .f32⟩
  | 80 => ⟨S32x2048x8x8, .f32⟩
  | 81 => ⟨S32x2048x8x8, .f32⟩
  | 82 => ⟨S32x2048x8x8, .f32⟩
  | 83 => ⟨S32x2048x8x8, .f32⟩
  | 84 => ⟨S32x2048x8x8, .f32⟩
  | 85 => ⟨S32x2048x8x8, .f32⟩
  | 86 => ⟨S32x2048x8x8, .f32⟩
  | 87 => ⟨S32x2048x8x8, .f32⟩
  | 88 => ⟨S32x2048x8x64, .f32⟩
  | 89 => ⟨S_, .f32⟩
  | 90 => ⟨S32x2048x8x64, .f32⟩
  | 91 => ⟨S32x2048x8x64, .f32⟩
  | 92 => ⟨S32x2048x1x1x8x64, .f32⟩
  | 93 => ⟨S32x2048x8x64, .f32⟩
  | 94 => ⟨S1x64, .f32⟩
  | 95 => ⟨S64, .f32⟩
  | 96 => ⟨S32x2048x8x64, .f32⟩
  | 97 => ⟨S_, .f32⟩
  | 98 => ⟨S32x2048x8, .f32⟩
  | 99 => ⟨S32x2048x8x1, .f32⟩
  | 100 => ⟨S_, .f32⟩
  | 101 => ⟨S32x2048x8x1, .f32⟩
  | 102 => ⟨S32x2048x8x1, .f32⟩
  | 103 => ⟨S_, .f32⟩
  | 104 => ⟨S32x2048x8x1, .f32⟩
  | 105 => ⟨S32x2048x8x1, .f32⟩
  | 106 => ⟨S32x2048x8x1, .f32⟩
  | 107 => ⟨S32x2048x8x64, .f32⟩
  | 108 => ⟨S32x2048x8x64, .f32⟩
  | 109 => ⟨S1x1x1x64, .f32⟩
  | 110 => ⟨S32x2048x8x64, .f32⟩
  | 111 => ⟨S32x2048x8x64, .f32⟩
  | 112 => ⟨S32x2048x8x8, .f32⟩
  | 113 => ⟨S32x2048x8x8, .f32⟩
  | 114 => ⟨S32x2048x8x48, .f32⟩
  | 115 => ⟨S32x2048x8x8, .f32⟩
  | 116 => ⟨S32x2048x8x8, .f32⟩
  | 117 => ⟨S32x2048x8x8, .f32⟩
  | 118 => ⟨S32x2048x8x8, .f32⟩
  | 119 => ⟨S32x2048x8x8, .f32⟩
  | 120 => ⟨S32x2048x8x8, .f32⟩
  | 121 => ⟨S32x2048x8x8, .f32⟩
  | 122 => ⟨S32x2048x8x8, .f32⟩
  | 123 => ⟨S32x2048x8x8, .f32⟩
  | 124 => ⟨S32x2048x8x8, .f32⟩
  | 125 => ⟨S32x2048x8x64, .f32⟩
  | 126 => ⟨S32x2048x1x1x8x64, .f32⟩
  | 127 => ⟨S32x2048x8x64, .f32⟩
  | _ => ⟨S32x2048x1024, .f32⟩

abbrev hbmTy0_1 (i : Nat) : BufTy := match i % 128 with
  | 0 => ⟨S32x2048x512, .f32⟩
  | 1 => ⟨S32x2048x512, .f32⟩
  | 2 => ⟨S32x2048x512, .f32⟩
  | 3 => ⟨S32x2048x1536, .f32⟩
  | 4 => ⟨S32x2048x1x1536, .f32⟩
  | 5 => ⟨S32x1x2048x1536, .f32⟩
  | 6 => ⟨S32x1x2048x1536, .bf16⟩
  | 7 => ⟨S32x2048x1x1x8x64, .f32⟩
  | 8 => ⟨S32x2048x8x64, .f32⟩
  | 9 => ⟨S1x64, .f32⟩
  | 10 => ⟨S64, .f32⟩
  | 11 => ⟨S32x2048x8x64, .f32⟩
  | 12 => ⟨S_, .f32⟩
  | 13 => ⟨S32x2048x8, .f32⟩
  | 14 => ⟨S32x2048x8x1, .f32⟩
  | 15 => ⟨S_, .f32⟩
  | 16 => ⟨S32x2048x8x1, .f32⟩
  | 17 => ⟨S32x2048x8x1, .f32⟩
  | 18 => ⟨S_, .f32⟩
  | 19 => ⟨S32x2048x8x1, .f32⟩
  | 20 => ⟨S32x2048x8x1, .f32⟩
  | 21 => ⟨S32x2048x8x1, .f32⟩
  | 22 => ⟨S32x2048x8x64, .f32⟩
  | 23 => ⟨S32x2048x8x64, .f32⟩
  | 24 => ⟨S1x1x1x64, .f32⟩
  | 25 => ⟨S32x2048x8x64, .f32⟩
  | 26 => ⟨S32x2048x8x64, .f32⟩
  | 27 => ⟨S32x2048x8x8, .f32⟩
  | 28 => ⟨S32x2048x8x8, .f32⟩
  | 29 => ⟨S32x2048x8x48, .f32⟩
  | 30 => ⟨S32x2048x8x8, .f32⟩
  | 31 => ⟨S32x2048x8x8, .f32⟩
  | 32 => ⟨S32x2048x8x8, .f32⟩
  | 33 => ⟨S32x2048x8x8, .f32⟩
  | 34 => ⟨S32x2048x8x8, .f32⟩
  | 35 => ⟨S32x2048x8x8, .f32⟩
  | 36 => ⟨S32x2048x8x8, .f32⟩
  | 37 => ⟨S32x2048x8x8, .f32⟩
  | 38 => ⟨S32x2048x8x8, .f32⟩
  | 39 => ⟨S32x2048x8x8, .f32⟩
  | 40 => ⟨S32x2048x8x64, .f32⟩
  | 41 => ⟨S_, .f32⟩
  | 42 => ⟨S32x2048x8x64, .f32⟩
  | 43 => ⟨S32x2048x8x64, .f32⟩
  | 44 => ⟨S32x2048x1x1x8x64, .f32⟩
  | 45 => ⟨S32x2048x8x64, .f32⟩
  | 46 => ⟨S1x64, .f32⟩
  | 47 => ⟨S64, .f32⟩
  | 48 => ⟨S32x2048x8x64, .f32⟩
  | 49 => ⟨S_, .f32⟩
  | 50 => ⟨S32x2048x8, .f32⟩
  | 51 => ⟨S32x2048x8x1, .f32⟩
  | 52 => ⟨S_, .f32⟩
  | 53 => ⟨S32x2048x8x1, .f32⟩
  | 54 => ⟨S32x2048x8x1, .f32⟩
  | 55 => ⟨S_, .f32⟩
  | 56 => ⟨S32x2048x8x1, .f32⟩
  | 57 => ⟨S32x2048x8x1, .f32⟩
  | 58 => ⟨S32x2048x8x1, .f32⟩
  | 59 => ⟨S32x2048x8x64, .f32⟩
  | 60 => ⟨S32x2048x8x64, .f32⟩
  | 61 => ⟨S1x1x1x64, .f32⟩
  | 62 => ⟨S32x2048x8x64, .f32⟩
  | 63 => ⟨S32x2048x8x64, .f32⟩
  | 64 => ⟨S32x2048x8x8, .f32⟩
  | 65 => ⟨S32x2048x8x8, .f32⟩
  | 66 => ⟨S32x2048x8x48, .f32⟩
  | 67 => ⟨S32x2048x8x8, .f32⟩
  | 68 => ⟨S32x2048x8x8, .f32⟩
  | 69 => ⟨S32x2048x8x8, .f32⟩
  | 70 => ⟨S32x2048x8x8, .f32⟩
  | 71 => ⟨S32x2048x8x8, .f32⟩
  | 72 => ⟨S32x2048x8x8, .f32⟩
  | 73 => ⟨S32x2048x8x8, .f32⟩
  | 74 => ⟨S32x2048x8x8, .f32⟩
  | 75 => ⟨S32x2048x8x8, .f32⟩
  | 76 => ⟨S32x2048x8x8, .f32⟩
  | 77 => ⟨S32x2048x8x64, .f32⟩
  | 78 => ⟨S32x2048x1x1x8x64, .f32⟩
  | 79 => ⟨S32x2048x8x64, .f32⟩
  | 80 => ⟨S32x2048x512, .f32⟩
  | 81 => ⟨S32x2048x512, .f32⟩
  | 82 => ⟨S32x2048x512, .f32⟩
  | 83 => ⟨S32x2048x1536, .f32⟩
  | 84 => ⟨S32x512x4x1536, .f32⟩
  | 85 => ⟨S32x4x512x1536, .f32⟩
  | 86 => ⟨S32x4x512x1536, .bf16⟩
  | 87 => ⟨S32x2048x1x1x8x64, .f32⟩
  | 88 => ⟨S32x2048x8x64, .f32⟩
  | 89 => ⟨S1x64, .f32⟩
  | 90 => ⟨S64, .f32⟩
  | 91 => ⟨S32x2048x8x64, .f32⟩
  | 92 => ⟨S_, .f32⟩
  | 93 => ⟨S32x2048x8, .f32⟩
  | 94 => ⟨S32x2048x8x1, .f32⟩
  | 95 => ⟨S_, .f32⟩
  | 96 => ⟨S32x2048x8x1, .f32⟩
  | 97 => ⟨S32x2048x8x1, .f32⟩
  | 98 => ⟨S_, .f32⟩
  | 99 => ⟨S32x2048x8x1, .f32⟩
  | 100 => ⟨S32x2048x8x1, .f32⟩
  | 101 => ⟨S32x2048x8x1, .f32⟩
  | 102 => ⟨S32x2048x8x64, .f32⟩
  | 103 => ⟨S32x2048x8x64, .f32⟩
  | 104 => ⟨S1x1x1x64, .f32⟩
  | 105 => ⟨S32x2048x8x64, .f32⟩
  | 106 => ⟨S32x2048x8x64, .f32⟩
  | 107 => ⟨S32x2048x8x8, .f32⟩
  | 108 => ⟨S32x2048x8x8, .f32⟩
  | 109 => ⟨S32x2048x8x48, .f32⟩
  | 110 => ⟨S32x2048x8x8, .f32⟩
  | 111 => ⟨S32x2048x8x8, .f32⟩
  | 112 => ⟨S32x2048x8x8, .f32⟩
  | 113 => ⟨S32x2048x8x8, .f32⟩
  | 114 => ⟨S32x2048x8x8, .f32⟩
  | 115 => ⟨S32x2048x8x8, .f32⟩
  | 116 => ⟨S32x2048x8x8, .f32⟩
  | 117 => ⟨S32x2048x8x8, .f32⟩
  | 118 => ⟨S32x2048x8x8, .f32⟩
  | 119 => ⟨S32x2048x8x8, .f32⟩
  | 120 => ⟨S32x2048x8x64, .f32⟩
  | 121 => ⟨S_, .f32⟩
  | 122 => ⟨S32x2048x8x64, .f32⟩
  | 123 => ⟨S32x2048x8x64, .f32⟩
  | 124 => ⟨S32x2048x1x1x8x64, .f32⟩
  | 125 => ⟨S32x2048x8x64, .f32⟩
  | 126 => ⟨S1x64, .f32⟩
  | 127 => ⟨S64, .f32⟩
  | _ => ⟨S32x2048x1024, .f32⟩

abbrev hbmTy0_2 (i : Nat) : BufTy := match i % 128 with
  | 0 => ⟨S32x2048x8x64, .f32⟩
  | 1 => ⟨S_, .f32⟩
  | 2 => ⟨S32x2048x8, .f32⟩
  | 3 => ⟨S32x2048x8x1, .f32⟩
  | 4 => ⟨S_, .f32⟩
  | 5 => ⟨S32x2048x8x1, .f32⟩
  | 6 => ⟨S32x2048x8x1, .f32⟩
  | 7 => ⟨S_, .f32⟩
  | 8 => ⟨S32x2048x8x1, .f32⟩
  | 9 => ⟨S32x2048x8x1, .f32⟩
  | 10 => ⟨S32x2048x8x1, .f32⟩
  | 11 => ⟨S32x2048x8x64, .f32⟩
  | 12 => ⟨S32x2048x8x64, .f32⟩
  | 13 => ⟨S1x1x1x64, .f32⟩
  | 14 => ⟨S32x2048x8x64, .f32⟩
  | 15 => ⟨S32x2048x8x64, .f32⟩
  | 16 => ⟨S32x2048x8x8, .f32⟩
  | 17 => ⟨S32x2048x8x8, .f32⟩
  | 18 => ⟨S32x2048x8x48, .f32⟩
  | 19 => ⟨S32x2048x8x8, .f32⟩
  | 20 => ⟨S32x2048x8x8, .f32⟩
  | 21 => ⟨S32x2048x8x8, .f32⟩
  | 22 => ⟨S32x2048x8x8, .f32⟩
  | 23 => ⟨S32x2048x8x8, .f32⟩
  | 24 => ⟨S32x2048x8x8, .f32⟩
  | 25 => ⟨S32x2048x8x8, .f32⟩
  | 26 => ⟨S32x2048x8x8, .f32⟩
  | 27 => ⟨S32x2048x8x8, .f32⟩
  | 28 => ⟨S32x2048x8x8, .f32⟩
  | 29 => ⟨S32x2048x8x64, .f32⟩
  | 30 => ⟨S32x2048x1x1x8x64, .f32⟩
  | 31 => ⟨S32x2048x8x64, .f32⟩
  | 32 => ⟨S32x2048x512, .f32⟩
  | 33 => ⟨S32x2048x512, .f32⟩
  | 34 => ⟨S32x2048x512, .f32⟩
  | 35 => ⟨S32x2048x1536, .f32⟩
  | 36 => ⟨S32x128x16x1536, .f32⟩
  | 37 => ⟨S32x16x128x1536, .f32⟩
  | 38 => ⟨S32x16x128x1536, .bf16⟩
  | 39 => ⟨S32x2048x512, .f32⟩
  | 40 => ⟨S32x2048x512, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_13 : Ref sig .tc := ⟨.hbm, 140, rfl⟩
abbrev main_v120 : Ref sig .tc := ⟨.hbm, 141, rfl⟩
abbrev main_v121 : Ref sig .tc := ⟨.hbm, 142, rfl⟩
abbrev main_cst_14 : Ref sig .tc := ⟨.hbm, 143, rfl⟩
abbrev main_v122 : Ref sig .tc := ⟨.hbm, 144, rfl⟩
abbrev main_v123 : Ref sig .tc := ⟨.hbm, 145, rfl⟩
abbrev main_cst_15 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_cst_16 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_17 : Ref sig .tc := ⟨.hbm, 177, rfl⟩
abbrev main_v153 : Ref sig .tc := ⟨.hbm, 178, rfl⟩
abbrev main_v154 : Ref sig .tc := ⟨.hbm, 179, rfl⟩
abbrev main_cst_18 : Ref sig .tc := ⟨.hbm, 180, rfl⟩
abbrev main_v155 : Ref sig .tc := ⟨.hbm, 181, rfl⟩
abbrev main_v156 : Ref sig .tc := ⟨.hbm, 182, rfl⟩
abbrev main_cst_19 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_cst_20 : Ref sig .tc := ⟨.hbm, 220, rfl⟩
abbrev main_v193 : Ref sig .tc := ⟨.hbm, 221, rfl⟩
abbrev main_v194 : Ref sig .tc := ⟨.hbm, 222, rfl⟩
abbrev main_cst_21 : Ref sig .tc := ⟨.hbm, 223, rfl⟩
abbrev main_v195 : Ref sig .tc := ⟨.hbm, 224, rfl⟩
abbrev main_v196 : Ref sig .tc := ⟨.hbm, 225, rfl⟩
abbrev main_cst_22 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_cst_23 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_cst_24 : Ref sig .tc := ⟨.hbm, 257, rfl⟩
abbrev main_v226 : Ref sig .tc := ⟨.hbm, 258, rfl⟩
abbrev main_v227 : Ref sig .tc := ⟨.hbm, 259, rfl⟩
abbrev main_cst_25 : Ref sig .tc := ⟨.hbm, 260, rfl⟩
abbrev main_v228 : Ref sig .tc := ⟨.hbm, 261, rfl⟩
abbrev main_v229 : Ref sig .tc := ⟨.hbm, 262, rfl⟩
abbrev main_cst_26 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩

abbrev nD : Nat := 1
abbrev τ : Topo := Topo.v7x

variable {F : FTy → Type} [FloatOps F]
-- ==== Proof.KernelSound.lean ====
/-
  The frame of the printed kernel, at any float values: nothing reads what it leaves in its results, so they are forgotten.
-/
module

public import proofs.«01_k».proof.Proof.KernelTrip
public import Idealize.ShloMosaic.Lib.Claim

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the loop holds between trips: the staged block as it was, everything else at anything. -/
def held (c : Dev nD) (arg1 : Memref sig .tc .vmem S1x16x128x1536 .bf16) (arg2 : Memref sig .tc .vmem S1x16x128x512 .bf16)
    (arg3 : Memref sig .tc .vmem S1x16x128x128 .f32) (arg4 : Memref sig .tc .vmem S8x8x128x128 .f32) (arg5 : Memref sig .tc .vmem S8x8x128x128 .bf16)
    (x : Bf (F := F) c arg1) : sProp 𝕄 :=
  iprop(∃ (f2 : Bf (F := F) c arg2) (f3 : Bf (F := F) c arg3), Trip c arg1 arg2 arg3 arg4 arg5 x f2 f3)

/-- A trip keeps it. -/
theorem step (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (v0 : IVec S128x128 32) (x : Bf (F := F) c arg1) (k : Fin k0_t1_loop.trips) (acc : Unit) :
    held c arg1 arg2 arg3 arg4 arg5 x
      ⊢ wp Idealize.ShloMosaic.frame (wpE (defs₀ (F := F)) 𝒱₀ (c : Thread nD τ) none) Set.univ
          (k0_t1_body i arg1 harg1 arg2 harg2 arg3 harg3 arg4 harg4 arg5 harg5 v0 k acc)
          (fun _ => held c arg1 arg2 arg3 arg4 arg5 x) := by
  have h := fun f2 f3 => (trip c i arg1 harg1 arg2 harg2 arg3 harg3 arg4 harg4 arg5 harg5 v0 x k).2.2 f2 f3
  generalize (trip c i arg1 harg1 arg2 harg2 arg3 harg3 arg4 harg4 arg5 harg5 v0 x k).2.1 = L3 at h
  generalize (trip c i arg1 harg1 arg2 harg2 arg3 harg3 arg4 harg4 arg5 harg5 v0 x k).1 = L2 at h
  unfold held
  iintro ⟨%f2, %f3, H⟩
  iapply (wp_wand_r Idealize.ShloMosaic.frame (wpE (defs₀ (F := F)) 𝒱₀ (c : Thread nD τ) none) Set.univ)
  isplitl
  · iapply (h f2 f3); iexact H
  iintro %_ H
  iexists _, _
  iexact H

/-- A counted loop that carries no value, run to its end by an invariant. -/
theorem loop_rule (c : Dev nD) (l : Scf.Loop 32) (hok : l.OK) (body : Fin l.trips → Unit → Prog (TpuEff nD τ sig (Elt F) Λ₀ .tc) Unit)
    (I : sProp 𝕄)
    (hb : ∀ k acc, I ⊢ wp Idealize.ShloMosaic.frame (wpE (defs₀ (F := F)) 𝒱₀ (c : Thread nD τ) none) Set.univ (body k acc) (fun _ => I))
    (K : PUnit → sProp 𝕄) :
    iprop(I ∗ (I -∗ K ⟨⟩))
      ⊢ wp Idealize.ShloMosaic.frame (wpE (defs₀ (F := F)) 𝒱₀ (c : Thread nD τ) none) Set.univ
          (Scf.Loop.for l hok () body >>= fun _ => pure ⟨⟩) K := by
  have hl := Scf.wp_for_bind Idealize.ShloMosaic.frame (wpE (defs₀ (F := F)) 𝒱₀ (c : Thread nD τ) none) Set.univ
    l.lb l.ub l.st hok () body (fun _ _ => I) hb (kk := fun _ => pure ⟨⟩) (Q := K)
  iintro ⟨H, Hk⟩
  iapply hl $$ H
  iintro %_ H
  sl_step
  iapply Hk
  iexact H

/-- A whole memref owned at a reading is its buffer held at contents so read, -/
theorem owns_elim (c : Dev nD) {sp : Space} {S : Shape} {e : EltTy} (M : Memref sig .tc sp S e) (hM : M.IsWhole) (x : Vec F S e) :
    (owns (c : Thread nD τ) M fullShare x : sProp 𝕄) ⊢ iprop(∃ f : Bf (F := F) c M, ⌜M.view.read (Elt F) f = x⌝ ∗ pt c M f) := by
  unfold owns
  rw [hM.set_eq_univ]
/-- and back. -/
theorem owns_intro (c : Dev nD) {sp : Space} {S : Shape} {e : EltTy} (M : Memref sig .tc sp S e) (hM : M.IsWhole) (f : Bf (F := F) c M)
    (x : Vec F S e) (h : M.view.read (Elt F) f = x) : pt c M f ⊢ (owns (c : Thread nD τ) M fullShare x : sProp 𝕄) := by
  unfold owns
  rw [hM.set_eq_univ]
  iintro H
  iexists f
  isplitr; · ipureintro; exact h
  iexact H

/-- The body on owned memrefs: a staged block `x0`, anything in the results' and the scratch buffers. -/
theorem sound_owned (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (x0 : Vec F S1x16x128x1536 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ f4, pt c arg4 f4) ∗ (∃ f5, pt c arg5 f5)
        ∗ (iprop(owns (c : Thread nD τ) arg1 fullShare x0 ∗ (∃ d, owns (c : Thread nD τ) arg2 fullShare d) ∗ (∃ d, owns (c : Thread nD τ) arg3 fullShare d)
            ∗ (∃ f4, pt c arg4 f4) ∗ (∃ f5, pt c arg5 f5)) -∗ K ⟨⟩))
      ⊢ wp Idealize.ShloMosaic.frame (wpE (defs₀ (F := F)) 𝒱₀ (c : Thread nD τ) none) Set.univ
          (cc0_attn2 i arg1 harg1 arg2 harg2 arg3 harg3 arg4 harg4 arg5 harg5) K := by
  iintro ⟨H1, ⟨%d2, H2⟩, ⟨%d3, H3⟩, H4, H5, Hk⟩
  ihave ⟨%f1, %hf1, H1⟩ := owns_elim c arg1 harg1 x0 $$ H1
  ihave ⟨%f2, -, H2⟩ := owns_elim c arg2 harg2 d2 $$ H2
  ihave ⟨%f3, -, H3⟩ := owns_elim c arg3 harg3 d3 $$ H3
  rw [cc0_attn2_eq_skeleton]; unfold cc0_attn2_skel
  iapply (loop_rule c k0_t1_loop k0_t1_ok _ (held c arg1 arg2 arg3 arg4 arg5 f1)
    (step c i arg1 harg1 arg2 harg2 arg3 harg3 arg4 harg4 arg5 harg5 _ f1) K)
  unfold held
  isplitr [Hk]
  · iexists f2, f3
    isplitl [H1]; · iexact H1
    isplitl [H2]; · iexact H2
    isplitl [H3]; · iexact H3
    isplitl [H4]; · iexact H4
    iexact H5
  iintro ⟨%g2, %g3, H1, H2, H3, H4, H5⟩
  iapply Hk
  isplitl [H1]; · iapply (owns_intro c arg1 harg1 f1 x0 hf1); iexact H1
  isplitl [H2]; · iexists _; iapply (owns_intro c arg2 harg2 g2 _ rfl); iexact H2
  isplitl [H3]; · iexists _; iapply (owns_intro c arg3 harg3 g3 _ rfl); iexact H3
  isplitl [H4]; · iexact H4
  iexact H5

/-- The windows whose contents nothing reads: the two results. -/
def fgt : Fin cfg0.W → Bool
  | ⟨0, _⟩ => false
  | ⟨1, _⟩ => true
  | ⟨2, _⟩ => true

/-- The proof data on core `c`: after the body at point `t` the input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed (cfg := cfg0) 1 t
    | ⟨2, _⟩ => Dat.unnamed (cfg := cfg0) 2 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
/-- The input's buffer holds its block at every point. -/
theorem before_in (c : Dev nD) (t : Fin cfg0.N) (d) : (dats m 0 c).before 0 t d = iblk m c 0 t :=
  before0_0_of m (dats m 0 c) (A_eq m c 0) (after_in m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X))

/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, show (dats m 0 c).Φ t.castSucc = Pipeline.ΦA spec0 c from rfl]
  unfold Pipeline.ΦA
  rw [scopedRest0_eq]
  iintro ⟨⟨⟨H4, H5⟩, Hr⟩, Ho, ⟨%d0, H0⟩, H1, H2⟩
  iapply (sound_owned c _ _ _ _ _ _ _ _ _ _ _ (iblk m c 0 t) _)
  isplitl [H0]; · iexact H0
  isplitl [H1]; · iexact H1
  isplitl [H2]; · iexact H2
  isplitl [H4]; · iexact H4
  isplitl [H5]; · iexact H5
  iintro ⟨H0, H1, H2, H4, H5⟩
  isplitl [H4 H5 Hr]
  · isplitr [Hr]
    · isplitl [H4]; · iexact H4
      iexact H5
    · iexact Hr
  isplitl [Ho]; · iexact Ho
  isplitl [H0]; · iexact H0
  isplitl [H1]; · iexact H1
  iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every array no window writes ends as it was, every semaphore at zero. -/
theorem run_main_quiescent : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Kernel.Hand

end
-- ==== Proof.Offsets.lean ====
/-
  The rectangles the attention kernel stores its results at, in closed form: block `8 * trip + j` of the sixteen
  residue sequences, and the 128 lanes of one pair of heads.
-/
module

public import proofs.«01_k».proof.Proof.Gen.KernelIdeal.Frame
public import proofs.«01_k».proof.Proof.Gen.KernelIdeal.Loops
public import Idealize.ShloMosaic.Lib.Tactic

@[expose] public section

noncomputable section

namespace Cert.KernelIdeal.Hand

open Cert.KernelIdeal Cert.KernelIdeal.Gen
open Idealize.ShloMosaic Idealize.ShloMosaic.Tactic
/-- Chain 10 at block `j` of trip `k`: residue `8 k + j`, lane 0. -/
theorem off10_eq : ∀ (k : Fin k0_t1_loop.trips) (j : Fin 8), k0_off10 k (BitVec.ofNat 32 j.val) = ![0, 8 * k.val + j.val, 0, 0] := by decide +kernel
instance (k : Fin k0_t1_loop.trips) : ClosedOff (k0_off10 k 0#32) := ⟨![0, 8 * k.val + 0, 0, 0], off10_eq k 0⟩
instance (k : Fin k0_t1_loop.trips) : ClosedOff (k0_off10 k 1#32) := ⟨![0, 8 * k.val + 1, 0, 0], off10_eq k 1⟩
instance (k : Fin k0_t1_loop.trips) : ClosedOff (k0_off10 k 2#32) := ⟨![0, 8 * k.val + 2, 0, 0], off10_eq k 2⟩
instance (k : Fin k0_t1_loop.trips) : ClosedOff (k0_off10 k 3#32) := ⟨![0, 8 * k.val + 3, 0, 0], off10_eq k 3⟩
instance (k : Fin k0_t1_loop.trips) : ClosedOff (k0_off10 k 4#32) := ⟨![0, 8 * k.val + 4, 0, 0], off10_eq k 4⟩
instance (k : Fin k0_t1_loop.trips) : ClosedOff (k0_off10 k 5#32) := ⟨![0, 8 * k.val + 5, 0, 0], off10_eq k 5⟩
instance (k : Fin k0_t1_loop.trips) : ClosedOff (k0_off10 k 6#32) := ⟨![0, 8 * k.val + 6, 0, 0], off10_eq k 6⟩
instance (k : Fin k0_t1_loop.trips) : ClosedOff (k0_off10 k 7#32) := ⟨![0, 8 * k.val + 7, 0, 0], off10_eq k 7⟩

/-- Chain 12 at block `j` of trip `k`: residue `8 k + j`, lane 128. -/
theorem off12_eq : ∀ (k : Fin k0_t1_loop.trips) (j : Fin 8), k0_off12 k (BitVec.ofNat 32 j.val) = ![0, 8 * k.val + j.val, 0, 128] := by decide +kernel
instance (k : Fin k0_t1_loop.trips) : ClosedOff (k0_off12 k 0#32) := ⟨![0, 8 * k.val + 0, 0, 128], off12_eq k 0⟩
instance (k : Fin k0_t1_loop.trips) : ClosedOff (k0_off12 k 1#32) := ⟨![0, 8 * k.val + 1, 0, 128], off12_eq k 1⟩
instance (k : Fin k0_t1_loop.trips) : ClosedOff (k0_off12 k 2#32) := ⟨![0, 8 * k.val + 2, 0, 128], off12_eq k 2⟩
instance (k : Fin k0_t1_loop.trips) : ClosedOff (k0_off12 k 3#32) := ⟨![0, 8 * k.val + 3, 0, 128], off12_eq k 3⟩
instance (k : Fin k0_t1_loop.trips) : ClosedOff (k0_off12 k 4#32) := ⟨![0, 8 * k.val + 4, 0, 128], off12_eq k 4⟩
instance (k : Fin k0_t1_loop.trips) : ClosedOff (k0_off12 k 5#32) := ⟨![0, 8 * k.val + 5, 0, 128], off12_eq k 5⟩
instance (k : Fin k0_t1_loop.trips) : ClosedOff (k0_off12 k 6#32) := ⟨![0, 8 * k.val + 6, 0, 128], off12_eq k 6⟩
instance (k : Fin k0_t1_loop.trips) : ClosedOff (k0_off12 k 7#32) := ⟨![0, 8 * k.val + 7, 0, 128], off12_eq k 7⟩

/-- Chain 14 at block `j` of trip `k`: residue `8 k + j`, lane 256. -/
theorem off14_eq : ∀ (k : Fin k0_t1_loop.trips) (j : Fin 8), k0_off14 k (BitVec.ofNat 32 j.val) = ![0, 8 * k.val + j.val, 0, 256] := by decide +kernel
instance (k : Fin k0_t1_loop.trips) : ClosedOff (k0_off14 k 0#32) := ⟨![0, 8 * k.val + 0, 0, 256], off14_eq k 0⟩
instance (k : Fin k0_t1_loop.trips) : ClosedOff (k0_off14 k 1#32) := ⟨![0, 8 * k.val + 1, 0, 256], off14_eq k 1⟩
instance (k : Fin k0_t1_loop.trips) : ClosedOff (k0_off14 k 2#32) := ⟨![0, 8 * k.val + 2, 0, 256], off14_eq k 2⟩
instance (k : Fin k0_t1_loop.trips) : ClosedOff (k0_off14 k 3#32) := ⟨![0, 8 * k.val + 3, 0, 256], off14_eq k 3⟩
instance (k : Fin k0_t1_loop.trips) : ClosedOff (k0_off14 k 4#32) := ⟨![0, 8 * k.val + 4, 0, 256], off14_eq k 4⟩
instance (k : Fin k0_t1_loop.trips) : ClosedOff (k0_off14 k 5#32) := ⟨![0, 8 * k.val + 5, 0, 256], off14_eq k 5⟩
instance (k : Fin k0_t1_loop.trips) : ClosedOff (k0_off14 k 6#32) := ⟨![0, 8 * k.val + 6, 0, 256], off14_eq k 6⟩
instance (k : Fin k0_t1_loop.trips) : ClosedOff (k0_off14 k 7#32) := ⟨![0, 8 * k.val + 7, 0, 256], off14_eq k 7⟩

/-- Chain 16 at block `j` of trip `k`: residue `8 k + j`, lane 384. -/
theorem off16_eq : ∀ (k : Fin k0_t1_loop.trips) (j : Fin 8), k0_off16 k (BitVec.ofNat 32 j.val) = ![0, 8 * k.val + j.val, 0, 384] := by decide +kernel
instance (k : Fin k0_t1_loop.trips) : ClosedOff (k0_off16 k 0#32) := ⟨![0, 8 * k.val + 0, 0, 384], off16_eq k 0⟩
instance (k : Fin k0_t1_loop.trips) : ClosedOff (k0_off16 k 1#32) := ⟨![0, 8 * k.val + 1, 0, 384], off16_eq k 1⟩
instance (k : Fin k0_t1_loop.trips) : ClosedOff (k0_off16 k 2#32) := ⟨![0, 8 * k.val + 2, 0, 384], off16_eq k 2⟩
instance (k : Fin k0_t1_loop.trips) : ClosedOff (k0_off16 k 3#32) := ⟨![0, 8 * k.val + 3, 0, 384], off16_eq k 3⟩
instance (k : Fin k0_t1_loop.trips) : ClosedOff (k0_off16 k 4#32) := ⟨![0, 8 * k.val + 4, 0, 384], off16_eq k 4⟩
instance (k : Fin k0_t1_loop.trips) : ClosedOff (k0_off16 k 5#32) := ⟨![0, 8 * k.val + 5, 0, 384], off16_eq k 5⟩
instance (k : Fin k0_t1_loop.trips) : ClosedOff (k0_off16 k 6#32) := ⟨![0, 8 * k.val + 6, 0, 384], off16_eq k 6⟩
instance (k : Fin k0_t1_loop.trips) : ClosedOff (k0_off16 k 7#32) := ⟨![0, 8 * k.val + 7, 0, 384], off16_eq k 7⟩

/-- Chain 17 at block `j` of trip `k`: residue `8 k + j`, lane 0. -/
theorem off17_eq : ∀ (k : Fin k0_t1_loop.trips) (j : Fin 8), k0_off17 k (BitVec.ofNat 32 j.val) = ![0, 8 * k.val + j.val, 0, 0] := by decide +kernel
instance (k : Fin k0_t1_loop.trips) : ClosedOff (k0_off17 k 0#32) := ⟨![0, 8 * k.val + 0, 0, 0], off17_eq k 0⟩
instance (k : Fin k0_t1_loop.trips) : ClosedOff (k0_off17 k 1#32) := ⟨![0, 8 * k.val + 1, 0, 0], off17_eq k 1⟩
instance (k : Fin k0_t1_loop.trips) : ClosedOff (k0_off17 k 2#32) := ⟨![0, 8 * k.val + 2, 0, 0], off17_eq k 2⟩
instance (k : Fin k0_t1_loop.trips) : ClosedOff (k0_off17 k 3#32) := ⟨![0, 8 * k.val + 3, 0, 0], off17_eq k 3⟩
instance (k : Fin k0_t1_loop.trips) : ClosedOff (k0_off17 k 4#32) := ⟨![0, 8 * k.val + 4, 0, 0], off17_eq k 4⟩
instance (k : Fin k0_t1_loop.trips) : ClosedOff (k0_off17 k 5#32) := ⟨![0, 8 * k.val + 5, 0, 0], off17_eq k 5⟩
instance (k : Fin k0_t1_loop.trips) : ClosedOff (k0_off17 k 6#32) := ⟨![0, 8 * k.val + 6, 0, 0], off17_eq k 6⟩
instance (k : Fin k0_t1_loop.trips) : ClosedOff (k0_off17 k 7#32) := ⟨![0, 8 * k.val + 7, 0, 0], off17_eq k 7⟩

end Cert.KernelIdeal.Hand

end
-- ==== Proof.Trip.lean ====
/-
  One trip of the attention kernel's loop over blocks, run once at a symbolic trip.
-/
module

public import proofs.«01_k».proof.Proof.Offsets

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- No variants. -/
abbrev 𝒱₀ : Variants := Variants.none

/-- What one trip holds: the staged block it reads, the two result blocks it stores into, and the two scratch
    buffers, which it fills before it reads them. -/
abbrev Trip (c : Dev nD) (arg1 : Memref sig .tc .vmem S1x16x128x1536 .bf16) (arg2 : Memref sig .tc .vmem S1x16x128x512 .bf16)
    (arg3 : Memref sig .tc .vmem S1x16x128x128 .f32) (arg4 : Memref sig .tc .vmem S8x8x128x128 .f32)
    (arg5 : Memref sig .tc .vmem S8x8x128x128 .bf16) (x : Bf (F := F) c arg1) (f2 : Bf (F := F) c arg2) (f3 : Bf (F := F) c arg3) : sProp 𝕄 :=
  iprop(pt c arg1 x ∗ pt c arg2 f2 ∗ pt c arg3 f3 ∗ (∃ f4, pt c arg4 f4) ∗ (∃ f5, pt c arg5 f5))

/-- One trip's run: the pieces it stores into the two result blocks are found by the run. -/
@[irreducible] def trip (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (v0 : IVec S128x128 32) (x : Bf (F := F) c arg1) (k : Fin k0_t1_loop.trips) :
    Σ' (L2 : List (View.Piece (Elt F) S1x16x128x512 .bf16)),
      {L3 : List (View.Piece (Elt F) S1x16x128x128 .f32) // ∀ (f2 : Bf (F := F) c arg2) (f3 : Bf (F := F) c arg3),
        Trip c arg1 arg2 arg3 arg4 arg5 x f2 f3
          ⊢ wp frame (wpE (defs₀ (F := F)) 𝒱₀ (c : Thread nD τ) none) Set.univ
              (k0_t1_body i arg1 harg1 arg2 harg2 arg3 harg3 arg4 harg4 arg5 harg5 v0 k ())
              (fun _ => Trip c arg1 arg2 arg3 arg4 arg5 x (arg2.view.writes (Elt F) f2 L2) (arg3.view.writes (Elt F) f3 L3))} := by
  refine ⟨?_, ?_, fun f2 f3 => ?run⟩
  case run =>
    unfold k0_t1_body
    iintro ⟨H1, H2, H3, ⟨%f4, H4⟩, ⟨%f5, H5⟩⟩
    sl_exec
    sl_step
    isplitl [H1]; · iexact H1
    isplitl [H2]; · iexact H2
    isplitl [H3]; · iexact H3
    isplitl [H4]; · iexists _; iexact H4
    iexists _; iexact H5

end Cert.KernelIdeal.Hand

end
-- ==== Proof.Tiles.lean ====
/-
  What the attention kernel computes for one residue class and one pair of heads, as functions of the staged block:
  the masked score tile, the exponentials, the pair's output tile, and the class's log-sum-exp tile.
-/
module

public import proofs.«01_k».proof.Proof.Trip

@[expose] public section

noncomputable section

namespace Cert.KernelIdeal.Hand

open Cert.KernelIdeal Cert.KernelIdeal.Gen
open Idealize.ShloMosaic

variable {F : FTy → Type} [FloatOps F] [Named F]

/-- The staged rows of residue class `r` at lane tile `j` lie in the block. -/
theorem seg_inb (r : Fin 16) (j : Fin 12) :
    ∀ a, (![0, r.val, 0, 128 * j.val] : Fin 4 → Nat) a + S1x1x128x128.size a ≤ S1x16x128x1536.size a := by
  have := r.isLt; have := j.isLt
  intro a; fin_cases a <;> simp [S1x1x128x128, S1x16x128x1536] <;> omega

/-- The rows of residue class `r` at lane tile `j`: tiles 0–3 are the queries of the four pairs of heads, 4–7 the
    keys, 8–11 the values. -/
def seg (X : Vec F S1x16x128x1536 .bf16) (r : Fin 16) (j : Fin 12) : FVec F S128x128 .bf16 :=
  shapeCast S128x128 (View.ld X (Rect.unit (s := S1x16x128x1536) ![0, r.val, 0, 128 * j.val] S1x1x128x128.size (seg_inb r j)) : Vec F S1x1x128x128 .bf16) shapeCasts_S1x1x128x128_S128x128

/-- The lane's number, at every lane. -/
def lane : IVec S128x128 32 := iota .tc S128x128 32 [1] iota_S128x128_d1_w32
/-- The lanes of the pair's first head. -/
def firstHead : IVec S128x128 1 := cmpi .slt lane (broadcast S128x128 64#32)
/-- The lanes of head `hh` of the pair. -/
def headLanes (hh : Fin 2) : IVec S128x128 1 :=
  if hh = 0 then firstHead else xori firstHead (constantI S128x128 1 1#1)
/-- Query and key at most 64 apart. -/
def inBand : IVec S128x128 1 :=
  cmpi .sle (absi (addi (subi lane (iota .tc S128x128 32 [0] iota_S128x128_d0_w32)) (broadcast S128x128 0#32))) (broadcast S128x128 64#32)

/-- Pair `p`'s query, key and value tiles' numbers. -/
abbrev qTile (p : Fin 4) : Fin 12 := ⟨p.val, by omega⟩
abbrev kTile (p : Fin 4) : Fin 12 := ⟨4 + p.val, by omega⟩
abbrev vTile (p : Fin 4) : Fin 12 := ⟨8 + p.val, by omega⟩

/-- The masked scores of head `hh` of pair `p`: the queries cut to the head's lanes, against the pair's keys. -/
def scores (X : Vec F S1x16x128x1536 .bf16) (r : Fin 16) (p : Fin 4) (hh : Fin 2) : FVec F S128x128 .f32 :=
  select inBand
    (matmul dot_S128x128_S128x128_S128x128_1_1_0_0_n_n none
      (select (headLanes hh) (seg X r (qTile p)) (broadcast S128x128 (Scalar.ofBits .bf16 0x0000#16)))
      (seg X r (kTile p)) (constant S128x128 .f32 0x00000000#32))
    (broadcast S128x128 (Named.named κ "mask" 0xF149F2CA#32))

/-- A tile as the scratch buffers hold it. -/
def up {e : FTy} (s : FVec F S128x128 e) : FVec F S1x1x128x128 e := shapeCast S1x1x128x128 s shapeCasts_S128x128_S1x1x128x128
/-- A tile as it is read back. -/
def down {e : FTy} (s : FVec F S1x1x128x128 e) : FVec F S128x128 e := shapeCast S128x128 s shapeCasts_S1x1x128x128_S128x128

/-- Each row's greatest score, along the row. -/
def rowMax (s : FVec F S128x128 .f32) : FVec F S128x128 .f32 :=
  broadcastTo S128x128 (shapeCast S128x1 (multiReduction .maximumf [1] S128 s 0xFF800000#32 reduces_S128x128_S128 (.inl rfl) rfl) shapeCasts_S128_S128x1) broadcasts_S128x1_S128x128

/-- The same, as the greatest scores enter their tile. -/
def rowMax' (s : FVec F S128x128 .f32) : FVec F S128x128 .f32 :=
  broadcastTo S128x128 (shapeCast S128x1 (shapeCast S128x1 (multiReduction .maximumf [1] S128 s 0xFF800000#32 reduces_S128x128_S128 (.inl rfl) rfl) shapeCasts_S128_S128x1) shapeCasts_S128x1_S128x1) broadcasts_S128x1_S128x128

/-- The exponentials of the scores less their row's greatest, to base two. -/
def expo (s : FVec F S128x128 .f32) : FVec F S128x128 .bf16 :=
  truncf .bf16 (exp2 (subf s (rowMax s))) bitsLt_bf16_f32

/-- Bfloat16 ones. -/
def ones : FVec F S128x128 .bf16 := broadcast S128x128 (Scalar.ofBits .bf16 0x3F80#16)

/-- The first head's exponentials against its values in the first half of the lanes and ones in the second; -/
def dotA (pa : FVec F S128x128 .bf16) (v : FVec F S128x128 .bf16) : FVec F S128x128 .f32 :=
  matmul dot_S128x128_S128x128_S128x128_1_0_0_1_n_n none pa (select firstHead v ones) (constant S128x128 .f32 0x00000000#32)
/-- the second head's against ones in the first half and its values in the second. -/
def dotB (pb : FVec F S128x128 .bf16) (v : FVec F S128x128 .bf16) : FVec F S128x128 .f32 :=
  matmul dot_S128x128_S128x128_S128x128_1_0_0_1_n_n none pb (select firstHead ones v) (constant S128x128 .f32 0x00000000#32)

/-- The sums of the exponentials: the second head's in the first half of the lanes, the first head's in the second; -/
def denBA (pa pb v : FVec F S128x128 .bf16) : FVec F S128x128 .f32 := select firstHead (dotB pb v) (dotA pa v)
/-- turned by half the lanes, each head's under its own lanes. -/
def denAB (pa pb v : FVec F S128x128 .bf16) : FVec F S128x128 .f32 :=
  dynamicRotate 1 64#32 none (denBA pa pb v) rotates_S128x128_d1
/-- The pair's output tile. -/
def outPair (pa pb v : FVec F S128x128 .bf16) : FVec F S128x128 .bf16 :=
  truncf .bf16 (divf (select firstHead (dotA pa v) (dotB pb v)) (denAB pa pb v)) bitsLt_bf16_f32

/-- The lanes numbered `n`. -/
def laneIs (n : BitVec 32) : IVec S128x128 1 := cmpi .eq lane (broadcast S128x128 n)

/-- A row's eight greatest scores in the first eight lanes, zeros elsewhere. -/
def maxTile (s : Fin 4 → Fin 2 → FVec F S128x128 .f32) : FVec F S128x128 .f32 :=
  let t (p : Fin 4) (w : FVec F S128x128 .f32) : FVec F S128x128 .f32 :=
    select (laneIs (BitVec.ofNat 32 (2 * p.val + 1))) (rowMax' (s p 1)) (select (laneIs (BitVec.ofNat 32 (2 * p.val))) (rowMax' (s p 0)) w)
  t 3 (t 2 (t 1 (t 0 (broadcast S128x128 (Scalar.ofBits .f32 0x00000000#32)))))

/-- A row's eight sums in the first eight lanes, ones elsewhere. -/
def denTile (e : Fin 4 → Fin 2 → FVec F S128x128 .bf16) (v : Fin 4 → FVec F S128x128 .bf16) : FVec F S128x128 .f32 :=
  let t (p : Fin 4) (w : FVec F S128x128 .f32) : FVec F S128x128 .f32 :=
    select (laneIs (BitVec.ofNat 32 (2 * p.val + 1))) (denBA (e p 0) (e p 1) (v p))
      (select (laneIs (BitVec.ofNat 32 (2 * p.val))) (denAB (e p 0) (e p 1) (v p)) w)
  t 3 (t 2 (t 1 (t 0 (broadcast S128x128 (Scalar.ofBits .f32 0x3F800000#32)))))

/-- The natural log-sum-exp from the greatest score and the sum, both to base two. -/
def lseOf (m d : FVec F S128x128 .f32) : FVec F S128x128 .f32 :=
  mulf (addf m (mulf (log d) (broadcast S128x128 (Named.named κ "log2e" 0x3FB8AA3B#32)))) (broadcast S128x128 (Named.named κ "ln2" 0x3F317218#32))

/-- The output tile of residue class `r` and pair `p`; -/
def oTile (X : Vec F S1x16x128x1536 .bf16) (r : Fin 16) (p : Fin 4) : FVec F S1x1x128x128 .bf16 :=
  up (outPair (down (up (expo (down (up (scores X r p 0)))))) (down (up (expo (down (up (scores X r p 1)))))) (seg X r (vTile p)))
/-- the log-sum-exp tile of residue class `r`. -/
def lTile (X : Vec F S1x16x128x1536 .bf16) (r : Fin 16) : FVec F S1x1x128x128 .f32 :=
  up (lseOf (maxTile fun p hh => down (up (scores X r p hh)))
    (denTile (fun p hh => down (up (expo (down (up (scores X r p hh)))))) fun p => seg X r (vTile p)))

end Cert.KernelIdeal.Hand

end
-- ==== Proof.Bridge.lean ====
/-
  What one trip of the attention kernel's loop stores, as the tiles of the staged block.
-/
module

public import proofs.«01_k».proof.Proof.Tiles
public import Idealize.ShloMosaic.Lib.Pipeline.Value
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The loop runs two trips. -/
theorem trips_eq : k0_t1_loop.trips = 2 := by decide

/-- The residue class of block `a` of trip `k`. -/
def res (k : Fin k0_t1_loop.trips) (a : Fin 8) : Fin 16 :=
  ⟨8 * k.val + a.val, by have := k.isLt.trans_eq trips_eq; omega⟩

/-- A slot of a scratch buffer lies in it. -/
theorem slot_inb (a : Fin 8) (p : Fin 4) (hh : Fin 2) :
    ∀ d, (![a.val, 2 * p.val + hh.val, 0, 0] : Fin 4 → Nat) d + S1x1x128x128.size d ≤ S8x8x128x128.size d := by
  have := a.isLt; have := p.isLt; have := hh.isLt
  intro d; fin_cases d <;> simp [S1x1x128x128, S8x8x128x128] <;> omega

/-- The slot of block `a` and head `hh` of pair `p`. -/
abbrev slot (a : Fin 8) (p : Fin 4) (hh : Fin 2) : Rect S8x8x128x128 :=
  Rect.unit (s := S8x8x128x128) ![a.val, 2 * p.val + hh.val, 0, 0] S1x1x128x128.size (slot_inb a p hh)

/-- The stores that fill a scratch buffer with the tiles `T`, the last first: pair by pair, block by block, the two heads. -/
def fills {e : EltTy} (T : Fin 8 → Fin 4 → Fin 2 → Vec F S1x1x128x128 e) : List (View.Piece (Elt F) S8x8x128x128 e) :=
  ([3, 2, 1, 0] : List (Fin 4)).flatMap fun p => ([7, 6, 5, 4, 3, 2, 1, 0] : List (Fin 8)).flatMap fun a =>
    [⟨slot a p 1, T a p 1⟩, ⟨slot a p 0, T a p 0⟩]

/-- Every slot is among the stores. -/
theorem mem_fills {e : EltTy} (T : Fin 8 → Fin 4 → Fin 2 → Vec F S1x1x128x128 e) (a : Fin 8) (p : Fin 4) (hh : Fin 2) :
    (⟨slot a p hh, T a p hh⟩ : View.Piece (Elt F) S8x8x128x128 e) ∈ fills T := by
  unfold fills
  rw [List.mem_flatMap]
  refine ⟨p, by fin_cases p <;> simp, ?_⟩
  rw [List.mem_flatMap]
  refine ⟨a, by fin_cases a <;> simp, ?_⟩
  fin_cases hh <;> simp

/-- Every store is a slot's. -/
theorem of_mem_fills {e : EltTy} (T : Fin 8 → Fin 4 → Fin 2 → Vec F S1x1x128x128 e) (q : View.Piece (Elt F) S8x8x128x128 e)
    (hq : q ∈ fills T) : ∃ a p hh, q = ⟨slot a p hh, T a p hh⟩ := by
  unfold fills at hq
  rw [List.mem_flatMap] at hq
  obtain ⟨p, -, hq⟩ := hq
  rw [List.mem_flatMap] at hq
  obtain ⟨a, -, hq⟩ := hq
  simp only [List.mem_cons, List.not_mem_nil, or_false] at hq
  rcases hq with rfl | rfl
  · exact ⟨a, p, 1, rfl⟩
  · exact ⟨a, p, 0, rfl⟩

/-- The scratch buffer the stores leave. -/
def filled {e : EltTy} (T : Fin 8 → Fin 4 → Fin 2 → Vec F S1x1x128x128 e) : Vec F S8x8x128x128 e := fun y =>
  T (y 0) ⟨(y 1).val / 2, by have h : (y 1).val < 8 := (y 1).isLt; omega⟩ ⟨(y 1).val % 2, by omega⟩ (ix4 (0 : Fin 1) (0 : Fin 1) (y 2) (y 3))

/-- At a slot it holds the slot's tile. -/
theorem filled_emb {e : EltTy} (T : Fin 8 → Fin 4 → Fin 2 → Vec F S1x1x128x128 e) (a : Fin 8) (p : Fin 4) (hh : Fin 2)
    (x : (slot a p hh).shape.Idx) : filled T ((slot a p hh).emb x) = T a p hh x := by
  have hx0 : (x 0).val < 1 := (x 0).isLt
  have hx1 : (x 1).val < 1 := (x 1).isLt
  have h0 : (((slot a p hh).emb x) 0).val = a.val := by
    show a.val + 1 * (x 0).val = _; omega
  have h1 : (((slot a p hh).emb x) 1).val = 2 * p.val + hh.val := by
    show 2 * p.val + hh.val + 1 * (x 1).val = _; omega
  have h2 : (((slot a p hh).emb x) 2).val = (x 2).val := by
    show 0 + 1 * (x 2).val = _; omega
  have h3 : (((slot a p hh).emb x) 3).val = (x 3).val := by
    show 0 + 1 * (x 3).val = _; omega
  have hhl := hh.isLt
  unfold filled
  have e0 : ((slot a p hh).emb x) 0 = a := Fin.ext h0
  have e1 : (⟨(((slot a p hh).emb x) 1).val / 2, by have h : (((slot a p hh).emb x) 1).val < 8 := (((slot a p hh).emb x) 1).isLt; omega⟩ : Fin 4) = p := Fin.ext (by dsimp only; rw [h1]; omega)
  have e2 : (⟨(((slot a p hh).emb x) 1).val % 2, by omega⟩ : Fin 2) = hh := Fin.ext (by dsimp only; rw [h1]; omega)
  have e3 : ix4 (0 : Fin 1) (0 : Fin 1) (((slot a p hh).emb x) 2) (((slot a p hh).emb x) 3) = x := by
    funext d; apply Fin.ext
    match d with
    | ⟨0, _⟩ => show 0 = (x 0).val; omega
    | ⟨1, _⟩ => show 0 = (x 1).val; omega
    | ⟨2, _⟩ => exact h2
    | ⟨3, _⟩ => exact h3
  have key : ∀ (a' : Fin 8) (p' : Fin 4) (hh' : Fin 2) (x' : S1x1x128x128.Idx), a' = a → p' = p → hh' = hh → x' = x →
      T a' p' hh' x' = T a p hh x := by rintro _ _ _ _ rfl rfl rfl rfl; rfl
  exact key _ _ _ _ e0 e1 e2 e3

/-- A slot read back holds its tile. -/
theorem readCov_fills {e : EltTy} {sp : Space} (v : View sig .tc sp S8x8x128x128 e) (T : Fin 8 → Fin 4 → Fin 2 → Vec F S1x1x128x128 e)
    (a : Fin 8) (p : Fin 4) (hh : Fin 2) : v.readCov (Val := Elt F) (fills T) (slot a p hh).toLoadRect = T a p hh := by
  rw [View.readCov_eq_canon']
  funext x
  rw [View.canon_apply_of_pieces (filled T) (fills T) ?_ _ ⟨_, mem_fills T a p hh, (slot a p hh).idx_mem x⟩]
  · exact filled_emb T a p hh x
  · intro q hq y
    obtain ⟨a', p', hh', rfl⟩ := of_mem_fills T q hq
    exact (filled_emb T a' p' hh' y).symm

variable (c : Dev nD) (arg1 : Memref sig .tc .vmem S1x16x128x1536 .bf16)
    (arg4 : Memref sig .tc .vmem S8x8x128x128 .f32) (arg5 : Memref sig .tc .vmem S8x8x128x128 .bf16) (x : Bf (F := F) c arg1)

/-- The block, read through its memref. -/
abbrev blockOf : Vec F S1x16x128x1536 .bf16 := arg1.view.read (Elt F) x

/-- A trip fills the first scratch buffer with the masked scores. -/
theorem fills_scores (k : Fin k0_t1_loop.trips) :
    trip.sl.H4_64 c arg1 x k = fills (e := .f32) (fun a p hh => up (scores (blockOf c arg1 x) (res k a) p hh)) := by
  obtain ⟨k, hk⟩ := k
  have h2 : k < 2 := trips_eq ▸ hk
  interval_cases k
  · sl_kernel_rfl
  · sl_kernel_rfl

/-- A trip fills the second scratch buffer with the exponentials of what it reads back from the first. -/
theorem fills_expo_read (k : Fin k0_t1_loop.trips) :
    trip.sl.H5_64 c arg1 arg4 x k = fills (e := .bf16) (fun a p hh => up (expo (down
      (arg4.view.readCov (Val := Elt F) (trip.sl.H4_64 c arg1 x k) (slot a p hh).toLoadRect)))) := by
  sl_kernel_rfl

/-- So with the exponentials of the masked scores. -/
theorem fills_expo (k : Fin k0_t1_loop.trips) :
    trip.sl.H5_64 c arg1 arg4 x k = fills (e := .bf16) (fun a p hh => up (expo (down
      (up (scores (blockOf c arg1 x) (res k a) p hh))))) := by
  rw [fills_expo_read, fills_scores]
  congr 1
  funext a p hh
  rw [readCov_fills]

/-- A block of the pairs' result lies in it. -/
theorem oRect_inb (r : Fin 16) (p : Fin 4) :
    ∀ d, (![0, r.val, 0, 128 * p.val] : Fin 4 → Nat) d + S1x1x128x128.size d ≤ S1x16x128x512.size d := by
  have := r.isLt; have := p.isLt
  intro d; fin_cases d <;> simp [S1x1x128x128, S1x16x128x512] <;> omega
abbrev oRect (r : Fin 16) (p : Fin 4) : Rect S1x16x128x512 :=
  Rect.unit (s := S1x16x128x512) ![0, r.val, 0, 128 * p.val] S1x1x128x128.size (oRect_inb r p)

/-- A residue class's rows of the second result lie in it. -/
theorem lRect_inb (r : Fin 16) :
    ∀ d, (![0, r.val, 0, 0] : Fin 4 → Nat) d + S1x1x128x128.size d ≤ S1x16x128x128.size d := by
  have := r.isLt
  intro d; fin_cases d <;> simp [S1x1x128x128, S1x16x128x128] <;> omega
abbrev lRect (r : Fin 16) : Rect S1x16x128x128 :=
  Rect.unit (s := S1x16x128x128) ![0, r.val, 0, 0] S1x1x128x128.size (lRect_inb r)

/-- The stores of one trip into the first result, from the tiles `O`, the last first; -/
def oStores (k : Fin k0_t1_loop.trips) (O : Fin 8 → Fin 4 → FVec F S1x1x128x128 .bf16) : List (View.Piece (Elt F) S1x16x128x512 .bf16) :=
  ([3, 2, 1, 0] : List (Fin 4)).flatMap fun p => ([7, 6, 5, 4, 3, 2, 1, 0] : List (Fin 8)).map fun a => ⟨oRect (res k a) p, O a p⟩
/-- and into the second, from the tiles `L`. -/
def lStores (k : Fin k0_t1_loop.trips) (L : Fin 8 → FVec F S1x1x128x128 .f32) : List (View.Piece (Elt F) S1x16x128x128 .f32) :=
  ([7, 6, 5, 4, 3, 2, 1, 0] : List (Fin 8)).map fun a => ⟨lRect (res k a), L a⟩

variable (i : grid0.Coords) (harg1 : arg1.IsWhole)
    (arg2 : Memref sig .tc .vmem S1x16x128x512 .bf16) (harg2 : arg2.IsWhole) (arg3 : Memref sig .tc .vmem S1x16x128x128 .f32) (harg3 : arg3.IsWhole)
    (harg4 : arg4.IsWhole) (harg5 : arg5.IsWhole)

/-- The trip's stores into the first result, from what it reads back; -/
theorem trip_o_read (k : Fin k0_t1_loop.trips) :
    (trip c i arg1 harg1 arg2 harg2 arg3 harg3 arg4 harg4 arg5 harg5 lane x k).1
      = oStores k (fun a p => up (outPair
          (down (arg5.view.readCov (Val := Elt F) (trip.sl.H5_64 c arg1 arg4 x k) (slot a p 0).toLoadRect))
          (down (arg5.view.readCov (Val := Elt F) (trip.sl.H5_64 c arg1 arg4 x k) (slot a p 1).toLoadRect))
          (seg (blockOf c arg1 x) (res k a) (vTile p)))) := by
  obtain ⟨k, hk⟩ := k
  have h2 : k < 2 := trips_eq ▸ hk
  interval_cases k
  · sl_kernel_rfl
  · sl_kernel_rfl

/-- and into the second. -/
theorem trip_l_read (k : Fin k0_t1_loop.trips) :
    (trip c i arg1 harg1 arg2 harg2 arg3 harg3 arg4 harg4 arg5 harg5 lane x k).2.1
      = lStores k (fun a => up (lseOf
          (maxTile fun p hh => down (arg4.view.readCov (Val := Elt F) (trip.sl.H4_64 c arg1 x k) (slot a p hh).toLoadRect))
          (denTile (fun p hh => down (arg5.view.readCov (Val := Elt F) (trip.sl.H5_64 c arg1 arg4 x k) (slot a p hh).toLoadRect))
            fun p => seg (blockOf c arg1 x) (res k a) (vTile p)))) := by
  obtain ⟨k, hk⟩ := k
  have h2 : k < 2 := trips_eq ▸ hk
  interval_cases k
  · sl_kernel_rfl
  · sl_kernel_rfl

/-- The trip stores the output tiles of its eight residue classes into the first result, -/
theorem trip_o (k : Fin k0_t1_loop.trips) :
    (trip c i arg1 harg1 arg2 harg2 arg3 harg3 arg4 harg4 arg5 harg5 lane x k).1
      = oStores k (fun a p => oTile (blockOf c arg1 x) (res k a) p) := by
  rw [trip_o_read, fills_expo]
  congr 1
  funext a p
  rw [readCov_fills, readCov_fills]
  rfl

/-- Equal tiles give equal log-sum-exp tiles. -/
theorem lse_congr {s s' : Fin 4 → Fin 2 → FVec F S128x128 .f32} {e e' : Fin 4 → Fin 2 → FVec F S128x128 .bf16} (v : Fin 4 → FVec F S128x128 .bf16)
    (hs : ∀ p hh, s p hh = s' p hh) (he : ∀ p hh, e p hh = e' p hh) :
    up (lseOf (maxTile s) (denTile e v)) = up (lseOf (maxTile s') (denTile e' v)) := by
  obtain rfl : s = s' := funext fun p => funext fun hh => hs p hh
  obtain rfl : e = e' := funext fun p => funext fun hh => he p hh
  rfl

/-- and their log-sum-exp tiles into the second. -/
theorem trip_l (k : Fin k0_t1_loop.trips) :
    (trip c i arg1 harg1 arg2 harg2 arg3 harg3 arg4 harg4 arg5 harg5 lane x k).2.1
      = lStores k (fun a => lTile (blockOf c arg1 x) (res k a)) := by
  rw [trip_l_read, fills_expo, fills_scores]
  refine congrArg (lStores k) (funext fun a => ?_)
  unfold lTile
  exact lse_congr _ (fun p hh => congrArg down (readCov_fills _ _ a p hh)) (fun p hh => congrArg down (readCov_fills _ _ a p hh))

end Cert.KernelIdeal.Hand

end
-- ==== Proof.Run.lean ====
/-
  The run of the attention kernel: its loop by an invariant, its body at any point of the grid, the launch, the frame.
-/
module

public import proofs.«01_k».proof.Proof.Bridge
public import proofs.«01_k».proof.Proof.Gen.KernelIdeal.Frame
public import Idealize.ShloMosaic.Lib.Claim

@[expose] public section

set_option maxRecDepth 2048

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the loop leaves -/

/-- The stores of the first `n` trips into the first result, the last first; -/
def oAll (X : Vec F S1x16x128x1536 .bf16) : ℕ → List (View.Piece (Elt F) S1x16x128x512 .bf16)
  | 0 => []
  | n + 1 => (if h : n < k0_t1_loop.trips then oStores ⟨n, h⟩ (fun a p => oTile X (res ⟨n, h⟩ a) p) else []) ++ oAll X n
/-- and into the second. -/
def lAll (X : Vec F S1x16x128x1536 .bf16) : ℕ → List (View.Piece (Elt F) S1x16x128x128 .f32)
  | 0 => []
  | n + 1 => (if h : n < k0_t1_loop.trips then lStores ⟨n, h⟩ (fun a => lTile X (res ⟨n, h⟩ a)) else []) ++ lAll X n

theorem oAll_succ (X : Vec F S1x16x128x1536 .bf16) (k : Fin k0_t1_loop.trips) :
    oAll X (k.val + 1) = oStores k (fun a p => oTile X (res k a) p) ++ oAll X k.val := by
  rw [oAll, dif_pos k.isLt]
theorem lAll_succ (X : Vec F S1x16x128x1536 .bf16) (k : Fin k0_t1_loop.trips) :
    lAll X (k.val + 1) = lStores k (fun a => lTile X (res k a)) ++ lAll X k.val := by
  rw [lAll, dif_pos k.isLt]

/-- The first result's block, from the staged block: at residue class `r`, row `q`, lane `l` the pair's tile; -/
def oBlock (X : Vec F S1x16x128x1536 .bf16) : Vec F S1x16x128x512 .bf16 := fun y =>
  oTile X (y 1) ⟨(y 3).val / 128, by have h : (y 3).val < 512 := (y 3).isLt; omega⟩
    (ix4 (0 : Fin 1) (0 : Fin 1) (y 2) (⟨(y 3).val % 128, by omega⟩ : Fin 128))
/-- the second's: the class's tile. -/
def lBlock (X : Vec F S1x16x128x1536 .bf16) : Vec F S1x16x128x128 .f32 := fun y =>
  lTile X (y 1) (ix4 (0 : Fin 1) (0 : Fin 1) (y 2) (y 3))

theorem oBlock_emb (X : Vec F S1x16x128x1536 .bf16) (r : Fin 16) (p : Fin 4) (x : (oRect r p).shape.Idx) :
    oBlock X ((oRect r p).emb x) = oTile X r p x := by
  have hx1 : (x 1).val < 1 := (x 1).isLt
  have hx0 : (x 0).val < 1 := (x 0).isLt
  have hx3 : (x 3).val < 128 := (x 3).isLt
  have h1 : (((oRect r p).emb x) 1).val = r.val := by show r.val + 1 * (x 1).val = _; omega
  have h2 : (((oRect r p).emb x) 2).val = (x 2).val := by show 0 + 1 * (x 2).val = _; omega
  have h3 : (((oRect r p).emb x) 3).val = 128 * p.val + (x 3).val := by show 128 * p.val + 1 * (x 3).val = _; omega
  have key : ∀ (r' : Fin 16) (p' : Fin 4) (x' : S1x1x128x128.Idx), r' = r → p' = p → x' = x →
      oTile X r' p' x' = oTile X r p x := by rintro _ _ _ rfl rfl rfl; rfl
  refine key _ _ _ (Fin.ext h1) (Fin.ext ?_) ?_
  · dsimp only; rw [h3]; omega
  · funext d; apply Fin.ext
    match d with
    | ⟨0, _⟩ => show 0 = (x 0).val; omega
    | ⟨1, _⟩ => show 0 = (x 1).val; omega
    | ⟨2, _⟩ => exact h2
    | ⟨3, _⟩ => show (((oRect r p).emb x) 3).val % 128 = (x 3).val; rw [h3]; omega

theorem lBlock_emb (X : Vec F S1x16x128x1536 .bf16) (r : Fin 16) (x : (lRect r).shape.Idx) :
    lBlock X ((lRect r).emb x) = lTile X r x := by
  have hx1 : (x 1).val < 1 := (x 1).isLt
  have hx0 : (x 0).val < 1 := (x 0).isLt
  have h1 : (((lRect r).emb x) 1).val = r.val := by show r.val + 1 * (x 1).val = _; omega
  have h2 : (((lRect r).emb x) 2).val = (x 2).val := by show 0 + 1 * (x 2).val = _; omega
  have h3 : (((lRect r).emb x) 3).val = (x 3).val := by show 0 + 1 * (x 3).val = _; omega
  have key : ∀ (r' : Fin 16) (x' : S1x1x128x128.Idx), r' = r → x' = x →
      lTile X r' x' = lTile X r x := by rintro _ _ rfl rfl; rfl
  refine key _ _ (Fin.ext h1) ?_
  funext d; apply Fin.ext
  match d with
  | ⟨0, _⟩ => show 0 = (x 0).val; omega
  | ⟨1, _⟩ => show 0 = (x 1).val; omega
  | ⟨2, _⟩ => exact h2
  | ⟨3, _⟩ => exact h3

/-- Every store into the first result is a tile at its place, -/
theorem of_mem_oAll (X : Vec F S1x16x128x1536 .bf16) : ∀ (n : ℕ) (q : View.Piece (Elt F) S1x16x128x512 .bf16), q ∈ oAll X n →
    ∃ r p, q = ⟨oRect r p, oTile X r p⟩
  | 0, _, h => absurd h List.not_mem_nil
  | n + 1, q, h => by
    rw [oAll, List.mem_append] at h
    rcases h with h | h
    · split at h
      · unfold oStores at h
        rw [List.mem_flatMap] at h
        obtain ⟨p, -, h⟩ := h
        rw [List.mem_map] at h
        obtain ⟨a, -, rfl⟩ := h
        exact ⟨_, p, rfl⟩
      · exact absurd h List.not_mem_nil
    · exact of_mem_oAll X n q h
/-- and into the second. -/
theorem of_mem_lAll (X : Vec F S1x16x128x1536 .bf16) : ∀ (n : ℕ) (q : View.Piece (Elt F) S1x16x128x128 .f32), q ∈ lAll X n →
    ∃ r, q = ⟨lRect r, lTile X r⟩
  | 0, _, h => absurd h List.not_mem_nil
  | n + 1, q, h => by
    rw [lAll, List.mem_append] at h
    rcases h with h | h
    · split at h
      · unfold lStores at h
        rw [List.mem_map] at h
        obtain ⟨a, -, rfl⟩ := h
        exact ⟨_, rfl⟩
      · exact absurd h List.not_mem_nil
    · exact of_mem_lAll X n q h

/-- A trip's stores are among those of the trips up to it. -/
theorem sub_oAll (X : Vec F S1x16x128x1536 .bf16) (k : Fin k0_t1_loop.trips) : ∀ (n : ℕ), k.val < n →
    ∀ q ∈ oStores k (fun a p => oTile X (res k a) p), q ∈ oAll X n
  | n + 1, h, q, hq => by
    rw [oAll, List.mem_append]
    rcases Nat.lt_succ_iff_lt_or_eq.mp h with h | rfl
    · exact .inr (sub_oAll X k n h q hq)
    · left; rw [dif_pos k.isLt]; exact hq
theorem sub_lAll (X : Vec F S1x16x128x1536 .bf16) (k : Fin k0_t1_loop.trips) : ∀ (n : ℕ), k.val < n →
    ∀ q ∈ lStores k (fun a => lTile X (res k a)), q ∈ lAll X n
  | n + 1, h, q, hq => by
    rw [lAll, List.mem_append]
    rcases Nat.lt_succ_iff_lt_or_eq.mp h with h | rfl
    · exact .inr (sub_lAll X k n h q hq)
    · left; rw [dif_pos k.isLt]; exact hq

/-- Every residue class belongs to a block of a trip. -/
theorem exists_res (r : Fin 16) : ∃ k a, res k a = r := by
  refine ⟨⟨r.val / 8, by rw [trips_eq]; omega⟩, ⟨r.val % 8, by omega⟩, Fin.ext ?_⟩
  show 8 * (r.val / 8) + r.val % 8 = r.val
  omega

theorem mem_oAll (X : Vec F S1x16x128x1536 .bf16) (r : Fin 16) (p : Fin 4) :
    (⟨oRect r p, oTile X r p⟩ : View.Piece (Elt F) S1x16x128x512 .bf16) ∈ oAll X k0_t1_loop.trips := by
  obtain ⟨k, a, rfl⟩ := exists_res r
  refine sub_oAll X k _ k.isLt _ ?_
  unfold oStores
  rw [List.mem_flatMap]
  refine ⟨p, by fin_cases p <;> simp, ?_⟩
  rw [List.mem_map]
  exact ⟨a, by fin_cases a <;> simp, rfl⟩
theorem mem_lAll (X : Vec F S1x16x128x1536 .bf16) (r : Fin 16) :
    (⟨lRect r, lTile X r⟩ : View.Piece (Elt F) S1x16x128x128 .f32) ∈ lAll X k0_t1_loop.trips := by
  obtain ⟨k, a, rfl⟩ := exists_res r
  refine sub_lAll X k _ k.isLt _ ?_
  unfold lStores
  rw [List.mem_map]
  exact ⟨a, by fin_cases a <;> simp, rfl⟩

theorem cover_oAll (X : Vec F S1x16x128x1536 .bf16) (y : S1x16x128x512.Idx) : ∃ q ∈ oAll X k0_t1_loop.trips, y ∈ q.1.set := by
  have h0 : (y 0).val < 1 := (y 0).isLt
  have h2 : (y 2).val < 128 := (y 2).isLt
  have h3 : (y 3).val < 512 := (y 3).isLt
  refine ⟨_, mem_oAll X (y 1) ⟨(y 3).val / 128, by omega⟩, ?_⟩
  rw [Rect.mem_set_unit]
  intro d
  match d with
  | ⟨0, _⟩ => show 0 ≤ (y 0).val ∧ (y 0).val < 0 + 1; omega
  | ⟨1, _⟩ => show (y 1).val ≤ (y 1).val ∧ (y 1).val < (y 1).val + 1; omega
  | ⟨2, _⟩ => show 0 ≤ (y 2).val ∧ (y 2).val < 0 + 128; omega
  | ⟨3, _⟩ => show 128 * ((y 3).val / 128) ≤ (y 3).val ∧ (y 3).val < 128 * ((y 3).val / 128) + 128; omega
theorem cover_lAll (X : Vec F S1x16x128x1536 .bf16) (y : S1x16x128x128.Idx) : ∃ q ∈ lAll X k0_t1_loop.trips, y ∈ q.1.set := by
  have h0 : (y 0).val < 1 := (y 0).isLt
  have h2 : (y 2).val < 128 := (y 2).isLt
  have h3 : (y 3).val < 128 := (y 3).isLt
  refine ⟨_, mem_lAll X (y 1), ?_⟩
  rw [Rect.mem_set_unit]
  intro d
  match d with
  | ⟨0, _⟩ => show 0 ≤ (y 0).val ∧ (y 0).val < 0 + 1; omega
  | ⟨1, _⟩ => show (y 1).val ≤ (y 1).val ∧ (y 1).val < (y 1).val + 1; omega
  | ⟨2, _⟩ => show 0 ≤ (y 2).val ∧ (y 2).val < 0 + 128; omega
  | ⟨3, _⟩ => show 0 ≤ (y 3).val ∧ (y 3).val < 0 + 128; omega

/-- The loop's stores leave the first result's block, -/
theorem read_oAll {sp : Space} (v : View sig .tc sp S1x16x128x512 .bf16) (f : v.ty.Contents (Elt F)) (X : Vec F S1x16x128x1536 .bf16) :
    v.read (Elt F) (v.writes (Elt F) f (oAll X k0_t1_loop.trips)) = oBlock X := by
  rw [View.read_writes_eq_canon _ _ _ (cover_oAll X)]
  funext y
  refine View.canon_apply_of_pieces (oBlock X) _ ?_ y (cover_oAll X y)
  intro q hq x
  obtain ⟨r, p, rfl⟩ := of_mem_oAll X _ q hq
  exact (oBlock_emb X r p x).symm
/-- and the second's. -/
theorem read_lAll {sp : Space} (v : View sig .tc sp S1x16x128x128 .f32) (f : v.ty.Contents (Elt F)) (X : Vec F S1x16x128x1536 .bf16) :
    v.read (Elt F) (v.writes (Elt F) f (lAll X k0_t1_loop.trips)) = lBlock X := by
  rw [View.read_writes_eq_canon _ _ _ (cover_lAll X)]
  funext y
  refine View.canon_apply_of_pieces (lBlock X) _ ?_ y (cover_lAll X y)
  intro q hq x
  obtain ⟨r, rfl⟩ := of_mem_lAll X _ q hq
  exact (lBlock_emb X r x).symm

/-! ## The body -/

/-- One trip, with its stores named. -/
theorem trip_at (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (x : Bf (F := F) c arg1) (k : Fin k0_t1_loop.trips) (L2 : List (View.Piece (Elt F) S1x16x128x512 .bf16))
    (L3 : List (View.Piece (Elt F) S1x16x128x128 .f32))
    (h2 : (trip c i arg1 harg1 arg2 harg2 arg3 harg3 arg4 harg4 arg5 harg5 lane x k).1 = L2)
    (h3 : (trip c i arg1 harg1 arg2 harg2 arg3 harg3 arg4 harg4 arg5 harg5 lane x k).2.1 = L3)
    (f2 : Bf (F := F) c arg2) (f3 : Bf (F := F) c arg3) :
    Trip c arg1 arg2 arg3 arg4 arg5 x f2 f3
      ⊢ wp Idealize.ShloMosaic.frame (wpE (defs₀ (F := F)) 𝒱₀ (c : Thread nD τ) none) Set.univ
          (k0_t1_body i arg1 harg1 arg2 harg2 arg3 harg3 arg4 harg4 arg5 harg5 lane k ())
          (fun _ => Trip c arg1 arg2 arg3 arg4 arg5 x (arg2.view.writes (Elt F) f2 L2) (arg3.view.writes (Elt F) f3 L3)) := by
  subst h2 h3
  exact (trip c i arg1 harg1 arg2 harg2 arg3 harg3 arg4 harg4 arg5 harg5 lane x k).2.2 f2 f3

/-- What the loop holds after `n` trips. -/
def held (c : Dev nD) (arg1 : Memref sig .tc .vmem S1x16x128x1536 .bf16) (arg2 : Memref sig .tc .vmem S1x16x128x512 .bf16)
    (arg3 : Memref sig .tc .vmem S1x16x128x128 .f32) (arg4 : Memref sig .tc .vmem S8x8x128x128 .f32) (arg5 : Memref sig .tc .vmem S8x8x128x128 .bf16)
    (x : Bf (F := F) c arg1) (f2 : Bf (F := F) c arg2) (f3 : Bf (F := F) c arg3) (n : ℕ) : sProp 𝕄 :=
  Trip c arg1 arg2 arg3 arg4 arg5 x (arg2.view.writes (Elt F) f2 (oAll (blockOf c arg1 x) n)) (arg3.view.writes (Elt F) f3 (lAll (blockOf c arg1 x) n))

/-- One trip takes the stores of the trips before it to the stores of the trips up to it. -/
theorem step (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (x : Bf (F := F) c arg1) (f2 : Bf (F := F) c arg2) (f3 : Bf (F := F) c arg3) (k : Fin k0_t1_loop.trips) (acc : Unit) :
    held c arg1 arg2 arg3 arg4 arg5 x f2 f3 k.val
      ⊢ wp Idealize.ShloMosaic.frame (wpE (defs₀ (F := F)) 𝒱₀ (c : Thread nD τ) none) Set.univ
          (k0_t1_body i arg1 harg1 arg2 harg2 arg3 harg3 arg4 harg4 arg5 harg5 lane k acc)
          (fun _ => held c arg1 arg2 arg3 arg4 arg5 x f2 f3 (k.val + 1)) := by
  unfold held
  rw [oAll_succ, lAll_succ, View.writes_append, View.writes_append]
  exact trip_at c i arg1 harg1 arg2 harg2 arg3 harg3 arg4 harg4 arg5 harg5 x k _ _
    (trip_o c arg1 arg4 arg5 x i harg1 arg2 harg2 arg3 harg3 harg4 harg5 k)
    (trip_l c arg1 arg4 arg5 x i harg1 arg2 harg2 arg3 harg3 harg4 harg5 k) _ _

/-- A counted loop that carries no value, run to its end by an invariant. -/
theorem loop_rule (c : Dev nD) (l : Scf.Loop 32) (hok : l.OK) (body : Fin l.trips → Unit → Prog (TpuEff nD τ sig (Elt F) Λ₀ .tc) Unit)
    (I : ℕ → sProp 𝕄)
    (hb : ∀ k acc, I k.val ⊢ wp Idealize.ShloMosaic.frame (wpE (defs₀ (F := F)) 𝒱₀ (c : Thread nD τ) none) Set.univ (body k acc) (fun _ => I (k.val + 1)))
    (K : PUnit → sProp 𝕄) :
    iprop(I 0 ∗ (I l.trips -∗ K ⟨⟩))
      ⊢ wp Idealize.ShloMosaic.frame (wpE (defs₀ (F := F)) 𝒱₀ (c : Thread nD τ) none) Set.univ
          (Scf.Loop.for l hok () body >>= fun _ => pure ⟨⟩) K := by
  have hl := Scf.wp_for_bind Idealize.ShloMosaic.frame (wpE (defs₀ (F := F)) 𝒱₀ (c : Thread nD τ) none) Set.univ
    l.lb l.ub l.st hok () body (fun n _ => I n) hb (kk := fun _ => pure ⟨⟩) (Q := K)
  iintro ⟨H, Hk⟩
  iapply hl $$ H
  iintro %_ H
  sl_step
  iapply Hk
  iexact H

/-- The body, from what the loop starts with: it ends with what the loop holds after its last trip. -/
theorem sound_kernel (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (x : Bf (F := F) c arg1) (f2 : Bf (F := F) c arg2) (f3 : Bf (F := F) c arg3) (K : PUnit → sProp 𝕄) :
    iprop(held c arg1 arg2 arg3 arg4 arg5 x f2 f3 0 ∗ (held c arg1 arg2 arg3 arg4 arg5 x f2 f3 k0_t1_loop.trips -∗ K ⟨⟩))
      ⊢ wp Idealize.ShloMosaic.frame (wpE (defs₀ (F := F)) 𝒱₀ (c : Thread nD τ) none) Set.univ
          (cc0_attn2 i arg1 harg1 arg2 harg2 arg3 harg3 arg4 harg4 arg5 harg5) K := by
  rw [cc0_attn2_eq_skeleton]; unfold cc0_attn2_skel
  exact loop_rule c k0_t1_loop k0_t1_ok (k0_t1_body i arg1 harg1 arg2 harg2 arg3 harg3 arg4 harg4 arg5 harg5 lane)
    (held c arg1 arg2 arg3 arg4 arg5 x f2 f3) (step c i arg1 harg1 arg2 harg2 arg3 harg3 arg4 harg4 arg5 harg5 x f2 f3) K

end Cert.KernelIdeal.Hand

end
-- ==== Proof.Sound.lean ====
/-
  The launch of the attention kernel: its proof data, the body obligation at every point of the grid, the run, the frame.
-/
module

public import proofs.«01_k».proof.Proof.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data on core `c`: after the body at point `t` the input's buffer holds its block and the results' buffers
    hold `oBlock` and `lBlock` of it; between points the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => oBlock (iblk m c 0 t)
    | ⟨2, _⟩ => lBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_o (c : Dev nD) (t : Fin cfg0.N) : (dats m 0 c).after 1 t = oBlock (iblk m c 0 t) := by dsimp only [dats]
theorem after_l (c : Dev nD) (t : Fin cfg0.N) : (dats m 0 c).after 2 t = lBlock (iblk m c 0 t) := by dsimp only [dats]
/-- The input's buffer holds its block at every point. -/
theorem before_in (c : Dev nD) (t : Fin cfg0.N) (d) : (dats m 0 c).before 0 t d = iblk m c 0 t :=
  before0_0_of m (dats m 0 c) (A_eq m c 0) (after_in m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- A whole memref owned at a reading is its buffer held at contents so read, -/
theorem owns_elim (c : Dev nD) {sp : Space} {S : Shape} {e : EltTy} (M : Memref sig .tc sp S e) (hM : M.IsWhole) (x : Vec F S e) :
    (owns (c : Thread nD τ) M fullShare x : sProp 𝕄) ⊢ iprop(∃ f : Bf (F := F) c M, ⌜M.view.read (Elt F) f = x⌝ ∗ pt c M f) := by
  unfold owns
  rw [hM.set_eq_univ]
/-- and back. -/
theorem owns_intro (c : Dev nD) {sp : Space} {S : Shape} {e : EltTy} (M : Memref sig .tc sp S e) (hM : M.IsWhole) (f : Bf (F := F) c M)
    (x : Vec F S e) (h : M.view.read (Elt F) f = x) : pt c M f ⊢ (owns (c : Thread nD τ) M fullShare x : sProp 𝕄) := by
  unfold owns
  rw [hM.set_eq_univ]
  iintro H
  iexists f
  isplitr; · ipureintro; exact h
  iexact H

/-- What the loop starts with. -/
theorem held_zero (c : Dev nD) (arg1 : Memref sig .tc .vmem S1x16x128x1536 .bf16) (arg2 : Memref sig .tc .vmem S1x16x128x512 .bf16)
    (arg3 : Memref sig .tc .vmem S1x16x128x128 .f32) (arg4 : Memref sig .tc .vmem S8x8x128x128 .f32) (arg5 : Memref sig .tc .vmem S8x8x128x128 .bf16)
    (x : Bf (F := F) c arg1) (f2 : Bf (F := F) c arg2) (f3 : Bf (F := F) c arg3) :
    Trip c arg1 arg2 arg3 arg4 arg5 x f2 f3 ⊢ held c arg1 arg2 arg3 arg4 arg5 x f2 f3 0 := by
  unfold held oAll lAll
  exact .rfl
/-- What the loop ends with. -/
theorem held_last (c : Dev nD) (arg1 : Memref sig .tc .vmem S1x16x128x1536 .bf16) (harg1 : arg1.IsWhole) (arg2 : Memref sig .tc .vmem S1x16x128x512 .bf16)
    (harg2 : arg2.IsWhole) (arg3 : Memref sig .tc .vmem S1x16x128x128 .f32) (harg3 : arg3.IsWhole) (arg4 : Memref sig .tc .vmem S8x8x128x128 .f32)
    (arg5 : Memref sig .tc .vmem S8x8x128x128 .bf16) (x0 : Vec F S1x16x128x1536 .bf16)
    (x : Bf (F := F) c arg1) (hx : arg1.view.read (Elt F) x = x0) (f2 : Bf (F := F) c arg2) (f3 : Bf (F := F) c arg3) :
    held c arg1 arg2 arg3 arg4 arg5 x f2 f3 k0_t1_loop.trips
      ⊢ iprop(owns (c : Thread nD τ) arg1 fullShare x0 ∗ owns (c : Thread nD τ) arg2 fullShare (oBlock x0) ∗ owns (c : Thread nD τ) arg3 fullShare (lBlock x0)
            ∗ (∃ f4, pt c arg4 f4) ∗ (∃ f5, pt c arg5 f5)) := by
  have ho := read_oAll arg2.view f2 (blockOf c arg1 x)
  have hl := read_lAll arg3.view f3 (blockOf c arg1 x)
  unfold held
  generalize arg2.view.writes (Elt F) f2 (oAll (blockOf c arg1 x) k0_t1_loop.trips) = g2 at ho ⊢
  generalize arg3.view.writes (Elt F) f3 (lAll (blockOf c arg1 x) k0_t1_loop.trips) = g3 at hl ⊢
  unfold blockOf at ho hl
  rw [hx] at ho hl
  iintro ⟨H1, H2, H3, H4, H5⟩
  isplitl [H1]; · iapply (owns_intro c arg1 harg1 x x0 hx); iexact H1
  isplitl [H2]; · iapply (owns_intro c arg2 harg2 g2 _ ho); iexact H2
  isplitl [H3]; · iapply (owns_intro c arg3 harg3 g3 _ hl); iexact H3
  isplitl [H4]; · iexact H4
  iexact H5

/-- The body on owned memrefs: a staged block `x0`, anything in the results' and the scratch buffers. -/
theorem sound_owned (c : Dev nD) (i : grid0.Coords) (arg1 : Memref sig .tc .vmem S1x16x128x1536 .bf16) (harg1 : arg1.IsWhole)
    (arg2 : Memref sig .tc .vmem S1x16x128x512 .bf16) (harg2 : arg2.IsWhole) (arg3 : Memref sig .tc .vmem S1x16x128x128 .f32) (harg3 : arg3.IsWhole)
    (arg4 : Memref sig .tc .vmem S8x8x128x128 .f32) (harg4 : arg4.IsWhole) (arg5 : Memref sig .tc .vmem S8x8x128x128 .bf16) (harg5 : arg5.IsWhole)
    (x0 : Vec F S1x16x128x1536 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ f4, pt c arg4 f4) ∗ (∃ f5, pt c arg5 f5)
        ∗ (iprop(owns (c : Thread nD τ) arg1 fullShare x0 ∗ owns (c : Thread nD τ) arg2 fullShare (oBlock x0) ∗ owns (c : Thread nD τ) arg3 fullShare (lBlock x0)
            ∗ (∃ f4, pt c arg4 f4) ∗ (∃ f5, pt c arg5 f5)) -∗ K ⟨⟩))
      ⊢ wp Idealize.ShloMosaic.frame (wpE (defs₀ (F := F)) 𝒱₀ (c : Thread nD τ) none) Set.univ
          (cc0_attn2 i arg1 harg1 arg2 harg2 arg3 harg3 arg4 harg4 arg5 harg5) K := by
  iintro ⟨H1, ⟨%d2, H2⟩, ⟨%d3, H3⟩, H4, H5, Hk⟩
  ihave ⟨%f1, %hf1, H1⟩ := owns_elim c arg1 harg1 x0 $$ H1
  ihave ⟨%f2, -, H2⟩ := owns_elim c arg2 harg2 d2 $$ H2
  ihave ⟨%f3, -, H3⟩ := owns_elim c arg3 harg3 d3 $$ H3
  iapply (sound_kernel c i arg1 harg1 arg2 harg2 arg3 harg3 arg4 harg4 arg5 harg5 f1 f2 f3 K)
  isplitr [Hk]
  · iapply (held_zero c arg1 arg2 arg3 arg4 arg5 f1 f2 f3)
    isplitl [H1]; · iexact H1
    isplitl [H2]; · iexact H2
    isplitl [H3]; · iexact H3
    isplitl [H4]; · iexact H4
    iexact H5
  iintro H
  ihave ⟨H1, H2, H3, H4, H5⟩ := held_last c arg1 harg1 arg2 harg2 arg3 harg3 arg4 arg5 x0 f1 hf1 f2 f3 $$ H
  iapply Hk
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_o, after_l,
    show (dats m 0 c).Φ t.castSucc = Pipeline.ΦA spec0 c from rfl]
  unfold Pipeline.ΦA
  rw [scopedRest0_eq]
  iintro ⟨⟨⟨H4, H5⟩, Hr⟩, Ho, ⟨%d0, H0⟩, ⟨%d1, H1⟩, ⟨%d2, H2⟩⟩
  iapply (sound_owned c _ _ _ _ _ _ _ _ _ _ _ (iblk m c 0 t) _)
  isplitl [H0]; · iexact H0
  isplitl [H1]; · iexists _; iexact H1
  isplitl [H2]; · iexists _; iexact H2
  isplitl [H4]; · iexact H4
  isplitl [H5]; · iexact H5
  iintro ⟨H0, H1, H2, H4, H5⟩
  isplitl [H4 H5 Hr]
  · isplitr [Hr]
    · isplitl [H4]; · iexact H4
      iexact H5
    · iexact Hr
  isplitl [Ho]; · iexact Ho
  isplitl [H0]; · iexact H0
  isplitl [H1]; · iexact H1
  iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data say, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.ReferenceFrame.lean ====
/-
  The reference runs to the end, leaves its arguments alone, and has no semaphore to leave raised.
-/
module

public import proofs.«01_k».proof.Proof.Gen.ReferenceIdeal.Run
public import proofs.«01_k».proof.Defs
public import Idealize.ShloMosaic.Lib.Quiescent

@[expose] public section

noncomputable section

namespace Cert.ReferenceIdeal.Hand

open Cert.ReferenceIdeal Idealize.ShloMosaic Idealize.ShloMosaic.TcCoe Idealize.SL.Sem

variable {F : FTy → Type} [FloatOps F]

/-- Every fair run of the reference ends with its three arguments as they were and every counter at zero. -/
theorem frame_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems rfl r.2⟩)
    (Cert.ReferenceIdeal.Value.run m ρ)

end Cert.ReferenceIdeal.Hand

end
-- ==== Proof.Attention.lean ====
/-
  Attention along the residue classes of positions modulo 16, over the extended reals, and the laws by which exponentials to
  base two stand for natural ones.
-/
module

public import Idealize.ShloMosaic.PureOps.Ideal
public import Idealize.ShloMosaic.Lib.Pointwise

@[expose] public section

noncomputable section

namespace Cert.Attention

open Idealize.ShloMosaic

/-! ## The attention -/

/-- Query, key or value vectors: batch element, position, head, coordinate. -/
abbrev Heads := (⟨4, ![32, 2048, 8, 64]⟩ : Shape).Idx → EReal

/-- Position `n` of residue class `r`. -/
def pos (n : Fin 128) (r : Fin 16) : Fin 2048 := ⟨n.val * 16 + r.val, by omega⟩

/-- Two positions of a class at most 64 apart. -/
def Near (n n' : Fin 128) : Prop := n.val ≤ n'.val + 64 ∧ n'.val ≤ n.val + 64

instance (n n' : Fin 128) : Decidable (Near n n') := by unfold Near; infer_instance

variable (Q K V : Heads) (b : Fin 32) (r : Fin 16) (h : Fin 8) (n : Fin 128)

/-- The product of a query and a key. -/
def inner (n' : Fin 128) : EReal := ∑ c : Fin 64, Q (ix4 b (pos n r) h c) * K (ix4 b (pos n' r) h c)
/-- The score: an eighth of the product, or -∞ out of reach. -/
def score (n' : Fin 128) : EReal := if Near n n' then inner Q K b r h n n' * ((1 / 8 : ℝ) : EReal) else ⊥
/-- The greatest score. -/
def top : EReal := Finset.univ.fold max ⊥ (score Q K b r h n)
/-- The exponential of a score less the greatest. -/
def weight (n' : Fin 128) : EReal := Ideal.exp (score Q K b r h n n' - top Q K b r h n)
/-- The sum of the exponentials. -/
def total : EReal := ∑ n' : Fin 128, weight Q K b r h n n'
/-- The attention: the values weighted by the exponentials, over their sum. -/
def out (c : Fin 64) : EReal := Ideal.div (∑ n' : Fin 128, V (ix4 b (pos n' r) h c) * weight Q K b r h n n') (total Q K b r h n)
/-- The log-sum-exp of the scores. -/
def lse : EReal := top Q K b r h n + Ideal.log (total Q K b r h n)

/-! ## Scaling by a positive real -/

/-- A positive real factor distributes over a sum, infinities included; -/
theorem add_mul_coe {c : ℝ} (hc : 0 < c) (x y : EReal) : (x + y) * (c : EReal) = x * c + y * c := by
  induction x using EReal.rec with
  | bot => rw [EReal.bot_add, EReal.bot_mul_coe_of_pos hc, EReal.bot_add]
  | top =>
    induction y using EReal.rec with
    | bot => rw [EReal.add_bot, EReal.bot_mul_coe_of_pos hc, EReal.add_bot]
    | top => rw [EReal.top_add_top, EReal.top_mul_coe_of_pos hc, EReal.top_add_top]
    | coe y => rw [EReal.top_add_coe, EReal.top_mul_coe_of_pos hc, ← EReal.coe_mul, EReal.top_add_coe]
  | coe x =>
    induction y using EReal.rec with
    | bot => rw [EReal.add_bot, EReal.bot_mul_coe_of_pos hc, EReal.add_bot]
    | top => rw [EReal.coe_add_top, EReal.top_mul_coe_of_pos hc, ← EReal.coe_mul, EReal.coe_add_top]
    | coe y => norm_cast; ring

/-- over a difference; -/
theorem sub_mul_coe {c : ℝ} (hc : 0 < c) (x y : EReal) : (x - y) * (c : EReal) = x * c - y * c := by
  rw [sub_eq_add_neg, add_mul_coe hc, EReal.neg_mul, ← sub_eq_add_neg]

/-- over a finite sum; -/
theorem sum_mul_coe {ι : Type} (s : Finset ι) {c : ℝ} (hc : 0 < c) (f : ι → EReal) : (∑ i ∈ s, f i) * (c : EReal) = ∑ i ∈ s, f i * c := by
  classical
  induction s using Finset.induction_on with
  | empty => simp
  | insert a s ha ih => rw [Finset.sum_insert ha, Finset.sum_insert ha, add_mul_coe hc, ih]

/-- over a maximum; -/
theorem max_mul_coe {c : ℝ} (hc : 0 < c) (x y : EReal) : max x y * (c : EReal) = max (x * c) (y * c) :=
  Monotone.map_max (f := fun z : EReal => z * (c : EReal)) fun _ _ hz => mul_le_mul_of_nonneg_right hz (EReal.coe_nonneg.mpr hc.le)

/-- over a greatest term. -/
theorem fold_max_mul_coe {ι : Type} (s : Finset ι) {c : ℝ} (hc : 0 < c) (f : ι → EReal) :
    s.fold max ⊥ (fun i => f i * (c : EReal)) = s.fold max ⊥ f * c := by
  have h := Finset.fold_hom (op := max) (op' := max) (s := s) (b := (⊥ : EReal)) (f := f) (m := fun z : EReal => z * (c : EReal)) (max_mul_coe hc)
  rw [← h]
  rw [EReal.bot_mul_coe_of_pos hc]

/-! ## Base two -/

theorem log_two_pos : 0 < Real.log 2 := Real.log_pos (by norm_num)
theorem inv_log_two_pos : 0 < (Real.log 2)⁻¹ := inv_pos.mpr log_two_pos

/-- Two to the power of `x / log 2` is the exponential of `x`. -/
theorem exp2_mul (x : EReal) : Ideal.exp2 (x * ((Real.log 2)⁻¹ : ℝ)) = Ideal.exp x := by
  induction x using EReal.rec with
  | bot => rw [EReal.bot_mul_coe_of_pos inv_log_two_pos]; rfl
  | top => rw [EReal.top_mul_coe_of_pos inv_log_two_pos]; rfl
  | coe x =>
    rw [← EReal.coe_mul]
    show ((Real.rpow 2 (x * (Real.log 2)⁻¹) : ℝ) : EReal) = ((Real.exp x : ℝ) : EReal)
    congr 1
    show (2 : ℝ) ^ (x * (Real.log 2)⁻¹) = _
    rw [Real.rpow_def_of_pos (by norm_num)]
    congr 1
    have := log_two_pos.ne'
    field_simp

/-- Dividing by log 2 and multiplying by it again changes nothing. -/
theorem inv_log_two_mul (x : EReal) : x * ((Real.log 2)⁻¹ : ℝ) * (Real.log 2 : ℝ) = x := by
  rw [mul_assoc, ← EReal.coe_mul, inv_mul_cancel₀ log_two_pos.ne', EReal.coe_one, mul_one]

/-! ## The attention from scores to base two -/

/-- The score to base two. -/
def score2 (n' : Fin 128) : EReal := score Q K b r h n n' * ((Real.log 2)⁻¹ : ℝ)

/-- It is the product of the query, scaled by an eighth over log 2, and the key, or -∞ out of reach. -/
theorem score2_eq (n' : Fin 128) : score2 Q K b r h n n'
    = if Near n n' then ∑ c : Fin 64, Q (ix4 b (pos n r) h c) * ((1 / 8 * (Real.log 2)⁻¹ : ℝ) : EReal) * K (ix4 b (pos n' r) h c) else ⊥ := by
  unfold score2 score
  split
  · have hk : 0 < 1 / 8 * (Real.log 2)⁻¹ := mul_pos (by norm_num) inv_log_two_pos
    rw [mul_assoc, ← EReal.coe_mul]
    unfold inner
    rw [sum_mul_coe _ hk]
    exact Finset.sum_congr rfl fun c _ => mul_right_comm _ _ _
  · exact EReal.bot_mul_coe_of_pos inv_log_two_pos

/-- The greatest score to base two. -/
theorem top2_eq : Finset.univ.fold max ⊥ (score2 Q K b r h n) = top Q K b r h n * ((Real.log 2)⁻¹ : ℝ) :=
  fold_max_mul_coe _ inv_log_two_pos _

/-- The weight, from the scores to base two. -/
theorem weight2_eq (n' : Fin 128) :
    Ideal.exp2 (score2 Q K b r h n n' - Finset.univ.fold max ⊥ (score2 Q K b r h n)) = weight Q K b r h n n' := by
  rw [top2_eq]
  unfold score2 weight
  rw [← sub_mul_coe inv_log_two_pos, exp2_mul]

/-- The log-sum-exp, from the greatest score to base two and the sum. -/
theorem lse2_eq : (Finset.univ.fold max ⊥ (score2 Q K b r h n) + Ideal.log (total Q K b r h n) * ((Real.log 2)⁻¹ : ℝ)) * (Real.log 2 : ℝ)
    = lse Q K b r h n := by
  rw [top2_eq, ← add_mul_coe inv_log_two_pos, inv_log_two_mul]
  rfl

/-- A greatest score of zero and a sum of one give zero. -/
theorem lse_blank : ((0 : EReal) + Ideal.log 1 * ((Real.log 2)⁻¹ : ℝ)) * (Real.log 2 : ℝ) = 0 := by
  have : Ideal.log 1 = 0 := by
    rw [← EReal.coe_one]
    show (if (1 : ℝ) ≤ 0 then ⊥ else ((Real.log 1 : ℝ) : EReal)) = 0
    rw [if_neg (by norm_num), Real.log_one, EReal.coe_zero]
  rw [this, zero_mul, add_zero, zero_mul]

end Cert.Attention

end
-- ==== Proof.TileValues.lean ====
/-
  The tiles read at an index, over the extended reals.
-/
module

public import proofs.«01_k».proof.Proof.Tiles
public import proofs.«01_k».proof.Proof.Run
public import proofs.«01_k».proof.Proof.Attention
public import Idealize.ShloMosaic.PureOps.Ideal
public import Idealize.ShloMosaic.Lib.Pointwise

@[expose] public section
noncomputable section
namespace Cert.KernelIdeal.Hand
open Cert.KernelIdeal Cert.KernelIdeal.Gen Idealize.ShloMosaic
open Cert.Attention (Near)

variable (X : Vec Ideal S1x16x128x1536 .bf16)

/-! ## Masks -/

theorem select_one {α : Type} (x y : α) : Scalar.select 1#1 x y = x := rfl
theorem select_zero {α : Type} (x y : α) : Scalar.select 0#1 x y = y := rfl

theorem lane_lt (l : Fin 128) : IntOp.cmpi .slt (BitVec.ofNat 32 l.val) 64#32 = if l.val < 64 then 1#1 else 0#1 := by
  revert l; decide +kernel

theorem lane_eq (l : Fin 128) (k : Fin 8) : IntOp.cmpi .eq (BitVec.ofNat 32 l.val) (BitVec.ofNat 32 k.val) = if l.val = k.val then 1#1 else 0#1 := by
  revert l k; decide +kernel

theorem inBand_apply (n n' : Fin 128) : inBand (ix2 n n') = if Near n n' then 1#1 else 0#1 := by
  pointwise [inBand, lane]
  revert n n'
  decide +kernel

theorem firstHead_apply (n l : Fin 128) : firstHead (ix2 n l) = if l.val < 64 then 1#1 else 0#1 := by
  pointwise [firstHead, lane]
  exact lane_lt l

theorem headLanes_apply (hh : Fin 2) (n l : Fin 128) : headLanes hh (ix2 n l) = if l.val / 64 = hh.val then 1#1 else 0#1 := by
  unfold headLanes
  have hl := l.isLt
  fin_cases hh
  · simp only [Fin.zero_eta, ↓reduceIte]
    rw [firstHead_apply]
    congr 1
    simp only [eq_iff_iff]; omega
  · simp only [Fin.mk_one, one_ne_zero, ↓reduceIte]
    pointwise
    rw [firstHead_apply]
    by_cases h : l.val < 64
    · rw [if_pos h, if_neg (by omega)]; rfl
    · rw [if_neg h, if_pos (by omega)]; rfl

theorem laneIs_apply (n l : Fin 128) (k : Fin 8) : laneIs (BitVec.ofNat 32 k.val) (ix2 n l) = if l.val = k.val then 1#1 else 0#1 := by
  pointwise [laneIs, lane]
  exact lane_eq l k

/-! ## Constants -/

theorem mask_eq : (Named.named κ "mask" 0xF149F2CA#32 : Ideal .f32) = ⊥ := rfl
theorem log2e_eq : (Named.named κ "log2e" 0x3FB8AA3B#32 : Ideal .f32) = ((Real.log 2)⁻¹ : ℝ) := rfl
theorem ln2_eq : (Named.named κ "ln2" 0x3F317218#32 : Ideal .f32) = (Real.log 2 : ℝ) := rfl
theorem negInf_eq : Ideal.ofBits .f32 0xFF800000#32 = ⊥ := by
  simp [Ideal.ofBits, Ideal.ieee]

/-! ## Tiles -/

/-- A tile read back from a four-axis block of one. -/
theorem down_apply {e : FTy} (y : FVec Ideal S1x1x128x128 e) (n l : Fin 128) : down y (ix2 n l) = y (ix4 0 0 n l) := by
  pointwise [down]
theorem up_apply {e : FTy} (y : FVec Ideal S128x128 e) (n l : Fin 128) : up y (ix4 0 0 n l) = y (ix2 n l) := by
  pointwise [up]
theorem down_up {e : FTy} (y : FVec Ideal S128x128 e) : down (up y) = y :=
  funext fun i => by rw [eq_ix2 i]; exact (down_apply _ _ _).trans (up_apply _ _ _)

theorem seg_apply (r : Fin 16) (j : Fin 12) (n l : Fin 128) :
    seg X r j (ix2 n l) = X (ix4 0 r n ⟨128 * j.val + l.val, by omega⟩) := by
  refine (down_apply (e := .bf16) _ n l).trans ?_
  refine congrArg X (funext fun a => Fin.ext ?_)
  match a with
  | ⟨0, _⟩ => show 0 + 1 * 0 = 0; rfl
  | ⟨1, _⟩ => show r.val + 1 * 0 = r.val; omega
  | ⟨2, _⟩ => show 0 + 1 * n.val = n.val; omega
  | ⟨3, _⟩ => show 128 * j.val + 1 * l.val = 128 * j.val + l.val; omega

/-- The scores of a head: the products of the queries and keys over its lanes. -/
theorem scores_apply (r : Fin 16) (p : Fin 4) (hh : Fin 2) (n n' : Fin 128) :
    scores X r p hh (ix2 n n') = if Near n n' then
      ∑ c : Fin 64, X (ix4 0 r n ⟨64 * (2 * p.val + hh.val) + c.val, by omega⟩) * X (ix4 0 r n' ⟨512 + 64 * (2 * p.val + hh.val) + c.val, by omega⟩)
      else ⊥ := by
  unfold scores
  pointwise
  rw [inBand_apply]
  split
  · rw [select_one]
    have term (k : Fin 64) (l : Fin 128) (hl : l.val = 64 * hh.val + k.val) :
        Scalar.select (headLanes hh (ix2 n l)) (seg X r (qTile p) (ix2 n l) * seg X r (kTile p) (ix2 n' l)) 0
          = X (ix4 0 r n ⟨64 * (2 * p.val + hh.val) + k.val, by omega⟩) * X (ix4 0 r n' ⟨512 + 64 * (2 * p.val + hh.val) + k.val, by omega⟩) := by
      rw [headLanes_apply, if_pos (by omega), select_one, seg_apply, seg_apply]
      congr 3 <;> exact Fin.ext (by simp only [hl]; omega)
    have zero (l : Fin 128) (hl : l.val / 64 ≠ hh.val) :
        Scalar.select (headLanes hh (ix2 n l)) (seg X r (qTile p) (ix2 n l) * seg X r (kTile p) (ix2 n' l)) 0 = 0 := by
      rw [headLanes_apply, if_neg hl, select_zero]
    rw [Fin.sum_univ_two_halves 64 64 rfl]
    obtain h | h : hh.val = 0 ∨ hh.val = 1 := by omega
    · exact (congrArg₂ (· + ·) (Finset.sum_congr rfl fun k _ => term k ⟨k.val, by omega⟩ (by simp only [h]; omega))
        (Finset.sum_eq_zero fun k _ => zero ⟨64 + k.val, by omega⟩ (by simp only [h]; omega))).trans (add_zero _)
    · exact (congrArg₂ (· + ·) (Finset.sum_eq_zero fun k _ => zero ⟨k.val, by omega⟩ (by simp only [h]; omega))
        (Finset.sum_congr rfl fun k _ => term k ⟨64 + k.val, by omega⟩ (by simp only [h]))).trans (zero_add _)
  · rw [select_zero]; exact mask_eq

theorem rowMax_apply (s : FVec Ideal S128x128 .f32) (n l : Fin 128) :
    rowMax s (ix2 n l) = Finset.univ.fold max ⊥ fun n' : Fin 128 => s (ix2 n n') := by
  pointwise [rowMax]
  rw [negInf_eq]
theorem rowMax'_apply (s : FVec Ideal S128x128 .f32) (n l : Fin 128) :
    rowMax' s (ix2 n l) = Finset.univ.fold max ⊥ fun n' : Fin 128 => s (ix2 n n') := by
  pointwise [rowMax']
  rw [negInf_eq]
theorem expo_apply (s : FVec Ideal S128x128 .f32) (n n' : Fin 128) :
    expo s (ix2 n n') = Ideal.exp2 (s (ix2 n n') - Finset.univ.fold max ⊥ fun k : Fin 128 => s (ix2 n k)) := by
  unfold expo
  pointwise
  rw [rowMax_apply]
  rfl

/-- Where a tile's lane `l` finds its own head's dot product. -/
theorem own_apply (pa pb v : FVec Ideal S128x128 .bf16) (n l : Fin 128) :
    select firstHead (dotA pa v) (dotB pb v) (ix2 n l)
      = ∑ n' : Fin 128, (if l.val < 64 then pa else pb) (ix2 n n') * v (ix2 n' l) := by
  pointwise [dotA, dotB]
  simp only [firstHead_apply]
  split
  · simp only [select_one]
  · simp only [select_zero]
/-- Where it finds the other head's sum; -/
theorem denBA_apply (pa pb v : FVec Ideal S128x128 .bf16) (n l : Fin 128) :
    denBA pa pb v (ix2 n l) = ∑ n' : Fin 128, (if l.val < 64 then pb else pa) (ix2 n n') := by
  pointwise [denBA, dotA, dotB, ones]
  simp only [firstHead_apply]
  split
  · simp only [select_one, mul_one]
  · simp only [select_zero, mul_one]
/-- and, turned, its own. -/
theorem denAB_apply (pa pb v : FVec Ideal S128x128 .bf16) (n l : Fin 128) :
    denAB pa pb v (ix2 n l) = ∑ n' : Fin 128, (if l.val < 64 then pa else pb) (ix2 n n') := by
  pointwise [denAB]
  rw [denBA_apply]
  have hl := l.isLt
  dsimp only
  by_cases h : l.val < 64
  · rw [if_pos h, if_neg (by omega)]
  · rw [if_neg h, if_pos (by omega)]

theorem outPair_apply (pa pb v : FVec Ideal S128x128 .bf16) (n l : Fin 128) :
    outPair pa pb v (ix2 n l) = Ideal.div (∑ n' : Fin 128, (if l.val < 64 then pa else pb) (ix2 n n') * v (ix2 n' l))
      (∑ n' : Fin 128, (if l.val < 64 then pa else pb) (ix2 n n')) := by
  rw [← own_apply pa pb v n l, ← denAB_apply pa pb v n l]
  unfold outPair
  pointwise

/-- Eight values put one by one into the first eight lanes. -/
theorem ladder (f : Fin 4 → Fin 2 → EReal) (w : EReal) (n l : Fin 128) :
    Scalar.select (laneIs (7#32) (ix2 n l)) (f 3 1) (Scalar.select (laneIs (6#32) (ix2 n l)) (f 3 0)
      (Scalar.select (laneIs (5#32) (ix2 n l)) (f 2 1) (Scalar.select (laneIs (4#32) (ix2 n l)) (f 2 0)
        (Scalar.select (laneIs (3#32) (ix2 n l)) (f 1 1) (Scalar.select (laneIs (2#32) (ix2 n l)) (f 1 0)
          (Scalar.select (laneIs (1#32) (ix2 n l)) (f 0 1) (Scalar.select (laneIs (0#32) (ix2 n l)) (f 0 0) w)))))))
    = if h : l.val < 8 then f ⟨l.val / 2, by omega⟩ ⟨l.val % 2, by omega⟩ else w := by
  have e (k : Fin 8) : laneIs (BitVec.ofNat 32 k.val) (ix2 n l) = if l.val = k.val then 1#1 else 0#1 := laneIs_apply n l k
  rw [show laneIs (7#32) (ix2 n l) = _ from e 7, show laneIs (6#32) (ix2 n l) = _ from e 6, show laneIs (5#32) (ix2 n l) = _ from e 5,
    show laneIs (4#32) (ix2 n l) = _ from e 4, show laneIs (3#32) (ix2 n l) = _ from e 3, show laneIs (2#32) (ix2 n l) = _ from e 2,
    show laneIs (1#32) (ix2 n l) = _ from e 1, show laneIs (0#32) (ix2 n l) = _ from e 0]
  by_cases h : l.val < 8
  · rw [dif_pos h]
    obtain ⟨l, hl⟩ := l
    dsimp only at h ⊢
    interval_cases l <;> rfl
  · rw [dif_neg h]
    have z (k : Fin 8) : (if l.val = k.val then 1#1 else 0#1 : BitVec 1) = 0#1 := if_neg (by omega)
    simp only [z, select_zero]

/-- The greatest scores, eight in a row. -/
theorem maxTile_apply (s : Fin 4 → Fin 2 → FVec Ideal S128x128 .f32) (n l : Fin 128) :
    maxTile s (ix2 n l) = if h : l.val < 8 then
      Finset.univ.fold max ⊥ (fun n' : Fin 128 => s ⟨l.val / 2, by omega⟩ ⟨l.val % 2, by omega⟩ (ix2 n n')) else 0 := by
  unfold maxTile
  pointwise
  rw [ladder (fun p hh => rowMax' (s p hh) (ix2 n l)) 0 n l]
  simp only [rowMax'_apply]

/-- The sums of the exponentials, eight in a row. -/
theorem denTile_apply (e : Fin 4 → Fin 2 → FVec Ideal S128x128 .bf16) (v : Fin 4 → FVec Ideal S128x128 .bf16) (n l : Fin 128) :
    denTile e v (ix2 n l) = if h : l.val < 8 then
      ∑ n' : Fin 128, e ⟨l.val / 2, by omega⟩ ⟨l.val % 2, by omega⟩ (ix2 n n') else 1 := by
  unfold denTile
  pointwise
  simp only [denAB_apply, denBA_apply]
  have h1 := ladder (fun p hh => ∑ n' : Fin 128, e p hh (ix2 n n')) 1 n l
  by_cases h : l.val < 8
  · have h64 : l.val < 64 := by omega
    simp only [h64, if_true]
    exact h1
  · rw [dif_neg h] at h1 ⊢
    have z (k : Fin 8) : laneIs (BitVec.ofNat 32 k.val) (ix2 n l) = 0#1 := (laneIs_apply n l k).trans (if_neg (by omega))
    simp only [show laneIs (7#32) (ix2 n l) = _ from z 7, show laneIs (6#32) (ix2 n l) = _ from z 6, show laneIs (5#32) (ix2 n l) = _ from z 5,
      show laneIs (4#32) (ix2 n l) = _ from z 4, show laneIs (3#32) (ix2 n l) = _ from z 3, show laneIs (2#32) (ix2 n l) = _ from z 2,
      show laneIs (1#32) (ix2 n l) = _ from z 1, show laneIs (0#32) (ix2 n l) = _ from z 0, select_zero]

theorem lseOf_apply (m d : FVec Ideal S128x128 .f32) (n l : Fin 128) :
    lseOf m d (ix2 n l) = (m (ix2 n l) + Ideal.log (d (ix2 n l)) * ((Real.log 2)⁻¹ : ℝ)) * (Real.log 2 : ℝ) := by
  pointwise [lseOf]
  rw [log2e_eq, ln2_eq]

/-! ## The blocks -/

/-- The score to base two of head `h`, from the staged block. -/
def blockScore (r : Fin 16) (h : Fin 8) (n n' : Fin 128) : EReal :=
  if Near n n' then
    ∑ c : Fin 64, X (ix4 0 r n ⟨64 * h.val + c.val, by omega⟩) * X (ix4 0 r n' ⟨512 + 64 * h.val + c.val, by omega⟩)
  else ⊥
/-- Its weight. -/
def blockWeight (r : Fin 16) (h : Fin 8) (n n' : Fin 128) : EReal :=
  Ideal.exp2 (blockScore X r h n n' - Finset.univ.fold max ⊥ (blockScore X r h n))

theorem scores_eq (r : Fin 16) (p : Fin 4) (hh : Fin 2) (n n' : Fin 128) :
    scores X r p hh (ix2 n n') = blockScore X r ⟨2 * p.val + hh.val, by omega⟩ n n' := scores_apply X r p hh n n'

theorem expo_eq (r : Fin 16) (p : Fin 4) (hh : Fin 2) (n n' : Fin 128) :
    expo (scores X r p hh) (ix2 n n') = blockWeight X r ⟨2 * p.val + hh.val, by omega⟩ n n' := by
  rw [expo_apply]
  simp only [scores_eq]
  rfl

/-- The first result's tile. -/
theorem oTile_apply (r : Fin 16) (p : Fin 4) (n l : Fin 128) :
    oTile X r p (ix4 0 0 n l)
      = Ideal.div (∑ n' : Fin 128, (if l.val < 64 then expo (scores X r p 0) else expo (scores X r p 1)) (ix2 n n') * seg X r (vTile p) (ix2 n' l))
          (∑ n' : Fin 128, (if l.val < 64 then expo (scores X r p 0) else expo (scores X r p 1)) (ix2 n n')) := by
  unfold oTile
  simp only [down_up]
  exact (up_apply (e := .bf16) _ _ _).trans (outPair_apply _ _ _ _ _)

/-- The first result's block: each head's attention. -/
theorem oBlock_apply (r : Fin 16) (n : Fin 128) (h : Fin 8) (c : Fin 64) :
    oBlock X (ix4 0 r n ⟨64 * h.val + c.val, by omega⟩)
      = Ideal.div (∑ n' : Fin 128, blockWeight X r h n n' * X (ix4 0 r n' ⟨1024 + 64 * h.val + c.val, by omega⟩))
          (∑ n' : Fin 128, blockWeight X r h n n') := by
  have hh := h.isLt
  have hc := c.isLt
  show oTile X r ⟨(64 * h.val + c.val) / 128, by omega⟩ (ix4 0 0 n ⟨(64 * h.val + c.val) % 128, by omega⟩) = _
  rw [oTile_apply]
  have hw (n' : Fin 128) : (if (64 * h.val + c.val) % 128 < 64 then expo (scores X r ⟨(64 * h.val + c.val) / 128, by omega⟩ 0)
      else expo (scores X r ⟨(64 * h.val + c.val) / 128, by omega⟩ 1)) (ix2 n n') = blockWeight X r h n n' := by
    split
    · rw [expo_eq]; congr 1; exact Fin.ext (by dsimp only; simp only [Fin.val_zero]; omega)
    · rw [expo_eq]; congr 1; exact Fin.ext (by dsimp only; simp only [Fin.val_one]; omega)
  have hv (n' : Fin 128) : seg X r (vTile ⟨(64 * h.val + c.val) / 128, by omega⟩) (ix2 n' ⟨(64 * h.val + c.val) % 128, by omega⟩)
      = X (ix4 0 r n' ⟨1024 + 64 * h.val + c.val, by omega⟩) := by
    rw [seg_apply]
    congr 2
    exact Fin.ext (by dsimp only; omega)
  exact congrArg₂ Ideal.div (Finset.sum_congr rfl fun n' _ => congrArg₂ (· * ·) (hw n') (hv n')) (Finset.sum_congr rfl fun n' _ => hw n')

/-- The second's: each head's log-sum-exp, in its lane. -/
theorem lBlock_apply (r : Fin 16) (n l : Fin 128) :
    lBlock X (ix4 0 r n l) = if h : l.val < 8 then
      (Finset.univ.fold max ⊥ (blockScore X r ⟨l.val, h⟩ n) + Ideal.log (∑ n' : Fin 128, blockWeight X r ⟨l.val, h⟩ n n') * ((Real.log 2)⁻¹ : ℝ)) * (Real.log 2 : ℝ)
      else ((0 : EReal) + Ideal.log 1 * ((Real.log 2)⁻¹ : ℝ)) * (Real.log 2 : ℝ) := by
  show lTile X r (ix4 0 0 n l) = _
  unfold lTile
  simp only [down_up]
  refine (up_apply (e := .f32) _ _ _).trans ?_
  rw [lseOf_apply, maxTile_apply, denTile_apply]
  by_cases h : l.val < 8
  · have hl : (⟨2 * (l.val / 2) + l.val % 2, by omega⟩ : Fin 8) = ⟨l.val, h⟩ := Fin.ext (by dsimp only; omega)
    simp only [dif_pos h, scores_eq, expo_eq, hl]
  · simp only [dif_neg h]

end Cert.KernelIdeal.Hand

end
-- ==== Proof.Input.lean ====
/-
  The array the kernel is launched on: queries, scaled, keys and values sorted by residue class and laid side by side.
-/
module

public import proofs.«01_k».proof.Proof.Gen.KernelIdeal.Frame
public import proofs.«01_k».proof.Proof.Attention
public import Idealize.ShloMosaic.Lib.StableHlo.Run
public import Idealize.ShloMosaic.Lib.Pointwise

@[expose] public section

noncomputable section

namespace Cert.KernelIdeal.Hand

open Cert.KernelIdeal Cert.KernelIdeal.Gen Idealize.ShloMosaic Idealize.ShloMosaic.TcCoe

/-- The positions sorted by residue class, a position's heads side by side. -/
def sorted {F : FTy → Type} (x : FVec F S32x2048x8x64 .f32) : FVec F S32x16x128x512 .f32 :=
  transpose S32x16x128x512 [0, 2, 1, 3] (shapeCast S32x128x16x512 x shapeCasts_S32x2048x8x64_S32x128x16x512) transposes_S32x128x16x512_S32x16x128x512_0_2_1_3

/-- The queries scaled. -/
def scaled {F : FTy → Type} [FloatOps F] (q : FVec F S32x2048x8x64 .f32) : FVec F S32x2048x8x64 .f32 :=
  mulf q (broadcastInDim S32x2048x8x64 ![] bcast_S_S32x2048x8x64 (Host.divf (constant S_ .f32 0x3E000000#32) (Host.log (constant S_ .f32 0x40000000#32))))

/-- The three side by side, rounded. -/
def joined {F : FTy → Type} [FloatOps F] (q k v : FVec F S32x16x128x512 .f32) : FVec F S32x16x128x1536 .bf16 :=
  truncf .bf16 (concatenate S32x16x128x1536 3 [⟨S32x16x128x512, q⟩, ⟨S32x16x128x512, k⟩, ⟨S32x16x128x512, v⟩]
    concatenates_S32x16x128x512_S32x16x128x512_S32x16x128x512_S32x16x128x1536_d3) bitsLt_bf16_f32

/-- What the launch finds. -/
theorem V_joined {F : FTy → Type} [FloatOps F] [Named F] (m : (ℓ : Loc nD τ sig) → Buf (Elt F) ℓ) (c : Dev nD) :
    V m c main_v11 = joined (sorted (scaled (m ((c : Thread nD τ).loc main_arg0)))) (sorted (m ((c : Thread nD τ).loc main_arg1)))
      (sorted (m ((c : Thread nD τ).loc main_arg2))) := by
  unfold V
  show StableHlo.after hostOps0 (fun b => m (c, b)) (Proc.devRef .tc main_v11) = _
  unfold hostOps0
  after_results_simp
  rfl

/-! ## Over the extended reals -/

theorem eighth_eq : Ideal.ofBits .f32 0x3E000000#32 = ((1 / 8 : ℝ) : EReal) := by
  simp [Ideal.ofBits, Ideal.ieee]
  rw [← EReal.coe_mul]
  norm_num
theorem two_eq : Ideal.ofBits .f32 0x40000000#32 = ((2 : ℝ) : EReal) := by
  simp [Ideal.ofBits, Ideal.ieee]
  rw [← EReal.coe_mul]
  norm_num
/-- The scale: an eighth over log 2. -/
theorem scale_eq : Ideal.div ((1 / 8 : ℝ) : EReal) (Ideal.log ((2 : ℝ) : EReal)) = ((1 / 8 * (Real.log 2)⁻¹ : ℝ) : EReal) := by
  have h : Ideal.log ((2 : ℝ) : EReal) = ((Real.log 2 : ℝ) : EReal) := by
    show (if (2 : ℝ) ≤ 0 then ⊥ else ((Real.log 2 : ℝ) : EReal)) = _
    rw [if_neg (by norm_num)]
  rw [h]
  unfold Ideal.div
  rw [if_neg (by exact_mod_cast Cert.Attention.log_two_pos.ne'), ← EReal.coe_inv, ← EReal.coe_mul]

theorem scaled_apply (q : FVec Ideal S32x2048x8x64 .f32) (i : S32x2048x8x64.Idx) :
    scaled q i = q i * ((1 / 8 * (Real.log 2)⁻¹ : ℝ) : EReal) := by
  pointwise [scaled]
  rw [eighth_eq, two_eq, scale_eq]

theorem sorted_apply (x : FVec Ideal S32x2048x8x64 .f32) (b : Fin 32) (r : Fin 16) (n : Fin 128) (h : Fin 8) (c : Fin 64) :
    sorted x (ix4 b r n ⟨64 * h.val + c.val, by omega⟩) = x (ix4 b (Cert.Attention.pos n r) h c) := by
  pointwise [sorted]
  rfl

theorem joined_apply (q k v : FVec Ideal S32x16x128x512 .f32) (b : Fin 32) (r : Fin 16) (n : Fin 128) (l : Fin 512) :
    joined q k v (ix4 b r n ⟨l.val, by omega⟩) = q (ix4 b r n l)
    ∧ joined q k v (ix4 b r n ⟨512 + l.val, by omega⟩) = k (ix4 b r n l)
    ∧ joined q k v (ix4 b r n ⟨1024 + l.val, by omega⟩) = v (ix4 b r n l) := by
  pointwise [joined]
  rw [dif_neg (by omega), dif_neg (by omega)]
  exact congrArg (fun e => v (ix4 b r n e)) (Fin.ext (by dsimp only; omega))

/-! ## A launch's block -/

variable (m : (ℓ : Loc nD τ sig) → Buf (Elt Ideal) ℓ) (c : Dev nD)

theorem index_in : ∀ t : Fin grid0.N, win0_0.index t = ![t.val, 0, 0, 0] := by decide +kernel

/-- Point `t` stages batch element `t`. -/
theorem iblk_apply (t : Fin cfg0.N) (b : Fin 32) (hb : t.val = b.val) (r : Fin 16) (n : Fin 128) (e : Fin 1536) :
    (iblk m c 0 t : Vec Ideal S1x16x128x1536 .bf16) (ix4 0 r n e)
      = joined (F := Ideal) (sorted (scaled (m ((c : Thread nD τ).loc main_arg0)))) (sorted (m ((c : Thread nD τ).loc main_arg1)))
          (sorted (m ((c : Thread nD τ).loc main_arg2))) (ix4 b r n e) := by
  refine Eq.trans ?_ (congrFun (V_joined m c) (ix4 b r n e))
  unfold iblk
  rw [View.read_apply]
  show V m c main_v11 _ = V m c main_v11 _
  congr 1
  funext a
  apply Fin.ext
  have hi := index_in t
  match a with
  | ⟨0, _⟩ => show win0_0.index t 0 * 1 + 1 * 0 = b.val; rw [hi]; simp [hb]
  | ⟨1, _⟩ => show win0_0.index t 1 * 16 + 1 * r.val = r.val; rw [hi]; simp
  | ⟨2, _⟩ => show win0_0.index t 2 * 128 + 1 * n.val = n.val; rw [hi]; simp
  | ⟨3, _⟩ => show win0_0.index t 3 * 1536 + 1 * e.val = e.val; rw [hi]; simp

end Cert.KernelIdeal.Hand

end
-- ==== Proof.Value.lean ====
/-
  What the kernel leaves: the attention of its arguments.
-/
module

public import proofs.«01_k».proof.Proof.Sound
public import proofs.«01_k».proof.Proof.TileValues
public import proofs.«01_k».proof.Proof.Input
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The arguments. -/
abbrev argQ : Cert.Attention.Heads := m ((c : Thread nD τ).loc main_arg0)
abbrev argK : Cert.Attention.Heads := m ((c : Thread nD τ).loc main_arg1)
abbrev argV : Cert.Attention.Heads := m ((c : Thread nD τ).loc main_arg2)

/-! ## A point's blocks -/

/-- The block point `t` stages. -/
abbrev block (t : Fin cfg0.N) : Vec Ideal S1x16x128x1536 .bf16 := iblk m c 0 t

section Block

variable (t : Fin cfg0.N) (b : Fin 32) (hb : t.val = b.val) (r : Fin 16) (h : Fin 8) (n : Fin 128)

include hb

/-- Its queries, scaled; -/
theorem block_q (a : Fin 64) : block m c t (ix4 0 r n ⟨64 * h.val + a.val, by omega⟩)
    = argQ m c (ix4 b (Cert.Attention.pos n r) h a) * ((1 / 8 * (Real.log 2)⁻¹ : ℝ) : EReal) :=
  (iblk_apply m c t b hb r n _).trans (((joined_apply _ _ _ b r n ⟨64 * h.val + a.val, by omega⟩).1).trans
    ((sorted_apply _ b r n h a).trans (scaled_apply _ _)))
/-- its keys; -/
theorem block_k (a : Fin 64) : block m c t (ix4 0 r n ⟨512 + 64 * h.val + a.val, by omega⟩) = argK m c (ix4 b (Cert.Attention.pos n r) h a) :=
  (iblk_apply m c t b hb r n _).trans ((congrArg (fun e => joined (F := Ideal) _ _ _ (ix4 b r n e)) (Fin.ext (Nat.add_assoc _ _ _))).trans
    (((joined_apply _ _ _ b r n ⟨64 * h.val + a.val, by omega⟩).2.1).trans (sorted_apply _ b r n h a)))
/-- its values. -/
theorem block_v (a : Fin 64) : block m c t (ix4 0 r n ⟨1024 + 64 * h.val + a.val, by omega⟩) = argV m c (ix4 b (Cert.Attention.pos n r) h a) :=
  (iblk_apply m c t b hb r n _).trans ((congrArg (fun e => joined (F := Ideal) _ _ _ (ix4 b r n e)) (Fin.ext (Nat.add_assoc _ _ _))).trans
    (((joined_apply _ _ _ b r n ⟨64 * h.val + a.val, by omega⟩).2.2).trans (sorted_apply _ b r n h a)))

/-- The block's scores are the attention's to base two; -/
theorem blockScore_eq : blockScore (block m c t) r h n = Cert.Attention.score2 (argQ m c) (argK m c) b r h n := by
  funext n'
  rw [Cert.Attention.score2_eq]
  unfold blockScore
  split
  · exact Finset.sum_congr rfl fun a _ => congrArg₂ (· * ·) (block_q m c t b hb r h n a) (block_k m c t b hb r h n' a)
  · rfl
/-- the weights are its weights. -/
theorem blockWeight_eq (n' : Fin 128) : blockWeight (block m c t) r h n n' = Cert.Attention.weight (argQ m c) (argK m c) b r h n n' := by
  rw [← Cert.Attention.weight2_eq]
  unfold blockWeight
  rw [blockScore_eq m c t b hb r h n]

/-- The first result's block is the attention; -/
theorem oBlock_eq (a : Fin 64) : oBlock (block m c t) (ix4 0 r n ⟨64 * h.val + a.val, by omega⟩)
    = Cert.Attention.out (argQ m c) (argK m c) (argV m c) b r h n a := by
  rw [oBlock_apply]
  refine congrArg₂ Ideal.div (Finset.sum_congr rfl fun n' _ => ?_) (Finset.sum_congr rfl fun n' _ => blockWeight_eq m c t b hb r h n n')
  rw [blockWeight_eq m c t b hb r h n n', block_v m c t b hb r h n' a, mul_comm]
/-- the second's its log-sum-exp. -/
theorem lBlock_eq (l : Fin 128) : lBlock (block m c t) (ix4 0 r n l)
    = if hl : l.val < 8 then Cert.Attention.lse (argQ m c) (argK m c) b r ⟨l.val, hl⟩ n else 0 := by
  rw [lBlock_apply]
  split
  · rw [blockScore_eq m c t b hb, Finset.sum_congr rfl fun n' _ => blockWeight_eq m c t b hb r _ n n']
    exact Cert.Attention.lse2_eq _ _ _ _ _ _
  · exact Cert.Attention.lse_blank

end Block

/-! ## The results -/

/-- The first result: the attention, a head's coordinates side by side; -/
def resultO : Vec Ideal S32x16x128x512 .bf16 := fun i =>
  Cert.Attention.out (argQ m c) (argK m c) (argV m c) (i 0) (i 1)
    ⟨(i 3).val / 64, by have h : (i 3).val < 512 := (i 3).isLt; omega⟩ (i 2) ⟨(i 3).val % 64, by omega⟩
/-- the second: the log-sum-exp, a head a lane, and zeros. -/
def resultL : Vec Ideal S32x16x128x128 .f32 := fun i =>
  if hl : (i 3).val < 8 then Cert.Attention.lse (argQ m c) (argK m c) (i 0) (i 1) ⟨(i 3).val, hl⟩ (i 2) else 0

theorem index_o : ∀ t : Fin grid0.N, win0_1.index t = ![t.val, 0, 0, 0] := by decide +kernel
theorem index_l : ∀ t : Fin grid0.N, win0_2.index t = ![t.val, 0, 0, 0] := by decide +kernel

/-- Point `t` writes the first result's rows of batch element `t`; -/
theorem flushed_o (t : Fin cfg0.N) : (dats m 0 c).flushed 1 t = ((cfg0.win 1).blk t).view.read (Elt Ideal) (resultO m c) := by
  show (cfg0.win 1).cut (grid0.coords t) ((dats m 0 c).after 1 t) = _
  rw [after_o]
  have hN : cfg0.N = 32 := N_0
  have hi := index_o t
  funext y
  rw [View.read_apply]
  obtain ⟨z, r, n, l, rfl⟩ : ∃ (z : Fin 1) (r : Fin 16) (n : Fin 128) (l : Fin 512), y = ix4 z r n l := ⟨y 0, y 1, y 2, y 3, eq_ix4 y⟩
  obtain rfl : z = 0 := Subsingleton.elim _ _
  have hl := l.isLt
  have e : (((cfg0.win 1).blk t).view.emb (ix4 0 r n l) : S32x16x128x512.Idx) = ix4 ⟨t.val, by have := t.isLt; omega⟩ r n l := by
    funext a
    apply Fin.ext
    match a with
    | ⟨0, _⟩ => show win0_1.index t 0 * 1 + 1 * 0 = t.val; rw [hi]; simp
    | ⟨1, _⟩ => show win0_1.index t 1 * 16 + 1 * r.val = r.val; rw [hi]; simp
    | ⟨2, _⟩ => show win0_1.index t 2 * 128 + 1 * n.val = n.val; rw [hi]; simp
    | ⟨3, _⟩ => show win0_1.index t 3 * 512 + 1 * l.val = l.val; rw [hi]; simp
  refine Eq.trans ?_ (congrArg (resultO m c) e).symm
  refine Eq.trans ?_ (oBlock_eq m c t ⟨t.val, by have := t.isLt; omega⟩ rfl r ⟨l.val / 64, by omega⟩ n ⟨l.val % 64, by omega⟩)
  show oBlock (block m c t) (ix4 0 r n l) = _
  congr 2
  exact Fin.ext (Nat.div_add_mod _ _).symm

/-- the second's. -/
theorem flushed_l (t : Fin cfg0.N) : (dats m 0 c).flushed 2 t = ((cfg0.win 2).blk t).view.read (Elt Ideal) (resultL m c) := by
  show (cfg0.win 2).cut (grid0.coords t) ((dats m 0 c).after 2 t) = _
  rw [after_l]
  have hN : cfg0.N = 32 := N_0
  have hi := index_l t
  funext y
  rw [View.read_apply]
  obtain ⟨z, r, n, l, rfl⟩ : ∃ (z : Fin 1) (r : Fin 16) (n : Fin 128) (l : Fin 128), y = ix4 z r n l := ⟨y 0, y 1, y 2, y 3, eq_ix4 y⟩
  obtain rfl : z = 0 := Subsingleton.elim _ _
  have e : (((cfg0.win 2).blk t).view.emb (ix4 0 r n l) : S32x16x128x128.Idx) = ix4 ⟨t.val, by have := t.isLt; omega⟩ r n l := by
    funext a
    apply Fin.ext
    match a with
    | ⟨0, _⟩ => show win0_2.index t 0 * 1 + 1 * 0 = t.val; rw [hi]; simp
    | ⟨1, _⟩ => show win0_2.index t 1 * 16 + 1 * r.val = r.val; rw [hi]; simp
    | ⟨2, _⟩ => show win0_2.index t 2 * 128 + 1 * n.val = n.val; rw [hi]; simp
    | ⟨3, _⟩ => show win0_2.index t 3 * 128 + 1 * l.val = l.val; rw [hi]; simp
  refine Eq.trans ?_ (congrArg (resultL m c) e).symm
  exact lBlock_eq m c t ⟨t.val, by have := t.isLt; omega⟩ rfl r n l

/-- So the first result's array ends at the attention; -/
theorem final_o : (dats m 0 c).arrAt 1 cfg0.N = resultO m c :=
  (dats m 0 c).arrAt_eq_of_cover 1 (resultO m c) (fun t _ => flushed_o m c t) fun (i : S32x16x128x512.Idx) => by
    have hN : cfg0.N = 32 := N_0
    have h0 : (i 0 : Nat) < 32 := (i 0).isLt
    have h1 : (i 1 : Nat) < 16 := (i 1).isLt
    have h2 : (i 2 : Nat) < 128 := (i 2).isLt
    have h3 : (i 3 : Nat) < 512 := (i 3).isLt
    obtain ⟨t, ht⟩ : ∃ t : Fin grid0.N, t.val = (i 0 : Nat) := ⟨⟨(i 0).val, by show _ < cfg0.N; omega⟩, rfl⟩
    have hi := index_o t
    refine ⟨t, flush0_1 t, ?_⟩
    show i ∈ ((View.whole main_v12_0).slice (win0_1.rect t)).set
    rw [View.set_slice_whole, Rect.mem_set_unit]
    intro a
    match a with
    | ⟨0, _⟩ => show win0_1.index t 0 * 1 ≤ (i 0 : Nat) ∧ (i 0 : Nat) < win0_1.index t 0 * 1 + 1; rw [hi]; simp [ht]
    | ⟨1, _⟩ => show win0_1.index t 1 * 16 ≤ (i 1 : Nat) ∧ (i 1 : Nat) < win0_1.index t 1 * 16 + 16; rw [hi]; simpa using h1
    | ⟨2, _⟩ => show win0_1.index t 2 * 128 ≤ (i 2 : Nat) ∧ (i 2 : Nat) < win0_1.index t 2 * 128 + 128; rw [hi]; simpa using h2
    | ⟨3, _⟩ => show win0_1.index t 3 * 512 ≤ (i 3 : Nat) ∧ (i 3 : Nat) < win0_1.index t 3 * 512 + 512; rw [hi]; simpa using h3

/-- the second's at the log-sum-exps. -/
theorem final_l : (dats m 0 c).arrAt 2 cfg0.N = resultL m c :=
  (dats m 0 c).arrAt_eq_of_cover 2 (resultL m c) (fun t _ => flushed_l m c t) fun (i : S32x16x128x128.Idx) => by
    have hN : cfg0.N = 32 := N_0
    have h0 : (i 0 : Nat) < 32 := (i 0).isLt
    have h1 : (i 1 : Nat) < 16 := (i 1).isLt
    have h2 : (i 2 : Nat) < 128 := (i 2).isLt
    have h3 : (i 3 : Nat) < 128 := (i 3).isLt
    obtain ⟨t, ht⟩ : ∃ t : Fin grid0.N, t.val = (i 0 : Nat) := ⟨⟨(i 0).val, by show _ < cfg0.N; omega⟩, rfl⟩
    have hi := index_l t
    refine ⟨t, flush0_2 t, ?_⟩
    show i ∈ ((View.whole main_v12_1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [hi]; simp [ht]
    | ⟨1, _⟩ => show win0_2.index t 1 * 16 ≤ (i 1 : Nat) ∧ (i 1 : Nat) < win0_2.index t 1 * 16 + 16; rw [hi]; simpa using h1
    | ⟨2, _⟩ => show win0_2.index t 2 * 128 ≤ (i 2 : Nat) ∧ (i 2 : Nat) < win0_2.index t 2 * 128 + 128; rw [hi]; simpa using h2
    | ⟨3, _⟩ => show win0_2.index t 3 * 128 ≤ (i 3 : Nat) ∧ (i 3 : Nat) < win0_2.index t 3 * 128 + 128; rw [hi]; simpa using h3

/-- Every fair run of the kernel ends with the attention in its results, its arguments as they were. -/
theorem run_value : θ_run defs (onTc (τ := τ) (main (F := Ideal))) ⟨m, fun _ => 0, ρ⟩ fun r => ∀ c : Dev nD,
      r.2.mem ((c.tc : Thread nD τ).loc main_v12_0) = resultO m c
      ∧ r.2.mem ((c.tc : Thread nD τ).loc main_v12_1) = resultL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 1).trans (final_o m c), ((h.1 c).1 2).trans (final_l m c), h.2.1 c⟩)
    (θ_run_and (run_main m ρ) (frame_main m ρ))

end Cert.KernelIdeal.Hand

end
-- ==== Proof.ReferenceStages.lean ====
/-
  The reference's results, composed of named steps.
-/
module

public import proofs.«01_k».proof.Proof.Gen.ReferenceIdeal.Run

@[expose] public section

noncomputable section

namespace Cert.ReferenceIdeal.Hand

open Cert.ReferenceIdeal Cert.ReferenceIdeal.Gen Idealize.ShloMosaic Idealize.ShloMosaic.TcCoe

variable {F : FTy → Type} [FloatOps F]

/-- The positions sorted by residue class. -/
def strided (x : FVec F S32x2048x8x64 .f32) : FVec F S32x16x128x8x64 .f32 :=
  transpose S32x16x128x8x64 [0, 2, 1, 3, 4] (shapeCast S32x128x16x8x64 x shapeCasts_S32x2048x8x64_S32x128x16x8x64)
    transposes_S32x128x16x8x64_S32x16x128x8x64_0_2_1_3_4

/-- Query and key at most 64 apart in their class. -/
def band : IVec S128x128 1 :=
  cmpi .sle (absi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
    (broadcastInDim S128x128 ![] bcast_S_S128x128 (constantI S_ 32 64#32))

/-- The masked, scaled scores. -/
def scores (q k : FVec F S32x16x128x8x64 .f32) : FVec F S32x16x8x128x128 .f32 :=
  select (broadcastInDim S32x16x8x128x128 ![0, 1, 2, 3, 4] bcast_S1x1x1x128x128_S32x16x8x128x128_0_1_2_3_4
      (broadcastInDim S1x1x1x128x128 ![3, 4] bcast_S128x128_S1x1x1x128x128_3_4 band))
    (mulf (Host.dotGeneral dot_S32x16x128x8x64_S32x16x128x8x64_S32x16x8x128x128_4_4_2_2_013_013 none q k)
      (broadcastInDim S32x16x8x128x128 ![] bcast_S_S32x16x8x128x128 (constant S_ .f32 0x3E000000#32)))
    (broadcastInDim S32x16x8x128x128 ![] bcast_S_S32x16x8x128x128 (id (constant S_ .f32 0xFF800000#32)))

/-- Each query's greatest score. -/
def top (s : FVec F S32x16x8x128x128 .f32) : FVec F S32x16x8x128x1 .f32 :=
  broadcastInDim S32x16x8x128x1 ![0, 1, 2, 3] bcast_S32x16x8x128_S32x16x8x128x1_0_1_2_3
    (Host.reduce FloatOps.maximumf s (constant S_ .f32 0xFF800000#32) reducesTo_S32x16x8x128x128_S32x16x8x128_d4 h_S_)

/-- The exponentials of the scores less the greatest. -/
def weights (s : FVec F S32x16x8x128x128 .f32) : FVec F S32x16x8x128x128 .f32 :=
  Host.exp (subf s (broadcastInDim S32x16x8x128x128 ![0, 1, 2, 3, 4] bcast_S32x16x8x128x1_S32x16x8x128x128_0_1_2_3_4 (top s)))

/-- Each query's sum of the exponentials. -/
def total (p : FVec F S32x16x8x128x128 .f32) : FVec F S32x16x8x128x1 .f32 :=
  broadcastInDim S32x16x8x128x1 ![0, 1, 2, 3] bcast_S32x16x8x128_S32x16x8x128x1_0_1_2_3
    (Host.reduceAdd p (constant S_ .f32 0x00000000#32) reducesTo_S32x16x8x128x128_S32x16x8x128_d4 h_S_)

/-- The heads moved behind the positions. -/
def headsLast (x : FVec F S32x16x8x128x1 .f32) : FVec F S32x16x128x8 .f32 :=
  transpose S32x16x128x8 [0, 1, 3, 2] (shapeCast S32x16x8x128 x shapeCasts_S32x16x8x128x1_S32x16x8x128) transposes_S32x16x8x128_S32x16x128x8_0_1_3_2

/-- The values weighted and summed, the heads moved behind the positions. -/
def mixed (v : FVec F S32x16x128x8x64 .f32) (p : FVec F S32x16x8x128x128 .f32) : FVec F S32x16x128x8x64 .f32 :=
  transpose S32x16x128x8x64 [0, 1, 4, 2, 3]
    (Host.dotGeneral dot_S32x16x128x8x64_S32x16x8x128x128_S32x16x8x64x128_2_4_4_3_013_012 none v p) transposes_S32x16x8x64x128_S32x16x128x8x64_0_1_4_2_3

/-- The first result from the weighted values and the sums. -/
def divided (o : FVec F S32x16x128x8x64 .f32) (d : FVec F S32x16x128x8 .f32) : FVec F S32x16x128x512 .bf16 :=
  truncf .bf16 (shapeCast S32x16x128x512 (Host.divf o
    (broadcastInDim S32x16x128x8x64 ![0, 1, 2, 3, 4] bcast_S32x16x128x8x1_S32x16x128x8x64_0_1_2_3_4
      (broadcastInDim S32x16x128x8x1 ![0, 1, 2, 3] bcast_S32x16x128x8_S32x16x128x8x1_0_1_2_3 d)))
    shapeCasts_S32x16x128x8x64_S32x16x128x512) bitsLt_bf16_f32

/-- The second result from the greatest scores and the sums: a log-sum-exp in the first eight lanes. -/
def padded (t d : FVec F S32x16x8x128x1 .f32) : FVec F S32x16x128x128 .f32 :=
  pad S32x16x128x128 ![0, 0, 0, 0] ![0, 0, 0, 120] ![0, 0, 0, 0] (headsLast (addf t (Host.log d)))
    (sitofp .f32 (constantI S_ 32 0#32)) pads_S32x16x128x8_S32x16x128x128_000_000_000_01200 h_S_

variable (m : (ℓ : Loc nD τ sig) → Buf (Elt F) ℓ) (c : Dev nD)

/-- The arguments, sorted by residue class. -/
abbrev qs : FVec F S32x16x128x8x64 .f32 := strided (m ((c.tc : Thread nD τ).loc main_arg0))
abbrev ks : FVec F S32x16x128x8x64 .f32 := strided (m ((c.tc : Thread nD τ).loc main_arg1))
abbrev vs : FVec F S32x16x128x8x64 .f32 := strided (m ((c.tc : Thread nD τ).loc main_arg2))

/-- The first result, in these steps; -/
theorem out0_eq : Value.res_out0 m c
    = divided (mixed (vs m c) (weights (scores (qs m c) (ks m c)))) (headsLast (total (weights (scores (qs m c) (ks m c))))) := by
  unfold Value.res_out0 Value.res_main_v39
  rfl

/-- the second. -/
theorem out1_eq : Value.res_out1 m c
    = padded (top (scores (qs m c) (ks m c))) (total (weights (scores (qs m c) (ks m c)))) := by
  unfold Value.res_out1 Value.res_main_v40
  rfl

end Cert.ReferenceIdeal.Hand

end
-- ==== Proof.ReferenceValue.lean ====
/-
  The reference computes the attention.
-/
module

public import proofs.«01_k».proof.Proof.ReferenceStages
public import proofs.«01_k».proof.Proof.Attention
public import Idealize.ShloMosaic.PureOps.Ideal
public import Idealize.ShloMosaic.Lib.Pointwise

@[expose] public section

noncomputable section

namespace Cert.ReferenceIdeal.Hand

open Cert.ReferenceIdeal Cert.ReferenceIdeal.Gen Idealize.ShloMosaic Idealize.ShloMosaic.TcCoe
open Cert.Attention (Near)

theorem negInf_eq : Ideal.ofBits .f32 0xFF800000#32 = ⊥ := by
  simp [Ideal.ofBits, Ideal.ieee]
theorem eighth_eq : Ideal.ofBits .f32 0x3E000000#32 = ((1 / 8 : ℝ) : EReal) := by
  simp [Ideal.ofBits, Ideal.ieee]
  rw [← EReal.coe_mul]
  norm_num
theorem sitofp_zero : (FloatOps.sitofp .f32 (0#32) : Ideal .f32) = (0 : EReal) := by
  show ((((0#32 : BitVec 32).toInt : ℤ) : ℝ) : EReal) = 0
  rw [show (0#32 : BitVec 32).toInt = 0 from rfl, Int.cast_zero, EReal.coe_zero]

/-- The mask, at a query and a key. -/
theorem mask_eq (n n' : Fin 128) :
    IntOp.cmpi .sle (IntOp.absi (IntOp.subi (BitVec.ofNat 32 n.val) (BitVec.ofNat 32 n'.val))) 64#32 = if Near n n' then 1#1 else 0#1 := by
  revert n n'
  decide +kernel

theorem strided_apply (x : FVec Ideal S32x2048x8x64 .f32) (b : Fin 32) (r : Fin 16) (n : Fin 128) (h : Fin 8) (l : Fin 64) :
    strided x (ix5 b r n h l) = x (ix4 b (Cert.Attention.pos n r) h l) := by
  pointwise [strided]
  rfl

/-- The steps at an index: the masked scores, -/
theorem scores_read (q k : FVec Ideal S32x16x128x8x64 .f32) (b : Fin 32) (r : Fin 16) (h : Fin 8) (n n' : Fin 128) :
    scores q k (ix5 b r h n n')
      = if Near n n' then (∑ c : Fin 64, q (ix5 b r n h c) * k (ix5 b r n' h c)) * ((1 / 8 : ℝ) : EReal) else ⊥ := by
  pointwise [scores, band]
  rw [mask_eq, eighth_eq]
  split
  · rfl
  · exact negInf_eq
/-- the greatest, -/
theorem top_read (s : FVec Ideal S32x16x8x128x128 .f32) (b : Fin 32) (r : Fin 16) (h : Fin 8) (n : Fin 128) (z : Fin 1) :
    top s (ix5 b r h n z) = Finset.univ.fold max ⊥ fun n' : Fin 128 => s (ix5 b r h n n') := by
  pointwise [top]
  rw [negInf_eq]
/-- the exponentials, -/
theorem weights_read (s : FVec Ideal S32x16x8x128x128 .f32) (b : Fin 32) (r : Fin 16) (h : Fin 8) (n n' : Fin 128) :
    weights s (ix5 b r h n n') = Ideal.exp (s (ix5 b r h n n') - top s (ix5 b r h n 0)) := by
  pointwise [weights]
/-- their sum, -/
theorem total_read (p : FVec Ideal S32x16x8x128x128 .f32) (b : Fin 32) (r : Fin 16) (h : Fin 8) (n : Fin 128) (z : Fin 1) :
    total p (ix5 b r h n z) = ∑ n' : Fin 128, p (ix5 b r h n n') := by
  pointwise [total]
/-- a number a query, moved, -/
theorem headsLast_read (t : FVec Ideal S32x16x8x128x1 .f32) (b : Fin 32) (r : Fin 16) (h : Fin 8) (n : Fin 128) :
    headsLast t (ix4 b r n h) = t (ix5 b r h n 0) := by
  pointwise [headsLast]
/-- the weighted values, -/
theorem mixed_read (v : FVec Ideal S32x16x128x8x64 .f32) (p : FVec Ideal S32x16x8x128x128 .f32) (b : Fin 32) (r : Fin 16) (h : Fin 8) (n : Fin 128)
    (c : Fin 64) : mixed v p (ix5 b r n h c) = ∑ n' : Fin 128, v (ix5 b r n' h c) * p (ix5 b r h n n') := by
  pointwise [mixed]
/-- the quotient, -/
theorem divided_read (o : FVec Ideal S32x16x128x8x64 .f32) (d : FVec Ideal S32x16x128x8 .f32) (b : Fin 32) (r : Fin 16) (n : Fin 128) (l : Fin 512) :
    divided o d (ix4 b r n l) = Ideal.div (o (ix5 b r n ⟨l.val / 64, by omega⟩ ⟨l.val % 64, by omega⟩)) (d (ix4 b r n ⟨l.val / 64, by omega⟩)) := by
  pointwise [divided]
/-- the padding. -/
theorem padded_read (t d : FVec Ideal S32x16x8x128x1 .f32) (b : Fin 32) (r : Fin 16) (n l : Fin 128) :
    padded t d (ix4 b r n l) = if h : l.val < 8 then t (ix5 b r ⟨l.val, h⟩ n 0) + Ideal.log (d (ix5 b r ⟨l.val, h⟩ n 0)) else 0 := by
  pointwise [padded, headsLast]
  rw [sitofp_zero]

variable (Q K V : FVec Ideal S32x2048x8x64 .f32) (b : Fin 32) (r : Fin 16) (h : Fin 8) (n : Fin 128)

/-- The masked scores are the attention's; -/
theorem scores_apply (n' : Fin 128) :
    scores (strided Q) (strided K) (ix5 b r h n n') = Cert.Attention.score Q K b r h n n' := by
  rw [scores_read]
  simp only [strided_apply]
  rfl

/-- their greatest; -/
theorem top_apply (z : Fin 1) : top (scores (strided Q) (strided K)) (ix5 b r h n z) = Cert.Attention.top Q K b r h n := by
  rw [top_read]
  simp only [scores_apply]
  rfl

/-- the weights; -/
theorem weights_apply (n' : Fin 128) :
    weights (scores (strided Q) (strided K)) (ix5 b r h n n') = Cert.Attention.weight Q K b r h n n' := by
  rw [weights_read, scores_apply, top_apply]
  rfl

/-- their sum. -/
theorem total_apply (z : Fin 1) :
    total (weights (scores (strided Q) (strided K))) (ix5 b r h n z) = Cert.Attention.total Q K b r h n := by
  rw [total_read]
  simp only [weights_apply]
  rfl

/-- The first result is the attention, a head's coordinates side by side; -/
theorem out0_apply (l : Fin 512) :
    divided (mixed (strided V) (weights (scores (strided Q) (strided K)))) (headsLast (total (weights (scores (strided Q) (strided K))))) (ix4 b r n l)
      = Cert.Attention.out Q K V b r ⟨l.val / 64, by omega⟩ n ⟨l.val % 64, by omega⟩ := by
  rw [divided_read, headsLast_read, total_apply, mixed_read]
  simp only [weights_apply, strided_apply]
  rfl

/-- the second the log-sum-exp, a head a lane, and zeros. -/
theorem out1_apply (l : Fin 128) :
    padded (top (scores (strided Q) (strided K))) (total (weights (scores (strided Q) (strided K)))) (ix4 b r n l)
      = if hl : l.val < 8 then Cert.Attention.lse Q K b r ⟨l.val, hl⟩ n else 0 := by
  rw [padded_read]
  simp only [total_apply, top_apply]
  unfold Cert.Attention.lse
  rfl

end Cert.ReferenceIdeal.Hand

end
-- ==== Proof.Algebra.lean ====
/-
  The value claim: from equal arguments, kernel and reference leave the same results.
-/
module

public import proofs.«01_k».proof.Defs
public import proofs.«01_k».proof.Proof.Value
public import proofs.«01_k».proof.Proof.ReferenceValue

@[expose] public section

noncomputable section

namespace Cert.Proof

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread _ Cert.ReferenceIdeal.τ).loc Cert.ReferenceIdeal.main_arg0) = m ((c.tc : Thread _ Cert.KernelIdeal.τ).loc Cert.KernelIdeal.main_arg0))
  (h1 : m' ((c.tc : Thread _ Cert.ReferenceIdeal.τ).loc Cert.ReferenceIdeal.main_arg1) = m ((c.tc : Thread _ Cert.KernelIdeal.τ).loc Cert.KernelIdeal.main_arg1))
  (h2 : m' ((c.tc : Thread _ Cert.ReferenceIdeal.τ).loc Cert.ReferenceIdeal.main_arg2) = m ((c.tc : Thread _ Cert.KernelIdeal.τ).loc Cert.KernelIdeal.main_arg2))

include h0 h1 in
/-- The reference's second result is the kernel's; -/
theorem out1_same : Cert.ReferenceIdeal.Value.res_out1 m' c = Cert.KernelIdeal.Hand.resultL m c := by
  rw [Cert.ReferenceIdeal.Hand.out1_eq]
  unfold Cert.ReferenceIdeal.Hand.qs Cert.ReferenceIdeal.Hand.ks
  rw [h0, h1]
  funext i
  obtain ⟨b, r, n, l, rfl⟩ : ∃ (b : Fin 32) (r : Fin 16) (n : Fin 128) (l : Fin 128), i = ix4 b r n l := ⟨i 0, i 1, i 2, i 3, eq_ix4 i⟩
  exact Cert.ReferenceIdeal.Hand.out1_apply _ _ b r n l

include h0 h1 h2 in
/-- so is its first. -/
theorem out0_same : Cert.ReferenceIdeal.Value.res_out0 m' c = Cert.KernelIdeal.Hand.resultO m c := by
  rw [Cert.ReferenceIdeal.Hand.out0_eq]
  unfold Cert.ReferenceIdeal.Hand.qs Cert.ReferenceIdeal.Hand.ks Cert.ReferenceIdeal.Hand.vs
  rw [h0, h1, h2]
  funext i
  obtain ⟨b, r, n, l, rfl⟩ : ∃ (b : Fin 32) (r : Fin 16) (n : Fin 128) (l : Fin 512), i = ix4 b r n l := ⟨i 0, i 1, i 2, i 3, eq_ix4 i⟩
  exact Cert.ReferenceIdeal.Hand.out0_apply _ _ _ b r n l

/-- From equal arguments both end with equal results. -/
theorem algebraic : Cert.algebraic_KernelIdeal_ReferenceIdeal (hKernelIdeal := Cert.KernelIdeal.Gen.facts)
    (hReferenceIdeal := Cert.ReferenceIdeal.Gen.facts) := fun m g m' g' _ hargs =>
  ⟨Cert.KernelIdeal.Hand.resultO m, Cert.KernelIdeal.Hand.resultL m, Cert.KernelIdeal.Hand.run_value m g,
    θ_run_mono (Cert.ReferenceIdeal.Value.run m' g') fun _ h c =>
      ⟨(h c).1.trans (out0_same m m' c (hargs c).1 (hargs c).2.1 (hargs c).2.2),
        (h c).2.1.trans (out1_same m m' c (hargs c).1 (hargs c).2.1), (h c).2.2⟩⟩

end Cert.Proof

end
-- ==== Proof.ExpertRun.lean ====
/-
  The run of the experts' kernel: its body at any point of the grid, the launch with its two tables, the frame.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- A memref's buffer on core `c`: its contents, it held whole, and it held by half. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptHalf (c : Dev nD) {sp : Space} {S : Shape} {e : EltTy} (M : Memref sig .tc sp S e) (f : Bf (F := F) c M) : sProp 𝕄 :=
  M.view.loc (c : Thread nD τ) ↦{fullShare.right} f

/-- Of a point's two conditions exactly one holds: its block is before the first unused one, or not. -/
theorem cond2_iff (i : grid0.Coords) (w : BitVec 32) : k0_cond2 i w = 1#1 ↔ ¬ k0_cond1 i w = 1#1 := by
  unfold k0_cond1 k0_cond2
  show IntOp.cmpi .ne ((IntOp.cmpi .sge (BitVec.ofNat 32 (i 0).val) w).setWidth 32) 0#32 = 1#1
    ↔ ¬ IntOp.cmpi .ne ((IntOp.cmpi .slt (BitVec.ofNat 32 (i 0).val) w).setWidth 32) 0#32 = 1#1
  rw [show IntOp.cmpi .sge (BitVec.ofNat 32 (i 0).val) w = BitVec.ofBool (!(BitVec.ofNat 32 (i 0).val).slt w) from by
      simp [IntOp.cmpi, BitVec.sle_eq_not_slt],
    show IntOp.cmpi .slt (BitVec.ofNat 32 (i 0).val) w = BitVec.ofBool ((BitVec.ofNat 32 (i 0).val).slt w) from rfl]
  cases (BitVec.ofNat 32 (i 0).val).slt w <;> decide

/-- The number of used blocks, as the second table holds it. -/
abbrev nbOf (T : S1.Idx → Elt F .i32) : BitVec 32 := T (fun a => ⟨(![0] : Fin 1 → Nat) a, by fin_cases a; decide⟩)

/-- What a point stores: the experts' layer on its rows, or zeros. -/
def outBlk (i : grid0.Coords) (nb : BitVec 32) (x : Vec F S512x1024 .bf16) (w1 : Vec F S1x1024x2048 .bf16) (b1 : Vec F S1x1x2048 .f32)
    (w2 : Vec F S1x1024x1024 .bf16) (b2 : Vec F S1x1x1024 .f32) : Vec F S512x1024 .bf16 :=
  if k0_cond1 i nb = 1#1 then k0_pay1 x w1 b1 w2 b2 else k0_pay2

/-- A whole memref owned at a reading is its buffer held at contents so read, -/
theorem owns_elim (c : Dev nD) {sp : Space} {S : Shape} {e : EltTy} (M : Memref sig .tc sp S e) (hM : M.IsWhole) (x : Vec F S e) :
    (owns (c : Thread nD τ) M fullShare x : sProp 𝕄) ⊢ iprop(∃ f : Bf (F := F) c M, ⌜M.view.read (Elt F) f = x⌝ ∗ pt c M f) := by
  unfold owns
  rw [hM.set_eq_univ]
/-- and back. -/
theorem owns_intro (c : Dev nD) {sp : Space} {S : Shape} {e : EltTy} (M : Memref sig .tc sp S e) (hM : M.IsWhole) (f : Bf (F := F) c M)
    (x : Vec F S e) (h : M.view.read (Elt F) f = x) : pt c M f ⊢ (owns (c : Thread nD τ) M fullShare x : sProp 𝕄) := by
  unfold owns
  rw [hM.set_eq_univ]
  iintro H
  iexists f
  isplitr; · ipureintro; exact h
  iexact H

/-- The body: it leaves its operands as they were and its result's buffer at `outBlk` of them. -/
theorem sound_owned (c : Dev nD) (i : grid0.Coords) (arg1 : Memref sig .tc .smem S560 .i32) (harg1 : arg1.IsWhole)
    (arg3 : Memref sig .tc .vmem S512x1024 .bf16) (harg3 : arg3.IsWhole) (arg4 : Memref sig .tc .vmem S1x1024x2048 .bf16) (harg4 : arg4.IsWhole)
    (arg5 : Memref sig .tc .vmem S1x1x2048 .f32) (harg5 : arg5.IsWhole) (arg6 : Memref sig .tc .vmem S1x1024x1024 .bf16) (harg6 : arg6.IsWhole)
    (arg7 : Memref sig .tc .vmem S1x1x1024 .f32) (harg7 : arg7.IsWhole) (arg8 : Memref sig .tc .vmem S512x1024 .bf16) (harg8 : arg8.IsWhole)
    (T : Bf (F := F) c (Memref.whole main_v13)) (x : Vec F S512x1024 .bf16) (w1 : Vec F S1x1024x2048 .bf16) (b1 : Vec F S1x1x2048 .f32)
    (w2 : Vec F S1x1024x1024 .bf16) (b2 : Vec F S1x1x1024 .f32) (K : PUnit → sProp 𝕄) :
    iprop(ptHalf c (Memref.whole main_v13) T ∗ owns (c : Thread nD τ) arg3 fullShare x ∗ owns (c : Thread nD τ) arg4 fullShare w1
        ∗ owns (c : Thread nD τ) arg5 fullShare b1 ∗ owns (c : Thread nD τ) arg6 fullShare w2 ∗ owns (c : Thread nD τ) arg7 fullShare b2
        ∗ (∃ d, owns (c : Thread nD τ) arg8 fullShare d)
        ∗ (iprop(ptHalf c (Memref.whole main_v13) T ∗ owns (c : Thread nD τ) arg3 fullShare x ∗ owns (c : Thread nD τ) arg4 fullShare w1
            ∗ owns (c : Thread nD τ) arg5 fullShare b1 ∗ owns (c : Thread nD τ) arg6 fullShare w2 ∗ owns (c : Thread nD τ) arg7 fullShare b2
            ∗ owns (c : Thread nD τ) arg8 fullShare (outBlk i (nbOf (F := F) T) x w1 b1 w2 b2)) -∗ K ⟨⟩))
      ⊢ wp Idealize.ShloMosaic.frame (wpE (defs₀ (F := F)) Variants.none (c : Thread nD τ) none) Set.univ
          (cc0_expert i arg1 harg1 (Memref.whole main_v13) (Memref.isWhole_whole _) arg3 harg3 arg4 harg4 arg5 harg5 arg6 harg6 arg7 harg7 arg8 harg8) K := by
  rw [cc0_expert_eq_skeleton]; unfold cc0_expert_skel
  iintro ⟨HT, H3, H4, H5, H6, H7, ⟨%d8, H8⟩, Hk⟩
  ihave ⟨%f3, %h3, H3⟩ := owns_elim c arg3 harg3 x $$ H3
  ihave ⟨%f4, %h4, H4⟩ := owns_elim c arg4 harg4 w1 $$ H4
  ihave ⟨%f5, %h5, H5⟩ := owns_elim c arg5 harg5 b1 $$ H5
  ihave ⟨%f6, %h6, H6⟩ := owns_elim c arg6 harg6 w2 $$ H6
  ihave ⟨%f7, %h7, H7⟩ := owns_elim c arg7 harg7 b2 $$ H7
  ihave ⟨%f8, -, H8⟩ := owns_elim c arg8 harg8 d8 $$ H8
  sl_exec
  sl_step
  iapply Hk
  isplitl [HT]; · iexact HT
  isplitl [H3]; · iapply (owns_intro c arg3 harg3 f3 x h3); iexact H3
  isplitl [H4]; · iapply (owns_intro c arg4 harg4 f4 w1 h4); iexact H4
  isplitl [H5]; · iapply (owns_intro c arg5 harg5 f5 b1 h5); iexact H5
  isplitl [H6]; · iapply (owns_intro c arg6 harg6 f6 w2 h6); iexact H6
  isplitl [H7]; · iapply (owns_intro c arg7 harg7 f7 b2 h7); iexact H7
  iapply (owns_intro c arg8 harg8 _ _ ?_) $$ H8
  by_cases h : k0_cond1 i (nbOf (F := F) T) = 1#1
  · have h' : ¬ k0_cond2 i (nbOf (F := F) T) = 1#1 := fun e => (cond2_iff i _).mp e h
    rw [dif_neg (show ¬ k0_cond2 i (sound_owned.sl.r c T) = 1#1 from h'), dif_pos (show k0_cond1 i (sound_owned.sl.r c T) = 1#1 from h)]
    refine (View.read_writes_full arg8.view f8 _ _ []).trans ?_
    unfold outBlk
    rw [if_pos h]
    have e3 := View.readAt_full (Val := Elt F) arg3.view f3 inb_S512x1024_S512x1024_0_0
    have e4 := View.readAt_full (Val := Elt F) arg4.view f4 inb_S1x1024x2048_S1x1024x2048_0_0_0
    have e5 := View.readAt_full (Val := Elt F) arg5.view f5 inb_S1x1x2048_S1x1x2048_0_0_0
    have e6 := View.readAt_full (Val := Elt F) arg6.view f6 inb_S1x1024x1024_S1x1024x1024_0_0_0
    have e7 := View.readAt_full (Val := Elt F) arg7.view f7 inb_S1x1x1024_S1x1x1024_0_0_0
    rw [e3, e4, e5, e6, e7, h3, h4, h5, h6, h7]
  · have h' : k0_cond2 i (nbOf (F := F) T) = 1#1 := (cond2_iff i _).mpr h
    rw [dif_pos (show k0_cond2 i (sound_owned.sl.r c T) = 1#1 from h')]
    refine (View.read_writes_full arg8.view _ _ _ []).trans ?_
    unfold outBlk
    rw [if_neg h]

/-! ## The proof data -/

section Data

variable (a : (pcfg0 (F := F)).Adm) (V : (c : Dev nD) → (b : Ref sig .tc) → Buf (Elt F) ((c : Thread nD τ).loc b))

/-- The halves of the tables the body is handed. -/
theorem tables_held (c : Dev nD) : (Pipeline.ΦT pre0 a.1 c : sProp 𝕄)
    = iprop(ptHalf c (Memref.whole main_v11) (a.1 0) ∗ ptHalf c (Memref.whole main_v13) (a.1 1)) := by
  unfold Pipeline.ΦT Pipeline.prefHeld
  rw [show (Finset.univ : Finset (Fin 2)) = insert (0 : Fin 2) {(1 : Fin 2)} from by decide, bigSep_insert (by decide), bigSep_singleton]
  rfl

/-- The number of used blocks. -/
abbrev nb : BitVec 32 := nbOf (F := F) (a.1 1)

/-- Window `w`'s block at point `t`, off its array at the region's entry. -/
def iblk (c : Dev nD) (w : Fin 6) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The operands' blocks at point `t`, -/
abbrev xBlk (c : Dev nD) (t : Fin (cfg0 a).N) : Vec F S512x1024 .bf16 := iblk a V c 0 t
abbrev w1Blk (c : Dev nD) (t : Fin (cfg0 a).N) : Vec F S1x1024x2048 .bf16 := iblk a V c 1 t
abbrev b1Blk (c : Dev nD) (t : Fin (cfg0 a).N) : Vec F S1x1x2048 .f32 := iblk a V c 2 t
abbrev w2Blk (c : Dev nD) (t : Fin (cfg0 a).N) : Vec F S1x1024x1024 .bf16 := iblk a V c 3 t
abbrev b2Blk (c : Dev nD) (t : Fin (cfg0 a).N) : Vec F S1x1x1024 .f32 := iblk a V c 4 t
/-- and what the point stores. -/
def out (c : Dev nD) (t : Fin (cfg0 a).N) : Vec F S512x1024 .bf16 :=
  outBlk (grid0.coords t) (nb a) (xBlk a V c t) (w1Blk a V c t) (b1Blk a V c t) (w2Blk a V c t) (b2Blk a V c t)

/-- The proof data on core `c`: after the body at point `t` each operand's buffer holds its block and the result's `out`. -/
def dats (_ : Fin 1) (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => out a V c t
  Φ _ := iprop(Pipeline.ΦA spec0 c ∗ Pipeline.ΦT pre0 a.1 c)
  q _ := fullShare
  owed _ := 0

theorem A_eq (c : Dev nD) (w : Fin 6) : (dats a V 0 c).A w = V c (Pipeline.arrRef spec0 w) := by
  dsimp only [dats]
theorem after_0 (c : Dev nD) (t : Fin (cfg0 a).N) : (dats a V 0 c).after 0 t = iblk a V c 0 t := rfl
theorem after_1 (c : Dev nD) (t : Fin (cfg0 a).N) : (dats a V 0 c).after 1 t = iblk a V c 1 t := rfl
theorem after_2 (c : Dev nD) (t : Fin (cfg0 a).N) : (dats a V 0 c).after 2 t = iblk a V c 2 t := rfl
theorem after_3 (c : Dev nD) (t : Fin (cfg0 a).N) : (dats a V 0 c).after 3 t = iblk a V c 3 t := rfl
theorem after_4 (c : Dev nD) (t : Fin (cfg0 a).N) : (dats a V 0 c).after 4 t = iblk a V c 4 t := rfl
theorem after_5 (c : Dev nD) (t : Fin (cfg0 a).N) : (dats a V 0 c).after 5 t = out a V c t := rfl

/-- Each operand's buffer holds its block at every point. -/
theorem before_0 (c : Dev nD) (t : Fin (cfg0 a).N) (d) : (dats a V 0 c).before 0 t d = iblk a V c 0 t :=
  ((dats a V 0 c).before_in_eq_fetched 0 rfl (fun _ => rfl) (fun _ _ _ => rfl) (fun t => by rw [after_0]; rfl) t d).trans rfl
theorem before_1 (c : Dev nD) (t : Fin (cfg0 a).N) (d) : (dats a V 0 c).before 1 t d = iblk a V c 1 t :=
  ((dats a V 0 c).before_in_eq_fetched 1 rfl (fun _ => rfl) (fun _ _ _ => rfl) (fun t => by rw [after_1]; rfl) t d).trans rfl
theorem before_2 (c : Dev nD) (t : Fin (cfg0 a).N) (d) : (dats a V 0 c).before 2 t d = iblk a V c 2 t :=
  ((dats a V 0 c).before_in_eq_fetched 2 rfl (fun _ => rfl) (fun _ _ _ => rfl) (fun t => by rw [after_2]; rfl) t d).trans rfl
theorem before_3 (c : Dev nD) (t : Fin (cfg0 a).N) (d) : (dats a V 0 c).before 3 t d = iblk a V c 3 t :=
  ((dats a V 0 c).before_in_eq_fetched 3 rfl (fun _ => rfl) (fun _ _ _ => rfl) (fun t => by rw [after_3]; rfl) t d).trans rfl
theorem before_4 (c : Dev nD) (t : Fin (cfg0 a).N) (d) : (dats a V 0 c).before 4 t d = iblk a V c 4 t :=
  ((dats a V 0 c).before_in_eq_fetched 4 rfl (fun _ => rfl) (fun _ _ _ => rfl) (fun t => by rw [after_4]; rfl) t d).trans rfl

/-! ## The body at a point -/

/-- A window's buffer at point `t`. -/
abbrev st (w : Fin 6) (t : Fin (cfg0 a).N) := ((cfg0 a).win w).stage ((cfg0 a).slots t w)

/-- The body as the pipeline calls it at point `t`. -/
abbrev bodyAt (t : Fin (cfg0 a).N) : Prog (TpuEff nD τ sig (Elt F) Λ₀ .tc) PUnit :=
  cc0_expert (grid0.coords t) (Memref.whole main_v11) (Memref.isWhole_whole _) (Memref.whole main_v13) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))

/-- Every point stores its result. -/
theorem idle_out (i : grid0.Coords) : (cfg0 a).idle 5 i = false := by
  show (!(k0_cond1 i (nb a) == 1#1) && !(k0_cond2 i (nb a) == 1#1)) = false
  by_cases h : k0_cond1 i (nb a) = 1#1
  · simp [h]
  · simp [(cond2_iff i _).mpr h]

/-- What the obligation asks of the result's buffer: that it holds what the point stores. -/
def leaves (c : Dev nD) (t : Fin (cfg0 a).N) : sProp 𝕄 :=
  match (cfg0 a).idle 5 ((cfg0 a).grid.coords t) with
  | true =>
    match ((cfg0 a).win 5).flush t with
    | false => iprop(∃ d, owns (c : Thread nD τ) (st a 5 t) fullShare ((dats a V 0 c).before 5 t d))
    | true => owns (c : Thread nD τ) (st a 5 t) fullShare ((dats a V 0 c).after 5 t)
  | false => owns (c : Thread nD τ) (st a 5 t) fullShare ((dats a V 0 c).after 5 t)
theorem leaves_eq (c : Dev nD) (t : Fin (cfg0 a).N) : leaves a V c t = owns (c : Thread nD τ) (st a 5 t) fullShare (out a V c t) := by
  unfold leaves
  rw [idle_out]
  rfl

/-- What the body is called with at point `t`, -/
def bodyPre (c : Dev nD) (t : Fin (cfg0 a).N) : sProp 𝕄 :=
  iprop((dats a V 0 c).Φ t.castSucc ∗ (dats a V 0 c).owesAt () t.castSucc
    ∗ (∃ d, owns (c : Thread nD τ) (st a 0 t) fullShare ((dats a V 0 c).before 0 t d))
    ∗ (∃ d, owns (c : Thread nD τ) (st a 1 t) fullShare ((dats a V 0 c).before 1 t d))
    ∗ (∃ d, owns (c : Thread nD τ) (st a 2 t) fullShare ((dats a V 0 c).before 2 t d))
    ∗ (∃ d, owns (c : Thread nD τ) (st a 3 t) fullShare ((dats a V 0 c).before 3 t d))
    ∗ (∃ d, owns (c : Thread nD τ) (st a 4 t) fullShare ((dats a V 0 c).before 4 t d))
    ∗ (∃ d, owns (c : Thread nD τ) (st a 5 t) fullShare ((dats a V 0 c).before 5 t d)))
/-- and what it returns. -/
def bodyPost (c : Dev nD) (t : Fin (cfg0 a).N) : sProp 𝕄 :=
  iprop((dats a V 0 c).Φ t.succ ∗ (dats a V 0 c).owesAt () t.succ
    ∗ owns (c : Thread nD τ) (st a 0 t) fullShare ((dats a V 0 c).after 0 t)
    ∗ owns (c : Thread nD τ) (st a 1 t) fullShare ((dats a V 0 c).after 1 t)
    ∗ owns (c : Thread nD τ) (st a 2 t) fullShare ((dats a V 0 c).after 2 t)
    ∗ owns (c : Thread nD τ) (st a 3 t) fullShare ((dats a V 0 c).after 3 t)
    ∗ owns (c : Thread nD τ) (st a 4 t) fullShare ((dats a V 0 c).after 4 t)
    ∗ leaves a V c t)

/-- The body at any point. -/
theorem sound_body (c : Dev nD) (t : Fin (cfg0 a).N) :
    bodyPre a V c t ⊢ wp Idealize.ShloMosaic.frame (wpE (defs₀ (F := F)) Variants.none c none) Set.univ (bodyAt a t) (fun _ => bodyPost a V c t) := by
  unfold bodyPre bodyPost bodyAt
  simp only [before_0, before_1, before_2, before_3, before_4]
  rw [show (dats a V 0 c).Φ t.succ = (dats a V 0 c).Φ t.castSucc from rfl,
    show (dats a V 0 c).owesAt () t.succ = (dats a V 0 c).owesAt () t.castSucc from rfl,
    after_0, after_1, after_2, after_3, after_4, leaves_eq,
    show (dats a V 0 c).Φ t.castSucc = iprop(Pipeline.ΦA spec0 c ∗ Pipeline.ΦT pre0 a.1 c) from rfl, tables_held]
  iintro ⟨⟨HA, HT0, HT1⟩, Ho, ⟨%d0, H0⟩, ⟨%d1, H1⟩, ⟨%d2, H2⟩, ⟨%d3, H3⟩, ⟨%d4, H4⟩, ⟨%d5, H5⟩⟩
  iapply (sound_owned c _ _ _ _ _ _ _ _ _ _ _ _ _ _ _ (a.1 1) (xBlk a V c t) (w1Blk a V c t) (b1Blk a V c t) (w2Blk a V c t) (b2Blk a V c t) _)
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  iintro ⟨HT1, H0, H1, H2, H3, H4, H5⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  unfold out
  iexact H5

/-- The body table's row at point `t`'s slots is the body. -/
theorem defs₀_row (t : Fin (cfg0 a).N) :
    defs₀ (F := F) .tc (cfg0 a).body ((cfg0 a).bodyArgs t ((cfg0 a).slots t)) = bodyAt a t := by
  unfold defs₀; rw [Defs.onTc_tc]

theorem body_obligation (c : Dev nD) : BodyObligation (dats a V 0 c) (defs₀ (F := F)) Variants.none () Set.univ := fun t => by
  rw [bigSep_W0, bigSep_W0, defs₀_row]
  exact triple_restated (sound_body a V c t) rfl .rfl fun _ => .rfl

end Data

/-! ## The entry of the region -/

variable (m : (ℓ : Loc nD τ sig) → Buf (Elt F) ℓ) (ρ : Dev nD → PrngReg)

/-- The host operations before the region, stretch by stretch. -/
abbrev hostOps : List (List (HloOp τ sig (Elt F))) := [hostOps0, hostOps0_1, hostOps0_2]

/-- Core `c`'s buffers when the region is entered. -/
def V (c : Dev nD) (b : Ref sig .tc) : Buf (Elt F) ((c : Thread nD τ).loc b) := StableHlo.after hostOps.flatten (fun b => m (c, b)) b

theorem hostOps_sub : (hostOps : List (List (HloOp τ sig (Elt F)))).Forall fun ops => ops.Forall fun op => op.bufs ⊆ StableHlo.tcRefs τ sig :=
  ⟨hostOps0_sub, hostOps0_1_sub, hostOps0_2_sub⟩
theorem hostOps_fresh : (hostOps : List (List (HloOp τ sig (Elt F)))).Forall fun ops => ops.Forall fun op => op.fresh = ∅ := by
  simp only [List.Forall]; repeat' constructor

set_option maxHeartbeats 800000 in
/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps hostOps_sub hostOps_fresh main_chain

/-- The two tables when the region is entered: each block's expert, and the number of used blocks. -/
def tables : pre0.Contents (Elt F) := fun j => V m (0 : Dev nD) (pre0.ref j)

theorem V_pre (c : Dev nD) (j : Fin 2) : V m c (pre0.ref j) = tables m j := by
  obtain rfl : c = 0 := Subsingleton.elim _ _
  rfl

/-- The region's condition on them, -/
abbrev Ok : Prop := ok0 (F := F) (tables m)
/-- and they as admissible ones. -/
abbrev adm (hO : Ok m) : (pcfg0 (F := F)).Adm := ⟨tables m, hO⟩

/-! ## The launch -/

variable (hO : Ok m)

set_option backward.isDefEq.respectTransparency.types false in
/-- The launch: every array ends at what the proof data say, every semaphore at zero. -/
theorem run_main_quiescent : θ_run defs (onTc (τ := τ) (main (F := F))) (s₀ m ρ)
    (fun r => (Pipeline.FramePost (Pipeline.pin pcfgs fun _ => adm m hO) (dats (adm m hO) (V m)) 0 (V m)) r ∧ r.2.sem = fun _ => 0) :=
  Pipeline.θ_run_frameP (Q' := _) pcfgs (fun _ => adm m hO) (dats (adm m hO) (V m)) (0 : Fin 1) launch0 defs₀ Variants.none m ρ main
    (hbody := fun c => (body_obligation (adm m hO) (V m) c).loose) (hshare := fun c => (dats (adm m hO) (V m) 0 c).share_full fun _ => rfl)
    (howed := fun _ _ => rfl) (V := V m) (hmain := hmain m Variants.none) (hA := A_eq (adm m hO) (V m)) (hpf := V_pre m) (hΦ := fun _ _ => rfl)

theorem run_main : θ_run defs (onTc (τ := τ) (main (F := F))) (s₀ m ρ) (Pipeline.FramePost (Pipeline.pin pcfgs fun _ => adm m hO) (dats (adm m hO) (V m)) 0 (V m)) :=
  (θ_run defs _ _).mono (fun _ h => h.1) (run_main_quiescent m ρ hO)

/-- No host operation writes an argument. -/
theorem V_arg (c : Dev nD) (b : Ref sig .tc) (h : b = main_arg0 ∨ b = main_arg1 ∨ b = main_arg2 ∨ b = main_arg3 ∨ b = main_arg4 ∨ b = main_arg5) :
    V m c b = m ((c : Thread nD τ).loc b) :=
  StableHlo.after_of_forall_not_mem (b := Proc.devRef .tc b) _ _ (List.forall_iff_forall_mem.mp (by
    simp only [hostOps, hostOps0, hostOps0_1, hostOps0_2, List.flatten_cons, List.flatten_nil, List.append_nil, List.cons_append,
      List.nil_append, List.Forall, StableHlo.TRef.nullary, StableHlo.TRef.unary, StableHlo.TRef.binary, StableHlo.TRef.ternary,
      StableHlo.nullary_writes, StableHlo.unary_writes, StableHlo.binary_writes, StableHlo.ternary_writes, StableHlo.reshape_writes, Finset.mem_singleton]
    rcases h with rfl | rfl | rfl | rfl | rfl | rfl
    all_goals
      repeat' apply And.intro
      all_goals exact StableHlo.devRef_ne_of_ne (by decide)))

/-- An argument's array ends as it was. -/
theorem arg_end {r : PUnit × MemSt nD τ sig (Elt F)} (h : Pipeline.FramePost (Pipeline.pin pcfgs fun _ => adm m hO) (dats (adm m hO) (V m)) 0 (V m) r)
    (c : Dev nD) (b : Ref sig .tc) (hb : b = main_arg0 ∨ b = main_arg1 ∨ b = main_arg2 ∨ b = main_arg3 ∨ b = main_arg4 ∨ b = main_arg5) :
    r.2.mem ((c.tc : Thread nD τ).loc b) = m ((c.tc : Thread nD τ).loc b) := by
  refine ((h c).2 b (Pipeline.mem_restRefs_of b ?_ (show ∀ w, (spec0 w).arr.view.ref ≠ b from ?_))).trans (V_arg m c b hb) <;> rcases hb with rfl | rfl | rfl | rfl | rfl | rfl <;> decide

include hO in
/-- The frame: the arguments end unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨arg_end m hO h.1 c _ (by tauto), arg_end m hO h.1 c _ (by tauto), arg_end m hO h.1 c _ (by tauto),
    arg_end m hO h.1 c _ (by tauto), arg_end m hO h.1 c _ (by tauto), arg_end m hO h.1 c _ (by tauto)⟩, h.2⟩) (run_main_quiescent m ρ hO)

end Cert.Kernel2Ideal.Hand

end
-- ==== Proof.Experts.lean ====
/-
  What the experts compute, in plain words: the rows come sorted by expert, each expert's filled up to whole blocks of 512 rows, and
  `pend` says at which row each expert's blocks end. A block's expert is the first whose end lies past the block's first row, a block
  past every end belongs to none, and a row of an expert's block goes through that expert's two products.
-/
module

public import Idealize.ShloMosaic.PureOps.Ideal
public import Idealize.ShloMosaic.Lib.Pointwise
public import Idealize.ShloMosaic.Lib.Routing.OpsSearch
public import Idealize.ShloMosaic.Lib.WordArith

@[expose] public section

noncomputable section

namespace Cert.Experts

open Idealize.ShloMosaic

/-! ## The blocks' experts -/

/-- The rows at which the experts' blocks end, as words. -/
abbrev Ends : Type := IVec ⟨1, ![32]⟩ 32

/-- Expert `j`'s blocks end at or before block `n`'s first row. -/
def Over (pend : Ends) (n : Fin 560) (j : Fin 32) : Prop := (pend (ix1 j)).toInt ≤ 512 * (n.val : ℤ)

instance (pend : Ends) (n : Fin 560) : DecidablePred (Over pend n) := fun j => inferInstanceAs (Decidable ((pend (ix1 j)).toInt ≤ 512 * (n.val : ℤ)))

/-- Block `n`'s expert: as many experts are over as precede it. -/
def expert (pend : Ends) (n : Fin 560) : Fin 32 := ⟨min (Finset.univ.filter (Over pend n)).card 31, by omega⟩

/-- The blocks that belong to an expert come first; so many they are. -/
def used (pend : Ends) : ℕ := (pend (ix1 31)).toNat / 512

/-! ## A row of a block -/

/-- The constants: the limit 7, its negative, and the factor in the gate. -/
def limit : EReal := Ideal.ofBits .f32 0x40E00000#32
def lower : EReal := Ideal.ofBits .f32 0xC0E00000#32
def alpha : EReal := Ideal.ofBits .f32 0x3FD9DB23#32

/-- A row after the first product. -/
def hidden (x : Fin 1024 → EReal) (w1 : Fin 1024 → Fin 2048 → EReal) (b1 : Fin 2048 → EReal) (f : Fin 2048) : EReal :=
  (∑ d : Fin 1024, x d * w1 d f) + b1 f

/-- The gated unit: the first half of the row limited from above, the second from both sides. -/
def act (h : Fin 2048 → EReal) (f : Fin 1024) : EReal :=
  (min limit (max lower (h ⟨1024 + f.val, by omega⟩)) + 1)
    * (min (h ⟨f.val, by omega⟩) limit * Ideal.logistic (alpha * min (h ⟨f.val, by omega⟩) limit))

/-- The row after the second product. -/
def row (x : Fin 1024 → EReal) (w1 : Fin 1024 → Fin 2048 → EReal) (b1 : Fin 2048 → EReal) (w2 : Fin 1024 → Fin 1024 → EReal)
    (b2 : Fin 1024 → EReal) (e : Fin 1024) : EReal :=
  (∑ f : Fin 1024, act (hidden x w1 b1) f * w2 f e) + b2 e

/-- Row `r` of block `n`, coordinate `e`: through the block's expert, or zero where there is none. -/
def out (pend : Ends) (xs : (⟨2, ![286720, 1024]⟩ : Shape).Idx → EReal) (w1 : (⟨3, ![32, 1024, 2048]⟩ : Shape).Idx → EReal)
    (b1 : (⟨2, ![32, 2048]⟩ : Shape).Idx → EReal) (w2 : (⟨3, ![32, 1024, 1024]⟩ : Shape).Idx → EReal)
    (b2 : (⟨2, ![32, 1024]⟩ : Shape).Idx → EReal) (n : Fin 560) (r : Fin 512) (e : Fin 1024) : EReal :=
  if n.val < used pend then
    row (fun d => xs (ix2 ⟨n.val * 512 + r.val, by omega⟩ d)) (fun d f => w1 (ix3 (expert pend n) d f)) (fun f => b1 (ix2 (expert pend n) f))
      (fun f e => w2 (ix3 (expert pend n) f e)) (fun e => b2 (ix2 (expert pend n) e)) e
  else 0

/-! ## The tables of words -/

/-- The comparison of an end with a block's first row. -/
theorem over_iff (pend : Ends) (n : Fin 560) (j : Fin 32) :
    IntOp.cmpi .sle (pend (ix1 j)) (IntOp.muli (BitVec.ofNat 32 n.val) 512#32) = 1#1 ↔ Over pend n j := by
  have hn := n.isLt
  have h : (IntOp.muli (BitVec.ofNat 32 n.val) 512#32).toInt = 512 * (n.val : ℤ) := by
    have e : IntOp.muli (BitVec.ofNat 32 n.val) 512#32 = BitVec.ofNat 32 (512 * n.val) := by
      apply BitVec.eq_of_toNat_eq
      show (BitVec.ofNat 32 n.val * 512#32).toNat = _
      rw [BitVec.toNat_mul]
      simp only [BitVec.toNat_ofNat]
      omega
    rw [e, BitVec.toInt_eq_toNat_cond]
    simp only [BitVec.toNat_ofNat]
    rw [Nat.mod_eq_of_lt (by omega), if_pos (by omega)]
    push_cast
    rfl
  show BitVec.ofBool ((pend (ix1 j)).sle _) = 1#1 ↔ _
  unfold Over
  rw [BitVec.sle, h]
  by_cases hc : (pend (ix1 j)).toInt ≤ 512 * (n.val : ℤ) <;> simp [hc]

/-- Counting the experts that are over, at most 31, gives the block's expert. -/
theorem expert_word (pend : Ends) (mask : IVec ⟨2, ![560, 32]⟩ 1) (hmask : ∀ n j, mask (ix2 n j) = 1#1 ↔ Over pend n j) (hw : 1 < 32)
    (h : (⟨2, ![560, 32]⟩ : Shape).ReducesTo [1] ⟨1, ![560]⟩) (hu : 0 < (⟨0, ![]⟩ : Shape).numel) (n : Fin 560) :
    IntOp.minsi (Host.reduce IntOp.addi (extui 32 mask hw) (constantI ⟨0, ![]⟩ 32 0#32) h hu (ix1 n)) 31#32 = BitVec.ofNat 32 (expert pend n).val := by
  have hc : (Host.reduce IntOp.addi (extui 32 mask hw) (constantI ⟨0, ![]⟩ 32 0#32) h hu (ix1 n)).toNat = (Finset.univ.filter (Over pend n)).card := by
    rw [StableHlo.Predicate.toNat_reduce_count_cols (by omega) mask hw h hu (ix1 n)]
    refine congrArg Finset.card (Finset.filter_congr fun j _ => ?_)
    rw [← hmask]
    rfl
  have hle : (Finset.univ.filter (Over pend n)).card ≤ 32 := (Finset.card_le_univ _).trans (by simp)
  apply BitVec.eq_of_toNat_eq
  rw [WordArith.toNat_minsi_of_lt _ _ (by omega) (by decide), hc]
  show min _ 31 = _
  rw [BitVec.toNat_ofNat, Nat.mod_eq_of_lt (by have := (expert pend n).isLt; omega)]
  rfl

/-- At least 512 rows, as a signed word. -/
theorem some_rows (x : BitVec 32) (h : IntOp.cmpi .sge x 512#32 = 1#1) : 512 ≤ x.toNat ∧ x.toNat < 2 ^ 31 := by
  have h' : (512#32).sle x = true := by
    have : BitVec.ofBool ((512#32).sle x) = 1#1 := h
    by_contra hc
    rw [Bool.not_eq_true] at hc
    rw [hc] at this
    exact absurd this (by decide)
  rw [BitVec.sle, decide_eq_true_eq, BitVec.toInt_eq_toNat_cond, BitVec.toInt_eq_toNat_cond] at h'
  have := x.isLt
  have e : (512#32).toNat = 512 := rfl
  rw [e] at h'
  split at h' <;> split at h' <;> simp at h' <;> omega

/-- The floor division by 512, as it is printed. -/
theorem used_word {s : Shape} (x d z o q : IVec s 32) (i : s.Idx) (hd : d i = 512#32) (hz : z i = 0#32) (ho : o i = 1#32) (hq : q i = 1#32)
    (h : (x i).toNat < 2 ^ 31) :
    select (andi (cmpi .ne (signi x) q) (cmpi .ne (Host.remsi x d) z)) (subi (Host.divsi x d) o) (Host.divsi x d) i
      = BitVec.ofNat 32 ((x i).toNat / 512) := by
  have e := Routing.pyDiv0_ap (fun _ => x i) (fun _ => 512#32) (a := (x i).toNat) (b := 512) (BitVec.ofNat_toNat _ _ |>.symm ▸ (BitVec.setWidth_eq _).symm) rfl h (by decide) (by decide)
  rw [← e]
  unfold Routing.pyDiv0
  simp only [WordCmp.select_at, WordCmp.cmpi_at, WordCmp.andi_at, Routing.subi_ap, Host.remsi_apply, Host.divsi_apply, signi_apply, WordCmp.constantI_at, hd, hz, ho, hq]
  rfl

/-- The comparison of a block with the number of used ones. -/
theorem used_iff (n : Fin 560) (k : ℕ) (hk : k < 2 ^ 31) : IntOp.cmpi .slt (BitVec.ofNat 32 n.val) (BitVec.ofNat 32 k) = 1#1 ↔ n.val < k :=
  WordCmp.cmpi_slt_ofNat_eq_one_iff (by have := n.isLt; omega) hk

/-! ## Rows of a table -/

/-- Taking blocks of a table of blocks. -/
theorem gather_blocks {α : Type} {N a b n : ℕ}
    (wf : GatherDims.WF ⟨3, ![N, a, b]⟩ ⟨2, ![n, 1]⟩ ⟨3, ![n, a, b]⟩ [1, 2] [0] [] [0] [] 1 ![1, a, b]) (x : (⟨3, ![N, a, b]⟩ : Shape).Idx → α)
    (idx : IVec ⟨2, ![n, 1]⟩ 32) (p : Fin n) (r : Fin a) (c : Fin b) (e : Fin N) (he : idx (ix2 p (0 : Fin 1)) = BitVec.ofNat 32 e.val) (hN : N < 2 ^ 31) :
    Host.gather (t := ⟨3, ![n, a, b]⟩) ⟨[1, 2], [0], [], [], [0], 1, ![1, a, b], wf⟩ x idx (ix3 p r c) = x (ix3 e r c) := by
  unfold Host.gather
  refine congrArg x (funext fun ax => Fin.ext ?_)
  match ax with
  | ⟨0, _⟩ =>
    show GatherDims.start _ _ _ _ + GatherDims.batchCoord _ _ _ + GatherDims.offCoord _ _ _ = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ [(0 : Fin 3)] from List.mem_singleton.mpr rfl)]
    have hsi : GatherDims.siIdx (t := ⟨3, ![n, a, b]⟩) (⟨[1, 2], [0], [], [], [0], 1, ![1, a, b], wf⟩ : GatherDims ⟨3, ![N, a, b]⟩ ⟨2, ![n, 1]⟩ ⟨3, ![n, a, b]⟩) (ix3 p r c)
        ⟨List.idxOf (0 : Fin 3) [0], List.idxOf_lt_length_iff.2 (List.mem_singleton.mpr rfl)⟩ = ix2 p (0 : Fin 1) := by
      funext k; refine Fin.ext ?_
      match k with
      | ⟨0, _⟩ => rfl
      | ⟨1, _⟩ => rfl
    have hE := e.isLt
    refine (congrArg (fun w : BitVec 32 => min w.toInt.toNat (N - 1)) ((congrArg idx hsi).trans he)).trans ?_
    show min (BitVec.ofNat 32 e.val).toInt.toNat (N - 1) = e.val
    rw [StableHlo.Predicate.toInt_ofNat_small _ (by omega)]
    omega
  | ⟨1, _⟩ =>
    show GatherDims.start _ _ _ _ + GatherDims.batchCoord _ _ _ + GatherDims.offCoord _ _ _ = r.val
    rw [GatherDims.batchCoord_eq_zero _ _ _ List.not_mem_nil]
    unfold GatherDims.start
    rw [dif_neg (by simp)]
    rw [Nat.zero_add]
    rfl
  | ⟨2, _⟩ =>
    show GatherDims.start _ _ _ _ + GatherDims.batchCoord _ _ _ + GatherDims.offCoord _ _ _ = c.val
    rw [GatherDims.batchCoord_eq_zero _ _ _ List.not_mem_nil]
    unfold GatherDims.start
    rw [dif_neg (by simp)]
    rw [Nat.zero_add]
    rfl

end Cert.Experts

end
-- ==== Proof.ExpertTables.lean ====
/-
  What the experts' kernel is launched on: the two tables of words, the casts of the arrays, and that the tables keep every block inside
  its array.
-/
module

public import proofs.«01_k».proof.Proof.ExpertRun
public import proofs.«01_k».proof.Proof.Experts
public import Idealize.ShloMosaic.Lib.StableHlo.Run
public import Idealize.ShloMosaic.Lib.Affine

@[expose] public section

set_option maxRecDepth 16384

noncomputable section

namespace Cert.Kernel2Ideal.Hand

open Cert.Kernel2Ideal Cert.Kernel2Ideal.Gen Idealize.ShloMosaic Idealize.ShloMosaic.TcCoe

/-! ## The tables -/

/-- Which experts are over, block by block. -/
def over (pend : IVec S32 32) : IVec S560x32 1 :=
  cmpi .sle (broadcastInDim S560x32 ![0, 1] bcast_S1x32_S560x32_0_1 (broadcastInDim S1x32 ![1] bcast_S32_S1x32_1 pend))
    (broadcastInDim S560x32 ![0, 1] bcast_S560x1_S560x32_0_1 (broadcastInDim S560x1 ![0] bcast_S560_S560x1_0
      (muli (iotaInDim S560 32 0) (broadcastInDim S560 ![] bcast_S_S560 (constantI S_ 32 512#32)))))

/-- The blocks' experts. -/
def experts (pend : IVec S32 32) : IVec S560 32 :=
  minsi (Host.reduce IntOp.addi (extui 32 (over pend) natLt_1_32) (constantI S_ 32 0#32) reducesTo_S560x32_S560_d1 h_S_)
    (broadcastInDim S560 ![] bcast_S_S560 (constantI S_ 32 31#32))

/-- How many blocks are used. -/
def used (pend : IVec S32 32) : IVec S1 32 :=
  select (andi (cmpi .ne (signi (extractStridedSlice S1 ![31] pend slices_S32_S1_31)) (broadcastInDim S1 ![] bcast_S_S1 (signi (id (constantI S_ 32 512#32)))))
      (cmpi .ne (Host.remsi (extractStridedSlice S1 ![31] pend slices_S32_S1_31) (broadcastInDim S1 ![] bcast_S_S1 (id (constantI S_ 32 512#32))))
        (broadcastInDim S1 ![] bcast_S_S1 (constantI S_ 32 0#32))))
    (subi (Host.divsi (extractStridedSlice S1 ![31] pend slices_S32_S1_31) (broadcastInDim S1 ![] bcast_S_S1 (id (constantI S_ 32 512#32))))
      (broadcastInDim S1 ![] bcast_S_S1 (constantI S_ 32 1#32)))
    (Host.divsi (extractStridedSlice S1 ![31] pend slices_S32_S1_31) (broadcastInDim S1 ![] bcast_S_S1 (id (constantI S_ 32 512#32))))

theorem over_apply (pend : IVec S32 32) (n : Fin 560) (j : Fin 32) : over pend (ix2 n j) = 1#1 ↔ Cert.Experts.Over pend n j := by
  rw [← Cert.Experts.over_iff]
  pointwise [over]

theorem experts_apply (pend : IVec S32 32) (n : Fin 560) : experts pend (ix1 n) = BitVec.ofNat 32 (Cert.Experts.expert pend n).val := by
  have e : ∀ x : IVec S560 32, minsi x (broadcastInDim S560 ![] bcast_S_S560 (constantI S_ 32 31#32)) (ix1 n) = IntOp.minsi (x (ix1 n)) 31#32 := fun _ => rfl
  unfold experts
  rw [e]
  exact Cert.Experts.expert_word pend (over pend) (over_apply pend) natLt_1_32 reducesTo_S560x32_S560_d1 h_S_ n

theorem last_apply (pend : IVec S32 32) (i : S1.Idx) : extractStridedSlice S1 ![31] pend slices_S32_S1_31 i = pend (ix1 31) := by
  obtain ⟨a, rfl⟩ : ∃ a, i = ix1 a := ⟨_, eq_ix1 i⟩
  obtain rfl : a = 0 := Subsingleton.elim _ _
  pointwise

theorem used_apply (pend : IVec S32 32) (h : (pend (ix1 31)).toNat < 2 ^ 31) (i : S1.Idx) : used pend i = BitVec.ofNat 32 (Cert.Experts.used pend) := by
  refine (Cert.Experts.used_word _ _ _ _ _ i rfl rfl rfl (by show signi (constantI S_ 32 512#32) _ = 1#32; exact (by decide : (if (512#32 : BitVec 32) = 0 then (0 : BitVec 32) else if (512#32).msb then -1 else 1) = 1#32)) ?_).trans ?_
  · rw [last_apply]
    exact h
  · rw [last_apply]
    rfl

section Entry

variable {F : FTy → Type} [FloatOps F] (m : (ℓ : Loc nD τ sig) → Buf (Elt F) ℓ) (c : Dev nD)

/-- The ends. -/
abbrev argEnds : Cert.Experts.Ends := m ((c : Thread nD τ).loc main_arg0)

/-! ## The launch's arrays -/

theorem V_experts : V m c main_v11 = experts (argEnds m c) := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl
theorem V_used : V m c main_v13 = used (argEnds m c) := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl
theorem V_rows : V m c main_v14 = truncf .bf16 (m ((c : Thread nD τ).loc main_arg1) : FVec F S286720x1024 .f32) bitsLt_bf16_f32 := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
theorem V_w1 : V m c main_v15 = truncf .bf16 (m ((c : Thread nD τ).loc main_arg2) : FVec F S32x1024x2048 .f32) bitsLt_bf16_f32 := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
theorem V_b1 : V m c main_v16 = shapeCast S32x1x2048 (m ((c : Thread nD τ).loc main_arg3) : FVec F S32x2048 .f32) shapeCasts_S32x2048_S32x1x2048 := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl
theorem V_w2 : V m c main_v17 = truncf .bf16 (m ((c : Thread nD τ).loc main_arg4) : FVec F S32x1024x1024 .f32) bitsLt_bf16_f32 := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
theorem V_b2 : V m c main_v18 = shapeCast S32x1x1024 (m ((c : Thread nD τ).loc main_arg5) : FVec F S32x1024 .f32) shapeCasts_S32x1024_S32x1x1024 := by
  unfold V
  simp only [hostOps, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem tables_experts : tables m 0 = experts (argEnds m 0) := V_experts m 0
theorem tables_used : tables m 1 = used (argEnds m 0) := V_used m 0

/-! ## The blocks' places -/

/-- The word of a point's expert; -/
theorem at_expert (i : grid0.Coords) :
    Pipeline.Prefetch.Contents.at (tables m) 0 (Rect.unit (s := S560) ![(Scalar.indexCast (BitVec.ofNat 32 (i 0).val)).toNat] S1.size (k0_off1_inb i)) numel1_S1
      = BitVec.ofNat 32 (Cert.Experts.expert (argEnds m 0) (i 0)).val := by
  refine Eq.trans ?_ (experts_apply (argEnds m 0) (i 0))
  show tables m 0 _ = _
  refine (congrFun (tables_experts m) _).trans (congrArg (experts (argEnds m 0)) (funext fun a => Fin.ext ?_))
  match a with
  | ⟨0, _⟩ =>
    show (BitVec.ofNat 32 (i 0).val).toNat + 1 * (0 : ℕ) = (i 0).val
    have hi : (i 0).val < 560 := (i 0).isLt
    rw [BitVec.toNat_ofNat]
    omega

/-- the number of used blocks. -/
theorem at_used (h : (argEnds m 0 (ix1 31)).toNat < 2 ^ 31) :
    Pipeline.Prefetch.Contents.at (tables m) 1 (Rect.unit (s := S1) ![0] S1.size inb_S1_S1_0) numel1_S1
      = BitVec.ofNat 32 (Cert.Experts.used (argEnds m 0)) := by
  show tables m 1 _ = _
  exact (congrFun (tables_used m) _).trans (used_apply _ h _)

/-- Where the rows of point `i`'s block are: its own, or the last used block's. -/
def rowBlock (pend : Cert.Experts.Ends) (i : Fin 560) : ℕ := min i.val (Cert.Experts.used pend - 1)

theorem index_rows (h0 : 512 ≤ (argEnds m 0 (ix1 31)).toNat) (h : (argEnds m 0 (ix1 31)).toNat < 2 ^ 31) (i : grid0.Coords) :
    cc0_transform_0 inb_S1_S1_0 numel1_S1 (tables m) i = ![rowBlock (argEnds m 0) (i 0), 0] := by
  refine (congrArg (fun w : BitVec 32 => (![(IntOp.minsi (BitVec.ofNat 32 (i 0).val) (IntOp.subi w 1#32)).toNat, 0] : Fin 2 → ℕ)) (at_used m h)).trans ?_
  have hi : (i 0).val < 560 := (i 0).isLt
  have hu : Cert.Experts.used (argEnds m 0) = (argEnds m 0 (ix1 31)).toNat / 512 := rfl
  have e : IntOp.subi (BitVec.ofNat 32 (Cert.Experts.used (argEnds m 0))) 1#32 = BitVec.ofNat 32 (Cert.Experts.used (argEnds m 0) - 1) := by
    apply BitVec.eq_of_toNat_eq
    show (BitVec.ofNat 32 _ - 1#32).toNat = _
    rw [BitVec.toNat_sub]
    simp only [BitVec.toNat_ofNat]
    omega
  show ![(IntOp.minsi (BitVec.ofNat 32 (i 0).val) (IntOp.subi _ 1#32)).toNat, 0] = _
  rw [e, WordArith.toNat_minsi_of_lt _ _ (by simp only [BitVec.toNat_ofNat]; omega) (by simp only [BitVec.toNat_ofNat]; omega)]
  simp only [BitVec.toNat_ofNat]
  rw [Nat.mod_eq_of_lt (by omega), Nat.mod_eq_of_lt (by omega)]
  rfl

theorem expert_toNat (i : grid0.Coords) :
    (BitVec.ofNat 32 (Cert.Experts.expert (argEnds m 0) (i 0)).val).toNat = (Cert.Experts.expert (argEnds m 0) (i 0)).val := by
  rw [BitVec.toNat_ofNat, Nat.mod_eq_of_lt (by have := (Cert.Experts.expert (argEnds m 0) (i 0)).isLt; omega)]

theorem index_w1 (i : grid0.Coords) : cc0_transform_1 k0_off1_inb numel1_S1 (tables m) i = ![(Cert.Experts.expert (argEnds m 0) (i 0)).val, 0, 0] := by
  refine (congrArg (fun w : BitVec 32 => (![w.toNat, 0, 0] : Fin 3 → ℕ)) (at_expert m i)).trans ?_
  show ![(BitVec.ofNat 32 _).toNat, 0, 0] = _
  rw [expert_toNat]
theorem index_b1 (i : grid0.Coords) : cc0_transform_2 k0_off1_inb numel1_S1 (tables m) i = ![(Cert.Experts.expert (argEnds m 0) (i 0)).val, 0, 0] := by
  refine (congrArg (fun w : BitVec 32 => (![w.toNat, 0, 0] : Fin 3 → ℕ)) (at_expert m i)).trans ?_
  show ![(BitVec.ofNat 32 _).toNat, 0, 0] = _
  rw [expert_toNat]
theorem index_w2 (i : grid0.Coords) : cc0_transform_3 k0_off1_inb numel1_S1 (tables m) i = ![(Cert.Experts.expert (argEnds m 0) (i 0)).val, 0, 0] := by
  refine (congrArg (fun w : BitVec 32 => (![w.toNat, 0, 0] : Fin 3 → ℕ)) (at_expert m i)).trans ?_
  show ![(BitVec.ofNat 32 _).toNat, 0, 0] = _
  rw [expert_toNat]
theorem index_b2 (i : grid0.Coords) : cc0_transform_4 k0_off1_inb numel1_S1 (tables m) i = ![(Cert.Experts.expert (argEnds m 0) (i 0)).val, 0, 0] := by
  refine (congrArg (fun w : BitVec 32 => (![w.toNat, 0, 0] : Fin 3 → ℕ)) (at_expert m i)).trans ?_
  show ![(BitVec.ofNat 32 _).toNat, 0, 0] = _
  rw [expert_toNat]

/-- With a block of rows at least, every block the tables choose is inside its array. -/
theorem ok (h0 : 512 ≤ (argEnds m 0 (ix1 31)).toNat) (h : (argEnds m 0 (ix1 31)).toNat < 2 ^ 31) : Ok m := by
  unfold Ok ok0
  have he : ∀ i : grid0.Coords, (Cert.Experts.expert (argEnds m 0) (i 0)).val < 32 := fun i => (Cert.Experts.expert (argEnds m 0) (i 0)).isLt
  refine ⟨fun i => ⟨?_, .inr (Affine.block_words_dvd (of_decide_eq_true rfl) (by decide))⟩, fun i => ⟨?_, .inr (Affine.block_words_dvd (of_decide_eq_true rfl) (by decide))⟩,
    fun i => ⟨?_, .inl rfl⟩, fun i => ⟨?_, .inr (Affine.block_words_dvd (of_decide_eq_true rfl) (by decide))⟩, fun i => ⟨?_, .inl rfl⟩⟩
  · rw [index_rows m h0 h i]
    have hi : (i 0).val < 560 := (i 0).isLt
    have : rowBlock (argEnds m 0) (i 0) ≤ (i 0).val := Nat.min_le_left _ _
    intro a
    match a with
    | ⟨0, _⟩ => show (rowBlock (argEnds m 0) (i 0) + 1) * 512 ≤ 286720; omega
    | ⟨1, _⟩ => show (0 + 1) * 1024 ≤ 1024; omega
  · rw [index_w1 m i]
    have := he i
    intro a
    match a with
    | ⟨0, _⟩ => show ((Cert.Experts.expert (argEnds m 0) (i 0)).val + 1) * 1 ≤ 32; omega
    | ⟨1, _⟩ => show (0 + 1) * 1024 ≤ 1024; omega
    | ⟨2, _⟩ => show (0 + 1) * 2048 ≤ 2048; omega
  · rw [index_b1 m i]
    have := he i
    intro a
    match a with
    | ⟨0, _⟩ => show ((Cert.Experts.expert (argEnds m 0) (i 0)).val + 1) * 1 ≤ 32; omega
    | ⟨1, _⟩ => show (0 + 1) * 1 ≤ 1; omega
    | ⟨2, _⟩ => show (0 + 1) * 2048 ≤ 2048; omega
  · rw [index_w2 m i]
    have := he i
    intro a
    match a with
    | ⟨0, _⟩ => show ((Cert.Experts.expert (argEnds m 0) (i 0)).val + 1) * 1 ≤ 32; omega
    | ⟨1, _⟩ => show (0 + 1) * 1024 ≤ 1024; omega
    | ⟨2, _⟩ => show (0 + 1) * 1024 ≤ 1024; omega
  · rw [index_b2 m i]
    have := he i
    intro a
    match a with
    | ⟨0, _⟩ => show ((Cert.Experts.expert (argEnds m 0) (i 0)).val + 1) * 1 ≤ 32; omega
    | ⟨1, _⟩ => show (0 + 1) * 1 ≤ 1; omega
    | ⟨2, _⟩ => show (0 + 1) * 1024 ≤ 1024; omega

end Entry

end Cert.Kernel2Ideal.Hand

end
-- ==== Proof.ExpertBlock.lean ====
/-
  What the experts' body computes of a block's rows and its expert's arrays: the two products with the gated unit between them.
-/
module

public import proofs.«01_k».proof.Proof.ExpertRun
public import proofs.«01_k».proof.Proof.Experts

@[expose] public section

noncomputable section

namespace Cert.Kernel2Ideal.Hand

open Cert.Kernel2Ideal Cert.Kernel2Ideal.Gen Idealize.ShloMosaic Idealize.ShloMosaic.TcCoe

section Steps

variable {F : FTy → Type} [FloatOps F]

/-- The first product. -/
def hidden (x : Vec F S512x1024 .bf16) (w : Vec F S1x1024x2048 .bf16) (b : Vec F S1x1x2048 .f32) : FVec F S512x2048 .f32 :=
  addf (matmul (φ₁ := .bf16) (φ₂ := .bf16) dot_S512x1024_S1024x2048_S512x2048_1_0_0_1_n_n none (shapeCast S512x1024 x shapeCasts_S512x1024_S512x1024)
      (shapeCast S1024x2048 w shapeCasts_S1x1024x2048_S1024x2048) (constant S512x2048 .f32 0x00000000#32))
    (broadcastTo S512x2048 (shapeCast S1x2048 b shapeCasts_S1x1x2048_S1x2048) broadcasts_S1x2048_S512x2048)

/-- Its first half, limited from above; -/
def glu (h : FVec F S512x2048 .f32) : FVec F S512x1024 .f32 :=
  minimumf (extractStridedSlice S512x1024 ![0, 0] h slices_S512x2048_o0_0_S512x1024) (broadcast S512x1024 (Scalar.ofBits .f32 0x40E00000#32))
/-- its second, from both sides. -/
def lin (h : FVec F S512x2048 .f32) : FVec F S512x1024 .f32 :=
  minimumf (broadcast S512x1024 (Scalar.ofBits .f32 0x40E00000#32))
    (maximumf (broadcast S512x1024 (Scalar.ofBits .f32 0xC0E00000#32)) (extractStridedSlice S512x1024 ![0, 1024] h slices_S512x2048_o0_1024_S512x1024))

/-- The gated unit of the two, rounded. -/
def gated (g l : FVec F S512x1024 .f32) : FVec F S512x1024 .bf16 :=
  truncf .bf16 (mulf (addf l (broadcast S512x1024 (Scalar.ofBits .f32 0x3F800000#32)))
    (mulf g (logistic (mulf (broadcast S512x1024 (Scalar.ofBits .f32 0x3FD9DB23#32)) g)))) bitsLt_bf16_f32

/-- The second product, rounded. -/
def rows (a : FVec F S512x1024 .bf16) (w : Vec F S1x1024x1024 .bf16) (b : Vec F S1x1x1024 .f32) : FVec F S512x1024 .bf16 :=
  truncf .bf16 (addf (matmul (φ₁ := .bf16) (φ₂ := .bf16) dot_S512x1024_S1024x1024_S512x1024_1_0_0_1_n_n none a
      (shapeCast S1024x1024 w shapeCasts_S1x1024x1024_S1024x1024) (constant S512x1024 .f32 0x00000000#32))
    (broadcastTo S512x1024 (shapeCast S1x1024 b shapeCasts_S1x1x1024_S1x1024) broadcasts_S1x1024_S512x1024)) bitsLt_bf16_f32

/-- A used block's rows, in these steps. -/
theorem pay1_eq (x : Vec F S512x1024 .bf16) (w1 : Vec F S1x1024x2048 .bf16) (b1 : Vec F S1x1x2048 .f32) (w2 : Vec F S1x1024x1024 .bf16)
    (b2 : Vec F S1x1x1024 .f32) : k0_pay1 x w1 b1 w2 b2 = rows (gated (glu (hidden x w1 b1)) (lin (hidden x w1 b1))) w2 b2 := rfl

end Steps

/-! ## The steps at an index, over the extended reals -/

theorem hidden_apply (x : Vec Ideal S512x1024 .bf16) (w : Vec Ideal S1x1024x2048 .bf16) (b : Vec Ideal S1x1x2048 .f32) (r : Fin 512) (f : Fin 2048) :
    hidden x w b (ix2 r f)
      = Cert.Experts.hidden (fun d => x (ix2 r d)) (fun d f => w (ix3 (0 : Fin 1) d f)) (fun f => b (ix3 (0 : Fin 1) (0 : Fin 1) f)) f := by
  pointwise [hidden]
  rfl

theorem glu_apply (h : FVec Ideal S512x2048 .f32) (r : Fin 512) (f : Fin 1024) :
    glu h (ix2 r f) = min (h (ix2 r ⟨f.val, by omega⟩)) Cert.Experts.limit := by
  pointwise [glu]
  rfl
theorem lin_apply (h : FVec Ideal S512x2048 .f32) (r : Fin 512) (f : Fin 1024) :
    lin h (ix2 r f) = min Cert.Experts.limit (max Cert.Experts.lower (h (ix2 r ⟨1024 + f.val, by omega⟩))) := by
  pointwise [lin]
  rfl

theorem gated_apply (g l : FVec Ideal S512x1024 .f32) (i : S512x1024.Idx) :
    gated g l i = (l i + 1) * (g i * Ideal.logistic (Cert.Experts.alpha * g i)) := by
  pointwise [gated]
  rfl

theorem rows_apply (a : FVec Ideal S512x1024 .bf16) (w : Vec Ideal S1x1024x1024 .bf16) (b : Vec Ideal S1x1x1024 .f32) (r : Fin 512) (e : Fin 1024) :
    rows a w b (ix2 r e) = (∑ f : Fin 1024, a (ix2 r f) * w (ix3 (0 : Fin 1) f e)) + b (ix3 (0 : Fin 1) (0 : Fin 1) e) := by
  pointwise [rows]

/-- A used block's rows go through the experts' layer; -/
theorem pay1_apply (x : Vec Ideal S512x1024 .bf16) (w1 : Vec Ideal S1x1024x2048 .bf16) (b1 : Vec Ideal S1x1x2048 .f32) (w2 : Vec Ideal S1x1024x1024 .bf16)
    (b2 : Vec Ideal S1x1x1024 .f32) (r : Fin 512) (e : Fin 1024) :
    k0_pay1 x w1 b1 w2 b2 (ix2 r e)
      = Cert.Experts.row (fun d => x (ix2 r d)) (fun d f => w1 (ix3 (0 : Fin 1) d f)) (fun f => b1 (ix3 (0 : Fin 1) (0 : Fin 1) f))
        (fun f e => w2 (ix3 (0 : Fin 1) f e)) (fun e => b2 (ix3 (0 : Fin 1) (0 : Fin 1) e)) e := by
  have hH : (fun f => hidden x w1 b1 (ix2 r f))
      = Cert.Experts.hidden (fun d => x (ix2 r d)) (fun d f => w1 (ix3 (0 : Fin 1) d f)) (fun f => b1 (ix3 (0 : Fin 1) (0 : Fin 1) f)) :=
    funext fun f => hidden_apply x w1 b1 r f
  rw [pay1_eq, rows_apply]
  unfold Cert.Experts.row
  simp only [gated_apply, glu_apply, lin_apply]
  rw [← hH]
  rfl

/-- an unused one's are zero. -/
theorem pay2_apply (i : S512x1024.Idx) : k0_pay2 (F := Ideal) i = 0 := by
  show Ideal.ofBits .bf16 0x0000#16 = 0
  simp

end Cert.Kernel2Ideal.Hand

end
-- ==== Proof.ExpertRead.lean ====
/-
  The blocks of the experts' launch, read at an index: a window's block is the array's part its index map chooses, and every point writes
  its own block of the result back.
-/
module

public import proofs.«01_k».proof.Proof.ExpertRun
public import Idealize.ShloMosaic.Lib.Pipeline.Value
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe
open Idealize.ShloMosaic.Pipeline (Dat)

variable {F : FTy → Type} [FloatOps F]

/-- A point's coordinate is its number. -/
theorem coord_eq (t : Fin grid0.N) (n : Fin 560) (hn : t.val = n.val) : (grid0.coords t 0 : Fin 560) = n := by
  refine Fin.ext ((Pipeline.Grid.coords_val (G := grid0) t 0 (S := 1) (B := 560) (by decide) rfl).trans ?_)
  have := n.isLt
  omega

theorem index_out (t : Fin grid0.N) : cc0_transform_5 (grid0.coords t) = ![t.val, 0] := by
  have ht : t.val < 560 := t.isLt.trans_eq N_0
  have hc : (grid0.coords t 0).val = t.val := congrArg Fin.val (coord_eq t ⟨t.val, ht⟩ rfl)
  show ![(BitVec.ofNat 32 (grid0.coords t 0).val).toNat, 0] = _
  rw [hc, BitVec.toNat_ofNat, Nat.mod_eq_of_lt (by omega)]

variable (a : (pcfg0 (F := F)).Adm) (V : (c : Dev nD) → (b : Ref sig .tc) → Buf (Elt F) ((c : Thread nD τ).loc b)) (c : Dev nD) (t : Fin (cfg0 a).N)

/-- The rows, a block of 512; -/
theorem xBlk_read (k : ℕ) (hk : cc0_transform_0 inb_S1_S1_0 numel1_S1 a.1 (grid0.coords t) = ![k, 0]) (r : Fin 512) (d : Fin 1024)
    (h : k * 512 + r.val < 286720) : xBlk a V c t (ix2 r d) = (V c main_v14 : S286720x1024.Idx → Elt F .bf16) (ix2 ⟨k * 512 + r.val, h⟩ d) := by
  unfold xBlk iblk
  rw [View.read_apply]
  show V c main_v14 _ = V c main_v14 _
  congr 1
  funext x
  apply Fin.ext
  match x with
  | ⟨0, _⟩ => show cc0_transform_0 inb_S1_S1_0 numel1_S1 a.1 (grid0.coords t) 0 * 512 + 1 * r.val = k * 512 + r.val; rw [hk]; simp
  | ⟨1, _⟩ => show cc0_transform_0 inb_S1_S1_0 numel1_S1 a.1 (grid0.coords t) 1 * 1024 + 1 * d.val = d.val; rw [hk]; simp

/-- the expert's arrays, each whole. -/
theorem w1Blk_read (k : Fin 32) (hk : cc0_transform_1 k0_off1_inb numel1_S1 a.1 (grid0.coords t) = ![k.val, 0, 0]) (d : Fin 1024) (f : Fin 2048) :
    w1Blk a V c t (ix3 (0 : Fin 1) d f) = (V c main_v15 : S32x1024x2048.Idx → Elt F .bf16) (ix3 k d f) := by
  unfold w1Blk iblk
  rw [View.read_apply]
  show V c main_v15 _ = V c main_v15 _
  congr 1
  funext x
  apply Fin.ext
  match x with
  | ⟨0, _⟩ => show cc0_transform_1 k0_off1_inb numel1_S1 a.1 (grid0.coords t) 0 * 1 + 1 * 0 = k.val; rw [hk]; simp
  | ⟨1, _⟩ => show cc0_transform_1 k0_off1_inb numel1_S1 a.1 (grid0.coords t) 1 * 1024 + 1 * d.val = d.val; rw [hk]; simp
  | ⟨2, _⟩ => show cc0_transform_1 k0_off1_inb numel1_S1 a.1 (grid0.coords t) 2 * 2048 + 1 * f.val = f.val; rw [hk]; simp
theorem b1Blk_read (k : Fin 32) (hk : cc0_transform_2 k0_off1_inb numel1_S1 a.1 (grid0.coords t) = ![k.val, 0, 0]) (f : Fin 2048) :
    b1Blk a V c t (ix3 (0 : Fin 1) (0 : Fin 1) f) = (V c main_v16 : S32x1x2048.Idx → Elt F .f32) (ix3 k (0 : Fin 1) f) := by
  unfold b1Blk iblk
  rw [View.read_apply]
  show V c main_v16 _ = V c main_v16 _
  congr 1
  funext x
  apply Fin.ext
  match x with
  | ⟨0, _⟩ => show cc0_transform_2 k0_off1_inb numel1_S1 a.1 (grid0.coords t) 0 * 1 + 1 * 0 = k.val; rw [hk]; simp
  | ⟨1, _⟩ => show cc0_transform_2 k0_off1_inb numel1_S1 a.1 (grid0.coords t) 1 * 1 + 1 * 0 = 0; rw [hk]; simp
  | ⟨2, _⟩ => show cc0_transform_2 k0_off1_inb numel1_S1 a.1 (grid0.coords t) 2 * 2048 + 1 * f.val = f.val; rw [hk]; simp
theorem w2Blk_read (k : Fin 32) (hk : cc0_transform_3 k0_off1_inb numel1_S1 a.1 (grid0.coords t) = ![k.val, 0, 0]) (f e : Fin 1024) :
    w2Blk a V c t (ix3 (0 : Fin 1) f e) = (V c main_v17 : S32x1024x1024.Idx → Elt F .bf16) (ix3 k f e) := by
  unfold w2Blk iblk
  rw [View.read_apply]
  show V c main_v17 _ = V c main_v17 _
  congr 1
  funext x
  apply Fin.ext
  match x with
  | ⟨0, _⟩ => show cc0_transform_3 k0_off1_inb numel1_S1 a.1 (grid0.coords t) 0 * 1 + 1 * 0 = k.val; rw [hk]; simp
  | ⟨1, _⟩ => show cc0_transform_3 k0_off1_inb numel1_S1 a.1 (grid0.coords t) 1 * 1024 + 1 * f.val = f.val; rw [hk]; simp
  | ⟨2, _⟩ => show cc0_transform_3 k0_off1_inb numel1_S1 a.1 (grid0.coords t) 2 * 1024 + 1 * e.val = e.val; rw [hk]; simp
theorem b2Blk_read (k : Fin 32) (hk : cc0_transform_4 k0_off1_inb numel1_S1 a.1 (grid0.coords t) = ![k.val, 0, 0]) (e : Fin 1024) :
    b2Blk a V c t (ix3 (0 : Fin 1) (0 : Fin 1) e) = (V c main_v18 : S32x1x1024.Idx → Elt F .f32) (ix3 k (0 : Fin 1) e) := by
  unfold b2Blk iblk
  rw [View.read_apply]
  show V c main_v18 _ = V c main_v18 _
  congr 1
  funext x
  apply Fin.ext
  match x with
  | ⟨0, _⟩ => show cc0_transform_4 k0_off1_inb numel1_S1 a.1 (grid0.coords t) 0 * 1 + 1 * 0 = k.val; rw [hk]; simp
  | ⟨1, _⟩ => show cc0_transform_4 k0_off1_inb numel1_S1 a.1 (grid0.coords t) 1 * 1 + 1 * 0 = 0; rw [hk]; simp
  | ⟨2, _⟩ => show cc0_transform_4 k0_off1_inb numel1_S1 a.1 (grid0.coords t) 2 * 1024 + 1 * e.val = e.val; rw [hk]; simp

/-- The result's window. -/
abbrev winOut : Pipeline.Window sig grid0 := (cfg0 a).win 5

/-- Row `r` of point `t`'s block of an array of the result's shape. -/
theorem out_read (R : S286720x1024.Idx → Elt F .bf16) (r : Fin 512) (e : Fin 1024) (h : t.val * 512 + r.val < 286720) :
    (((winOut a).blk t).view.read (Elt F) R : S512x1024.Idx → Elt F .bf16) (ix2 r e) = R (ix2 ⟨t.val * 512 + r.val, h⟩ e) := by
  have hi := index_out t
  refine (View.read_apply ..).trans ?_
  show R _ = R _
  congr 1
  funext x
  apply Fin.ext
  match x with
  | ⟨0, _⟩ => show cc0_transform_5 (grid0.coords t) 0 * 512 + 1 * r.val = t.val * 512 + r.val; rw [hi]; simp
  | ⟨1, _⟩ => show cc0_transform_5 (grid0.coords t) 1 * 1024 + 1 * e.val = e.val; rw [hi]; simp

/-- Every point writes its block back. -/
theorem flush_out : (winOut a).flush t = true :=
  (Pipeline.Window.flush_reads (winOut a) rfl 0 (show 1 < grid0.bound 0 from by decide) (show grid0.fixedAfter reads0_5 0 = true from by decide)
    (Pipeline.Window.sep_of_coord cc0_transform_5 0 0 (fun _ => rfl) (by decide))
    (P := 1) (m := 0) (show grid0.stride 0 = 1 from by decide) rfl t).mpr (Nat.mod_one _)

/-- An array that every point's block agrees with is the result at the end. -/
theorem arrAt_out (R : S286720x1024.Idx → Elt F .bf16)
    (hR : ∀ (t : Fin (cfg0 a).N) (r : Fin 512) (e : Fin 1024) (h : t.val * 512 + r.val < 286720), out a V c t (ix2 r e) = R (ix2 ⟨t.val * 512 + r.val, h⟩ e)) :
    (dats a V 0 c).arrAt 5 (cfg0 a).N = R := by
  have hN : (cfg0 a).N = 560 := N_0
  refine (dats a V 0 c).arrAt_eq_of_cover 5 R (fun t _ => ?_) fun (i : S286720x1024.Idx) => ?_
  · have ht : t.val < 560 := t.isLt.trans_eq hN
    show (winOut a).cut (grid0.coords t) ((dats a V 0 c).after 5 t) = _
    rw [after_5]
    refine funext fun (y : S512x1024.Idx) => ?_
    obtain ⟨r, e, rfl⟩ : ∃ (r : Fin 512) (e : Fin 1024), y = ix2 r e := ⟨y 0, y 1, eq_ix2 y⟩
    have h : t.val * 512 + r.val < 286720 := by omega
    exact (hR t r e h).trans (out_read a t R r e h).symm
  · have h0' : (i 0 : Nat) < 286720 := (i 0).isLt
    have h1' : (i 1 : Nat) < 1024 := (i 1).isLt
    obtain ⟨t, ht⟩ : ∃ t : Fin (cfg0 a).N, t.val = (i 0 : Nat) / 512 := ⟨⟨(i 0).val / 512, by omega⟩, rfl⟩
    have hi := index_out t
    refine ⟨t, flush_out a t, ?_⟩
    have e : (((cfg0 a).win 5).blk t).view.set = (Rect.block (s := S286720x1024) S512x1024.size (cc0_transform_5 (grid0.coords t)) (hinb0_5 (grid0.coords t))).set :=
      View.set_slice_whole _ _
    refine (congrArg (fun S => i ∈ S) e).mpr ?_
    refine (Rect.mem_set_unit (s := S286720x1024)).mpr fun x => ?_
    match x with
    | ⟨0, _⟩ => show cc0_transform_5 (grid0.coords t) 0 * 512 ≤ (i 0 : Nat) ∧ (i 0 : Nat) < cc0_transform_5 (grid0.coords t) 0 * 512 + 512; rw [hi]; simp only [Matrix.cons_val_zero]; omega
    | ⟨1, _⟩ => show cc0_transform_5 (grid0.coords t) 1 * 1024 ≤ (i 1 : Nat) ∧ (i 1 : Nat) < cc0_transform_5 (grid0.coords t) 1 * 1024 + 1024; rw [hi]; simpa using h1'

end Cert.Kernel2Ideal.Hand

end
-- ==== Proof.ExpertValue.lean ====
/-
  What the experts' kernel leaves: the experts' layer of its arguments.
-/
module

public import proofs.«01_k».proof.Proof.ExpertTables
public import proofs.«01_k».proof.Proof.ExpertBlock
public import proofs.«01_k».proof.Proof.ExpertRead

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-! ## What a point stores -/

section Point

variable (a : (pcfg0 (F := Ideal)).Adm) (V : (c : Dev nD) → (b : Ref sig .tc) → Buf (Elt Ideal) ((c : Thread nD τ).loc b)) (c : Dev nD)
  (pend : Cert.Experts.Ends) (xs : FVec Ideal S286720x1024 .f32) (w1 : FVec Ideal S32x1024x2048 .f32) (b1 : FVec Ideal S32x2048 .f32)
  (w2 : FVec Ideal S32x1024x1024 .f32) (b2 : FVec Ideal S32x1024 .f32)

/-- The body's condition: the block is used. -/
theorem cond1_iff (t : Fin grid0.N) (n : Fin 560) (hn : t.val = n.val) (w : BitVec 32) (hw : w = BitVec.ofNat 32 (Cert.Experts.used pend))
    (h1 : (pend (ix1 31)).toNat < 2 ^ 31) : k0_cond1 (grid0.coords t) w = 1#1 ↔ n.val < Cert.Experts.used pend := by
  have hu : Cert.Experts.used pend = (pend (ix1 31)).toNat / 512 := rfl
  have hc : (grid0.coords t 0).val = n.val := congrArg Fin.val (coord_eq t n hn)
  rw [← Cert.Experts.used_iff n _ (by omega), hw]
  unfold k0_cond1
  rw [hc]
  show IntOp.cmpi .ne ((IntOp.cmpi .slt (BitVec.ofNat 32 n.val) _).setWidth 32) 0#32 = 1#1 ↔ _
  generalize IntOp.cmpi .slt (BitVec.ofNat 32 n.val) _ = b
  revert b
  decide

/-- A point whose windows lie where the tables say, over the arrays cast, stores the experts' layer of its block's rows. -/
theorem out_value (t : Fin (cfg0 a).N) (n : Fin 560) (hn : t.val = n.val) (h1 : (pend (ix1 31)).toNat < 2 ^ 31)
    (i0 : cc0_transform_0 inb_S1_S1_0 numel1_S1 a.1 (grid0.coords t) = ![rowBlock pend n, 0])
    (i1 : cc0_transform_1 k0_off1_inb numel1_S1 a.1 (grid0.coords t) = ![(Cert.Experts.expert pend n).val, 0, 0])
    (i2 : cc0_transform_2 k0_off1_inb numel1_S1 a.1 (grid0.coords t) = ![(Cert.Experts.expert pend n).val, 0, 0])
    (i3 : cc0_transform_3 k0_off1_inb numel1_S1 a.1 (grid0.coords t) = ![(Cert.Experts.expert pend n).val, 0, 0])
    (i4 : cc0_transform_4 k0_off1_inb numel1_S1 a.1 (grid0.coords t) = ![(Cert.Experts.expert pend n).val, 0, 0])
    (hb : nb a = BitVec.ofNat 32 (Cert.Experts.used pend))
    (v0 : V c main_v14 = truncf .bf16 xs bitsLt_bf16_f32) (v1 : V c main_v15 = truncf .bf16 w1 bitsLt_bf16_f32)
    (v2 : V c main_v16 = shapeCast S32x1x2048 b1 shapeCasts_S32x2048_S32x1x2048) (v3 : V c main_v17 = truncf .bf16 w2 bitsLt_bf16_f32)
    (v4 : V c main_v18 = shapeCast S32x1x1024 b2 shapeCasts_S32x1024_S32x1x1024) (r : Fin 512) (e : Fin 1024) :
    out a V c t (ix2 r e) = Cert.Experts.out pend xs w1 b1 w2 b2 n r e := by
  unfold out outBlk Cert.Experts.out
  by_cases hu : n.val < Cert.Experts.used pend
  · rw [if_pos ((cond1_iff pend t n hn _ hb h1).mpr hu), if_pos hu, pay1_apply]
    have hk : rowBlock pend n = n.val := by unfold rowBlock; omega
    rw [hk] at i0
    have e0 : ∀ d, xBlk a V c t (ix2 r d) = xs (ix2 ⟨n.val * 512 + r.val, by omega⟩ d) := fun d =>
      (xBlk_read a V c t n.val i0 r d (by omega)).trans (congrFun v0 _)
    have e1 : ∀ d f, w1Blk a V c t (ix3 (0 : Fin 1) d f) = w1 (ix3 (Cert.Experts.expert pend n) d f) := fun d f =>
      (w1Blk_read a V c t _ i1 d f).trans (congrFun v1 _)
    have e2 : ∀ f, b1Blk a V c t (ix3 (0 : Fin 1) (0 : Fin 1) f) = b1 (ix2 (Cert.Experts.expert pend n) f) := fun f =>
      (b1Blk_read a V c t _ i2 f).trans ((congrFun v2 _).trans (by pointwise))
    have e3 : ∀ f e, w2Blk a V c t (ix3 (0 : Fin 1) f e) = w2 (ix3 (Cert.Experts.expert pend n) f e) := fun f e =>
      (w2Blk_read a V c t _ i3 f e).trans (congrFun v3 _)
    have e4 : ∀ f, b2Blk a V c t (ix3 (0 : Fin 1) (0 : Fin 1) f) = b2 (ix2 (Cert.Experts.expert pend n) f) := fun f =>
      (b2Blk_read a V c t _ i4 f).trans ((congrFun v4 _).trans (by pointwise))
    simp only [e0, e1, e2, e3, e4]
  · rw [if_neg (mt (cond1_iff pend t n hn _ hb h1).mp hu), if_neg hu, pay2_apply]

end Point

/-! ## The result -/

variable (m : (ℓ : Loc nD τ sig) → Buf (Elt Ideal) ℓ) (ρ : Dev nD → PrngReg) (c : Dev nD)

/-- Row `r` of block `n` at row `512 n + r`. -/
def result : Vec Ideal S286720x1024 .bf16 := fun i =>
  Cert.Experts.out (argEnds m c) (m ((c : Thread nD τ).loc main_arg1)) (m ((c : Thread nD τ).loc main_arg2)) (m ((c : Thread nD τ).loc main_arg3))
    (m ((c : Thread nD τ).loc main_arg4)) (m ((c : Thread nD τ).loc main_arg5))
    ⟨(i 0).val / 512, by have h : (i 0).val < 286720 := (i 0).isLt; omega⟩ ⟨(i 0).val % 512, by omega⟩ (i 1)

theorem result_apply (n : Fin 560) (r : Fin 512) (e : Fin 1024) (h : n.val * 512 + r.val < 286720) : result m c (ix2 ⟨n.val * 512 + r.val, h⟩ e)
    = Cert.Experts.out (argEnds m c) (m ((c : Thread nD τ).loc main_arg1)) (m ((c : Thread nD τ).loc main_arg2)) (m ((c : Thread nD τ).loc main_arg3))
      (m ((c : Thread nD τ).loc main_arg4)) (m ((c : Thread nD τ).loc main_arg5)) n r e := by
  have hr := r.isLt
  have key : ∀ (n' : Fin 560) (r' : Fin 512), n'.val = n.val → r'.val = r.val →
      Cert.Experts.out (argEnds m c) (m ((c : Thread nD τ).loc main_arg1)) (m ((c : Thread nD τ).loc main_arg2)) (m ((c : Thread nD τ).loc main_arg3))
        (m ((c : Thread nD τ).loc main_arg4)) (m ((c : Thread nD τ).loc main_arg5)) n' r' e
      = Cert.Experts.out (argEnds m c) (m ((c : Thread nD τ).loc main_arg1)) (m ((c : Thread nD τ).loc main_arg2)) (m ((c : Thread nD τ).loc main_arg3))
        (m ((c : Thread nD τ).loc main_arg4)) (m ((c : Thread nD τ).loc main_arg5)) n r e := fun n' r' hn hr => by
    rw [Fin.ext hn, Fin.ext hr]
  exact key _ _ (by show (n.val * 512 + r.val) / 512 = _; omega) (by show (n.val * 512 + r.val) % 512 = _; omega)

variable (h0 : 512 ≤ (argEnds m 0 (ix1 31)).toNat) (h1 : (argEnds m 0 (ix1 31)).toNat < 2 ^ 31)

/-- The result's array ends at the experts' layer. -/
theorem final_out : (dats (adm m (ok m h0 h1)) (V m) 0 c).arrAt 5 (cfg0 (adm m (ok m h0 h1))).N = result m c := by
  refine arrAt_out (adm m (ok m h0 h1)) (V m) c (result m c) fun t r e h => ?_
  obtain rfl : c = 0 := Subsingleton.elim _ _
  have ht : t.val < 560 := t.isLt.trans_eq N_0
  obtain ⟨n, hn⟩ : ∃ n : Fin 560, t.val = n.val := ⟨⟨t.val, ht⟩, rfl⟩
  have hc := coord_eq t n hn
  have j0 := index_rows m h0 h1 (grid0.coords t)
  have j1 := index_w1 m (grid0.coords t)
  have j2 := index_b1 m (grid0.coords t)
  have j3 := index_w2 m (grid0.coords t)
  have j4 := index_b2 m (grid0.coords t)
  rw [hc] at j0 j1 j2 j3 j4
  have hb : nb (adm m (ok m h0 h1)) = BitVec.ofNat 32 (Cert.Experts.used (argEnds m 0)) := (congrFun (tables_used m) _).trans (used_apply _ h1 _)
  refine (out_value (adm m (ok m h0 h1)) (V m) 0 (argEnds m 0) _ _ _ _ _ t n hn h1 j0 j1 j2 j3 j4 hb (V_rows m 0) (V_w1 m 0) (V_b1 m 0) (V_w2 m 0) (V_b2 m 0) r e).trans ?_
  rw [← result_apply m 0 n r e (by omega)]
  congr 3
  rw [hn]

include h0 h1 in
/-- Every fair run of the kernel ends with the experts' layer in its result, its arguments as they were. -/
theorem run_value : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 5).trans (final_out m c h0 h1), h.2.1 c⟩)
    (θ_run_and (run_main m ρ (ok m h0 h1)) (frame_main m ρ (ok m h0 h1)))

end Cert.Kernel2Ideal.Hand

end
-- ==== Proof.ExpertReference.lean ====
/-
  The experts' reference: its result composed of named steps, and what the steps compute.
-/
module

public import proofs.«01_k».proof.Proof.Gen.Reference2Ideal.Run
public import Idealize.ShloMosaic.Lib.Quiescent
public import proofs.«01_k».proof.Proof.Experts

@[expose] public section

noncomputable section

namespace Cert.Reference2Ideal.Hand

open Cert.Reference2Ideal Cert.Reference2Ideal.Gen Idealize.ShloMosaic Idealize.ShloMosaic.TcCoe

section Steps

variable {F : FTy → Type} [FloatOps F]

/-- Which experts are over, block by block. -/
def over (pend : IVec S32 32) : IVec S560x32 1 :=
  cmpi .sle (broadcastInDim S560x32 ![0, 1] bcast_S1x32_S560x32_0_1 (broadcastInDim S1x32 ![1] bcast_S32_S1x32_1 pend))
    (broadcastInDim S560x32 ![0, 1] bcast_S560x1_S560x32_0_1 (broadcastInDim S560x1 ![0] bcast_S560_S560x1_0
      (muli (iotaInDim S560 32 0) (broadcastInDim S560 ![] bcast_S_S560 (constantI S_ 32 512#32)))))

/-- The blocks' experts. -/
def experts (pend : IVec S32 32) : IVec S560x1 32 :=
  broadcastInDim S560x1 ![0] bcast_S560_S560x1_0
    (minsi (Host.reduce IntOp.addi (extui 32 (over pend) natLt_1_32) (constantI S_ 32 0#32) reducesTo_S560x32_S560_d1 h_S_)
      (broadcastInDim S560 ![] bcast_S_S560 (constantI S_ 32 31#32)))

/-- The tables, an expert's block a block of rows. -/
def taken1 (pend : IVec S32 32) (w1 : FVec F S32x1024x2048 .f32) : FVec F S560x1024x2048 .f32 :=
  Host.gather gather_S32x1024x2048_S560x1_S560x1024x2048_12_0_n_n_0_1_110242048 w1 (experts pend)
def takenB1 (pend : IVec S32 32) (b1 : FVec F S32x2048 .f32) : FVec F S560x2048 .f32 :=
  Host.gather gather_S32x2048_S560x1_S560x2048_1_0_n_n_0_1_12048 b1 (experts pend)
def taken2 (pend : IVec S32 32) (w2 : FVec F S32x1024x1024 .f32) : FVec F S560x1024x1024 .f32 :=
  Host.gather gather_S32x1024x1024_S560x1_S560x1024x1024_12_0_n_n_0_1_110241024 w2 (experts pend)
def takenB2 (pend : IVec S32 32) (b2 : FVec F S32x1024 .f32) : FVec F S560x1024 .f32 :=
  Host.gather gather_S32x1024_S560x1_S560x1024_1_0_n_n_0_1_11024 b2 (experts pend)

/-- The first product. -/
def hidden (xs : FVec F S286720x1024 .f32) (w : FVec F S560x1024x2048 .f32) (b : FVec F S560x2048 .f32) : FVec F S560x512x2048 .f32 :=
  addf (Host.dotGeneral dot_S560x512x1024_S560x1024x2048_S560x512x2048_2_1_1_2_0_0 none (shapeCast S560x512x1024 xs shapeCasts_S286720x1024_S560x512x1024) w)
    (broadcastInDim S560x512x2048 ![0, 1, 2] bcast_S560x1x2048_S560x512x2048_0_1_2 (broadcastInDim S560x1x2048 ![0, 2] bcast_S560x2048_S560x1x2048_0_2 b))

/-- The first half, limited from above; -/
def glu (h : FVec F S560x512x2048 .f32) : FVec F S560x512x1024 .f32 :=
  minimumf (extractStridedSlice S560x512x1024 ![0, 0, 0] h slices_S560x512x2048_S560x512x1024_0_0_0)
    (broadcastInDim S560x512x1024 ![] bcast_S_S560x512x1024 (constant S_ .f32 0x40E00000#32))
/-- the second, from both sides. -/
def lin (h : FVec F S560x512x2048 .f32) : FVec F S560x512x1024 .f32 :=
  minimumf (broadcastInDim S560x512x1024 ![] bcast_S_S560x512x1024 (id (constant S_ .f32 0x40E00000#32)))
    (maximumf (broadcastInDim S560x512x1024 ![] bcast_S_S560x512x1024 (id (constant S_ .f32 0xC0E00000#32)))
      (extractStridedSlice S560x512x1024 ![0, 0, 1024] h slices_S560x512x2048_S560x512x1024_0_0_1024))

/-- The gated unit of the two. -/
def act (g l : FVec F S560x512x1024 .f32) : FVec F S560x512x1024 .f32 :=
  mulf (addf l (broadcastInDim S560x512x1024 ![] bcast_S_S560x512x1024 (constant S_ .f32 0x3F800000#32)))
    (mulf g (Host.divf (broadcastInDim S560x512x1024 ![] bcast_S_S560x512x1024 (constant S_ .f32 0x3F800000#32))
      (addf (broadcastInDim S560x512x1024 ![] bcast_S_S560x512x1024 (constant S_ .f32 0x3F800000#32))
        (Host.exp (Host.negf (mulf (broadcastInDim S560x512x1024 ![] bcast_S_S560x512x1024 (constant S_ .f32 0x3FD9DB23#32)) g))))))

/-- The second product. -/
def rows (a : FVec F S560x512x1024 .f32) (w : FVec F S560x1024x1024 .f32) (b : FVec F S560x1024 .f32) : FVec F S560x512x1024 .f32 :=
  addf (Host.dotGeneral dot_S560x512x1024_S560x1024x1024_S560x512x1024_2_1_1_2_0_0 none a w)
    (broadcastInDim S560x512x1024 ![0, 1, 2] bcast_S560x1x1024_S560x512x1024_0_1_2 (broadcastInDim S560x1x1024 ![0, 2] bcast_S560x1024_S560x1x1024_0_2 b))

/-- How many blocks are used. -/
def used (pend : IVec S32 32) : IVec S_ 32 :=
  select (andi (cmpi .ne (signi (shapeCast S_ (extractStridedSlice S1 ![31] pend slices_S32_S1_31) shapeCasts_S1_S_)) (signi (id (constantI S_ 32 512#32))))
      (cmpi .ne (Host.remsi (shapeCast S_ (extractStridedSlice S1 ![31] pend slices_S32_S1_31) shapeCasts_S1_S_) (id (constantI S_ 32 512#32))) (constantI S_ 32 0#32)))
    (subi (Host.divsi (shapeCast S_ (extractStridedSlice S1 ![31] pend slices_S32_S1_31) shapeCasts_S1_S_) (id (constantI S_ 32 512#32))) (constantI S_ 32 1#32))
    (Host.divsi (shapeCast S_ (extractStridedSlice S1 ![31] pend slices_S32_S1_31) shapeCasts_S1_S_) (id (constantI S_ 32 512#32)))

/-- The rows of the used blocks, zeros else. -/
def kept (u : IVec S_ 32) (y : FVec F S560x512x1024 .f32) : FVec F S286720x1024 .bf16 :=
  truncf .bf16 (shapeCast S286720x1024 (select
    (broadcastInDim S560x512x1024 ![0, 1, 2] bcast_S560x1x1_S560x512x1024_0_1_2 (broadcastInDim S560x1x1 ![0] bcast_S560_S560x1x1_0
      (cmpi .slt (iotaInDim S560 32 0) (broadcastInDim S560 ![] bcast_S_S560 u))))
    y (broadcastInDim S560x512x1024 ![] bcast_S_S560x512x1024 (id (constant S_ .f32 0x00000000#32)))) shapeCasts_S560x512x1024_S286720x1024) bitsLt_bf16_f32

/-- All of it. -/
def result (pend : IVec S32 32) (xs : FVec F S286720x1024 .f32) (w1 : FVec F S32x1024x2048 .f32) (b1 : FVec F S32x2048 .f32)
    (w2 : FVec F S32x1024x1024 .f32) (b2 : FVec F S32x1024 .f32) : FVec F S286720x1024 .bf16 :=
  kept (used pend) (rows (act (glu (hidden xs (taken1 pend w1) (takenB1 pend b1))) (lin (hidden xs (taken1 pend w1) (takenB1 pend b1))))
    (taken2 pend w2) (takenB2 pend b2))

/-- The reference's result, in these steps. -/
theorem out0_eq (m : (ℓ : Loc nD τ sig) → Buf (Elt F) ℓ) (c : Dev nD) : Value.res_out0 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_out0 Value.res_main_v50
  rfl

end Steps

/-! ## The steps at an index, over the extended reals -/

theorem over_apply (pend : IVec S32 32) (n : Fin 560) (j : Fin 32) : over pend (ix2 n j) = 1#1 ↔ Cert.Experts.Over pend n j := by
  rw [← Cert.Experts.over_iff]
  pointwise [over]

theorem column_apply (x : IVec S560 32) (n : Fin 560) : broadcastInDim S560x1 ![0] bcast_S560_S560x1_0 x (ix2 n (0 : Fin 1)) = x (ix1 n) := by
  pointwise

theorem experts_apply (pend : IVec S32 32) (n : Fin 560) : experts pend (ix2 n (0 : Fin 1)) = BitVec.ofNat 32 (Cert.Experts.expert pend n).val := by
  unfold experts
  rw [column_apply]
  exact Cert.Experts.expert_word pend (over pend) (over_apply pend) natLt_1_32 reducesTo_S560x32_S560_d1 h_S_ n

theorem taken1_apply (pend : IVec S32 32) (w : FVec Ideal S32x1024x2048 .f32) (n : Fin 560) (d : Fin 1024) (f : Fin 2048) :
    taken1 pend w (ix3 n d f) = w (ix3 (Cert.Experts.expert pend n) d f) :=
  Cert.Experts.gather_blocks _ w _ n d f _ (experts_apply pend n) (by decide)
theorem taken2_apply (pend : IVec S32 32) (w : FVec Ideal S32x1024x1024 .f32) (n : Fin 560) (d f : Fin 1024) :
    taken2 pend w (ix3 n d f) = w (ix3 (Cert.Experts.expert pend n) d f) :=
  Cert.Experts.gather_blocks _ w _ n d f _ (experts_apply pend n) (by decide)
theorem takenB1_apply (pend : IVec S32 32) (b : FVec Ideal S32x2048 .f32) (n : Fin 560) (f : Fin 2048) :
    takenB1 pend b (ix2 n f) = b (ix2 (Cert.Experts.expert pend n) f) :=
  Routing.gather_row _ rfl rfl rfl rfl rfl b _ n f _ (experts_apply pend n) (by decide)
theorem takenB2_apply (pend : IVec S32 32) (b : FVec Ideal S32x1024 .f32) (n : Fin 560) (f : Fin 1024) :
    takenB2 pend b (ix2 n f) = b (ix2 (Cert.Experts.expert pend n) f) :=
  Routing.gather_row _ rfl rfl rfl rfl rfl b _ n f _ (experts_apply pend n) (by decide)

theorem hidden_apply (xs : FVec Ideal S286720x1024 .f32) (w : FVec Ideal S560x1024x2048 .f32) (b : FVec Ideal S560x2048 .f32)
    (n : Fin 560) (r : Fin 512) (f : Fin 2048) :
    hidden xs w b (ix3 n r f)
      = Cert.Experts.hidden (fun d => xs (ix2 ⟨n.val * 512 + r.val, by omega⟩ d)) (fun d f => w (ix3 n d f)) (fun f => b (ix2 n f)) f := by
  pointwise [hidden]
  rfl

theorem glu_apply (h : FVec Ideal S560x512x2048 .f32) (n : Fin 560) (r : Fin 512) (f : Fin 1024) :
    glu h (ix3 n r f) = min (h (ix3 n r ⟨f.val, by omega⟩)) Cert.Experts.limit := by
  pointwise [glu]
  rfl
theorem lin_apply (h : FVec Ideal S560x512x2048 .f32) (n : Fin 560) (r : Fin 512) (f : Fin 1024) :
    lin h (ix3 n r f) = min Cert.Experts.limit (max Cert.Experts.lower (h (ix3 n r ⟨1024 + f.val, by omega⟩))) := by
  pointwise [lin]
  rfl

theorem act_apply (g l : FVec Ideal S560x512x1024 .f32) (i : S560x512x1024.Idx) :
    act g l i = (l i + 1) * (g i * Ideal.logistic (Cert.Experts.alpha * g i)) := by
  pointwise [act]
  rfl

theorem rows_apply (a : FVec Ideal S560x512x1024 .f32) (w : FVec Ideal S560x1024x1024 .f32) (b : FVec Ideal S560x1024 .f32)
    (n : Fin 560) (r : Fin 512) (e : Fin 1024) :
    rows a w b (ix3 n r e) = (∑ f : Fin 1024, a (ix3 n r f) * w (ix3 n f e)) + b (ix2 n e) := by
  pointwise [rows]

theorem last_apply (pend : IVec S32 32) (i : S_.Idx) : shapeCast S_ (extractStridedSlice S1 ![31] pend slices_S32_S1_31) shapeCasts_S1_S_ i = pend (ix1 31) := by
  pointwise

theorem used_apply (pend : IVec S32 32) (h : (pend (ix1 31)).toNat < 2 ^ 31) (i : S_.Idx) : used pend i = BitVec.ofNat 32 (Cert.Experts.used pend) := by
  refine (Cert.Experts.used_word _ _ _ _ _ i rfl rfl rfl (by show signi (constantI S_ 32 512#32) i = 1#32; exact (by decide : (if (512#32 : BitVec 32) = 0 then (0 : BitVec 32) else if (512#32).msb then -1 else 1) = 1#32)) ?_).trans ?_
  · rw [last_apply]
    exact h
  · rw [last_apply]
    rfl

theorem kept_apply (u : IVec S_ 32) (k : ℕ) (hu : ∀ i, u i = BitVec.ofNat 32 k) (hk : k < 2 ^ 31) (y : FVec Ideal S560x512x1024 .f32)
    (n : Fin 560) (r : Fin 512) (e : Fin 1024) :
    kept u y (ix2 ⟨n.val * 512 + r.val, by omega⟩ e) = if n.val < k then y (ix3 n r e) else 0 := by
  pointwise [kept]
  rw [hu, show (id (constant (F := Ideal) S_ .f32 0x00000000#32) ix0 : EReal) = 0 from Ideal.ofBits_zero_f32]
  by_cases hc : n.val < k
  · rw [if_pos hc, (Cert.Experts.used_iff n k hk).mpr hc]
    rfl
  · rw [if_neg hc, (by decide : ∀ b : BitVec 1, b ≠ 1#1 → b = 0#1) _ (mt (Cert.Experts.used_iff n k hk).mp hc)]
    rfl

/-- The reference computes what the experts do. -/
theorem result_apply (pend : IVec S32 32) (h : (pend (ix1 31)).toNat < 2 ^ 31) (xs : FVec Ideal S286720x1024 .f32) (w1 : FVec Ideal S32x1024x2048 .f32)
    (b1 : FVec Ideal S32x2048 .f32) (w2 : FVec Ideal S32x1024x1024 .f32) (b2 : FVec Ideal S32x1024 .f32) (n : Fin 560) (r : Fin 512) (e : Fin 1024) :
    result pend xs w1 b1 w2 b2 (ix2 ⟨n.val * 512 + r.val, by omega⟩ e) = Cert.Experts.out pend xs w1 b1 w2 b2 n r e := by
  have hH : (fun f => hidden xs (taken1 pend w1) (takenB1 pend b1) (ix3 n r f))
      = Cert.Experts.hidden (fun d => xs (ix2 ⟨n.val * 512 + r.val, by omega⟩ d)) (fun d f => w1 (ix3 (Cert.Experts.expert pend n) d f))
        (fun f => b1 (ix2 (Cert.Experts.expert pend n) f)) := by
    funext f
    rw [hidden_apply]
    simp only [taken1_apply, takenB1_apply]
  unfold result Cert.Experts.out
  rw [kept_apply _ (Cert.Experts.used pend) (used_apply pend h) (by unfold Cert.Experts.used; omega)]
  refine if_congr Iff.rfl ?_ rfl
  rw [rows_apply]
  unfold Cert.Experts.row
  simp only [taken2_apply, takenB2_apply, act_apply, glu_apply, lin_apply]
  rw [← hH]
  rfl

/-! ## The reference's frame -/

open Idealize.SL.Sem in
/-- Every fair run of the reference ends with its six arguments as they were and every counter at zero. -/
theorem frame_main {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems rfl r.2⟩) (Cert.Reference2Ideal.Value.run m ρ)

end Cert.Reference2Ideal.Hand

end
-- ==== Proof.ExpertAlgebra.lean ====
/-
  The experts' claims: the frames under the precondition, and that from equal arguments kernel and reference leave the same result.
-/
module

public import proofs.«01_k».proof.Defs
public import proofs.«01_k».proof.Proof.Gen.Kernel2
public import proofs.«01_k».proof.Proof.Gen.Pre_some_block
public import proofs.«01_k».proof.Proof.ExpertValue
public import proofs.«01_k».proof.Proof.ExpertReference

@[expose] public section

set_option maxRecDepth 16384

noncomputable section

namespace Cert.Proof

open Idealize.ShloMosaic Idealize.ShloMosaic.TcCoe Idealize.SL.Sem

/-- The precondition, read: the last end is at least a block of rows, as a signed word. -/
theorem some_block {F : FTy → Type} [FloatOps F] (pend : IVec ⟨1, ![32]⟩ 32) (xs : FVec F ⟨2, ![286720, 1024]⟩ .f32) (w1 : FVec F ⟨3, ![32, 1024, 2048]⟩ .f32)
    (b1 : FVec F ⟨2, ![32, 2048]⟩ .f32) (w2 : FVec F ⟨3, ![32, 1024, 1024]⟩ .f32) (b2 : FVec F ⟨2, ![32, 1024]⟩ .f32)
    (h : Cert.Pre_some_block.fn (F := F) pend xs w1 b1 w2 b2 = fun _ => 1#1) : 512 ≤ (pend (ix1 31)).toNat ∧ (pend (ix1 31)).toNat < 2 ^ 31 := by
  refine Cert.Experts.some_rows _ (Eq.trans ?_ (congrFun h ix0))
  pointwise [Cert.Pre_some_block.fn]

/-- The kernel's body is the idealized one's. -/
theorem bodies_same : Cert.Kernel2.defs₀ (F := Bits) = Cert.Kernel2Ideal.defs₀ (F := Bits) := by
  refine congrArg Defs.onTc ?_
  funext l p
  match l, p with
  | 0, (t, s) => rfl

/-- So are its launches. -/
theorem defs_same : Cert.Kernel2.defs (F := Bits) = Cert.Kernel2Ideal.defs (F := Bits) := congrArg (Pipeline.defs Cert.Kernel2.pcfgs) bodies_same

set_option maxHeartbeats 4000000 in
/-- And its host code. -/
theorem main_same : Cert.Kernel2.main (F := Bits) = Cert.Kernel2Ideal.main (F := Bits) := rfl

/-- The kernel's frame: its text is the idealized one's, so the run over the bits is an instance of that run. -/
theorem frame2 : Cert.quiescent_Kernel2 (hKernel2 := Cert.Kernel2.Gen.facts) (hPre_some_block := Cert.Pre_some_block.Gen.facts) := by
  intro m g hp
  have h := some_block (F := Bits) _ _ _ _ _ _ (hp 0)
  rw [defs_same, main_same]
  exact Cert.Kernel2Ideal.Hand.frame_main (F := Bits) m g (Cert.Kernel2Ideal.Hand.ok (F := Bits) m h.1 h.2)

/-- The idealized kernel's frame. -/
theorem frame2Ideal : Cert.quiescent_Kernel2Ideal (hKernel2Ideal := Cert.Kernel2Ideal.Gen.facts) (hPre_some_block := Cert.Pre_some_block.Gen.facts) :=
  fun m g hp =>
    have h := some_block (F := Ideal) _ _ _ _ _ _ (hp 0)
    Cert.Kernel2Ideal.Hand.frame_main m g (Cert.Kernel2Ideal.Hand.ok m h.1 h.2)

/-- The reference's result is the kernel's. -/
theorem experts_same (m : (ℓ : Loc Cert.Kernel2Ideal.nD Cert.Kernel2Ideal.τ Cert.Kernel2Ideal.sig) → Buf (Elt Ideal) ℓ) (c : Dev Cert.Kernel2Ideal.nD)
    (h : (Cert.Kernel2Ideal.Hand.argEnds m c (ix1 31)).toNat < 2 ^ 31) :
    Cert.Reference2Ideal.Hand.result (F := Ideal) (m ((c.tc : Thread _ Cert.Kernel2Ideal.τ).loc Cert.Kernel2Ideal.main_arg0))
      (m ((c.tc : Thread _ Cert.Kernel2Ideal.τ).loc Cert.Kernel2Ideal.main_arg1)) (m ((c.tc : Thread _ Cert.Kernel2Ideal.τ).loc Cert.Kernel2Ideal.main_arg2))
      (m ((c.tc : Thread _ Cert.Kernel2Ideal.τ).loc Cert.Kernel2Ideal.main_arg3)) (m ((c.tc : Thread _ Cert.Kernel2Ideal.τ).loc Cert.Kernel2Ideal.main_arg4))
      (m ((c.tc : Thread _ Cert.Kernel2Ideal.τ).loc Cert.Kernel2Ideal.main_arg5)) = Cert.Kernel2Ideal.Hand.result m c := by
  funext i
  obtain ⟨n, r, e, rfl⟩ : ∃ (n : Fin 560) (r : Fin 512) (e : Fin 1024), i = ix2 ⟨n.val * 512 + r.val, by omega⟩ e := by
    have h0 : (i 0).val < 286720 := (i 0).isLt
    refine ⟨⟨(i 0).val / 512, by omega⟩, ⟨(i 0).val % 512, by omega⟩, i 1, (eq_ix2 i).trans ?_⟩
    exact congrArg (fun k => ix2 k (i 1)) (Fin.ext (by show (i 0).val = (i 0).val / 512 * 512 + (i 0).val % 512; omega))
  rw [Cert.Kernel2Ideal.Hand.result_apply]
  exact Cert.Reference2Ideal.Hand.result_apply _ h _ _ _ _ _ n r e

/-- From equal arguments both end with equal results. -/
theorem algebraic2 : Cert.algebraic_Kernel2Ideal_Reference2Ideal (hKernel2Ideal := Cert.Kernel2Ideal.Gen.facts)
    (hReference2Ideal := Cert.Reference2Ideal.Gen.facts) (hPre_some_block := Cert.Pre_some_block.Gen.facts) := fun m g m' g' hp hargs =>
  have h := fun c => some_block (F := Ideal) _ _ _ _ _ _ (hp c)
  ⟨Cert.Kernel2Ideal.Hand.result m, Cert.Kernel2Ideal.Hand.run_value m g (h 0).1 (h 0).2,
    θ_run_mono (Cert.Reference2Ideal.Value.run m' g') fun _ hr c => ⟨(hr c).1.trans (by
      obtain ⟨e0, e1, e2, e3, e4, e5⟩ := hargs c
      refine (Cert.Reference2Ideal.Hand.out0_eq m' c).trans ?_
      rw [e0, e1, e2, e3, e4, e5]
      exact experts_same m c (h c).2), (hr c).2⟩⟩

end Cert.Proof

end
-- ==== Proof.Inproj.lean ====
/-
  The in-projection: the modulated root-mean-square norm of a position, and its product with the projection's columns.
-/
module

public import Idealize.ShloMosaic.Lib.Pointwise

@[expose] public section

noncomputable section

namespace Cert.Inproj

open Idealize.ShloMosaic

/-- A position's row, the batch elements' modulations, the norm's gain, the projection. -/
abbrev Rows := FVec Ideal ⟨3, ![32, 2048, 1024]⟩ .f32
abbrev Mods := FVec Ideal ⟨3, ![32, 6, 1024]⟩ .f32
abbrev Gain := FVec Ideal ⟨2, ![1, 1024]⟩ .f32
abbrev Proj := FVec Ideal ⟨2, ![1024, 7168]⟩ .f32

/-- The width, the norm's epsilon and one, as they are written in float32. -/
def width : EReal := Ideal.ofBits .f32 0x44800000#32
def eps : EReal := Ideal.ofBits .f32 0x358637BD#32
def one : EReal := Ideal.ofBits .f32 0x3F800000#32

/-- A row `v` over its root mean square, times the gain `g` and one plus the scale `p`, plus the shift `q`, at `d`. -/
def norm (v g p q : Fin 1024 → EReal) (d : Fin 1024) : EReal :=
  v d * Ideal.rsqrt (Ideal.div (∑ k, v k * v k) width + eps) * g d * (one + p d) + q d

/-- The modulated norm of position `s` of batch element `b`. -/
def u (x : Rows) (mod : Mods) (g : Gain) (b : Fin 32) (s : Fin 2048) : Fin 1024 → EReal :=
  norm (fun d => x (ix3 b s d)) (fun d => g (ix2 0 d)) (fun d => mod (ix3 b 1 d)) (fun d => mod (ix3 b 0 d))

/-- Its projection to column `e`. -/
def z (x : Rows) (mod : Mods) (g : Gain) (w : Proj) (b : Fin 32) (s : Fin 2048) (e : Fin 7168) : EReal :=
  ∑ d, u x mod g b s d * w (ix2 d e)

end Cert.Inproj

end
-- ==== Proof.InprojKernel.lean ====
/-
  The in-projection's kernel: what a point of its grid stores as the Fourier branch's input, and the array that leaves.
-/
module

public import proofs.«01_k».proof.Proof.Gen.Kernel3Ideal.Value
public import proofs.«01_k».proof.Proof.Inproj
public import Idealize.ShloMosaic.Lib.StableHlo.Run
public import Idealize.ShloMosaic.Lib.Pointwise

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic Idealize.SL.Sem
open Idealize.ShloMosaic.Pipeline (Dat)

/-! ## A point's block -/

section Tile

variable {F : FTy → Type} [FloatOps F]

/-- The tile stored: the modulated norm of the staged rows, rounded, times the last 512 staged columns. -/
def fTile (X : Vec F S1x512x1024 .f32) (M : Vec F S1x6x1024 .f32) (G : Vec F S1x1024 .f32) (W : Vec F S1024x5120 .bf16) : FVec F S1x512x512 .bf16 :=
  k0_pay1 (k0_pay207 (k0_pay3 X M G)
    (View.ld W (Rect.unit (s := S1024x5120) ![0, 4608] S1024x512.size inb_S1024x5120_S1024x512_0_4608)))

end Tile

/-- The norm of a staged row; -/
theorem pay2_apply (X : Vec Ideal S1x512x1024 .f32) (M : Vec Ideal S1x6x1024 .f32) (G : Vec Ideal S1x1024 .f32) (r : Fin 512) (d : Fin 1024) :
    k0_pay2 X M G (ix2 r d) = Cert.Inproj.norm (fun d => X (ix3 0 r d)) (fun d => G (ix2 0 d)) (fun d => M (ix3 0 1 d)) (fun d => M (ix3 0 0 d)) d := by
  pointwise [k0_pay2, Cert.Inproj.norm, Cert.Inproj.width, Cert.Inproj.eps, Cert.Inproj.one]
  done

/-- its product with a column. -/
theorem fTile_apply (X : Vec Ideal S1x512x1024 .f32) (M : Vec Ideal S1x6x1024 .f32) (G : Vec Ideal S1x1024 .f32) (W : Vec Ideal S1024x5120 .bf16)
    (r e : Fin 512) : fTile X M G W (ix3 0 r e) = ∑ d, k0_pay2 X M G (ix2 r d) * W (ix2 d ⟨4608 + e.val, by omega⟩) := by
  pointwise [fTile, k0_pay1, k0_pay207, k0_pay3]
  done

/-! ## The arrays staged -/

variable {F : FTy → Type} [FloatOps F] in
theorem V_w (m : (ℓ : Loc nD τ sig) → Buf (Elt F) ℓ) (c : Dev nD) : V m c main_v55
    = truncf .bf16 (extractStridedSlice S1024x5120 ![0, 0] (m ((c : Thread nD τ).loc main_arg3) : FVec F S1024x7168 .f32) slices_S1024x7168_S1024x5120_0_0) bitsLt_bf16_f32 := by
  unfold V
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp

/-- Where the windows lie at each point. -/
theorem index_x : ∀ t : Fin grid0.N, win0_0.index t = ![t.val / 4, t.val % 4, 0] := by decide +kernel
theorem index_mod : ∀ t : Fin grid0.N, win0_1.index t = ![t.val / 4, 0, 0] := by decide +kernel
theorem index_gain : ∀ t : Fin grid0.N, win0_2.index t = ![0, 0] := by decide +kernel
theorem index_w : ∀ t : Fin grid0.N, win0_3.index t = ![0, 0] := by decide +kernel
theorem index_f : ∀ t : Fin grid0.N, win0_10.index t = ![t.val / 4, t.val % 4, 0] := by decide +kernel

variable (m : (ℓ : Loc nD τ sig) → Buf (Elt Ideal) ℓ) (ρ : Dev nD → PrngReg) (c : Dev nD)

/-- The arguments. -/
abbrev argX : Cert.Inproj.Rows := m ((c : Thread nD τ).loc main_arg0)
abbrev argM : Cert.Inproj.Mods := m ((c : Thread nD τ).loc main_arg1)
abbrev argG : Cert.Inproj.Gain := m ((c : Thread nD τ).loc main_arg2)
abbrev argW : Cert.Inproj.Proj := m ((c : Thread nD τ).loc main_arg3)

section Block

variable (t : Fin cfg0.N) (b : Fin 32) (j : Fin 4) (hb : t.val / 4 = b.val) (hj : t.val % 4 = j.val)

include hb hj in
/-- A point stages 512 positions of one batch element, -/
theorem blk_x (r : Fin 512) (d : Fin 1024) : (iblk m c 0 t : Vec Ideal S1x512x1024 .f32) (ix3 0 r d) = argX m c (ix3 b ⟨512 * j.val + r.val, by omega⟩ d) := by
  refine Eq.trans ?_ (congrFun (V_main_arg0 m c) _)
  unfold iblk
  rw [View.read_apply]
  show V m c main_arg0 _ = V m c main_arg0 _
  congr 1
  funext a
  apply Fin.ext
  have hi := index_x t
  match a with
  | ⟨0, _⟩ => show win0_0.index t 0 * 1 + 1 * 0 = b.val; rw [hi]; simp [hb]
  | ⟨1, _⟩ => show win0_0.index t 1 * 512 + 1 * r.val = 512 * j.val + r.val; rw [hi]; simp [hj]; omega
  | ⟨2, _⟩ => show win0_0.index t 2 * 1024 + 1 * d.val = d.val; rw [hi]; simp

include hb in
/-- its modulation, -/
theorem blk_mod (k : Fin 6) (d : Fin 1024) : (iblk m c 1 t : Vec Ideal S1x6x1024 .f32) (ix3 0 k d) = argM m c (ix3 b k d) := by
  refine Eq.trans ?_ (congrFun (V_main_arg1 m c) _)
  unfold iblk
  rw [View.read_apply]
  show V m c main_arg1 _ = V m c main_arg1 _
  congr 1
  funext a
  apply Fin.ext
  have hi := index_mod t
  match a with
  | ⟨0, _⟩ => show win0_1.index t 0 * 1 + 1 * 0 = b.val; rw [hi]; simp [hb]
  | ⟨1, _⟩ => show win0_1.index t 1 * 6 + 1 * k.val = k.val; rw [hi]; simp
  | ⟨2, _⟩ => show win0_1.index t 2 * 1024 + 1 * d.val = d.val; rw [hi]; simp

/-- the gain, -/
theorem blk_gain (d : Fin 1024) : (iblk m c 2 t : Vec Ideal S1x1024 .f32) (ix2 0 d) = argG m c (ix2 0 d) := by
  refine Eq.trans ?_ (congrFun (V_main_arg2 m c) _)
  unfold iblk
  rw [View.read_apply]
  show V m c main_arg2 _ = V m c main_arg2 _
  congr 1
  funext a
  apply Fin.ext
  have hi := index_gain t
  match a with
  | ⟨0, _⟩ => show win0_2.index t 0 * 1 + 1 * 0 = 0; rw [hi]; simp
  | ⟨1, _⟩ => show win0_2.index t 1 * 1024 + 1 * d.val = d.val; rw [hi]; simp

/-- and the projection's first columns. -/
theorem blk_w (d : Fin 1024) (e : Fin 5120) : (iblk m c 3 t : Vec Ideal S1024x5120 .bf16) (ix2 d e) = argW m c (ix2 d ⟨e.val, e.isLt.trans (by decide)⟩) := by
  have h : truncf .bf16 (extractStridedSlice S1024x5120 ![0, 0] (argW m c : FVec Ideal S1024x7168 .f32) slices_S1024x7168_S1024x5120_0_0) bitsLt_bf16_f32 (ix2 d e)
      = argW m c (ix2 d ⟨e.val, e.isLt.trans (by decide)⟩) := by
    pointwise
  refine Eq.trans ?_ ((congrFun (V_w m c) (ix2 d e)).trans h)
  unfold iblk
  rw [View.read_apply]
  show V m c main_v55 _ = V m c main_v55 _
  congr 1
  funext a
  apply Fin.ext
  have hi := index_w t
  match a with
  | ⟨0, _⟩ => show win0_3.index t 0 * 1024 + 1 * d.val = d.val; rw [hi]; simp
  | ⟨1, _⟩ => show win0_3.index t 1 * 5120 + 1 * e.val = e.val; rw [hi]; simp

include hb hj in
/-- The staged rows' norms are the positions'. -/
theorem blk_u (r : Fin 512) (d : Fin 1024) : k0_pay2 (iblk m c 0 t : Vec Ideal S1x512x1024 .f32) (iblk m c 1 t) (iblk m c 2 t) (ix2 r d)
    = Cert.Inproj.u (argX m c) (argM m c) (argG m c) b ⟨512 * j.val + r.val, by omega⟩ d := by
  rw [pay2_apply]
  unfold Cert.Inproj.u
  simp only [blk_x m c t b j hb hj, blk_mod m c t b hb, blk_gain]

include hb hj in
/-- The tile is the positions' projection. -/
theorem blk_f (r e : Fin 512) : fTile (iblk m c 0 t) (iblk m c 1 t) (iblk m c 2 t) (iblk m c 3 t) (ix3 0 r e)
    = Cert.Inproj.z (argX m c) (argM m c) (argG m c) (argW m c) b ⟨512 * j.val + r.val, by omega⟩ ⟨4608 + e.val, by omega⟩ := by
  rw [fTile_apply]
  exact Finset.sum_congr rfl fun d _ => congrArg₂ (· * ·) (blk_u m c t b j hb hj r d) (blk_w m c t d _)

end Block

/-! ## What a point stores -/

variable {F : FTy → Type} [FloatOps F] in
set_option maxHeartbeats 2000000 in
theorem out_f (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5120 .bf16) (harg5 : arg5.IsWhole) (arg6 : Memref sig .tc .vmem S8x512 .f32) (harg6 : arg6.IsWhole) (arg7 : Memref sig .tc .vmem S3x3x512x128 .f32) (harg7 : arg7.IsWhole) (arg8 : Memref sig .tc .vmem S512x512 .bf16) (harg8 : arg8.IsWhole) (arg9 : Memref sig .tc .vmem S1x1x512x1536 .bf16) (harg9 : arg9.IsWhole) (arg10 : Memref sig .tc .vmem S1x4x128x1536 .bf16) (harg10 : arg10.IsWhole) (arg11 : Memref sig .tc .vmem S1x16x32x1536 .bf16) (harg11 : arg11.IsWhole) (arg12 : Memref sig .tc .vmem S1x512x512 .bf16) (harg12 : arg12.IsWhole) (arg13 : Memref sig .tc .vmem S8x512x128 .f32) (harg13 : arg13.IsWhole)
    (x0 : Vec F S1x512x1024 .f32) (x1 : Vec F S1x6x1024 .f32) (x2 : Vec F S1x1024 .f32) (x3 : Vec F S1024x5120 .bf16) (x4 : Vec F S8x512 .f32) (x5 : Vec F S3x3x512x128 .f32) (x6 : Vec F S512x512 .bf16) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6
      = fTile x0 x1 x2 x3 := by
  have h : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).2.2.2.1
      = [⟨Rect.unit (s := S1x512x512) ![0, 0, 0] S1x512x512.size inb_S1x512x512_S1x512x512_0_0_0,
          fTile (View.ld (arg2.view.read (Elt F) (harg2.unread x0)) (Rect.unit (s := S1x512x1024) ![0, 0, 0] S1x512x1024.size inb_S1x512x1024_S1x512x1024_0_0_0))
            (View.ld (arg3.view.read (Elt F) (harg3.unread x1)) (Rect.unit (s := S1x6x1024) ![0, 0, 0] S1x6x1024.size inb_S1x6x1024_S1x6x1024_0_0_0))
            (View.ld (arg4.view.read (Elt F) (harg4.unread x2)) (Rect.unit (s := S1x1024) ![0, 0] S1x1024.size inb_S1x1024_S1x1024_0_0))
            (arg5.view.read (Elt F) (harg5.unread x3))⟩] := by
    sl_kernel_rfl
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6), h,
    View.canon_cons_unit_zero (by funext a; fin_cases a <;> rfl), harg2.read_unread, harg3.read_unread, harg4.read_unread, harg5.read_unread,
    View.ld_unit_zero (by funext a; fin_cases a <;> rfl), View.ld_unit_zero (by funext a; fin_cases a <;> rfl), View.ld_unit_zero (by funext a; fin_cases a <;> rfl)]

/-! ## The result -/

/-- The Fourier branch's columns of the positions' projection. -/
def resultF : Vec Ideal S32x2048x512 .bf16 := fun i =>
  Cert.Inproj.z (argX m c) (argM m c) (argG m c) (argW m c) (i 0) (i 1) ⟨4608 + (i 2).val, by have h : (i 2).val < 512 := (i 2).isLt; omega⟩

/-- Point `t` writes its positions' part of it. -/
theorem flushed_f (t : Fin cfg0.N) : (dats m 0 c).flushed 10 t = ((cfg0.win 10).blk t).view.read (Elt Ideal) (resultF m c) := by
  rw [Cert.Kernel3Ideal.Value.flushed10_A, out_f]
  have hN : cfg0.N = 128 := N_0
  have hi := index_f t
  have ht := t.isLt
  funext y
  rw [View.read_apply]
  obtain ⟨z, r, e, rfl⟩ : ∃ (z : Fin 1) (r : Fin 512) (e : Fin 512), y = ix3 z r e := ⟨y 0, y 1, y 2, eq_ix3 y⟩
  obtain rfl : z = 0 := Subsingleton.elim _ _
  have key : (((cfg0.win 10).blk t).view.emb (ix3 0 r e) : S32x2048x512.Idx) = ix3 ⟨t.val / 4, by omega⟩ ⟨512 * (t.val % 4) + r.val, by omega⟩ e := by
    funext a
    apply Fin.ext
    match a with
    | ⟨0, _⟩ => show win0_10.index t 0 * 1 + 1 * 0 = t.val / 4; rw [hi]; simp
    | ⟨1, _⟩ => show win0_10.index t 1 * 512 + 1 * r.val = 512 * (t.val % 4) + r.val; rw [hi]; simp; omega
    | ⟨2, _⟩ => show win0_10.index t 2 * 512 + 1 * e.val = e.val; rw [hi]; simp
  refine Eq.trans ?_ (congrArg (resultF m c) key).symm
  exact blk_f m c t ⟨t.val / 4, by omega⟩ ⟨t.val % 4, by omega⟩ rfl rfl r e

/-- So the array ends at the result. -/
theorem final_f : (dats m 0 c).arrAt 10 cfg0.N = resultF m c :=
  (dats m 0 c).arrAt_eq_of_cover 10 (resultF m c) (fun t _ => flushed_f m c t) fun (i : S32x2048x512.Idx) => by
    have hN : cfg0.N = 128 := N_0
    have h0 : (i 0 : Nat) < 32 := (i 0).isLt
    have h1 : (i 1 : Nat) < 2048 := (i 1).isLt
    have h2 : (i 2 : Nat) < 512 := (i 2).isLt
    obtain ⟨t, ht⟩ : ∃ t : Fin grid0.N, t.val = 4 * (i 0 : Nat) + (i 1 : Nat) / 512 := ⟨⟨4 * (i 0).val + (i 1).val / 512, by show _ < cfg0.N; omega⟩, rfl⟩
    have hi := index_f t
    refine ⟨t, flush0_10 t, ?_⟩
    show i ∈ ((View.whole main_v129_3).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1; rw [hi]; show t.val / 4 * 1 ≤ _ ∧ _ < t.val / 4 * 1 + 1; omega
    | ⟨1, _⟩ => show win0_10.index t 1 * 512 ≤ (i 1 : Nat) ∧ (i 1 : Nat) < win0_10.index t 1 * 512 + 512; rw [hi]; show t.val % 4 * 512 ≤ _ ∧ _ < t.val % 4 * 512 + 512; omega
    | ⟨2, _⟩ => show win0_10.index t 2 * 512 ≤ (i 2 : Nat) ∧ (i 2 : Nat) < win0_10.index t 2 * 512 + 512; rw [hi]; simpa using h2

end Cert.Kernel3Ideal.Hand

end
-- ==== Proof.InprojTiles.lean ====
/-
  What the in-projection's kernel computes for one dilation group at a point of its grid: the staged rows regrouped by
  residue class, their queries, keys and values as 512 × 512 tiles, and the stores that lay those tiles out.
-/
module

public import proofs.«01_k».proof.Proof.InprojKernel

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic Idealize.SL.Sem

variable {F : FTy → Type} [FloatOps F]

/-! ## The normalised rows, regrouped -/

theorem slab_slices (c : Fin 8) : S512x1024.Slices ![0, 128 * c.val] S512x128 := by
  have := c.isLt
  exact ⟨rfl, fun a => by fin_cases a <;> simp [S512x128, S512x1024] <;> omega⟩

theorem slab_inb (c : Fin 8) : ∀ a, (![c.val, 0, 0] : Fin 3 → Nat) a + S1x512x128.size a ≤ S8x512x128.size a := by
  have := c.isLt
  intro a; fin_cases a <;> simp [S1x512x128, S8x512x128] <;> omega

/-- The rows' columns `128 c …`, -/
def slab (u : FVec F S512x1024 .f32) (c : Fin 8) : Vec F S1x512x128 .f32 :=
  shapeCast S1x512x128 (extractStridedSlice S512x128 ![0, 128 * c.val] u (slab_slices c)) shapeCasts_S512x128_S1x512x128

/-- where they are kept, -/
abbrev slabRect (c : Fin 8) : Rect S8x512x128 := Rect.unit (s := S8x512x128) ![c.val, 0, 0] S1x512x128.size (slab_inb c)

/-- and the eight stores that keep them, the last first. -/
def slabs (u : FVec F S512x1024 .f32) : List (View.Piece (Elt F) S8x512x128 .f32) :=
  ([7, 6, 5, 4, 3, 2, 1, 0] : List (Fin 8)).map fun c => ⟨slabRect c, slab u c⟩

theorem class4_inb (c : Fin 8) (r : Fin 4) : ∀ a, S1x128x128.size a = 0 ∨
    (![c.val, r.val, 0] : Fin 3 → Nat) a + (![1, 4, 1] : Fin 3 → Nat) a * (S1x128x128.size a - 1) < S8x512x128.size a := by
  have := c.isLt; have := r.isLt
  intro a; right; fin_cases a <;> simp [S1x128x128, S8x512x128] <;> omega

theorem class16_inb (c : Fin 8) (r : Fin 16) : ∀ a, S1x32x128.size a = 0 ∨
    (![c.val, r.val, 0] : Fin 3 → Nat) a + (![1, 16, 1] : Fin 3 → Nat) a * (S1x32x128.size a - 1) < S8x512x128.size a := by
  have := c.isLt; have := r.isLt
  intro a; right; fin_cases a <;> simp [S1x32x128, S8x512x128] <;> omega

/-- Columns `128 c …` of every fourth row from `r` on, and of every sixteenth. -/
abbrev class4 (c : Fin 8) (r : Fin 4) : LoadRect S8x512x128 := ⟨![c.val, r.val, 0], S1x128x128.size, ![1, 4, 1], class4_inb c r⟩
abbrev class16 (c : Fin 8) (r : Fin 16) : LoadRect S8x512x128 := ⟨![c.val, r.val, 0], S1x32x128.size, ![1, 16, 1], class16_inb c r⟩

/-- The residue classes one below another; -/
def stack4 (ld : Fin 4 → Vec F S1x128x128 .f32) : FVec F S512x128 .f32 :=
  concatenate S512x128 0 (List.ofFn fun r : Fin 4 => ⟨S128x128, shapeCast S128x128 (ld r) shapeCasts_S1x128x128_S128x128⟩) concatenates_S128x128_S128x128_S128x128_S128x128_S512x128_d0

def stack16 (ld : Fin 16 → Vec F S1x32x128 .f32) : FVec F S512x128 .f32 :=
  concatenate S512x128 0 (List.ofFn fun r : Fin 16 => ⟨S32x128, shapeCast S32x128 (ld r) shapeCasts_S1x32x128_S32x128⟩) concatenates_S32x128_S32x128_S32x128_S32x128_S32x128_S32x128_S32x128_S32x128_S32x128_S32x128_S32x128_S32x128_S32x128_S32x128_S32x128_S32x128_S512x128_d0

/-- and their columns side by side. -/
def beside (f : Fin 8 → FVec F S512x128 .f32) : FVec F S512x1024 .bf16 :=
  truncf .bf16 (concatenate S512x1024 1 (List.ofFn fun c : Fin 8 => ⟨S512x128, f c⟩) concatenates_S512x128_S512x128_S512x128_S512x128_S512x128_S512x128_S512x128_S512x128_S512x1024_d1) bitsLt_bf16_f32

def regroup4 {sp : Space} (v : View sig .tc sp S8x512x128 .f32) (u : FVec F S512x1024 .f32) : FVec F S512x1024 .bf16 :=
  beside fun c => stack4 fun r => v.readCov (Val := Elt F) (slabs u) (class4 c r)
def regroup16 {sp : Space} (v : View sig .tc sp S8x512x128 .f32) (u : FVec F S512x1024 .f32) : FVec F S512x1024 .bf16 :=
  beside fun c => stack16 fun r => v.readCov (Val := Elt F) (slabs u) (class16 c r)

/-! ## A group's tiles -/

theorem cols_inb (k : Fin 9) : ∀ a, (![0, 512 * k.val] : Fin 2 → Nat) a + S1024x512.size a ≤ S1024x5120.size a := by
  have := k.isLt
  intro a; fin_cases a <;> simp [S1024x512, S1024x5120] <;> omega

/-- The rows' product with the projection's columns `512 k …`. -/
def dotTile (U : FVec F S512x1024 .bf16) (W : Vec F S1024x5120 .bf16) (k : Fin 9) : FVec F S512x512 .f32 :=
  matmul dot_S512x1024_S1024x512_S512x512_1_0_0_1_n_n none U
    (shapeCast S1024x512 (View.ld W (Rect.unit (s := S1024x5120) ![0, 512 * k.val] S1024x512.size (cols_inb k)) : Vec F S1024x512 .bf16) shapeCasts_S1024x512_S1024x512)
    (constant S512x512 .f32 0x00000000#32)

theorem gain_inb (k : Fin 6) : ∀ a, (![k.val, 0] : Fin 2 → Nat) a + S1x512.size a ≤ S8x512.size a := by
  have := k.isLt
  intro a; fin_cases a <;> simp [S1x512, S8x512] <;> omega

/-- Row `k` of the gains. -/
def gainTile (G : Vec F S8x512 .f32) (k : Fin 6) : FVec F S1x512 .f32 :=
  shapeCast S1x512 (View.ld G (Rect.unit (s := S8x512) ![k.val, 0] S1x512.size (gain_inb k)) : Vec F S1x512 .f32) shapeCasts_S1x512_S1x512

/-- A query's gain carries the scores' scale. -/
def scaled (g : FVec F S1x512 .f32) : FVec F S1x512 .f32 := mulf g (broadcast S1x512 (Scalar.ofBits .f32 0x3E38AA3B#32))

/-- A tile over the root mean square of its heads, times a gain. -/
def normTile (z : FVec F S512x512 .f32) (A : Vec F S512x512 .bf16) (g : FVec F S1x512 .f32) : FVec F S512x512 .f32 :=
  mulf (mulf z (rsqrt (addf
      (matmul dot_S512x512_S512x512_S512x512_1_0_0_1_n_n none (truncf .bf16 (mulf z z) bitsLt_bf16_f32) (shapeCast S512x512 A shapeCasts_S512x512_S512x512) (constant S512x512 .f32 0x00000000#32))
      (broadcast S512x512 (Scalar.ofBits .f32 0x358637BD#32)))))
    (broadcastTo S512x512 g broadcasts_S1x512_S512x512)

theorem table_inb (g k : Fin 3) : ∀ a, (![g.val, k.val, 0, 0] : Fin 4 → Nat) a + S1x1x512x128.size a ≤ S3x3x512x128.size a := by
  have := g.isLt; have := k.isLt
  intro a; fin_cases a <;> simp [S1x1x512x128, S3x3x512x128] <;> omega

/-- The rotation's table `k` for group `g`: 0 the cosines, 1 and 2 the sines for the lane before and the lane after. -/
def tableTile (R : Vec F S3x3x512x128 .f32) (g k : Fin 3) : FVec F S512x128 .f32 :=
  shapeCast S512x128 (View.ld R (Rect.unit (s := S3x3x512x128) ![g.val, k.val, 0, 0] S1x1x512x128.size (table_inb g k)) : Vec F S1x1x512x128 .f32) shapeCasts_S1x1x512x128_S512x128

theorem lanes_slices (k : Fin 4) : S512x512.Slices ![0, 128 * k.val] S512x128 := by
  have := k.isLt
  exact ⟨rfl, fun a => by fin_cases a <;> simp [S512x128, S512x512] <;> omega⟩

/-- The lanes `128 k …` of a tile, -/
def lanes (z : FVec F S512x512 .f32) (k : Fin 4) : FVec F S512x128 .f32 := extractStridedSlice S512x128 ![0, 128 * k.val] z (lanes_slices k)

/-- rotated, -/
def turn (z : FVec F S512x128 .f32) (t0 t1 t2 : FVec F S512x128 .f32) : FVec F S512x128 .f32 :=
  addf (addf (mulf z t0) (mulf (dynamicRotate 1 8#32 none z rotates_S512x128_d1) t1)) (mulf (dynamicRotate 1 120#32 none z rotates_S512x128_d1) t2)

/-- and put back. -/
def turnTile (z : FVec F S512x512 .f32) (t0 t1 t2 : FVec F S512x128 .f32) : FVec F S512x512 .f32 :=
  concatenate S512x512 1 (List.ofFn fun k : Fin 4 => ⟨S512x128, turn (lanes z k) t0 t1 t2⟩) concatenates_S512x128_S512x128_S512x128_S512x128_S512x512_d1

section Group

variable (g : Fin 3) (U : FVec F S512x1024 .bf16) (W : Vec F S1024x5120 .bf16) (G : Vec F S8x512 .f32) (R : Vec F S3x3x512x128 .f32) (A : Vec F S512x512 .bf16)

/-- The group's queries, -/
def qTile : FVec F S512x512 .bf16 :=
  truncf .bf16 (turnTile (normTile (dotTile U W ⟨3 * g.val, by omega⟩) A (scaled (gainTile G ⟨2 * g.val, by omega⟩)))
    (tableTile R g 0) (tableTile R g 1) (tableTile R g 2)) bitsLt_bf16_f32
/-- keys, -/
def kTile : FVec F S512x512 .bf16 :=
  truncf .bf16 (turnTile (normTile (dotTile U W ⟨3 * g.val + 1, by omega⟩) A (gainTile G ⟨2 * g.val + 1, by omega⟩))
    (tableTile R g 0) (tableTile R g 1) (tableTile R g 2)) bitsLt_bf16_f32
/-- and values. -/
def vTile : FVec F S512x512 .bf16 := truncf .bf16 (dotTile U W ⟨3 * g.val + 2, by omega⟩) bitsLt_bf16_f32

/-- The three by number. -/
def tileOf (j : Fin 3) : FVec F S512x512 .bf16 := if j = 0 then qTile g U W G R A else if j = 1 then kTile g U W G R A else vTile g U W

end Group

/-! ## The stores -/

theorem part1_inb (j : Fin 3) : ∀ a, (![0, 0, 0, 512 * j.val] : Fin 4 → Nat) a + S1x1x512x512.size a ≤ S1x1x512x1536.size a := by
  have := j.isLt
  intro a; fin_cases a <;> simp [S1x1x512x512, S1x1x512x1536] <;> omega
theorem part4_inb (j : Fin 3) (r : Fin 4) : ∀ a, (![0, r.val, 0, 512 * j.val] : Fin 4 → Nat) a + S1x1x128x512.size a ≤ S1x4x128x1536.size a := by
  have := j.isLt; have := r.isLt
  intro a; fin_cases a <;> simp [S1x1x128x512, S1x4x128x1536] <;> omega
theorem part16_inb (j : Fin 3) (r : Fin 16) : ∀ a, (![0, r.val, 0, 512 * j.val] : Fin 4 → Nat) a + S1x1x32x512.size a ≤ S1x16x32x1536.size a := by
  have := j.isLt; have := r.isLt
  intro a; fin_cases a <;> simp [S1x1x32x512, S1x16x32x1536] <;> omega

theorem rows4_slices (r : Fin 4) : S512x512.Slices ![128 * r.val, 0] S128x512 := by
  have := r.isLt
  exact ⟨rfl, fun a => by fin_cases a <;> simp [S128x512, S512x512] <;> omega⟩
theorem rows16_slices (r : Fin 16) : S512x512.Slices ![32 * r.val, 0] S32x512 := by
  have := r.isLt
  exact ⟨rfl, fun a => by fin_cases a <;> simp [S32x512, S512x512] <;> omega⟩

/-- Tile `j`'s store when there is one class, four, sixteen. -/
abbrev part1 (T : Fin 3 → FVec F S512x512 .bf16) (j : Fin 3) : View.Piece (Elt F) S1x1x512x1536 .bf16 :=
  ⟨Rect.unit (s := S1x1x512x1536) ![0, 0, 0, 512 * j.val] S1x1x512x512.size (part1_inb j), shapeCast S1x1x512x512 (T j) shapeCasts_S512x512_S1x1x512x512⟩
abbrev part4 (T : Fin 3 → FVec F S512x512 .bf16) (j : Fin 3) (r : Fin 4) : View.Piece (Elt F) S1x4x128x1536 .bf16 :=
  ⟨Rect.unit (s := S1x4x128x1536) ![0, r.val, 0, 512 * j.val] S1x1x128x512.size (part4_inb j r),
    shapeCast S1x1x128x512 (extractStridedSlice S128x512 ![128 * r.val, 0] (T j) (rows4_slices r)) shapeCasts_S128x512_S1x1x128x512⟩
abbrev part16 (T : Fin 3 → FVec F S512x512 .bf16) (j : Fin 3) (r : Fin 16) : View.Piece (Elt F) S1x16x32x1536 .bf16 :=
  ⟨Rect.unit (s := S1x16x32x1536) ![0, r.val, 0, 512 * j.val] S1x1x32x512.size (part16_inb j r),
    shapeCast S1x1x32x512 (extractStridedSlice S32x512 ![32 * r.val, 0] (T j) (rows16_slices r)) shapeCasts_S32x512_S1x1x32x512⟩

/-- The stores of a group, the last first. -/
def parts1 (T : Fin 3 → FVec F S512x512 .bf16) : List (View.Piece (Elt F) S1x1x512x1536 .bf16) :=
  ([2, 1, 0] : List (Fin 3)).map (part1 T)
def parts4 (T : Fin 3 → FVec F S512x512 .bf16) : List (View.Piece (Elt F) S1x4x128x1536 .bf16) :=
  ([2, 1, 0] : List (Fin 3)).flatMap fun j => ([3, 2, 1, 0] : List (Fin 4)).map (part4 T j)
def parts16 (T : Fin 3 → FVec F S512x512 .bf16) : List (View.Piece (Elt F) S1x16x32x1536 .bf16) :=
  ([2, 1, 0] : List (Fin 3)).flatMap fun j => ([15, 14, 13, 12, 11, 10, 9, 8, 7, 6, 5, 4, 3, 2, 1, 0] : List (Fin 16)).map (part16 T j)

end Cert.Kernel3Ideal.Hand

end
-- ==== Proof.InprojHeads.lean ====
/-
  The in-projection's queries, keys and values: the projection's columns cut into heads, the heads' norms, and the rotation
  by a position's angles.
-/
module

public import proofs.«01_k».proof.Proof.Inproj

@[expose] public section

noncomputable section

namespace Cert.Inproj

open Idealize.ShloMosaic

/-- The groups' gains. -/
abbrev Gains := FVec Ideal ⟨2, ![3, 64]⟩ .f32

/-- A head's width and the scores' scale, as they are written in float32. -/
def headWidth : EReal := Ideal.ofBits .f32 0x42800000#32
def qScale : EReal := Ideal.ofBits .f32 0x3E38AA3B#32

/-- The angle by which position `s` turns pair `i`: the position times the rotation's base to the power `-2 i / 16`. -/
def angle (s : Fin 2048) (i : Fin 8) : EReal :=
  FloatOps.sitofp (F := Ideal) .f32 (BitVec.ofNat 32 s.val) * Ideal.pow (Ideal.ofBits .f32 0x48F42400#32)
    (Ideal.div (-FloatOps.sitofp (F := Ideal) .f32 (BitVec.ofNat 32 i.val) * Ideal.ofBits .f32 0x40000000#32) (Ideal.ofBits .f32 0x41800000#32))

/-- A head over its root mean square, times the gain. -/
def headNorm (v g : Fin 64 → EReal) (a : Fin 64) : EReal := v a * Ideal.rsqrt (Ideal.div (∑ k, v k * v k) headWidth + eps) * g a

/-- A head whose first sixteen entries are turned in pairs `(i, i + 8)` by the position's angles. -/
def turned (t : Fin 64 → EReal) (s : Fin 2048) (a : Fin 64) : EReal :=
  if h : a.val < 8 then t a * Ideal.cos (angle s ⟨a.val, h⟩) - t ⟨a.val + 8, by omega⟩ * Ideal.sin (angle s ⟨a.val, h⟩)
  else if h : a.val < 16 then t a * Ideal.cos (angle s ⟨a.val - 8, by omega⟩) + t ⟨a.val - 8, by omega⟩ * Ideal.sin (angle s ⟨a.val - 8, by omega⟩)
  else t a

/-- Head `h` of group `g`'s queries (`j = 0`), keys (1) or values (2) in a row `z` of the projection. -/
def head (z : Fin 7168 → EReal) (g j : Fin 3) (h : Fin 8) (a : Fin 64) : EReal :=
  z ⟨1536 * g.val + 512 * j.val + 64 * h.val + a.val, by omega⟩

/-- Head `h` of group `g` at position `s`: the queries normed, turned and scaled, the keys normed and turned, the values as they are. -/
def entry (z : Fin 7168 → EReal) (gq gk : Gains) (s : Fin 2048) (g j : Fin 3) (h : Fin 8) (a : Fin 64) : EReal :=
  if j = 0 then turned (headNorm (head z g 0 h) fun a => gq (ix2 g a)) s a * qScale
  else if j = 1 then turned (headNorm (head z g 1 h) fun a => gk (ix2 g a)) s a
  else head z g 2 h a

end Cert.Inproj

end
-- ==== Proof.InprojTurn.lean ====
/-
  The kernel's way to the queries and keys: the heads' means as a product with a matrix of zeros and 1/64s, the rotation as
  two shifts of the lanes with tables that vanish where nothing turns, and the queries' scale inside their gain.
-/
module

public import proofs.«01_k».proof.Proof.InprojHeads
public import proofs.«01_k».proof.Proof.Attention

@[expose] public section

noncomputable section

namespace Cert.Inproj

open Idealize.ShloMosaic

theorem headWidth_eq : headWidth = ((64 : ℝ) : EReal) := by
  simp [headWidth, Ideal.ofBits, Ideal.ieee]
  rw [← EReal.coe_mul]
  norm_num

/-- The scores' scale is a positive real. -/
theorem qScale_eq : ∃ c : ℝ, 0 < c ∧ qScale = (c : EReal) := by
  refine ⟨12102203 / 2 ^ 26, by norm_num, ?_⟩
  simp [qScale, Ideal.ofBits, Ideal.ieee]
  rw [← EReal.coe_mul]
  norm_num

/-- The averaging matrix's entry. -/
def share (k e : Fin 512) : EReal := if k.val / 64 = e.val / 64 then ((1 / 64 : ℝ) : EReal) else 0

/-- The product with it is a head's mean. -/
theorem sum_share (f : Fin 512 → EReal) (h : Fin 8) (a : Fin 64) :
    ∑ k, f k * share k ⟨64 * h.val + a.val, by omega⟩ = Ideal.div (∑ i : Fin 64, f ⟨64 * h.val + i.val, by omega⟩) headWidth := by
  rw [headWidth_eq, Ideal.div_coe (by norm_num), Cert.Attention.sum_mul_coe _ (by norm_num)]
  have hh := h.isLt
  have ha := a.isLt
  have e : (64 * h.val + a.val) / 64 = h.val := by omega
  simp only [share, e, mul_ite, mul_zero]
  rw [← Finset.sum_filter]
  symm
  refine Finset.sum_bij (fun (i : Fin 64) _ => (⟨64 * h.val + i.val, by omega⟩ : Fin 512)) ?_ ?_ ?_ ?_
  · intro i _
    rw [Finset.mem_filter]
    exact ⟨Finset.mem_univ _, by dsimp only; omega⟩
  · intro i _ i' _ hi
    have := congrArg Fin.val hi
    dsimp only at this
    exact Fin.ext (by omega)
  · intro k hk
    rw [Finset.mem_filter] at hk
    have hk' := hk.2
    exact ⟨⟨k.val - 64 * h.val, by omega⟩, Finset.mem_univ _, Fin.ext (by dsimp only; omega)⟩
  · intro i _
    rfl

/-- The rotation's tables at position `s` and entry `a` of a head: what multiplies the entry, the one eight before it, the one eight after. -/
def keep (s : Fin 2048) (a : Fin 64) : EReal :=
  if h : a.val < 8 then Ideal.cos (angle s ⟨a.val, h⟩) else if h : a.val < 16 then Ideal.cos (angle s ⟨a.val - 8, by omega⟩) else 1
def before (s : Fin 2048) (a : Fin 64) : EReal :=
  if a.val < 8 then 0 else if h : a.val < 16 then Ideal.sin (angle s ⟨a.val - 8, by omega⟩) else 0
def after (s : Fin 2048) (a : Fin 64) : EReal :=
  if h : a.val < 8 then -Ideal.sin (angle s ⟨a.val, h⟩) else 0

/-- The lanes eight before and eight after, round a block of 128. -/
abbrev laneBefore (e : Fin 512) : Fin 512 := ⟨128 * (e.val / 128) + (e.val % 128 + 120) % 128, by omega⟩
abbrev laneAfter (e : Fin 512) : Fin 512 := ⟨128 * (e.val / 128) + (e.val % 128 + 8) % 128, by omega⟩

/-- The two shifts turn a head. -/
theorem shifts_eq (T : Fin 512 → EReal) (s : Fin 2048) (h : Fin 8) (a : Fin 64) (e : Fin 512) (he : e.val = 64 * h.val + a.val) :
    T e * keep s a + T (laneBefore e) * before s a + T (laneAfter e) * after s a
      = turned (fun a => T ⟨64 * h.val + a.val, by omega⟩) s a := by
  have hh := h.isLt
  have ha := a.isLt
  have hlt : 64 * h.val + a.val < 512 := by omega
  obtain rfl : e = ⟨64 * h.val + a.val, hlt⟩ := Fin.ext he
  unfold keep before after turned
  by_cases h1 : a.val < 8
  · have e2 : laneAfter ⟨64 * h.val + a.val, hlt⟩ = ⟨64 * h.val + (a.val + 8), by omega⟩ := Fin.ext (by dsimp only; omega)
    rw [dif_pos h1, if_pos h1, dif_pos h1, dif_pos h1, e2, mul_zero, add_zero, mul_neg, sub_eq_add_neg]
  · by_cases h2 : a.val < 16
    · have e2 : laneBefore ⟨64 * h.val + a.val, hlt⟩ = ⟨64 * h.val + (a.val - 8), by omega⟩ := Fin.ext (by dsimp only; omega)
      rw [dif_neg h1, dif_pos h2, if_neg h1, dif_pos h2, dif_neg h1, dif_neg h1, dif_pos h2, e2, mul_zero, add_zero]
    · rw [dif_neg h1, dif_neg h2, if_neg h1, dif_neg h2, dif_neg h1, dif_neg h1, dif_neg h2, mul_zero, mul_zero, add_zero, add_zero, mul_one]

/-- A factor passes through the rotation. -/
theorem turned_mul {c : ℝ} (hc : 0 < c) (t : Fin 64 → EReal) (s : Fin 2048) (a : Fin 64) :
    turned (fun a => t a * (c : EReal)) s a = turned t s a * (c : EReal) := by
  unfold turned
  split
  · rw [Cert.Attention.sub_mul_coe hc, mul_right_comm, mul_right_comm (t ⟨a.val + 8, _⟩)]
  · split
    · rw [Cert.Attention.add_mul_coe hc, mul_right_comm, mul_right_comm (t ⟨a.val - 8, _⟩)]
    · rfl

/-- So the queries' scale may sit in their gain. -/
theorem scaled_gain (v g : Fin 64 → EReal) (s : Fin 2048) (a : Fin 64) :
    turned (headNorm v fun a => g a * qScale) s a = turned (headNorm v g) s a * qScale := by
  obtain ⟨c, hc, e⟩ := qScale_eq
  rw [e, ← turned_mul hc]
  refine congrArg (fun t => turned t s a) (funext fun a => ?_)
  simp only [headNorm, mul_assoc]

/-- What the kernel computes of a row `z` of a group's 512 columns with the gain row `g`, at head `h`, entry `a`. -/
theorem shifted_norm (z g : Fin 512 → EReal) (s : Fin 2048) (h : Fin 8) (a : Fin 64) (e : Fin 512) (he : e.val = 64 * h.val + a.val)
    (N : Fin 512 → EReal) (hN : ∀ e, N e = z e * Ideal.rsqrt ((∑ k, z k * z k * share k e) + eps) * g e) :
    N e * keep s a + N (laneBefore e) * before s a + N (laneAfter e) * after s a
      = turned (headNorm (fun a => z ⟨64 * h.val + a.val, by omega⟩) fun a => g ⟨64 * h.val + a.val, by omega⟩) s a := by
  rw [shifts_eq N s h a e he]
  refine congrArg (fun t => turned t s a) (funext fun a => ?_)
  rw [hN, sum_share (fun k => z k * z k)]
  rfl

end Cert.Inproj

end
-- ==== Proof.InprojTileValues.lean ====
/-
  The in-projection's tiles over the extended reals: the rows regrouped, their products, norms and rotations, index by index.
-/
module

public import proofs.«01_k».proof.Proof.InprojTiles
public import proofs.«01_k».proof.Proof.InprojTurn

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic Idealize.SL.Sem

/-! ## The rows regrouped -/

theorem slab_apply (u : FVec Ideal S512x1024 .f32) (c : Fin 8) (p : Fin 512) (l : Fin 128) :
    slab u c (ix3 0 p l) = u (ix2 p ⟨128 * c.val + l.val, by omega⟩) := by
  pointwise [slab]

/-- What the scratch buffer keeps of the rows. -/
def kept (u : FVec Ideal S512x1024 .f32) : Vec Ideal S8x512x128 .f32 := fun y =>
  u (ix2 (y 1) ⟨128 * (y 0).val + (y 2).val, by have h0 : (y 0).val < 8 := (y 0).isLt; have h2 : (y 2).val < 128 := (y 2).isLt; omega⟩)

theorem mem_slabs (u : FVec Ideal S512x1024 .f32) (c : Fin 8) : (⟨slabRect c, slab u c⟩ : View.Piece (Elt Ideal) S8x512x128 .f32) ∈ slabs u := by
  unfold slabs
  rw [List.mem_map]
  exact ⟨c, by fin_cases c <;> simp, rfl⟩

/-- A box read back holds what is kept there. -/
theorem readCov_slabs {sp : Space} (v : View sig .tc sp S8x512x128 .f32) (u : FVec Ideal S512x1024 .f32) (B : LoadRect S8x512x128) (x : B.shape.Idx) :
    v.readCov (Val := Elt Ideal) (slabs u) B x = kept u (B.idx x) := by
  rw [View.readCov_eq_canon']
  refine View.canon_apply_of_pieces (kept u) (slabs u) ?_ _ ⟨_, mem_slabs u (B.idx x 0), ?_⟩
  · intro q hq y
    unfold slabs at hq
    rw [List.mem_map] at hq
    obtain ⟨c, -, rfl⟩ := hq
    obtain ⟨z, p, l, rfl⟩ : ∃ (z : Fin 1) (p : Fin 512) (l : Fin 128), y = ix3 z p l := ⟨y 0, y 1, y 2, eq_ix3 y⟩
    obtain rfl : z = 0 := Subsingleton.elim _ _
    refine (slab_apply u c p l).trans ?_
    unfold kept
    refine congrArg u (congrArg₂ ix2 (Fin.ext ?_) (Fin.ext ?_))
    · show p.val = 0 + 1 * p.val; omega
    · show 128 * c.val + l.val = 128 * (c.val + 1 * 0) + (0 + 1 * l.val); omega
  · rw [Rect.mem_set_unit]
    have h1 : (B.idx x 1 : Nat) < 512 := (B.idx x 1).isLt
    have h2 : (B.idx x 2 : Nat) < 128 := (B.idx x 2).isLt
    intro a
    match a with
    | ⟨0, _⟩ => show (B.idx x 0 : Nat) ≤ (B.idx x 0 : Nat) ∧ (B.idx x 0 : Nat) < (B.idx x 0 : Nat) + 1; omega
    | ⟨1, _⟩ => show 0 ≤ (B.idx x 1 : Nat) ∧ (B.idx x 1 : Nat) < 0 + 512; omega
    | ⟨2, _⟩ => show 0 ≤ (B.idx x 2 : Nat) ∧ (B.idx x 2 : Nat) < 0 + 128; omega

theorem stack4_apply (ld : Fin 4 → Vec Ideal S1x128x128 .f32) (p : Fin 512) (l : Fin 128) :
    stack4 ld (ix2 p l) = ld ⟨p.val / 128, by omega⟩ (ix3 0 ⟨p.val % 128, by omega⟩ l) := by
  unfold stack4
  refine (concatenate_ofFn_apply (s₁ := S128x128) (0 : Fin S512x128.rank) (fun r : Fin 4 => shapeCast S128x128 (ld r) shapeCasts_S1x128x128_S128x128) _ rfl 128 rfl (ix2 p l) ⟨p.val / 128, by omega⟩ rfl
    (ix2 ⟨p.val % 128, by omega⟩ l) rfl ?_).trans ?_
  · intro b hb
    match b with
    | ⟨0, _⟩ => exact absurd rfl hb
    | ⟨1, _⟩ => rfl
  · pointwise

theorem stack16_apply (ld : Fin 16 → Vec Ideal S1x32x128 .f32) (p : Fin 512) (l : Fin 128) :
    stack16 ld (ix2 p l) = ld ⟨p.val / 32, by omega⟩ (ix3 0 ⟨p.val % 32, by omega⟩ l) := by
  unfold stack16
  refine (concatenate_ofFn_apply (s₁ := S32x128) (0 : Fin S512x128.rank) (fun r : Fin 16 => shapeCast S32x128 (ld r) shapeCasts_S1x32x128_S32x128) _ rfl 32 rfl (ix2 p l) ⟨p.val / 32, by omega⟩ rfl
    (ix2 ⟨p.val % 32, by omega⟩ l) rfl ?_).trans ?_
  · intro b hb
    match b with
    | ⟨0, _⟩ => exact absurd rfl hb
    | ⟨1, _⟩ => rfl
  · pointwise

theorem beside_apply (f : Fin 8 → FVec Ideal S512x128 .f32) (p : Fin 512) (d : Fin 1024) :
    beside f (ix2 p d) = f ⟨d.val / 128, by omega⟩ (ix2 p ⟨d.val % 128, by omega⟩) := by
  unfold beside
  refine (concatenate_ofFn_apply (s₁ := S512x128) (1 : Fin S512x1024.rank) f concatenates_S512x128_S512x128_S512x128_S512x128_S512x128_S512x128_S512x128_S512x128_S512x1024_d1 rfl 128 rfl (ix2 p d) ⟨d.val / 128, by omega⟩ rfl
    (ix2 p ⟨d.val % 128, by omega⟩) rfl ?_)
  intro b hb
  match b with
  | ⟨0, _⟩ => rfl
  | ⟨1, _⟩ => exact absurd rfl hb

/-- Row `128 r + n` of the regrouped rows is row `4 n + r`; -/
theorem regroup4_apply {sp : Space} (v : View sig .tc sp S8x512x128 .f32) (u : FVec Ideal S512x1024 .f32) (p : Fin 512) (d : Fin 1024) :
    regroup4 v u (ix2 p d) = u (ix2 ⟨4 * (p.val % 128) + p.val / 128, by omega⟩ d) := by
  unfold regroup4
  rw [beside_apply, stack4_apply, readCov_slabs]
  unfold kept
  refine congrArg u (congrArg₂ ix2 (Fin.ext ?_) (Fin.ext ?_))
  · show p.val / 128 + 4 * (p.val % 128) = 4 * (p.val % 128) + p.val / 128; omega
  · show 128 * (d.val / 128 + 1 * 0) + (0 + 1 * (d.val % 128)) = d.val; omega

/-- row `32 r + n` is row `16 n + r`. -/
theorem regroup16_apply {sp : Space} (v : View sig .tc sp S8x512x128 .f32) (u : FVec Ideal S512x1024 .f32) (p : Fin 512) (d : Fin 1024) :
    regroup16 v u (ix2 p d) = u (ix2 ⟨16 * (p.val % 32) + p.val / 32, by omega⟩ d) := by
  unfold regroup16
  rw [beside_apply, stack16_apply, readCov_slabs]
  unfold kept
  refine congrArg u (congrArg₂ ix2 (Fin.ext ?_) (Fin.ext ?_))
  · show p.val / 32 + 16 * (p.val % 32) = 16 * (p.val % 32) + p.val / 32; omega
  · show 128 * (d.val / 128 + 1 * 0) + (0 + 1 * (d.val % 128)) = d.val; omega

/-! ## The tiles -/

theorem dotTile_apply (U : FVec Ideal S512x1024 .bf16) (W : Vec Ideal S1024x5120 .bf16) (k : Fin 9) (p e : Fin 512) :
    dotTile U W k (ix2 p e) = ∑ d, U (ix2 p d) * W (ix2 d ⟨512 * k.val + e.val, by omega⟩) := by
  pointwise [dotTile]

theorem gainTile_apply (G : Vec Ideal S8x512 .f32) (k : Fin 6) (e : Fin 512) : gainTile G k (ix2 0 e) = G (ix2 ⟨k.val, by omega⟩ e) := by
  pointwise [gainTile]
theorem scaled_apply (g : FVec Ideal S1x512 .f32) (e : Fin 512) : scaled g (ix2 0 e) = g (ix2 0 e) * Cert.Inproj.qScale := by
  pointwise [scaled, Cert.Inproj.qScale]

theorem normTile_apply (z : FVec Ideal S512x512 .f32) (A : Vec Ideal S512x512 .bf16) (g : FVec Ideal S1x512 .f32) (p e : Fin 512) :
    normTile z A g (ix2 p e) = z (ix2 p e) * Ideal.rsqrt ((∑ k, z (ix2 p k) * z (ix2 p k) * A (ix2 k e)) + Cert.Inproj.eps) * g (ix2 0 e) := by
  pointwise [normTile, Cert.Inproj.eps]

theorem tableTile_apply (R : Vec Ideal S3x3x512x128 .f32) (g k : Fin 3) (p : Fin 512) (l : Fin 128) :
    tableTile R g k (ix2 p l) = R (ix4 g k p l) := by
  have h (x : Vec Ideal S1x1x512x128 .f32) : shapeCast S512x128 x shapeCasts_S1x1x512x128_S512x128 (ix2 p l) = x (ix4 0 0 p l) := by
    pointwise
  unfold tableTile
  rw [h]
  refine congrArg R (funext fun a => Fin.ext ?_)
  match a with
  | ⟨0, _⟩ => show g.val + 1 * 0 = g.val; omega
  | ⟨1, _⟩ => show k.val + 1 * 0 = k.val; omega
  | ⟨2, _⟩ => show 0 + 1 * p.val = p.val; omega
  | ⟨3, _⟩ => show 0 + 1 * l.val = l.val; omega

theorem lanes_apply (z : FVec Ideal S512x512 .f32) (k : Fin 4) (p : Fin 512) (l : Fin 128) :
    lanes z k (ix2 p l) = z (ix2 p ⟨128 * k.val + l.val, by omega⟩) := by
  pointwise [lanes]

theorem turn_apply (z t0 t1 t2 : FVec Ideal S512x128 .f32) (p : Fin 512) (l : Fin 128) :
    turn z t0 t1 t2 (ix2 p l) = z (ix2 p l) * t0 (ix2 p l) + z (ix2 p ⟨(l.val + 120) % 128, by omega⟩) * t1 (ix2 p l)
      + z (ix2 p ⟨(l.val + 8) % 128, by omega⟩) * t2 (ix2 p l) := by
  have e1 : (⟨(l.val + 120) % 128, by omega⟩ : Fin 128) = ⟨(l.val + 128 - 8) % 128, by omega⟩ := Fin.ext (by dsimp only; omega)
  have e2 : (⟨(l.val + 8) % 128, by omega⟩ : Fin 128) = ⟨(l.val + 128 - 120) % 128, by omega⟩ := Fin.ext (by dsimp only; omega)
  rw [e1, e2]
  pointwise [turn]

theorem turnTile_apply (z : FVec Ideal S512x512 .f32) (t0 t1 t2 : FVec Ideal S512x128 .f32) (p e : Fin 512) :
    turnTile z t0 t1 t2 (ix2 p e) = z (ix2 p e) * t0 (ix2 p ⟨e.val % 128, by omega⟩) + z (ix2 p (Cert.Inproj.laneBefore e)) * t1 (ix2 p ⟨e.val % 128, by omega⟩)
      + z (ix2 p (Cert.Inproj.laneAfter e)) * t2 (ix2 p ⟨e.val % 128, by omega⟩) := by
  unfold turnTile
  refine (concatenate_ofFn_apply (s₁ := S512x128) (1 : Fin S512x512.rank) (fun k : Fin 4 => turn (lanes z k) t0 t1 t2) _ rfl 128 rfl (ix2 p e) ⟨e.val / 128, by omega⟩ rfl
    (ix2 p ⟨e.val % 128, by omega⟩) rfl ?_).trans ?_
  · intro b hb
    match b with
    | ⟨0, _⟩ => rfl
    | ⟨1, _⟩ => exact absurd rfl hb
  · rw [turn_apply, lanes_apply, lanes_apply, lanes_apply]
    have e0 : (⟨128 * (e.val / 128) + e.val % 128, by omega⟩ : Fin 512) = e := Fin.ext (by dsimp only; omega)
    exact congrArg (fun e' => z (ix2 p e') * t0 (ix2 p ⟨e.val % 128, by omega⟩) + z (ix2 p (Cert.Inproj.laneBefore e)) * t1 (ix2 p ⟨e.val % 128, by omega⟩)
      + z (ix2 p (Cert.Inproj.laneAfter e)) * t2 (ix2 p ⟨e.val % 128, by omega⟩)) e0

end Cert.Kernel3Ideal.Hand

end
-- ==== Proof.InprojTables.lean ====
/-
  What the in-projection's kernel is launched on beside its arguments: the gains laid out by rows, the heads' averaging
  matrix, and the rotation's tables in the order in which the groups' rows are regrouped.
-/
module

public import proofs.«01_k».proof.Proof.InprojKernel
public import proofs.«01_k».proof.Proof.InprojTurn
public import Idealize.ShloMosaic.Lib.Routing.OpsOne
public import Idealize.ShloMosaic.Lib.Routing.OpsSearch

@[expose] public section

set_option maxRecDepth 16384

noncomputable section

namespace Cert.Kernel3Ideal.Hand

open Cert.Kernel3Ideal Cert.Kernel3Ideal.Gen Idealize.ShloMosaic Idealize.ShloMosaic.TcCoe

section Host

variable {F : FTy → Type} [FloatOps F]

/-! ## The arrays, as they are prepared -/

theorem gain_slices (g : Fin 3) : S3x64.Slices ![g.val, 0] S1x64 := by
  have := g.isLt
  exact ⟨rfl, fun a => by fin_cases a <;> simp [S1x64, S3x64] <;> omega⟩

/-- A group's gain, once for each head. -/
def gainRow (g : FVec F S3x64 .f32) (k : Fin 3) : FVec F S512 .f32 :=
  shapeCast S512 (broadcastInDim S8x64 ![0, 1] bcast_S1x64_S8x64_0_1 (shapeCast S1x64 (shapeCast S64
    (extractStridedSlice S1x64 ![k.val, 0] g (gain_slices k)) shapeCasts_S1x64_S64) shapeCasts_S64_S1x64)) shapeCasts_S8x64_S512

/-- A row put into the table of gains. -/
def put (x : FVec F S8x512 .f32) (w : BitVec 32) (u : FVec F S512 .f32) : FVec F S8x512 .f32 :=
  Host.scatter scatter_S8x512_S1_S512_0_0_0_0 (fun _ b => b) x (broadcastInDim S1 ![] bcast_S_S1 (constantI S_ 32 w)) u

/-- The gains: the queries' and the keys' of each group in turn. -/
def gainTable (gq gk : FVec F S3x64 .f32) : FVec F S8x512 .f32 :=
  put (put (put (put (put (put (broadcastInDim S8x512 ![] bcast_S_S8x512 (constant S_ .f32 0x00000000#32)) 0#32 (gainRow gq 0)) 1#32 (gainRow gk 0))
    2#32 (gainRow gq 1)) 3#32 (gainRow gk 1)) 4#32 (gainRow gq 2)) 5#32 (gainRow gk 2)

/-- The head of each of 512 columns. -/
def headOf : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The averaging matrix. -/
def means : FVec F S512x512 .bf16 :=
  truncf .bf16 (Host.divf (uitofp .f32 (cmpi .eq
      (broadcastInDim S512x512 ![0, 1] bcast_S512x1_S512x512_0_1 (broadcastInDim S512x1 ![0] bcast_S512_S512x1_0 headOf))
      (broadcastInDim S512x512 ![0, 1] bcast_S1x512_S512x512_0_1 (broadcastInDim S1x512 ![1] bcast_S512_S1x512_1 headOf))))
    (broadcastInDim S512x512 ![] bcast_S_S512x512 (constant S_ .f32 0x42800000#32))) bitsLt_bf16_f32

/-- The rotation's angles. -/
def angles : FVec F S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

/-- Eight columns, eight more and the rest of a head. -/
def cols (a b : FVec F S2048x8 .f32) (r : FVec F S2048x48 .f32) : FVec F S2048x64 .f32 :=
  concatenate S2048x64 1 [⟨S2048x8, a⟩, ⟨S2048x8, b⟩, ⟨S2048x48, r⟩] concatenates_S2048x8_S2048x8_S2048x48_S2048x64_d1

/-- A head's table twice over. -/
def twice (t : FVec F S2048x64 .f32) : FVec F S1x2048x128 .f32 :=
  broadcastInDim S1x2048x128 ![1, 2] bcast_S2048x128_S1x2048x128_1_2 (shapeCast S2048x128
    (broadcastInDim S1x2048x2x64 ![0, 1, 2, 3] bcast_S1x2048x1x64_S1x2048x2x64_0_1_2_3 (shapeCast S1x2048x1x64 t shapeCasts_S2048x64_S1x2048x1x64))
    shapeCasts_S1x2048x2x64_S2048x128)

def zeros8 : FVec F S2048x8 .f32 := broadcastInDim S2048x8 ![] bcast_S_S2048x8 (constant S_ .f32 0x00000000#32)
def zeros48 : FVec F S2048x48 .f32 := broadcastInDim S2048x48 ![] bcast_S_S2048x48 (constant S_ .f32 0x00000000#32)
def ones48 : FVec F S2048x48 .f32 := broadcastInDim S2048x48 ![] bcast_S_S2048x48 (constant S_ .f32 0x3F800000#32)

/-- The three tables by position. -/
def tables : FVec F S3x2048x128 .f32 :=
  concatenate S3x2048x128 0 [⟨S1x2048x128, twice (cols (Host.cos angles) (Host.cos angles) ones48)⟩, ⟨S1x2048x128, twice (cols zeros8 (Host.sin angles) zeros48)⟩,
    ⟨S1x2048x128, twice (cols (Host.negf (Host.sin angles)) zeros8 zeros48)⟩] concatenates_S1x2048x128_S1x2048x128_S1x2048x128_S3x2048x128_d0

/-- The positions in the order of the regrouped rows: one class, four, sixteen. -/
def order1 : IVec S2048 32 :=
  shapeCast S2048 (transpose S4x1x512 [0, 2, 1] (shapeCast S4x512x1 (iotaInDim S2048 32 0) shapeCasts_S2048_S4x512x1) transposes_S4x512x1_S4x1x512_0_2_1) shapeCasts_S4x1x512_S2048
def order4 : IVec S2048 32 :=
  shapeCast S2048 (transpose S4x4x128 [0, 2, 1] (shapeCast S4x128x4 (iotaInDim S2048 32 0) shapeCasts_S2048_S4x128x4) transposes_S4x128x4_S4x4x128_0_2_1) shapeCasts_S4x4x128_S2048
def order16 : IVec S2048 32 :=
  shapeCast S2048 (transpose S4x16x32 [0, 2, 1] (shapeCast S4x32x16 (iotaInDim S2048 32 0) shapeCasts_S2048_S4x32x16) transposes_S4x32x16_S4x16x32_0_2_1) shapeCasts_S4x16x32_S2048

/-- Tables read in an order. -/
def taken (p : IVec S2048 32) (x : FVec F S3x2048x128 .f32) : FVec F S1x3x2048x128 .f32 :=
  broadcastInDim S1x3x2048x128 ![1, 2, 3] bcast_S3x2048x128_S1x3x2048x128_1_2_3
    (Host.gather gather_S3x2048x128_S2048x1_S3x2048x128_02_1_n_n_1_1_31128 x (broadcastInDim S2048x1 ![0] bcast_S2048_S2048x1_0
      (select (cmpi .slt p (broadcastInDim S2048 ![] bcast_S_S2048 (constantI S_ 32 0#32)))
        (addi p (broadcastInDim S2048 ![] bcast_S_S2048 (constantI S_ 32 2048#32))) p)))

/-- The groups' tables. -/
def groupTables : FVec F S3x3x2048x128 .f32 :=
  concatenate S3x3x2048x128 0 [⟨S1x3x2048x128, taken order1 tables⟩, ⟨S1x3x2048x128, taken order4 tables⟩, ⟨S1x3x2048x128, taken order16 tables⟩]
    concatenates_S1x3x2048x128_S1x3x2048x128_S1x3x2048x128_S3x3x2048x128_d0

variable (m : (ℓ : Loc nD τ sig) → Buf (Elt F) ℓ) (c : Dev nD)

set_option maxHeartbeats 4000000 in
theorem V_gains : V m c main_v42 = gainTable (m ((c : Thread nD τ).loc main_arg4) : FVec F S3x64 .f32) (m ((c : Thread nD τ).loc main_arg5) : FVec F S3x64 .f32) := by
  unfold V
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

set_option maxHeartbeats 4000000 in
theorem V_means : V m c main_v53 = (means : FVec F S512x512 .bf16) := by
  unfold V
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

end Host

end Cert.Kernel3Ideal.Hand

end
-- ==== Proof.InprojTableValues.lean ====
/-
  The prepared tables of the in-projection over the extended reals, index by index.
-/
module

public import proofs.«01_k».proof.Proof.InprojTables

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Routing

/-! ## The gains -/

/-- The update's entry `w'` lands at `(e, w)` exactly when `w` is `w'` and `e` is the row named. -/
theorem lands_row {A N : Nat} (d : ScatterDims (shape2 N A) (shape1 1) (shape1 A)) (hiw : d.insertedWindowDims = [0]) (hsd : d.scatterDimsToOperandDims = [0])
    (idx : IVec (shape1 1) 32) (k : Fin N) (hidx : (idx (ValueIdx.ix1 0)).toInt = (k.val : Int)) (w' w : Fin A) (e : Fin N) :
    d.resultIdx? (ValueIdx.ix1 w') idx = some (ValueIdx.ix2 e w) ↔ w' = w ∧ e = k := by
  have hm : (0 : Fin 2) ∈ d.scatterDimsToOperandDims := by rw [hsd]; exact List.mem_singleton.2 rfl
  have hkept : d.sKept = [1] := by
    show (shape2 N A).kept d.insertedWindowDims = _
    rw [hiw]
    rfl
  have hwin0 : d.window (ValueIdx.ix1 w') 0 = 0 := by
    unfold ScatterDims.window
    rw [dif_neg fun h => (of_decide_eq_true (List.mem_filter.1 h).2) (by rw [hiw]; exact List.mem_singleton.2 rfl)]
  have hwin1 : d.window (ValueIdx.ix1 w') 1 = w'.val := by
    unfold ScatterDims.window
    rw [dif_pos (by rw [hkept]; exact List.mem_singleton.2 rfl)]
    have q : ∀ X : Fin 1, (ValueIdx.ix1 w' X).val = w'.val := fun X => by
      obtain rfl : X = 0 := Subsingleton.elim _ _
      rfl
    exact q _
  have hstart1 : d.start (ValueIdx.ix1 w') idx 1 = 0 := by
    unfold ScatterDims.start
    rw [dif_neg fun h => by rw [hsd] at h; exact absurd (List.mem_singleton.1 h) (by decide : (1 : Fin 2) ≠ 0)]
  have hstart0 : d.start (ValueIdx.ix1 w') idx 0 = (k.val : Int) := by
    unfold ScatterDims.start
    rw [dif_pos hm]
    have hsi : d.siIdx (ValueIdx.ix1 w') ⟨d.scatterDimsToOperandDims.idxOf 0, List.idxOf_lt_length_iff.2 hm⟩ = ValueIdx.ix1 (0 : Fin 1) := by
      funext b'
      match b' with
      | ⟨0, _⟩ => exact Subsingleton.elim (α := Fin 1) _ _
    rw [hsi, hidx]
  rw [Fin.ext_iff, Fin.ext_iff, resultIdx?_ix2, hstart0, hwin0, hstart1, hwin1]
  omega

theorem put_apply (x : FVec Ideal S8x512 .f32) (k : Fin 8) (u : FVec Ideal S512 .f32) (e : Fin 8) (w : Fin 512) :
    put x (BitVec.ofNat 32 k.val) u (ix2 e w) = if e = k then u (ix1 w) else x (ix2 e w) := by
  unfold put
  have hidx : ((broadcastInDim S1 ![] bcast_S_S1 (constantI S_ 32 (BitVec.ofNat 32 k.val)) : IVec S1 32) (ix1 0)).toInt = (k.val : Int) := by
    show (BitVec.ofNat 32 k.val).toInt = _
    exact StableHlo.Predicate.toInt_ofNat_small _ (by omega)
  have lands : ∀ j : S512.Idx, scatter_S8x512_S1_S512_0_0_0_0.resultIdx? j (broadcastInDim S1 ![] bcast_S_S1 (constantI S_ 32 (BitVec.ofNat 32 k.val))) = some (ix2 e w) → j 0 = w ∧ e = k := fun j hj =>
    (lands_row scatter_S8x512_S1_S512_0_0_0_0 rfl rfl _ k hidx (j 0) w e).1 ((congrArg (fun t => scatter_S8x512_S1_S512_0_0_0_0.resultIdx? t _) (eq_ix1 j).symm).trans hj)
  by_cases h : e = k
  · rw [if_pos h]
    exact scatter_set_hit _ x _ u _ _ (fun j hj => (congrArg u (eq_ix1 j)).trans (congrArg (fun t => u (ix1 t)) (lands j hj).1)) (ix1 w)
      ((lands_row scatter_S8x512_S1_S512_0_0_0_0 rfl rfl _ k hidx w w e).2 ⟨rfl, h⟩)
  · rw [if_neg h]
    exact scatter_set_miss _ x _ u _ fun j hj => h (lands j hj).2

theorem gainRow_apply (g : FVec Ideal S3x64 .f32) (k : Fin 3) (h : Fin 8) (a : Fin 64) : gainRow g k (ix1 ⟨64 * h.val + a.val, by omega⟩) = g (ix2 k a) := by
  pointwise [gainRow]

/-- The queries' gain of group `g` is row `2 g`; -/
theorem gainTable_q (gq gk : FVec Ideal S3x64 .f32) (g : Fin 3) (h : Fin 8) (a : Fin 64) :
    gainTable gq gk (ix2 ⟨2 * g.val, by omega⟩ ⟨64 * h.val + a.val, by omega⟩) = gq (ix2 g a) := by
  unfold gainTable
  rw [← gainRow_apply gq g h a]
  have e0 := put_apply (k := 0); have e1 := put_apply (k := 1); have e2 := put_apply (k := 2); have e3 := put_apply (k := 3); have e4 := put_apply (k := 4); have e5 := put_apply (k := 5)
  fin_cases g
  · exact (e5 _ _ _ _).trans ((e4 _ _ _ _).trans ((e3 _ _ _ _).trans ((e2 _ _ _ _).trans ((e1 _ _ _ _).trans (e0 _ _ _ _)))))
  · exact (e5 _ _ _ _).trans ((e4 _ _ _ _).trans ((e3 _ _ _ _).trans (e2 _ _ _ _)))
  · exact (e5 _ _ _ _).trans (e4 _ _ _ _)
/-- the keys' is row `2 g + 1`. -/
theorem gainTable_k (gq gk : FVec Ideal S3x64 .f32) (g : Fin 3) (h : Fin 8) (a : Fin 64) :
    gainTable gq gk (ix2 ⟨2 * g.val + 1, by omega⟩ ⟨64 * h.val + a.val, by omega⟩) = gk (ix2 g a) := by
  unfold gainTable
  rw [← gainRow_apply gk g h a]
  have e0 := put_apply (k := 0); have e1 := put_apply (k := 1); have e2 := put_apply (k := 2); have e3 := put_apply (k := 3); have e4 := put_apply (k := 4); have e5 := put_apply (k := 5)
  fin_cases g
  · exact (e5 _ _ _ _).trans ((e4 _ _ _ _).trans ((e3 _ _ _ _).trans ((e2 _ _ _ _).trans (e1 _ _ _ _))))
  · exact (e5 _ _ _ _).trans ((e4 _ _ _ _).trans (e3 _ _ _ _))
  · exact (e5 _ _ _ _)

/-! ## The averaging matrix -/

theorem headOf_apply (e : Fin 512) : headOf (ix1 e) = BitVec.ofNat 32 (e.val / 64) := by
  have h := Routing.pyDiv0_ap (fun _ => BitVec.ofNat 32 e.val) (fun _ => 64#32) (a := e.val) (b := 64) rfl rfl (by omega) (by decide) (by decide)
  rw [← h]
  unfold headOf Routing.pyDiv0
  simp only [WordCmp.select_at, WordCmp.cmpi_at, WordCmp.andi_at, Routing.subi_ap, Host.remsi_apply, Host.divsi_apply, signi_apply, WordCmp.constantI_at]
  rfl

theorem means_apply (k e : Fin 512) : means (F := Ideal) (ix2 k e) = Cert.Inproj.share k e := by
  have h : means (F := Ideal) (ix2 k e) = Ideal.div (FloatOps.uitofp (F := Ideal) .f32 (IntOp.cmpi .eq (headOf (ix1 k)) (headOf (ix1 e)))) Cert.Inproj.headWidth := by
    pointwise [means, Cert.Inproj.headWidth]
  rw [h, headOf_apply, headOf_apply, Cert.Inproj.headWidth_eq, Ideal.div_coe (by norm_num)]
  unfold Cert.Inproj.share
  by_cases he : k.val / 64 = e.val / 64
  · rw [if_pos he, he]
    have e1 : IntOp.cmpi .eq (BitVec.ofNat 32 (e.val / 64)) (BitVec.ofNat 32 (e.val / 64)) = 1#1 := by simp [IntOp.cmpi]
    rw [e1]
    simp [FloatOps.uitofp]
  · rw [if_neg he]
    have e1 : IntOp.cmpi .eq (BitVec.ofNat 32 (k.val / 64)) (BitVec.ofNat 32 (e.val / 64)) = 0#1 := by
      have : ¬ BitVec.ofNat 32 (k.val / 64) = BitVec.ofNat 32 (e.val / 64) := fun hc => he (by
        have := congrArg BitVec.toNat hc
        rw [BitVec.toNat_ofNat, BitVec.toNat_ofNat] at this
        omega)
      simp only [IntOp.cmpi, beq_eq_false_iff_ne.2 this]
      rfl
    rw [e1]
    simp [FloatOps.uitofp]

/-! ## The rotation's tables -/

theorem angles_apply (s : Fin 2048) (i : Fin 8) : angles (F := Ideal) (ix2 s i) = Cert.Inproj.angle s i := by
  pointwise [angles, Cert.Inproj.angle]

theorem cols_apply (a b : FVec Ideal S2048x8 .f32) (r : FVec Ideal S2048x48 .f32) (s : Fin 2048) (i : Fin 64) :
    cols a b r (ix2 s i) = if h : i.val < 8 then a (ix2 s ⟨i.val, h⟩) else if h : i.val < 16 then b (ix2 s ⟨i.val - 8, by omega⟩) else r (ix2 s ⟨i.val - 16, by omega⟩) := by
  pointwise [cols]
  by_cases h1 : i.val < 8
  · simp [h1]
  · by_cases h2 : i.val < 16
    · simp [h1, h2, show i.val - 8 < 8 by omega]
    · simp [h1, h2, show ¬ i.val - 8 < 8 by omega, Nat.sub_sub]

theorem twice_apply (t : FVec Ideal S2048x64 .f32) (s : Fin 2048) (l : Fin 128) : twice t (ix3 0 s l) = t (ix2 s ⟨l.val % 64, by omega⟩) := by
  pointwise [twice]

theorem zeros8_apply (s : Fin 2048) (i : Fin 8) : zeros8 (F := Ideal) (ix2 s i) = 0 := by
  pointwise [zeros8]
theorem zeros48_apply (s : Fin 2048) (i : Fin 48) : zeros48 (F := Ideal) (ix2 s i) = 0 := by
  pointwise [zeros48]
theorem ones48_apply (s : Fin 2048) (i : Fin 48) : ones48 (F := Ideal) (ix2 s i) = 1 := by
  pointwise [ones48]

theorem cos_apply (s : Fin 2048) (i : Fin 8) : Host.cos (F := Ideal) angles (ix2 s i) = Ideal.cos (Cert.Inproj.angle s i) := by
  rw [← angles_apply]
  pointwise
theorem sin_apply (s : Fin 2048) (i : Fin 8) : Host.sin (F := Ideal) angles (ix2 s i) = Ideal.sin (Cert.Inproj.angle s i) := by
  rw [← angles_apply]
  pointwise
theorem negSin_apply (s : Fin 2048) (i : Fin 8) : Host.negf (F := Ideal) (Host.sin angles) (ix2 s i) = -Ideal.sin (Cert.Inproj.angle s i) := by
  rw [← angles_apply]
  pointwise

theorem keep_apply (s : Fin 2048) (l : Fin 128) :
    twice (F := Ideal) (cols (Host.cos angles) (Host.cos angles) ones48) (ix3 0 s l) = Cert.Inproj.keep s ⟨l.val % 64, by omega⟩ := by
  rw [twice_apply, cols_apply]
  simp only [cos_apply, ones48_apply]
  rfl
theorem before_apply (s : Fin 2048) (l : Fin 128) :
    twice (F := Ideal) (cols zeros8 (Host.sin angles) zeros48) (ix3 0 s l) = Cert.Inproj.before s ⟨l.val % 64, by omega⟩ := by
  rw [twice_apply, cols_apply]
  simp only [sin_apply, zeros8_apply, zeros48_apply]
  rfl
theorem after_apply (s : Fin 2048) (l : Fin 128) :
    twice (F := Ideal) (cols (Host.negf (Host.sin angles)) zeros8 zeros48) (ix3 0 s l) = Cert.Inproj.after s ⟨l.val % 64, by omega⟩ := by
  rw [twice_apply, cols_apply]
  simp only [negSin_apply, zeros8_apply, zeros48_apply]
  unfold Cert.Inproj.after
  by_cases h : l.val % 64 < 8 <;> simp [h]

/-- The tables by number: what multiplies the entry, the one before, the one after. -/
def factor (k : Fin 3) (s : Fin 2048) (a : Fin 64) : EReal := if k = 0 then Cert.Inproj.keep s a else if k = 1 then Cert.Inproj.before s a else Cert.Inproj.after s a

theorem tables_apply (k : Fin 3) (s : Fin 2048) (l : Fin 128) : tables (F := Ideal) (ix3 k s l) = factor k s ⟨l.val % 64, by omega⟩ := by
  have h (x y z : FVec Ideal S1x2048x128 .f32) : concatenate S3x2048x128 0 [⟨S1x2048x128, x⟩, ⟨S1x2048x128, y⟩, ⟨S1x2048x128, z⟩] concatenates_S1x2048x128_S1x2048x128_S1x2048x128_S3x2048x128_d0 (ix3 k s l)
      = if k = 0 then x (ix3 0 s l) else if k = 1 then y (ix3 0 s l) else z (ix3 0 s l) := by
    fin_cases k <;> pointwise
  unfold tables factor
  rw [h, keep_apply, before_apply, after_apply]

/-! ## Their order -/

theorem order1_apply (j : Fin 4) (p : Fin 512) : order1 (ix1 ⟨512 * j.val + p.val, by omega⟩) = BitVec.ofNat 32 (512 * j.val + p.val) := by
  pointwise [order1]
  exact congrArg (BitVec.ofNat 32) (by omega)
theorem order4_apply (j : Fin 4) (p : Fin 512) : order4 (ix1 ⟨512 * j.val + p.val, by omega⟩) = BitVec.ofNat 32 (512 * j.val + (4 * (p.val % 128) + p.val / 128)) := by
  pointwise [order4]
  exact congrArg (BitVec.ofNat 32) (by omega)
theorem order16_apply (j : Fin 4) (p : Fin 512) : order16 (ix1 ⟨512 * j.val + p.val, by omega⟩) = BitVec.ofNat 32 (512 * j.val + (16 * (p.val % 32) + p.val / 32)) := by
  pointwise [order16]
  exact congrArg (BitVec.ofNat 32) (by omega)

/-- Taking entries along the middle axis. -/
theorem gather_middle {α : Type} {N a b n : ℕ}
    (wf : GatherDims.WF ⟨3, ![a, N, b]⟩ ⟨2, ![n, 1]⟩ ⟨3, ![a, n, b]⟩ [0, 2] [1] [] [1] [] 1 ![a, 1, b]) (x : (⟨3, ![a, N, b]⟩ : Shape).Idx → α)
    (idx : IVec ⟨2, ![n, 1]⟩ 32) (r : Fin a) (p : Fin n) (c : Fin b) (e : Fin N) (he : idx (ix2 p (0 : Fin 1)) = BitVec.ofNat 32 e.val) (hN : N < 2 ^ 31) :
    Host.gather (t := ⟨3, ![a, n, b]⟩) ⟨[0, 2], [1], [], [], [1], 1, ![a, 1, b], wf⟩ x idx (ix3 r p c) = x (ix3 r e c) := by
  unfold Host.gather
  refine congrArg x (funext fun ax => Fin.ext ?_)
  match ax with
  | ⟨1, _⟩ =>
    show GatherDims.start _ _ _ _ + GatherDims.batchCoord _ _ _ + GatherDims.offCoord _ _ _ = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ [(1 : Fin 3)] from List.mem_singleton.mpr rfl)]
    have hsi : GatherDims.siIdx (t := ⟨3, ![a, n, b]⟩) (⟨[0, 2], [1], [], [], [1], 1, ![a, 1, b], wf⟩ : GatherDims ⟨3, ![a, N, b]⟩ ⟨2, ![n, 1]⟩ ⟨3, ![a, n, b]⟩) (ix3 r p c)
        ⟨List.idxOf (1 : Fin 3) [1], List.idxOf_lt_length_iff.2 (List.mem_singleton.mpr rfl)⟩ = ix2 p (0 : Fin 1) := by
      funext k; refine Fin.ext ?_
      match k with
      | ⟨0, _⟩ => rfl
      | ⟨1, _⟩ => rfl
    have hE := e.isLt
    refine (congrArg (fun w : BitVec 32 => min w.toInt.toNat (N - 1)) ((congrArg idx hsi).trans he)).trans ?_
    show min (BitVec.ofNat 32 e.val).toInt.toNat (N - 1) = e.val
    rw [StableHlo.Predicate.toInt_ofNat_small _ (by omega)]
    omega
  | ⟨0, _⟩ =>
    show GatherDims.start _ _ _ _ + GatherDims.batchCoord _ _ _ + GatherDims.offCoord _ _ _ = r.val
    rw [GatherDims.batchCoord_eq_zero _ _ _ List.not_mem_nil]
    unfold GatherDims.start
    rw [dif_neg (by simp)]
    rw [Nat.zero_add]
    rfl
  | ⟨2, _⟩ =>
    show GatherDims.start _ _ _ _ + GatherDims.batchCoord _ _ _ + GatherDims.offCoord _ _ _ = c.val
    rw [GatherDims.batchCoord_eq_zero _ _ _ List.not_mem_nil]
    unfold GatherDims.start
    rw [dif_neg (by simp)]
    rw [Nat.zero_add]
    rfl

theorem taken_apply (p : IVec S2048 32) (x : FVec Ideal S3x2048x128 .f32) (k : Fin 3) (s : Fin 2048) (l : Fin 128) (e : Fin 2048)
    (he : p (ix1 s) = BitVec.ofNat 32 e.val) : taken p x (ix4 0 k s l) = x (ix3 k e l) := by
  have h (y : FVec Ideal S3x2048x128 .f32) : broadcastInDim S1x3x2048x128 ![1, 2, 3] bcast_S3x2048x128_S1x3x2048x128_1_2_3 y (ix4 0 k s l) = y (ix3 k s l) := by
    pointwise
  unfold taken
  rw [h]
  refine gather_middle _ x _ k s l e ?_ (by decide)
  have hw : (broadcastInDim S2048x1 ![0] bcast_S2048_S2048x1_0
      (select (cmpi .slt p (broadcastInDim S2048 ![] bcast_S_S2048 (constantI S_ 32 0#32)))
        (addi p (broadcastInDim S2048 ![] bcast_S_S2048 (constantI S_ 32 2048#32))) p) : IVec S2048x1 32) (ix2 s 0)
      = Scalar.select (IntOp.cmpi .slt (p (ix1 s)) 0#32) (IntOp.addi (p (ix1 s)) 2048#32) (p (ix1 s)) := by
    pointwise
  refine hw.trans ?_
  rw [he]
  have hn : ¬ IntOp.cmpi .slt (BitVec.ofNat 32 e.val) (BitVec.ofNat 32 0) = 1#1 := fun hc => by
    have := (WordCmp.cmpi_slt_ofNat_eq_one_iff (by have := e.isLt; omega) (by decide)).1 hc
    omega
  simp only [Scalar.select]
  exact if_neg hn

/-- The position of row `p` of point `j`'s regrouped rows, by group. -/
def place (g : Fin 3) (p : Fin 512) : Fin 512 :=
  if g = 0 then p else if g = 1 then ⟨4 * (p.val % 128) + p.val / 128, by omega⟩ else ⟨16 * (p.val % 32) + p.val / 32, by omega⟩

theorem groupTables_apply (g k : Fin 3) (j : Fin 4) (p : Fin 512) (l : Fin 128) :
    groupTables (F := Ideal) (ix4 g k ⟨512 * j.val + p.val, by omega⟩ l) = factor k ⟨512 * j.val + (place g p).val, by omega⟩ ⟨l.val % 64, by omega⟩ := by
  have h (x y z : FVec Ideal S1x3x2048x128 .f32) (s : Fin 2048) : concatenate S3x3x2048x128 0 [⟨S1x3x2048x128, x⟩, ⟨S1x3x2048x128, y⟩, ⟨S1x3x2048x128, z⟩] concatenates_S1x3x2048x128_S1x3x2048x128_S1x3x2048x128_S3x3x2048x128_d0 (ix4 g k s l)
      = if g = 0 then x (ix4 0 k s l) else if g = 1 then y (ix4 0 k s l) else z (ix4 0 k s l) := by
    fin_cases g <;> pointwise
  unfold groupTables
  rw [h, ← tables_apply]
  fin_cases g
  · exact taken_apply order1 tables k _ l _ (order1_apply j p)
  · exact taken_apply order4 tables k _ l ⟨512 * j.val + (4 * (p.val % 128) + p.val / 128), by omega⟩ (order4_apply j p)
  · exact taken_apply order16 tables k _ l ⟨512 * j.val + (16 * (p.val % 32) + p.val / 32), by omega⟩ (order16_apply j p)

end Cert.Kernel3Ideal.Hand

end
-- ==== Proof.InprojStages.lean ====
/-
  The rotation's tables on which the in-projection's kernel is launched: the host operations that prepare them, stage by stage.
-/
module

public import proofs.«01_k».proof.Proof.InprojTables
public import proofs.«01_k».proof.Proof.InprojTurn
public import Idealize.ShloMosaic.Lib.Routing.OpsOne
public import Idealize.ShloMosaic.Lib.Routing.OpsSearch

@[expose] public section

set_option maxRecDepth 16384

noncomputable section

namespace Cert.Kernel3Ideal.Hand

open Cert.Kernel3Ideal Cert.Kernel3Ideal.Gen Idealize.ShloMosaic Idealize.ShloMosaic.TcCoe

section Host

variable {F : FTy → Type} [FloatOps F]

/-! ## The rotation's tables, stage by stage -/

/-- The host operations before the tables are put side by side, -/
abbrev stage0 : List (HloOp τ sig (Elt F)) := List.flatten [hostOps0, hostOps0_1, hostOps0_2.take 37]
/-- those that put them side by side, -/
abbrev stage1 : List (HloOp τ sig (Elt F)) := (hostOps0_2.drop 37).take 4
/-- that double them, -/
abbrev stage2 : List (HloOp τ sig (Elt F)) := (hostOps0_2.drop 41).take 12
/-- stack them, -/
abbrev stage3 : List (HloOp τ sig (Elt F)) := (hostOps0_2.drop 53).take 1
/-- read them in the groups' orders -/
abbrev stage4 : List (HloOp τ sig (Elt F)) := (hostOps0_2.drop 54).take 42
/-- and stack those. -/
abbrev stage5 : List (HloOp τ sig (Elt F)) := hostOps0_2.drop 96

theorem stages : (List.flatten [hostOps0, hostOps0_1, hostOps0_2] : List (HloOp τ sig (Elt F))) = stage0 ++ (stage1 ++ (stage2 ++ (stage3 ++ (stage4 ++ stage5)))) := rfl

variable (m : (ℓ : Loc nD τ sig) → Buf (Elt F) ℓ) (c : Dev nD) (W : Valuation τ sig (Elt F))

theorem stage0_70 : StableHlo.after (stage0 (F := F)) W (Proc.devRef .tc main_v70) = (Host.cos angles : FVec F S2048x8 .f32) := by
  simp only [stage0, hostOps0, hostOps0_1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage0_71 : StableHlo.after (stage0 (F := F)) W (Proc.devRef .tc main_v71) = (Host.sin angles : FVec F S2048x8 .f32) := by
  simp only [stage0, hostOps0, hostOps0_1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage0_72 : StableHlo.after (stage0 (F := F)) W (Proc.devRef .tc main_v72) = (ones48 : FVec F S2048x48 .f32) := by
  simp only [stage0, hostOps0, hostOps0_1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage0_73 : StableHlo.after (stage0 (F := F)) W (Proc.devRef .tc main_v73) = (zeros48 : FVec F S2048x48 .f32) := by
  simp only [stage0, hostOps0, hostOps0_1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage0_74 : StableHlo.after (stage0 (F := F)) W (Proc.devRef .tc main_v74) = (zeros8 : FVec F S2048x8 .f32) := by
  simp only [stage0, hostOps0, hostOps0_1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl

theorem stage1_75 : StableHlo.after (stage1 (F := F)) W (Proc.devRef .tc main_v75) = cols (W (Proc.devRef .tc main_v70)) (W (Proc.devRef .tc main_v70)) (W (Proc.devRef .tc main_v72)) := by
  simp only [stage1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage1_76 : StableHlo.after (stage1 (F := F)) W (Proc.devRef .tc main_v76) = cols (W (Proc.devRef .tc main_v74)) (W (Proc.devRef .tc main_v71)) (W (Proc.devRef .tc main_v73)) := by
  simp only [stage1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage1_78 : StableHlo.after (stage1 (F := F)) W (Proc.devRef .tc main_v78) = cols (Host.negf (W (Proc.devRef .tc main_v71) : FVec F S2048x8 .f32)) (W (Proc.devRef .tc main_v74)) (W (Proc.devRef .tc main_v73)) := by
  simp only [stage1, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl

theorem stage2_88 : StableHlo.after (stage2 (F := F)) W (Proc.devRef .tc main_v88) = twice (W (Proc.devRef .tc main_v75)) := by
  simp only [stage2, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage2_89 : StableHlo.after (stage2 (F := F)) W (Proc.devRef .tc main_v89) = twice (W (Proc.devRef .tc main_v76)) := by
  simp only [stage2, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage2_90 : StableHlo.after (stage2 (F := F)) W (Proc.devRef .tc main_v90) = twice (W (Proc.devRef .tc main_v78)) := by
  simp only [stage2, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl

theorem stage3_91 : StableHlo.after (stage3 (F := F)) W (Proc.devRef .tc main_v91)
    = concatenate S3x2048x128 0 [⟨S1x2048x128, W (Proc.devRef .tc main_v88)⟩, ⟨S1x2048x128, W (Proc.devRef .tc main_v89)⟩, ⟨S1x2048x128, W (Proc.devRef .tc main_v90)⟩]
        concatenates_S1x2048x128_S1x2048x128_S1x2048x128_S3x2048x128_d0 := by
  simp only [stage3, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl

theorem stage4_125 : StableHlo.after (stage4 (F := F)) W (Proc.devRef .tc main_v125) = taken order1 (W (Proc.devRef .tc main_v91)) := by
  simp only [stage4, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage4_126 : StableHlo.after (stage4 (F := F)) W (Proc.devRef .tc main_v126) = taken order4 (W (Proc.devRef .tc main_v91)) := by
  simp only [stage4, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl
theorem stage4_127 : StableHlo.after (stage4 (F := F)) W (Proc.devRef .tc main_v127) = taken order16 (W (Proc.devRef .tc main_v91)) := by
  simp only [stage4, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl

theorem stage5_128 : StableHlo.after (stage5 (F := F)) W (Proc.devRef .tc main_v128)
    = concatenate S3x3x2048x128 0 [⟨S1x3x2048x128, W (Proc.devRef .tc main_v125)⟩, ⟨S1x3x2048x128, W (Proc.devRef .tc main_v126)⟩, ⟨S1x3x2048x128, W (Proc.devRef .tc main_v127)⟩]
        concatenates_S1x3x2048x128_S1x3x2048x128_S1x3x2048x128_S3x3x2048x128_d0 := by
  simp only [stage5, hostOps0_2, List.flatten_cons, List.flatten_nil, List.append_nil, List.cons_append, List.nil_append, List.take_succ_cons, List.take_zero, List.drop_succ_cons, List.drop_zero, StableHlo.TRef.binary, StableHlo.TRef.nullary, StableHlo.TRef.ternary, StableHlo.TRef.unary, StableHlo.TRef.toBuf, StableHlo.TRef.ofBuf, cast_eq]
  after_results_simp
  rfl

theorem V_tables : V m c main_v128 = (groupTables : FVec F S3x3x2048x128 .f32) := by
  show StableHlo.after (List.flatten [hostOps0, hostOps0_1, hostOps0_2]) _ (Proc.devRef .tc main_v128) = _
  rw [stages]
  simp only [StableHlo.after_append]
  rw [stage5_128, stage4_125, stage4_126, stage4_127, stage3_91, stage2_88, stage2_89, stage2_90, stage1_75, stage1_76, stage1_78,
    stage0_70, stage0_71, stage0_72, stage0_73, stage0_74]
  rfl

end Host

end Cert.Kernel3Ideal.Hand

end
-- ==== Proof.InprojGroups.lean ====
/-
  The in-projection's queries, keys and values at a point of the grid: each tile holds the heads of the rows it regroups.
-/
module

public import proofs.«01_k».proof.Proof.InprojTileValues
public import proofs.«01_k».proof.Proof.InprojTableValues
public import proofs.«01_k».proof.Proof.InprojStages

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic Idealize.SL.Sem

/-! ## A tile's entry -/

section Tile

variable (g : Fin 3) (U : FVec Ideal S512x1024 .bf16) (W : Vec Ideal S1024x5120 .bf16) (G : Vec Ideal S8x512 .f32) (R : Vec Ideal S3x3x512x128 .f32)
  (A : Vec Ideal S512x512 .bf16) (z : Fin 7168 → EReal) (s : Fin 2048) (p : Fin 512)
  (hz : ∀ (k : Fin 9) (e : Fin 512), ∑ d, U (ix2 p d) * W (ix2 d ⟨512 * k.val + e.val, by omega⟩) = z ⟨512 * k.val + e.val, by omega⟩)
  (hR : ∀ (k : Fin 3) (l : Fin 128), R (ix4 g k p l) = factor k s ⟨l.val % 64, by omega⟩)
  (hA : ∀ k e : Fin 512, A (ix2 k e) = Cert.Inproj.share k e) (h : Fin 8) (a : Fin 64)

include hz hR hA in
/-- A normed and turned tile at a head's entry, whatever the gain row. -/
theorem turned_entry (k : Fin 9) (γ : FVec Ideal S1x512 .f32) (f : Fin 64 → EReal) (hγ : ∀ a : Fin 64, γ (ix2 0 ⟨64 * h.val + a.val, by omega⟩) = f a) :
    turnTile (normTile (dotTile U W k) A γ) (tableTile R g 0) (tableTile R g 1) (tableTile R g 2) (ix2 p ⟨64 * h.val + a.val, by omega⟩)
      = Cert.Inproj.turned (Cert.Inproj.headNorm (fun a => z ⟨512 * k.val + (64 * h.val + a.val), by omega⟩) f) s a := by
  have hlt : 64 * h.val + a.val < 512 := by omega
  have hl : (⟨(64 * h.val + a.val) % 128 % 64, by omega⟩ : Fin 64) = a := Fin.ext (by dsimp only; omega)
  have hN : ∀ e : Fin 512, normTile (dotTile U W k) A γ (ix2 p e)
      = z ⟨512 * k.val + e.val, by omega⟩ * Ideal.rsqrt ((∑ i : Fin 512, z ⟨512 * k.val + i.val, by omega⟩ * z ⟨512 * k.val + i.val, by omega⟩ * Cert.Inproj.share i e) + Cert.Inproj.eps) * γ (ix2 0 e) := by
    intro e
    rw [normTile_apply]
    simp only [dotTile_apply, hz, hA]
  have key := Cert.Inproj.shifted_norm (fun e => z ⟨512 * k.val + e.val, by omega⟩) (fun e => γ (ix2 0 e)) s h a ⟨64 * h.val + a.val, hlt⟩ rfl
    (fun e => normTile (dotTile U W k) A γ (ix2 p e)) hN
  rw [turnTile_apply, tableTile_apply, tableTile_apply, tableTile_apply, hR, hR, hR]
  simp only [hl]
  refine key.trans ?_
  simp only [hγ]

include hz hR hA in
theorem tile_entry (gq gk : Cert.Inproj.Gains)
    (hq : ∀ a : Fin 64, G (ix2 ⟨2 * g.val, by omega⟩ ⟨64 * h.val + a.val, by omega⟩) = gq (ix2 g a))
    (hk : ∀ a : Fin 64, G (ix2 ⟨2 * g.val + 1, by omega⟩ ⟨64 * h.val + a.val, by omega⟩) = gk (ix2 g a)) (j : Fin 3) :
    tileOf g U W G R A j (ix2 p ⟨64 * h.val + a.val, by omega⟩) = Cert.Inproj.entry z gq gk s g j h a := by
  unfold tileOf Cert.Inproj.entry
  have e0 : (fun a => z ⟨512 * (3 * g.val) + (64 * h.val + a.val), by omega⟩) = Cert.Inproj.head z g 0 h :=
    funext fun a => congrArg z (Fin.ext (by show 512 * (3 * g.val) + (64 * h.val + a.val) = 1536 * g.val + 512 * 0 + 64 * h.val + a.val; omega))
  have e1 : (fun a => z ⟨512 * (3 * g.val + 1) + (64 * h.val + a.val), by omega⟩) = Cert.Inproj.head z g 1 h :=
    funext fun a => congrArg z (Fin.ext (by show 512 * (3 * g.val + 1) + (64 * h.val + a.val) = 1536 * g.val + 512 * 1 + 64 * h.val + a.val; omega))
  fin_cases j
  · refine (turned_entry g U W R A z s p hz hR hA h a ⟨3 * g.val, by omega⟩ _ (fun a => gq (ix2 g a) * Cert.Inproj.qScale) (fun a => ?_)).trans ?_
    · rw [scaled_apply, gainTile_apply, hq]
    · exact (congrArg (fun v => Cert.Inproj.turned (Cert.Inproj.headNorm v _) s a) e0).trans (Cert.Inproj.scaled_gain _ _ s a)
  · refine (turned_entry g U W R A z s p hz hR hA h a ⟨3 * g.val + 1, by omega⟩ _ (fun a => gk (ix2 g a)) (fun a => ?_)).trans ?_
    · rw [gainTile_apply, hk]
    · exact congrArg (fun v => Cert.Inproj.turned (Cert.Inproj.headNorm v _) s a) e1
  · refine (dotTile_apply U W ⟨3 * g.val + 2, by omega⟩ p _).trans ((hz _ _).trans ?_)
    exact congrArg z (Fin.ext (by show 512 * (3 * g.val + 2) + (64 * h.val + a.val) = 1536 * g.val + 512 * 2 + 64 * h.val + a.val; omega))

end Tile

/-! ## The blocks staged beside the rows -/

theorem index_gains : ∀ t : Fin grid0.N, win0_4.index t = ![0, 0] := by decide +kernel
theorem index_tables : ∀ t : Fin grid0.N, win0_5.index t = ![0, 0, t.val % 4, 0] := by decide +kernel
theorem index_means : ∀ t : Fin grid0.N, win0_6.index t = ![0, 0] := by decide +kernel

variable (m : (ℓ : Loc nD τ sig) → Buf (Elt Ideal) ℓ) (ρ : Dev nD → PrngReg) (c : Dev nD)

/-- The queries' and the keys' gains. -/
abbrev argQ : Cert.Inproj.Gains := m ((c : Thread nD τ).loc main_arg4)
abbrev argK : Cert.Inproj.Gains := m ((c : Thread nD τ).loc main_arg5)

/-- A position's row of the projection. -/
abbrev rowZ (b : Fin 32) (s : Fin 2048) : Fin 7168 → EReal := fun e => Cert.Inproj.z (argX m c) (argM m c) (argG m c) (argW m c) b s e

section Block

variable (t : Fin cfg0.N) (b : Fin 32) (j : Fin 4) (hb : t.val / 4 = b.val) (hj : t.val % 4 = j.val)

theorem blk_gains (k : Fin 8) (e : Fin 512) : (iblk m c 4 t : Vec Ideal S8x512 .f32) (ix2 k e) = gainTable (argQ m c) (argK m c) (ix2 k e) := by
  refine Eq.trans ?_ (congrFun (V_gains m c) (ix2 k e))
  unfold iblk
  rw [View.read_apply]
  show V m c main_v42 _ = V m c main_v42 _
  congr 1
  funext a
  apply Fin.ext
  have hi := index_gains t
  match a with
  | ⟨0, _⟩ => show win0_4.index t 0 * 8 + 1 * k.val = k.val; rw [hi]; simp
  | ⟨1, _⟩ => show win0_4.index t 1 * 512 + 1 * e.val = e.val; rw [hi]; simp

include hb hj in
theorem blk_tables (g k : Fin 3) (p : Fin 512) (l : Fin 128) : (iblk m c 5 t : Vec Ideal S3x3x512x128 .f32) (ix4 g k p l)
    = factor k ⟨512 * j.val + (place g p).val, by omega⟩ ⟨l.val % 64, by omega⟩ := by
  refine Eq.trans ?_ ((congrFun (V_tables m c) (ix4 g k ⟨512 * j.val + p.val, by omega⟩ l)).trans (groupTables_apply g k j p l))
  unfold iblk
  rw [View.read_apply]
  show V m c main_v128 _ = V m c main_v128 _
  congr 1
  funext a
  apply Fin.ext
  have hi := index_tables t
  match a with
  | ⟨0, _⟩ => show win0_5.index t 0 * 3 + 1 * g.val = g.val; rw [hi]; simp
  | ⟨1, _⟩ => show win0_5.index t 1 * 3 + 1 * k.val = k.val; rw [hi]; simp
  | ⟨2, _⟩ => show win0_5.index t 2 * 512 + 1 * p.val = 512 * j.val + p.val; rw [hi]; simp [hj]; omega
  | ⟨3, _⟩ => show win0_5.index t 3 * 128 + 1 * l.val = l.val; rw [hi]; simp

theorem blk_means (k e : Fin 512) : (iblk m c 6 t : Vec Ideal S512x512 .bf16) (ix2 k e) = Cert.Inproj.share k e := by
  refine Eq.trans ?_ ((congrFun (V_means m c) (ix2 k e)).trans (means_apply k e))
  unfold iblk
  rw [View.read_apply]
  show V m c main_v53 _ = V m c main_v53 _
  congr 1
  funext a
  apply Fin.ext
  have hi := index_means t
  match a with
  | ⟨0, _⟩ => show win0_6.index t 0 * 512 + 1 * k.val = k.val; rw [hi]; simp
  | ⟨1, _⟩ => show win0_6.index t 1 * 512 + 1 * e.val = e.val; rw [hi]; simp

include hb hj in
/-- A group's tiles from its regrouped rows. -/
theorem blk_tile (g i : Fin 3) (U : FVec Ideal S512x1024 .bf16) (p : Fin 512)
    (hU : ∀ d, U (ix2 p d) = Cert.Inproj.u (argX m c) (argM m c) (argG m c) b ⟨512 * j.val + (place g p).val, by omega⟩ d) (h : Fin 8) (a : Fin 64) :
    tileOf g U (iblk m c 3 t) (iblk m c 4 t) (iblk m c 5 t) (iblk m c 6 t) i (ix2 p ⟨64 * h.val + a.val, by omega⟩)
      = Cert.Inproj.entry (rowZ m c b ⟨512 * j.val + (place g p).val, by omega⟩) (argQ m c) (argK m c) ⟨512 * j.val + (place g p).val, by omega⟩ g i h a := by
  refine tile_entry g U _ _ _ _ _ _ p (fun k e => ?_) (fun k l => blk_tables m c t b j hb hj g k p l) (fun k e => blk_means m c t k e) h a _ _ (fun a => ?_) (fun a => ?_) i
  · exact Finset.sum_congr rfl fun d _ => congrArg₂ (· * ·) (hU d) (blk_w m c t d _)
  · rw [blk_gains]
    exact gainTable_q _ _ g h a
  · rw [blk_gains]
    exact gainTable_k _ _ g h a

/-- The rows of the groups: as they are, every fourth, every sixteenth. -/
abbrev normed0 : FVec Ideal S512x1024 .f32 := k0_pay2 (iblk m c 0 t : Vec Ideal S1x512x1024 .f32) (iblk m c 1 t) (iblk m c 2 t)

include hb hj in
theorem rows_0 (p : Fin 512) (d : Fin 1024) : k0_pay3 (iblk m c 0 t : Vec Ideal S1x512x1024 .f32) (iblk m c 1 t) (iblk m c 2 t) (ix2 p d)
    = Cert.Inproj.u (argX m c) (argM m c) (argG m c) b ⟨512 * j.val + (place 0 p).val, by omega⟩ d :=
  blk_u m c t b j hb hj p d
include hb hj in
theorem rows_1 {sp : Space} (v : View sig .tc sp S8x512x128 .f32) (p : Fin 512) (d : Fin 1024) : regroup4 v (normed0 m c t) (ix2 p d)
    = Cert.Inproj.u (argX m c) (argM m c) (argG m c) b ⟨512 * j.val + (place 1 p).val, by omega⟩ d :=
  (regroup4_apply v _ p d).trans (blk_u m c t b j hb hj _ d)
include hb hj in
theorem rows_2 {sp : Space} (v : View sig .tc sp S8x512x128 .f32) (p : Fin 512) (d : Fin 1024) : regroup16 v (normed0 m c t) (ix2 p d)
    = Cert.Inproj.u (argX m c) (argM m c) (argG m c) b ⟨512 * j.val + (place 2 p).val, by omega⟩ d :=
  (regroup16_apply v _ p d).trans (blk_u m c t b j hb hj _ d)

end Block

end Cert.Kernel3Ideal.Hand

end
-- ==== Proof.InprojStores.lean ====
/-
  The stores of the in-projection's kernel at a point of its grid, group by group, read off the kernel's text.
-/
module

public import proofs.«01_k».proof.Proof.InprojTiles

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic Idealize.SL.Sem

variable {F : FTy → Type} [FloatOps F]

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5120 .bf16) (harg5 : arg5.IsWhole) (arg6 : Memref sig .tc .vmem S8x512 .f32) (harg6 : arg6.IsWhole) (arg7 : Memref sig .tc .vmem S3x3x512x128 .f32) (harg7 : arg7.IsWhole) (arg8 : Memref sig .tc .vmem S512x512 .bf16) (harg8 : arg8.IsWhole) (arg9 : Memref sig .tc .vmem S1x1x512x1536 .bf16) (harg9 : arg9.IsWhole) (arg10 : Memref sig .tc .vmem S1x4x128x1536 .bf16) (harg10 : arg10.IsWhole) (arg11 : Memref sig .tc .vmem S1x16x32x1536 .bf16) (harg11 : arg11.IsWhole) (arg12 : Memref sig .tc .vmem S1x512x512 .bf16) (harg12 : arg12.IsWhole) (arg13 : Memref sig .tc .vmem S8x512x128 .f32) (harg13 : arg13.IsWhole)
    (x0 : Vec F S1x512x1024 .f32) (x1 : Vec F S1x6x1024 .f32) (x2 : Vec F S1x1024 .f32) (x3 : Vec F S1024x5120 .bf16) (x4 : Vec F S8x512 .f32) (x5 : Vec F S3x3x512x128 .f32) (x6 : Vec F S512x512 .bf16)

/-- The staged rows as the kernel loads them. -/
abbrev rowsOf : Vec F S1x512x1024 .f32 := View.ld (arg2.view.read (Elt F) (harg2.unread x0)) (Rect.unit (s := S1x512x1024) ![0, 0, 0] S1x512x1024.size inb_S1x512x1024_S1x512x1024_0_0_0)
abbrev modOf : Vec F S1x6x1024 .f32 := View.ld (arg3.view.read (Elt F) (harg3.unread x1)) (Rect.unit (s := S1x6x1024) ![0, 0, 0] S1x6x1024.size inb_S1x6x1024_S1x6x1024_0_0_0)
abbrev gainOf : Vec F S1x1024 .f32 := View.ld (arg4.view.read (Elt F) (harg4.unread x2)) (Rect.unit (s := S1x1024) ![0, 0] S1x1024.size inb_S1x1024_S1x1024_0_0)
/-- The heads' averaging matrix, likewise. -/
abbrev meansOf : Vec F S512x512 .bf16 := View.ld (arg8.view.read (Elt F) (harg8.unread x6)) (Rect.unit (s := S512x512) ![0, 0] S512x512.size inb_S512x512_S512x512_0_0)

set_option maxHeartbeats 4000000 in
/-- Group 0, -/
theorem stores_0 : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).1
    = parts1 (tileOf 0 (k0_pay3 (rowsOf arg2 harg2 x0) (modOf arg3 harg3 x1) (gainOf arg4 harg4 x2))
        (arg5.view.read (Elt F) (harg5.unread x3)) (arg6.view.read (Elt F) (harg6.unread x4)) (arg7.view.read (Elt F) (harg7.unread x5)) (meansOf arg8 harg8 x6)) := by
  sl_kernel_rfl

set_option maxHeartbeats 4000000 in
/-- group 1 -/
theorem stores_1 : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).2.1
    = parts4 (tileOf 1 (regroup4 arg13.view (k0_pay2 (rowsOf arg2 harg2 x0) (modOf arg3 harg3 x1) (gainOf arg4 harg4 x2)))
        (arg5.view.read (Elt F) (harg5.unread x3)) (arg6.view.read (Elt F) (harg6.unread x4)) (arg7.view.read (Elt F) (harg7.unread x5)) (meansOf arg8 harg8 x6)) := by
  sl_kernel_rfl

set_option maxHeartbeats 4000000 in
/-- and group 2. -/
theorem stores_2 : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6).2.2.1
    = parts16 (tileOf 2 (regroup16 arg13.view (k0_pay2 (rowsOf arg2 harg2 x0) (modOf arg3 harg3 x1) (gainOf arg4 harg4 x2)))
        (arg5.view.read (Elt F) (harg5.unread x3)) (arg6.view.read (Elt F) (harg6.unread x4)) (arg7.view.read (Elt F) (harg7.unread x5)) (meansOf arg8 harg8 x6)) := by
  sl_kernel_rfl

end Cert.Kernel3Ideal.Hand

end
-- ==== Proof.InprojResults.lean ====
/-
  The in-projection's results: each group's tiles laid out by residue class, the arrays that leave, and the run.
-/
module

public import proofs.«01_k».proof.Proof.InprojGroups
public import proofs.«01_k».proof.Proof.InprojStores

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic Idealize.SL.Sem
open Idealize.ShloMosaic.Pipeline (Dat)

/-! ## The tiles laid out -/

/-- Three tiles side by side, their rows dealt out to one class, four, sixteen. -/
def laid1 (T : Fin 3 → FVec Ideal S512x512 .bf16) : Vec Ideal S1x1x512x1536 .bf16 := fun y =>
  T ⟨(y 3).val / 512, by have h : (y 3).val < 1536 := (y 3).isLt; omega⟩ (ix2 (y 2) ⟨(y 3).val % 512, by omega⟩)
def laid4 (T : Fin 3 → FVec Ideal S512x512 .bf16) : Vec Ideal S1x4x128x1536 .bf16 := fun y =>
  T ⟨(y 3).val / 512, by have h : (y 3).val < 1536 := (y 3).isLt; omega⟩
    (ix2 ⟨128 * (y 1).val + (y 2).val, by have h1 : (y 1).val < 4 := (y 1).isLt; have h2 : (y 2).val < 128 := (y 2).isLt; omega⟩ ⟨(y 3).val % 512, by omega⟩)
def laid16 (T : Fin 3 → FVec Ideal S512x512 .bf16) : Vec Ideal S1x16x32x1536 .bf16 := fun y =>
  T ⟨(y 3).val / 512, by have h : (y 3).val < 1536 := (y 3).isLt; omega⟩
    (ix2 ⟨32 * (y 1).val + (y 2).val, by have h1 : (y 1).val < 16 := (y 1).isLt; have h2 : (y 2).val < 32 := (y 2).isLt; omega⟩ ⟨(y 3).val % 512, by omega⟩)

theorem tile_congr (T : Fin 3 → FVec Ideal S512x512 .bf16) {j j' : Fin 3} {p p' e e' : Fin 512} (hj : j.val = j'.val) (hp : p.val = p'.val) (he : e.val = e'.val) :
    T j (ix2 p e) = T j' (ix2 p' e') := by
  rw [Fin.ext hj, Fin.ext hp, Fin.ext he]

theorem part1_apply (T : Fin 3 → FVec Ideal S512x512 .bf16) (j : Fin 3) (p e : Fin 512) : (part1 T j).2 (ix4 0 0 p e) = T j (ix2 p e) := by
  show shapeCast S1x1x512x512 (T j) shapeCasts_S512x512_S1x1x512x512 (ix4 0 0 p e) = _
  pointwise
theorem part4_apply (T : Fin 3 → FVec Ideal S512x512 .bf16) (j : Fin 3) (r : Fin 4) (p : Fin 128) (e : Fin 512) :
    (part4 T j r).2 (ix4 0 0 p e) = T j (ix2 ⟨128 * r.val + p.val, by omega⟩ e) := by
  show shapeCast S1x1x128x512 (extractStridedSlice S128x512 ![128 * r.val, 0] (T j) (rows4_slices r)) shapeCasts_S128x512_S1x1x128x512 (ix4 0 0 p e) = _
  pointwise
theorem part16_apply (T : Fin 3 → FVec Ideal S512x512 .bf16) (j : Fin 3) (r : Fin 16) (p : Fin 32) (e : Fin 512) :
    (part16 T j r).2 (ix4 0 0 p e) = T j (ix2 ⟨32 * r.val + p.val, by omega⟩ e) := by
  show shapeCast S1x1x32x512 (extractStridedSlice S32x512 ![32 * r.val, 0] (T j) (rows16_slices r)) shapeCasts_S32x512_S1x1x32x512 (ix4 0 0 p e) = _
  pointwise

/-- Every store holds the laid out tiles' entries. -/
theorem parts1_pieces (T : Fin 3 → FVec Ideal S512x512 .bf16) : ∀ q ∈ parts1 T, ∀ x, q.2 x = laid1 T (q.1.emb x) := by
  intro q hq x
  unfold parts1 at hq
  rw [List.mem_map] at hq
  obtain ⟨j, -, rfl⟩ := hq
  obtain ⟨z, z', p, e, rfl⟩ : ∃ (z z' : Fin 1) (p e : Fin 512), x = ix4 z z' p e := ⟨x 0, x 1, x 2, x 3, eq_ix4 x⟩
  obtain rfl : z = 0 := Subsingleton.elim _ _
  obtain rfl : z' = 0 := Subsingleton.elim _ _
  refine (part1_apply T j p e).trans (tile_congr T ?_ ?_ ?_)
  · show j.val = (512 * j.val + 1 * e.val) / 512; omega
  · show p.val = 0 + 1 * p.val; omega
  · show e.val = (512 * j.val + 1 * e.val) % 512; omega
theorem parts4_pieces (T : Fin 3 → FVec Ideal S512x512 .bf16) : ∀ q ∈ parts4 T, ∀ x, q.2 x = laid4 T (q.1.emb x) := by
  intro q hq x
  unfold parts4 at hq
  rw [List.mem_flatMap] at hq
  obtain ⟨j, -, hq⟩ := hq
  rw [List.mem_map] at hq
  obtain ⟨r, -, rfl⟩ := hq
  obtain ⟨z, z', p, e, rfl⟩ : ∃ (z z' : Fin 1) (p : Fin 128) (e : Fin 512), x = ix4 z z' p e := ⟨x 0, x 1, x 2, x 3, eq_ix4 x⟩
  obtain rfl : z = 0 := Subsingleton.elim _ _
  obtain rfl : z' = 0 := Subsingleton.elim _ _
  refine (part4_apply T j r p e).trans (tile_congr T ?_ ?_ ?_)
  · show j.val = (512 * j.val + 1 * e.val) / 512; omega
  · show 128 * r.val + p.val = 128 * (r.val + 1 * 0) + (0 + 1 * p.val); omega
  · show e.val = (512 * j.val + 1 * e.val) % 512; omega
theorem parts16_pieces (T : Fin 3 → FVec Ideal S512x512 .bf16) : ∀ q ∈ parts16 T, ∀ x, q.2 x = laid16 T (q.1.emb x) := by
  intro q hq x
  unfold parts16 at hq
  rw [List.mem_flatMap] at hq
  obtain ⟨j, -, hq⟩ := hq
  rw [List.mem_map] at hq
  obtain ⟨r, -, rfl⟩ := hq
  obtain ⟨z, z', p, e, rfl⟩ : ∃ (z z' : Fin 1) (p : Fin 32) (e : Fin 512), x = ix4 z z' p e := ⟨x 0, x 1, x 2, x 3, eq_ix4 x⟩
  obtain rfl : z = 0 := Subsingleton.elim _ _
  obtain rfl : z' = 0 := Subsingleton.elim _ _
  refine (part16_apply T j r p e).trans (tile_congr T ?_ ?_ ?_)
  · show j.val = (512 * j.val + 1 * e.val) / 512; omega
  · show 32 * r.val + p.val = 32 * (r.val + 1 * 0) + (0 + 1 * p.val); omega
  · show e.val = (512 * j.val + 1 * e.val) % 512; omega

/-! ## What a point stores -/

section Outs

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x5120 .bf16) (harg5 : arg5.IsWhole) (arg6 : Memref sig .tc .vmem S8x512 .f32) (harg6 : arg6.IsWhole) (arg7 : Memref sig .tc .vmem S3x3x512x128 .f32) (harg7 : arg7.IsWhole) (arg8 : Memref sig .tc .vmem S512x512 .bf16) (harg8 : arg8.IsWhole) (arg9 : Memref sig .tc .vmem S1x1x512x1536 .bf16) (harg9 : arg9.IsWhole) (arg10 : Memref sig .tc .vmem S1x4x128x1536 .bf16) (harg10 : arg10.IsWhole) (arg11 : Memref sig .tc .vmem S1x16x32x1536 .bf16) (harg11 : arg11.IsWhole) (arg12 : Memref sig .tc .vmem S1x512x512 .bf16) (harg12 : arg12.IsWhole) (arg13 : Memref sig .tc .vmem S8x512x128 .f32) (harg13 : arg13.IsWhole)
    (x0 : Vec Ideal S1x512x1024 .f32) (x1 : Vec Ideal S1x6x1024 .f32) (x2 : Vec Ideal S1x1024 .f32) (x3 : Vec Ideal S1024x5120 .bf16) (x4 : Vec Ideal S8x512 .f32) (x5 : Vec Ideal S3x3x512x128 .f32) (x6 : Vec Ideal S512x512 .bf16)

theorem out_1 : out0_A_7 c i arg2 harg2 arg3 harg3 arg4 harg4 arg5 harg5 arg6 harg6 arg7 harg7 arg8 harg8 arg9 harg9 arg10 harg10 arg11 harg11 arg12 harg12 arg13 harg13 x0 x1 x2 x3 x4 x5 x6 = laid1 (tileOf 0 (k0_pay3 x0 x1 x2) x3 x4 x5 x6) := by
  unfold out0_A_7
  have hc := cover0_A_7 c i arg2 harg2 arg3 harg3 arg4 harg4 arg5 harg5 arg6 harg6 arg7 harg7 arg8 harg8 arg9 harg9 arg10 harg10 arg11 harg11 arg12 harg12 arg13 harg13 x0 x1 x2 x3 x4 x5 x6
  rw [View.read_writes_eq_canon _ _ _ hc]
  rw [stores_0 c i arg2 harg2 arg3 harg3 arg4 harg4 arg5 harg5 arg6 harg6 arg7 harg7 arg8 harg8 arg9 harg9 arg10 harg10 arg11 harg11 arg12 harg12 arg13 harg13 x0 x1 x2 x3 x4 x5 x6] at hc ⊢
  unfold rowsOf modOf gainOf meansOf at hc ⊢
  rw [harg2.read_unread, harg3.read_unread, harg4.read_unread, harg5.read_unread, harg6.read_unread, harg7.read_unread, harg8.read_unread,
    View.ld_unit_zero (by funext a; fin_cases a <;> rfl), View.ld_unit_zero (by funext a; fin_cases a <;> rfl), View.ld_unit_zero (by funext a; fin_cases a <;> rfl),
    View.ld_unit_zero (by funext a; fin_cases a <;> rfl)] at hc ⊢
  funext y
  exact View.canon_apply_of_pieces (laid1 _) _ (parts1_pieces _) y (hc y)

theorem out_4 : out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 = laid4 (tileOf 1 (regroup4 arg13.view (k0_pay2 x0 x1 x2)) x3 x4 x5 x6) := by
  unfold out0_A_8
  have hc := cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6
  rw [View.read_writes_eq_canon _ _ _ hc]
  rw [stores_1 c i arg2 harg2 arg3 harg3 arg4 harg4 arg5 harg5 arg6 harg6 arg7 harg7 arg8 harg8 arg9 harg9 arg10 harg10 arg11 harg11 arg12 harg12 arg13 harg13 x0 x1 x2 x3 x4 x5 x6] at hc ⊢
  unfold rowsOf modOf gainOf meansOf at hc ⊢
  rw [harg2.read_unread, harg3.read_unread, harg4.read_unread, harg5.read_unread, harg6.read_unread, harg7.read_unread, harg8.read_unread,
    View.ld_unit_zero (by funext a; fin_cases a <;> rfl), View.ld_unit_zero (by funext a; fin_cases a <;> rfl), View.ld_unit_zero (by funext a; fin_cases a <;> rfl),
    View.ld_unit_zero (by funext a; fin_cases a <;> rfl)] at hc ⊢
  funext y
  exact View.canon_apply_of_pieces (laid4 _) _ (parts4_pieces _) y (hc y)

theorem out_16 : out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 = laid16 (tileOf 2 (regroup16 arg13.view (k0_pay2 x0 x1 x2)) x3 x4 x5 x6) := by
  unfold out0_A_9
  have hc := cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6
  rw [View.read_writes_eq_canon _ _ _ hc]
  rw [stores_2 c i arg2 harg2 arg3 harg3 arg4 harg4 arg5 harg5 arg6 harg6 arg7 harg7 arg8 harg8 arg9 harg9 arg10 harg10 arg11 harg11 arg12 harg12 arg13 harg13 x0 x1 x2 x3 x4 x5 x6] at hc ⊢
  unfold rowsOf modOf gainOf meansOf at hc ⊢
  rw [harg2.read_unread, harg3.read_unread, harg4.read_unread, harg5.read_unread, harg6.read_unread, harg7.read_unread, harg8.read_unread,
    View.ld_unit_zero (by funext a; fin_cases a <;> rfl), View.ld_unit_zero (by funext a; fin_cases a <;> rfl), View.ld_unit_zero (by funext a; fin_cases a <;> rfl),
    View.ld_unit_zero (by funext a; fin_cases a <;> rfl)] at hc ⊢
  funext y
  exact View.canon_apply_of_pieces (laid16 _) _ (parts16_pieces _) y (hc y)

end Outs

/-! ## The results -/

variable (m : (ℓ : Loc nD τ sig) → Buf (Elt Ideal) ℓ) (ρ : Dev nD → PrngReg) (c : Dev nD)

/-- Column `e` of a group's queries, keys and values side by side, at a position. -/
def sideEntry (g : Fin 3) (b : Fin 32) (s : Fin 2048) (e : Fin 1536) : EReal :=
  Cert.Inproj.entry (rowZ m c b s) (argQ m c) (argK m c) s g ⟨e.val / 512, by omega⟩ ⟨e.val % 512 / 64, by omega⟩ ⟨e.val % 64, by omega⟩

/-- The groups' results: the positions of one residue class together. -/
def result1 : Vec Ideal S32x1x2048x1536 .bf16 := fun i => sideEntry m c 0 (i 0) (i 2) (i 3)
def result4 : Vec Ideal S32x4x512x1536 .bf16 := fun i =>
  sideEntry m c 1 (i 0) ⟨4 * (i 2).val + (i 1).val, by have h1 : (i 1).val < 4 := (i 1).isLt; have h2 : (i 2).val < 512 := (i 2).isLt; omega⟩ (i 3)
def result16 : Vec Ideal S32x16x128x1536 .bf16 := fun i =>
  sideEntry m c 2 (i 0) ⟨16 * (i 2).val + (i 1).val, by have h1 : (i 1).val < 16 := (i 1).isLt; have h2 : (i 2).val < 128 := (i 2).isLt; omega⟩ (i 3)

theorem side_congr (g : Fin 3) (b : Fin 32) {s s' : Fin 2048} (e : Fin 1536) (h : s.val = s'.val) : sideEntry m c g b s e = sideEntry m c g b s' e := by
  rw [Fin.ext h]

/-- A point's tiles, side by side. -/
theorem blk_side (t : Fin cfg0.N) (b : Fin 32) (j : Fin 4) (hb : t.val / 4 = b.val) (hj : t.val % 4 = j.val) (g : Fin 3) (U : FVec Ideal S512x1024 .bf16) (p : Fin 512)
    (hU : ∀ d, U (ix2 p d) = Cert.Inproj.u (argX m c) (argM m c) (argG m c) b ⟨512 * j.val + (place g p).val, by omega⟩ d) (e : Fin 1536) :
    tileOf g U (iblk m c 3 t) (iblk m c 4 t) (iblk m c 5 t) (iblk m c 6 t) ⟨e.val / 512, by omega⟩ (ix2 p ⟨e.val % 512, by omega⟩)
      = sideEntry m c g b ⟨512 * j.val + (place g p).val, by omega⟩ e := by
  refine Eq.trans ?_ (blk_tile m c t b j hb hj g ⟨e.val / 512, by omega⟩ U p hU ⟨e.val % 512 / 64, by omega⟩ ⟨e.val % 64, by omega⟩)
  exact tile_congr _ rfl rfl (by show e.val % 512 = 64 * (e.val % 512 / 64) + e.val % 64; omega)

theorem index_1 : ∀ t : Fin grid0.N, win0_7.index t = ![t.val / 4, 0, t.val % 4, 0] := by decide +kernel
theorem index_4 : ∀ t : Fin grid0.N, win0_8.index t = ![t.val / 4, 0, t.val % 4, 0] := by decide +kernel
theorem index_16 : ∀ t : Fin grid0.N, win0_9.index t = ![t.val / 4, 0, t.val % 4, 0] := by decide +kernel

/-- Point `t` writes its positions' part. -/
theorem flushed_1 (t : Fin cfg0.N) : (dats m 0 c).flushed 7 t = ((cfg0.win 7).blk t).view.read (Elt Ideal) (result1 m c) := by
  rw [Cert.Kernel3Ideal.Value.flushed7_A, out_1]
  have hN : cfg0.N = 128 := N_0
  have hi := index_1 t
  have ht := t.isLt
  funext y
  rw [View.read_apply]
  obtain ⟨z, r, p, e, rfl⟩ : ∃ (z : Fin 1) (r : Fin 1) (p : Fin 512) (e : Fin 1536), y = ix4 z r p e := ⟨y 0, y 1, y 2, y 3, eq_ix4 y⟩
  obtain rfl : z = 0 := Subsingleton.elim _ _
  have hr := r.isLt
  have hp := p.isLt
  have key : (((cfg0.win 7).blk t).view.emb (ix4 0 r p e) : S32x1x2048x1536.Idx) = ix4 ⟨t.val / 4, by omega⟩ r ⟨512 * (t.val % 4) + p.val, by omega⟩ e := by
    funext a
    apply Fin.ext
    match a with
    | ⟨0, _⟩ => show win0_7.index t 0 * 1 + 1 * 0 = t.val / 4; rw [hi]; simp
    | ⟨1, _⟩ => show win0_7.index t 1 * 1 + 1 * r.val = r.val; rw [hi]; simp
    | ⟨2, _⟩ => show win0_7.index t 2 * 512 + 1 * p.val = 512 * (t.val % 4) + p.val; rw [hi]; simp; omega
    | ⟨3, _⟩ => show win0_7.index t 3 * 1536 + 1 * e.val = e.val; rw [hi]; simp
  refine Eq.trans ?_ (congrArg (result1 m c) key).symm
  refine (blk_side m c t ⟨t.val / 4, by omega⟩ ⟨t.val % 4, by omega⟩ rfl rfl 0 _ p (fun d => rows_0 m c t _ _ rfl rfl p d) e).trans ?_
  exact side_congr m c 0 _ e (by show 512 * (t.val % 4) + p.val = 512 * (t.val % 4) + p.val; omega)

/-- So the array ends at the result. -/
theorem final_1 : (dats m 0 c).arrAt 7 cfg0.N = result1 m c :=
  (dats m 0 c).arrAt_eq_of_cover 7 (result1 m c) (fun t _ => flushed_1 m c t) fun (i : S32x1x2048x1536.Idx) => by
    have hN : cfg0.N = 128 := N_0
    have h0 : (i 0 : Nat) < 32 := (i 0).isLt
    have h1 : (i 1 : Nat) < 1 := (i 1).isLt
    have h2 : (i 2 : Nat) < 2048 := (i 2).isLt
    have h3 : (i 3 : Nat) < 1536 := (i 3).isLt
    obtain ⟨t, ht⟩ : ∃ t : Fin grid0.N, t.val = 4 * (i 0 : Nat) + (i 2 : Nat) / 512 := ⟨⟨4 * (i 0).val + (i 2).val / 512, by show _ < cfg0.N; omega⟩, rfl⟩
    have hi := index_1 t
    refine ⟨t, flush0_7 t, ?_⟩
    show i ∈ ((View.whole main_v129_0).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; rw [hi]; show t.val / 4 * 1 ≤ _ ∧ _ < t.val / 4 * 1 + 1; omega
    | ⟨1, _⟩ => show win0_7.index t 1 * 1 ≤ (i 1 : Nat) ∧ (i 1 : Nat) < win0_7.index t 1 * 1 + 1; rw [hi]; simpa using h1
    | ⟨2, _⟩ => show win0_7.index t 2 * 512 ≤ (i 2 : Nat) ∧ (i 2 : Nat) < win0_7.index t 2 * 512 + 512; rw [hi]; show t.val % 4 * 512 ≤ _ ∧ _ < t.val % 4 * 512 + 512; omega
    | ⟨3, _⟩ => show win0_7.index t 3 * 1536 ≤ (i 3 : Nat) ∧ (i 3 : Nat) < win0_7.index t 3 * 1536 + 1536; rw [hi]; simpa using h3

/-- Point `t` writes its positions' part. -/
theorem flushed_4 (t : Fin cfg0.N) : (dats m 0 c).flushed 8 t = ((cfg0.win 8).blk t).view.read (Elt Ideal) (result4 m c) := by
  rw [Cert.Kernel3Ideal.Value.flushed8_A, out_4]
  have hN : cfg0.N = 128 := N_0
  have hi := index_4 t
  have ht := t.isLt
  funext y
  rw [View.read_apply]
  obtain ⟨z, r, p, e, rfl⟩ : ∃ (z : Fin 1) (r : Fin 4) (p : Fin 128) (e : Fin 1536), y = ix4 z r p e := ⟨y 0, y 1, y 2, y 3, eq_ix4 y⟩
  obtain rfl : z = 0 := Subsingleton.elim _ _
  have hr := r.isLt
  have hp := p.isLt
  have key : (((cfg0.win 8).blk t).view.emb (ix4 0 r p e) : S32x4x512x1536.Idx) = ix4 ⟨t.val / 4, by omega⟩ r ⟨128 * (t.val % 4) + p.val, by omega⟩ e := by
    funext a
    apply Fin.ext
    match a with
    | ⟨0, _⟩ => show win0_8.index t 0 * 1 + 1 * 0 = t.val / 4; rw [hi]; simp
    | ⟨1, _⟩ => show win0_8.index t 1 * 4 + 1 * r.val = r.val; rw [hi]; simp
    | ⟨2, _⟩ => show win0_8.index t 2 * 128 + 1 * p.val = 128 * (t.val % 4) + p.val; rw [hi]; simp; omega
    | ⟨3, _⟩ => show win0_8.index t 3 * 1536 + 1 * e.val = e.val; rw [hi]; simp
  refine Eq.trans ?_ (congrArg (result4 m c) key).symm
  refine (blk_side m c t ⟨t.val / 4, by omega⟩ ⟨t.val % 4, by omega⟩ rfl rfl 1 _ ⟨128 * r.val + p.val, by omega⟩ (fun d => rows_1 m c t _ _ rfl rfl _ _ d) e).trans ?_
  exact side_congr m c 1 _ e (by show 512 * (t.val % 4) + (4 * ((128 * r.val + p.val) % 128) + (128 * r.val + p.val) / 128) = 4 * (128 * (t.val % 4) + p.val) + r.val; omega)

/-- So the array ends at the result. -/
theorem final_4 : (dats m 0 c).arrAt 8 cfg0.N = result4 m c :=
  (dats m 0 c).arrAt_eq_of_cover 8 (result4 m c) (fun t _ => flushed_4 m c t) fun (i : S32x4x512x1536.Idx) => by
    have hN : cfg0.N = 128 := N_0
    have h0 : (i 0 : Nat) < 32 := (i 0).isLt
    have h1 : (i 1 : Nat) < 4 := (i 1).isLt
    have h2 : (i 2 : Nat) < 512 := (i 2).isLt
    have h3 : (i 3 : Nat) < 1536 := (i 3).isLt
    obtain ⟨t, ht⟩ : ∃ t : Fin grid0.N, t.val = 4 * (i 0 : Nat) + (i 2 : Nat) / 128 := ⟨⟨4 * (i 0).val + (i 2).val / 128, by show _ < cfg0.N; omega⟩, rfl⟩
    have hi := index_4 t
    refine ⟨t, flush0_8 t, ?_⟩
    show i ∈ ((View.whole main_v129_1).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [hi]; show t.val / 4 * 1 ≤ _ ∧ _ < t.val / 4 * 1 + 1; omega
    | ⟨1, _⟩ => show win0_8.index t 1 * 4 ≤ (i 1 : Nat) ∧ (i 1 : Nat) < win0_8.index t 1 * 4 + 4; rw [hi]; simpa using h1
    | ⟨2, _⟩ => show win0_8.index t 2 * 128 ≤ (i 2 : Nat) ∧ (i 2 : Nat) < win0_8.index t 2 * 128 + 128; rw [hi]; show t.val % 4 * 128 ≤ _ ∧ _ < t.val % 4 * 128 + 128; omega
    | ⟨3, _⟩ => show win0_8.index t 3 * 1536 ≤ (i 3 : Nat) ∧ (i 3 : Nat) < win0_8.index t 3 * 1536 + 1536; rw [hi]; simpa using h3

/-- Point `t` writes its positions' part. -/
theorem flushed_16 (t : Fin cfg0.N) : (dats m 0 c).flushed 9 t = ((cfg0.win 9).blk t).view.read (Elt Ideal) (result16 m c) := by
  rw [Cert.Kernel3Ideal.Value.flushed9_A, out_16]
  have hN : cfg0.N = 128 := N_0
  have hi := index_16 t
  have ht := t.isLt
  funext y
  rw [View.read_apply]
  obtain ⟨z, r, p, e, rfl⟩ : ∃ (z : Fin 1) (r : Fin 16) (p : Fin 32) (e : Fin 1536), y = ix4 z r p e := ⟨y 0, y 1, y 2, y 3, eq_ix4 y⟩
  obtain rfl : z = 0 := Subsingleton.elim _ _
  have hr := r.isLt
  have hp := p.isLt
  have key : (((cfg0.win 9).blk t).view.emb (ix4 0 r p e) : S32x16x128x1536.Idx) = ix4 ⟨t.val / 4, by omega⟩ r ⟨32 * (t.val % 4) + p.val, by omega⟩ e := by
    funext a
    apply Fin.ext
    match a with
    | ⟨0, _⟩ => show win0_9.index t 0 * 1 + 1 * 0 = t.val / 4; rw [hi]; simp
    | ⟨1, _⟩ => show win0_9.index t 1 * 16 + 1 * r.val = r.val; rw [hi]; simp
    | ⟨2, _⟩ => show win0_9.index t 2 * 32 + 1 * p.val = 32 * (t.val % 4) + p.val; rw [hi]; simp; omega
    | ⟨3, _⟩ => show win0_9.index t 3 * 1536 + 1 * e.val = e.val; rw [hi]; simp
  refine Eq.trans ?_ (congrArg (result16 m c) key).symm
  refine (blk_side m c t ⟨t.val / 4, by omega⟩ ⟨t.val % 4, by omega⟩ rfl rfl 2 _ ⟨32 * r.val + p.val, by omega⟩ (fun d => rows_2 m c t _ _ rfl rfl _ _ d) e).trans ?_
  exact side_congr m c 2 _ e (by show 512 * (t.val % 4) + (16 * ((32 * r.val + p.val) % 32) + (32 * r.val + p.val) / 32) = 16 * (32 * (t.val % 4) + p.val) + r.val; omega)

/-- So the array ends at the result. -/
theorem final_16 : (dats m 0 c).arrAt 9 cfg0.N = result16 m c :=
  (dats m 0 c).arrAt_eq_of_cover 9 (result16 m c) (fun t _ => flushed_16 m c t) fun (i : S32x16x128x1536.Idx) => by
    have hN : cfg0.N = 128 := N_0
    have h0 : (i 0 : Nat) < 32 := (i 0).isLt
    have h1 : (i 1 : Nat) < 16 := (i 1).isLt
    have h2 : (i 2 : Nat) < 128 := (i 2).isLt
    have h3 : (i 3 : Nat) < 1536 := (i 3).isLt
    obtain ⟨t, ht⟩ : ∃ t : Fin grid0.N, t.val = 4 * (i 0 : Nat) + (i 2 : Nat) / 32 := ⟨⟨4 * (i 0).val + (i 2).val / 32, by show _ < cfg0.N; omega⟩, rfl⟩
    have hi := index_16 t
    refine ⟨t, flush0_9 t, ?_⟩
    show i ∈ ((View.whole main_v129_2).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1; rw [hi]; show t.val / 4 * 1 ≤ _ ∧ _ < t.val / 4 * 1 + 1; omega
    | ⟨1, _⟩ => show win0_9.index t 1 * 16 ≤ (i 1 : Nat) ∧ (i 1 : Nat) < win0_9.index t 1 * 16 + 16; rw [hi]; simpa using h1
    | ⟨2, _⟩ => show win0_9.index t 2 * 32 ≤ (i 2 : Nat) ∧ (i 2 : Nat) < win0_9.index t 2 * 32 + 32; rw [hi]; show t.val % 4 * 32 ≤ _ ∧ _ < t.val % 4 * 32 + 32; omega
    | ⟨3, _⟩ => show win0_9.index t 3 * 1536 ≤ (i 3 : Nat) ∧ (i 3 : Nat) < win0_9.index t 3 * 1536 + 1536; rw [hi]; simpa using h3

/-- Every fair run of the kernel ends with the four results in its arrays, its arguments as they were. -/
theorem run_results : θ_run defs (onTc (τ := τ) (main (F := Ideal))) ⟨m, fun _ => 0, ρ⟩ fun r => ∀ c : Dev nD,
      r.2.mem ((c.tc : Thread nD τ).loc main_v129_0) = result1 m c
      ∧ r.2.mem ((c.tc : Thread nD τ).loc main_v129_1) = result4 m c
      ∧ r.2.mem ((c.tc : Thread nD τ).loc main_v129_2) = result16 m c
      ∧ r.2.mem ((c.tc : Thread nD τ).loc main_v129_3) = resultF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_1 m c), (h c).2.1.trans (final_4 m c), (h c).2.2.1.trans (final_16 m c), (h c).2.2.2.1.trans (final_f m c), (h c).2.2.2.2⟩)
    (Cert.Kernel3Ideal.Value.run_blocks m ρ)

end Cert.Kernel3Ideal.Hand

end
-- ==== Proof.InprojReference.lean ====
/-
  The in-projection's reference: its results composed of named steps, and what the steps compute.
-/
module

public import proofs.«01_k».proof.Proof.Gen.Reference3Ideal.Run
public import Idealize.ShloMosaic.Lib.Quiescent
public import proofs.«01_k».proof.Proof.InprojHeads

@[expose] public section

noncomputable section

namespace Cert.Reference3Ideal.Hand

open Cert.Reference3Ideal Cert.Reference3Ideal.Gen Idealize.ShloMosaic Idealize.ShloMosaic.TcCoe Idealize.SL.Sem

section Steps

variable {F : FTy → Type} [FloatOps F]

/-- The inverse root mean squares of the rows; -/
def scale (x : FVec F S32x2048x1024 .f32) : FVec F S32x2048x1 .f32 :=
  Host.rsqrt (addf (Host.divf (broadcastInDim S32x2048x1 ![0, 1] bcast_S32x2048_S32x2048x1_0_1
      (Host.reduceAdd (mulf x x) (constant S_ .f32 0x00000000#32) reducesTo_S32x2048x1024_S32x2048_d2 h_S_))
      (broadcastInDim S32x2048x1 ![] bcast_S_S32x2048x1 (constant S_ .f32 0x44800000#32)))
    (broadcastInDim S32x2048x1 ![] bcast_S_S32x2048x1 (constant S_ .f32 0x358637BD#32)))

/-- the modulated norm. -/
def normed (x : FVec F S32x2048x1024 .f32) (mod : FVec F S32x6x1024 .f32) (g : FVec F S1x1024 .f32) : FVec F S32x2048x1024 .f32 :=
  addf (mulf (mulf (mulf x (broadcastInDim S32x2048x1024 ![0, 1, 2] bcast_S32x2048x1_S32x2048x1024_0_1_2 (scale x)))
      (broadcastInDim S32x2048x1024 ![0, 1, 2] bcast_S1x1x1024_S32x2048x1024_0_1_2 (broadcastInDim S1x1x1024 ![1, 2] bcast_S1x1024_S1x1x1024_1_2 g)))
      (broadcastInDim S32x2048x1024 ![0, 1, 2] bcast_S32x1x1024_S32x2048x1024_0_1_2
        (addf (broadcastInDim S32x1x1024 ![] bcast_S_S32x1x1024 (constant S_ .f32 0x3F800000#32))
          (extractStridedSlice S32x1x1024 ![0, 1, 0] mod slices_S32x6x1024_S32x1x1024_0_1_0))))
    (broadcastInDim S32x2048x1024 ![0, 1, 2] bcast_S32x1x1024_S32x2048x1024_0_1_2
      (extractStridedSlice S32x1x1024 ![0, 0, 0] mod slices_S32x6x1024_S32x1x1024_0_0_0))

/-- Its projection. -/
def projected (u : FVec F S32x2048x1024 .f32) (w : FVec F S1024x7168 .f32) : FVec F S32x2048x7168 .f32 :=
  Host.dotGeneral dot_S32x2048x1024_S1024x7168_S32x2048x7168_2_0_01_1_n_n none u w

/-- The Fourier branch's columns, rounded. -/
def fourier (z : FVec F S32x2048x7168 .f32) : FVec F S32x2048x512 .bf16 :=
  truncf .bf16 (extractStridedSlice S32x2048x512 ![0, 0, 4608] z slices_S32x2048x7168_S32x2048x512_0_0_4608) bitsLt_bf16_f32

/-- The rotation's angles, -/
def angles : FVec F S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

/-- their cosines and sines at every batch element and head. -/
def cosines : FVec F S32x2048x8x8 .f32 :=
  broadcastInDim S32x2048x8x8 ![0, 1, 2, 3] bcast_S1x2048x1x8_S32x2048x8x8_0_1_2_3 (broadcastInDim S1x2048x1x8 ![1, 3] bcast_S2048x8_S1x2048x1x8_1_3 (Host.cos angles))
def sines : FVec F S32x2048x8x8 .f32 :=
  broadcastInDim S32x2048x8x8 ![0, 1, 2, 3] bcast_S1x2048x1x8_S32x2048x8x8_0_1_2_3 (broadcastInDim S1x2048x1x8 ![1, 3] bcast_S2048x8_S1x2048x1x8_1_3 (Host.sin angles))

theorem head_slices (g j : Fin 3) : S32x2048x3x3x8x64.Slices ![0, 0, g.val, j.val, 0, 0] S32x2048x1x1x8x64 := by
  have := g.isLt; have := j.isLt
  exact ⟨rfl, fun a => by fin_cases a <;> simp [S32x2048x1x1x8x64, S32x2048x3x3x8x64] <;> omega⟩

/-- The heads of group `g`'s queries, keys or values. -/
def heads (z : FVec F S32x2048x7168 .f32) (g j : Fin 3) : FVec F S32x2048x8x64 .f32 :=
  shapeCast S32x2048x8x64 (extractStridedSlice S32x2048x1x1x8x64 ![0, 0, g.val, j.val, 0, 0]
    (shapeCast S32x2048x3x3x8x64 (extractStridedSlice S32x2048x4608 ![0, 0, 0] z slices_S32x2048x7168_S32x2048x4608_0_0_0) shapeCasts_S32x2048x4608_S32x2048x3x3x8x64)
    (head_slices g j)) shapeCasts_S32x2048x1x1x8x64_S32x2048x8x64

theorem gain_slices (g : Fin 3) : S3x64.Slices ![g.val, 0] S1x64 := by
  have := g.isLt
  exact ⟨rfl, fun a => by fin_cases a <;> simp [S1x64, S3x64] <;> omega⟩

/-- The heads over their root mean squares, times the group's gain; -/
def headsNormed (t : FVec F S32x2048x8x64 .f32) (gain : FVec F S3x64 .f32) (g : Fin 3) : FVec F S32x2048x8x64 .f32 :=
  mulf (mulf t (broadcastInDim S32x2048x8x64 ![0, 1, 2, 3] bcast_S32x2048x8x1_S32x2048x8x64_0_1_2_3 (Host.rsqrt (addf (Host.divf
      (broadcastInDim S32x2048x8x1 ![0, 1, 2] bcast_S32x2048x8_S32x2048x8x1_0_1_2 (Host.reduceAdd (mulf t t) (constant S_ .f32 0x00000000#32) reducesTo_S32x2048x8x64_S32x2048x8_d3 h_S_))
      (broadcastInDim S32x2048x8x1 ![] bcast_S_S32x2048x8x1 (constant S_ .f32 0x42800000#32)))
      (broadcastInDim S32x2048x8x1 ![] bcast_S_S32x2048x8x1 (constant S_ .f32 0x358637BD#32))))))
    (broadcastInDim S32x2048x8x64 ![0, 1, 2, 3] bcast_S1x1x1x64_S32x2048x8x64_0_1_2_3 (broadcastInDim S1x1x1x64 ![3] bcast_S64_S1x1x1x64_3
      (shapeCast S64 (extractStridedSlice S1x64 ![g.val, 0] gain (gain_slices g)) shapeCasts_S1x64_S64)))

/-- turned by the angles; -/
def headsTurned (t : FVec F S32x2048x8x64 .f32) : FVec F S32x2048x8x64 .f32 :=
  concatenate S32x2048x8x64 3
    [⟨S32x2048x8x8, subf (mulf (extractStridedSlice S32x2048x8x8 ![0, 0, 0, 0] t slices_S32x2048x8x64_S32x2048x8x8_0_0_0_0) cosines)
        (mulf (extractStridedSlice S32x2048x8x8 ![0, 0, 0, 8] t slices_S32x2048x8x64_S32x2048x8x8_0_0_0_8) sines)⟩,
      ⟨S32x2048x8x8, addf (mulf (extractStridedSlice S32x2048x8x8 ![0, 0, 0, 8] t slices_S32x2048x8x64_S32x2048x8x8_0_0_0_8) cosines)
        (mulf (extractStridedSlice S32x2048x8x8 ![0, 0, 0, 0] t slices_S32x2048x8x64_S32x2048x8x8_0_0_0_0) sines)⟩,
      ⟨S32x2048x8x48, extractStridedSlice S32x2048x8x48 ![0, 0, 0, 16] t slices_S32x2048x8x64_S32x2048x8x48_0_0_0_16⟩]
    concatenates_S32x2048x8x8_S32x2048x8x8_S32x2048x8x48_S32x2048x8x64_d3

/-- times the scores' scale. -/
def headsScaled (t : FVec F S32x2048x8x64 .f32) : FVec F S32x2048x8x64 .f32 :=
  mulf t (broadcastInDim S32x2048x8x64 ![] bcast_S_S32x2048x8x64 (constant S_ .f32 0x3E38AA3B#32))

/-- Queries, keys and values side by side. -/
def sideBySide (q k v : FVec F S32x2048x8x64 .f32) : FVec F S32x2048x1536 .f32 :=
  concatenate S32x2048x1536 2
    [⟨S32x2048x512, shapeCast S32x2048x512 q shapeCasts_S32x2048x8x64_S32x2048x512⟩,
      ⟨S32x2048x512, shapeCast S32x2048x512 k shapeCasts_S32x2048x8x64_S32x2048x512⟩,
      ⟨S32x2048x512, shapeCast S32x2048x512 v shapeCasts_S32x2048x8x64_S32x2048x512⟩] concatenates_S32x2048x512_S32x2048x512_S32x2048x512_S32x2048x1536_d2

/-- Group `g`'s. -/
def group (z : FVec F S32x2048x7168 .f32) (gq gk : FVec F S3x64 .f32) (g : Fin 3) : FVec F S32x2048x1536 .f32 :=
  sideBySide (headsScaled (headsTurned (headsNormed (heads z g 0) gq g))) (headsTurned (headsNormed (heads z g 1) gk g)) (heads z g 2)

/-- The positions of one residue class together, rounded: one class, four, sixteen. -/
def classes1 (t : FVec F S32x2048x1536 .f32) : FVec F S32x1x2048x1536 .bf16 :=
  truncf .bf16 (transpose S32x1x2048x1536 [0, 2, 1, 3] (shapeCast S32x2048x1x1536 t shapeCasts_S32x2048x1536_S32x2048x1x1536) transposes_S32x2048x1x1536_S32x1x2048x1536_0_2_1_3) bitsLt_bf16_f32
def classes4 (t : FVec F S32x2048x1536 .f32) : FVec F S32x4x512x1536 .bf16 :=
  truncf .bf16 (transpose S32x4x512x1536 [0, 2, 1, 3] (shapeCast S32x512x4x1536 t shapeCasts_S32x2048x1536_S32x512x4x1536) transposes_S32x512x4x1536_S32x4x512x1536_0_2_1_3) bitsLt_bf16_f32
def classes16 (t : FVec F S32x2048x1536 .f32) : FVec F S32x16x128x1536 .bf16 :=
  truncf .bf16 (transpose S32x16x128x1536 [0, 2, 1, 3] (shapeCast S32x128x16x1536 t shapeCasts_S32x2048x1536_S32x128x16x1536) transposes_S32x128x16x1536_S32x16x128x1536_0_2_1_3) bitsLt_bf16_f32

end Steps

/-! ## The steps at an index, over the extended reals -/

theorem scale_apply (x : Cert.Inproj.Rows) (b : Fin 32) (s : Fin 2048) : scale (F := Ideal) x (ix3 b s 0)
    = Ideal.rsqrt (Ideal.div (∑ k, x (ix3 b s k) * x (ix3 b s k)) Cert.Inproj.width + Cert.Inproj.eps) := by
  pointwise [scale, Cert.Inproj.width, Cert.Inproj.eps]

theorem normed_apply (x : Cert.Inproj.Rows) (mod : Cert.Inproj.Mods) (g : Cert.Inproj.Gain) (b : Fin 32) (s : Fin 2048) (d : Fin 1024) :
    normed (F := Ideal) x mod g (ix3 b s d) = Cert.Inproj.u x mod g b s d := by
  unfold Cert.Inproj.u Cert.Inproj.norm
  rw [← scale_apply]
  pointwise [normed, Cert.Inproj.one]

theorem projected_apply (u : FVec Ideal S32x2048x1024 .f32) (w : Cert.Inproj.Proj) (b : Fin 32) (s : Fin 2048) (e : Fin 7168) :
    projected (F := Ideal) u w (ix3 b s e) = ∑ d, u (ix3 b s d) * w (ix2 d e) := by
  pointwise [projected]

theorem fourier_apply (z : FVec Ideal S32x2048x7168 .f32) (b : Fin 32) (s : Fin 2048) (e : Fin 512) :
    fourier (F := Ideal) z (ix3 b s e) = z (ix3 b s ⟨4608 + e.val, by omega⟩) := by
  pointwise [fourier]

/-- The projection of the norm. -/
theorem z_apply (x : Cert.Inproj.Rows) (mod : Cert.Inproj.Mods) (g : Cert.Inproj.Gain) (w : Cert.Inproj.Proj) (b : Fin 32) (s : Fin 2048) (e : Fin 7168) :
    projected (F := Ideal) (normed (F := Ideal) x mod g) w (ix3 b s e) = Cert.Inproj.z x mod g w b s e := by
  rw [projected_apply]
  exact Finset.sum_congr rfl fun d _ => congrArg (· * _) (normed_apply x mod g b s d)

theorem angles_apply (s : Fin 2048) (i : Fin 8) : angles (F := Ideal) (ix2 s i) = Cert.Inproj.angle s i := by
  pointwise [angles, Cert.Inproj.angle]
theorem cosines_apply (b : Fin 32) (s : Fin 2048) (h i : Fin 8) : cosines (F := Ideal) (ix4 b s h i) = Ideal.cos (Cert.Inproj.angle s i) := by
  rw [← angles_apply]
  pointwise [cosines]
theorem sines_apply (b : Fin 32) (s : Fin 2048) (h i : Fin 8) : sines (F := Ideal) (ix4 b s h i) = Ideal.sin (Cert.Inproj.angle s i) := by
  rw [← angles_apply]
  pointwise [sines]

theorem heads_apply (z : FVec Ideal S32x2048x7168 .f32) (g j : Fin 3) (b : Fin 32) (s : Fin 2048) (h : Fin 8) (a : Fin 64) :
    heads (F := Ideal) z g j (ix4 b s h a) = Cert.Inproj.head (fun e => z (ix3 b s e)) g j h a := by
  pointwise [heads, Cert.Inproj.head]
  exact congrArg (fun e => z (ix3 b s e)) (Fin.ext (by dsimp only; omega))

theorem headsNormed_apply (t : FVec Ideal S32x2048x8x64 .f32) (gain : Cert.Inproj.Gains) (g : Fin 3) (b : Fin 32) (s : Fin 2048) (h : Fin 8) (a : Fin 64) :
    headsNormed (F := Ideal) t gain g (ix4 b s h a) = Cert.Inproj.headNorm (fun a => t (ix4 b s h a)) (fun a => gain (ix2 g a)) a := by
  pointwise [headsNormed, Cert.Inproj.headNorm, Cert.Inproj.headWidth, Cert.Inproj.eps]

theorem headsTurned_apply (t : FVec Ideal S32x2048x8x64 .f32) (b : Fin 32) (s : Fin 2048) (h : Fin 8) (a : Fin 64) :
    headsTurned (F := Ideal) t (ix4 b s h a) = Cert.Inproj.turned (fun a => t (ix4 b s h a)) s a := by
  simp only [Cert.Inproj.turned, ← cosines_apply b s h, ← sines_apply b s h]
  pointwise [headsTurned]
  by_cases h1 : a.val < 8
  · simp [h1, Nat.add_comm]
  · by_cases h2 : a.val < 16
    · have e : 8 + (a.val - 8) = a.val := by omega
      simp [h1, h2, e, show a.val - 8 < 8 by omega]
    · have e : 16 + (a.val - 8 - 8) = a.val := by omega
      simp [h1, h2, e, show ¬ a.val - 8 < 8 by omega]

theorem headsScaled_apply (t : FVec Ideal S32x2048x8x64 .f32) (b : Fin 32) (s : Fin 2048) (h : Fin 8) (a : Fin 64) :
    headsScaled (F := Ideal) t (ix4 b s h a) = t (ix4 b s h a) * Cert.Inproj.qScale := by
  pointwise [headsScaled, Cert.Inproj.qScale]

theorem sideBySide_apply (q k v : FVec Ideal S32x2048x8x64 .f32) (b : Fin 32) (s : Fin 2048) (j : Fin 3) (h : Fin 8) (a : Fin 64) :
    sideBySide (F := Ideal) q k v (ix3 b s ⟨512 * j.val + 64 * h.val + a.val, by omega⟩)
      = if j = 0 then q (ix4 b s h a) else if j = 1 then k (ix4 b s h a) else v (ix4 b s h a) := by
  have hh := h.isLt
  have ha := a.isLt
  fin_cases j
  · pointwise [sideBySide]
    rw [dif_pos (by omega)]
  · pointwise [sideBySide]
    rw [dif_neg (by omega), dif_pos (by omega)]
    exact congrArg₂ (fun h a => k (ix4 b s h a)) (Fin.ext (by dsimp only; omega)) (Fin.ext (by dsimp only; omega))
  · pointwise [sideBySide]
    rw [dif_neg (by omega), dif_neg (by omega)]
    exact congrArg₂ (fun h a => v (ix4 b s h a)) (Fin.ext (by dsimp only; omega)) (Fin.ext (by dsimp only; omega))

/-- Group `g`'s entry. -/
theorem group_apply (z : FVec Ideal S32x2048x7168 .f32) (gq gk : Cert.Inproj.Gains) (g : Fin 3) (b : Fin 32) (s : Fin 2048) (j : Fin 3) (h : Fin 8) (a : Fin 64) :
    group (F := Ideal) z gq gk g (ix3 b s ⟨512 * j.val + 64 * h.val + a.val, by omega⟩)
      = Cert.Inproj.entry (fun e => z (ix3 b s e)) gq gk s g j h a := by
  rw [group, sideBySide_apply, headsScaled_apply, headsTurned_apply, headsTurned_apply]
  simp only [headsNormed_apply, heads_apply, Cert.Inproj.entry]

theorem classes1_apply (t : FVec Ideal S32x2048x1536 .f32) (b : Fin 32) (r : Fin 1) (n : Fin 2048) (e : Fin 1536) :
    classes1 (F := Ideal) t (ix4 b r n e) = t (ix3 b ⟨n.val * 1 + r.val, by omega⟩ e) := by
  pointwise [classes1]
theorem classes4_apply (t : FVec Ideal S32x2048x1536 .f32) (b : Fin 32) (r : Fin 4) (n : Fin 512) (e : Fin 1536) :
    classes4 (F := Ideal) t (ix4 b r n e) = t (ix3 b ⟨n.val * 4 + r.val, by omega⟩ e) := by
  pointwise [classes4]
theorem classes16_apply (t : FVec Ideal S32x2048x1536 .f32) (b : Fin 32) (r : Fin 16) (n : Fin 128) (e : Fin 1536) :
    classes16 (F := Ideal) t (ix4 b r n e) = t (ix3 b ⟨n.val * 16 + r.val, by omega⟩ e) := by
  pointwise [classes16]

/-- What the reference projects, from its launch's arguments, -/
def launchZ {F : FTy → Type} [FloatOps F] (m : (ℓ : Loc nD τ sig) → Buf (Elt F) ℓ) (c : Dev nD) : FVec F S32x2048x7168 .f32 :=
  projected (normed (m ((c.tc : Thread nD τ).loc main_arg0)) (m ((c.tc : Thread nD τ).loc main_arg1)) (m ((c.tc : Thread nD τ).loc main_arg2)))
    (m ((c.tc : Thread nD τ).loc main_arg3))

/-- and a group's queries, keys and values. -/
def launchGroup {F : FTy → Type} [FloatOps F] (m : (ℓ : Loc nD τ sig) → Buf (Elt F) ℓ) (c : Dev nD) (g : Fin 3) : FVec F S32x2048x1536 .f32 :=
  group (launchZ m c) (m ((c.tc : Thread nD τ).loc main_arg4)) (m ((c.tc : Thread nD τ).loc main_arg5)) g

/-- Every fair run of the reference ends with the groups' queries, keys and values by class, and the Fourier branch's columns. -/
theorem run_results {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = classes1 (launchGroup m c 0)
      ∧ r.2.mem ((c.tc : Thread nD τ).loc main_v187) = classes4 (launchGroup m c 1)
      ∧ r.2.mem ((c.tc : Thread nD τ).loc main_v260) = classes16 (launchGroup m c 2)
      ∧ r.2.mem ((c.tc : Thread nD τ).loc main_v262) = fourier (launchZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2.1.trans rfl, (h c).2.2.2.2⟩)
    (Cert.Reference3Ideal.Value.run m ρ)

/-- Every fair run of the reference ends with its arguments as they were and every counter at zero. -/
theorem frame_main {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run defs _ _).mono (fun r h => ⟨fun c => (h c).2.2.2.2, sem_eq_zero_of_no_sems rfl r.2⟩)
    (Cert.Reference3Ideal.Value.run m ρ)

end Cert.Reference3Ideal.Hand

end
-- ==== Proof.InprojAlgebra.lean ====
/-
  The in-projection's claim: from equal arguments, kernel and reference leave equal results.
-/
module

public import proofs.«01_k».proof.Defs
public import proofs.«01_k».proof.Proof.InprojResults
public import proofs.«01_k».proof.Proof.InprojReference
public import Idealize.ShloMosaic.Lib.Claim

@[expose] public section

noncomputable section

namespace Cert.Proof

open Idealize.ShloMosaic Idealize.ShloMosaic.TcCoe Idealize.SL.Sem

section Same

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)
  (hargs : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
    ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
    ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
    ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
    ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
    ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))

include hargs

/-- What the reference projects is the kernel's row. -/
theorem z_same (b : Fin 32) (s : Fin 2048) (e : Fin 7168) :
    Cert.Reference3Ideal.Hand.launchZ (F := Ideal) m' c (ix3 b s e) = Cert.Kernel3Ideal.Hand.rowZ m c b s e := by
  obtain ⟨e0, e1, e2, e3, -, -⟩ := hargs
  unfold Cert.Reference3Ideal.Hand.launchZ
  rw [e0, e1, e2, e3, Cert.Reference3Ideal.Hand.z_apply]

/-- A column of a group's queries, keys and values, -/
theorem group_same (g : Fin 3) (b : Fin 32) (s : Fin 2048) (e : Fin 1536) :
    Cert.Reference3Ideal.Hand.launchGroup (F := Ideal) m' c g (ix3 b s e) = Cert.Kernel3Ideal.Hand.sideEntry m c g b s e := by
  have hz := funext (z_same m m' c hargs b s)
  obtain ⟨-, -, -, -, e4, e5⟩ := hargs
  have he : e = ⟨512 * (⟨e.val / 512, by omega⟩ : Fin 3).val + 64 * (⟨e.val % 512 / 64, by omega⟩ : Fin 8).val + (⟨e.val % 64, by omega⟩ : Fin 64).val, by dsimp only; omega⟩ :=
    Fin.ext (by dsimp only; omega)
  unfold Cert.Reference3Ideal.Hand.launchGroup
  rw [e4, e5]
  refine (congrArg (fun e => Cert.Reference3Ideal.Hand.group (F := Ideal) _ _ _ g (ix3 b s e)) he).trans ?_
  rw [Cert.Reference3Ideal.Hand.group_apply, hz]
  rfl

/-- so each group's result by residue class, -/
theorem same_1 : Cert.Reference3Ideal.Hand.classes1 (F := Ideal) (Cert.Reference3Ideal.Hand.launchGroup m' c 0) = Cert.Kernel3Ideal.Hand.result1 m c := by
  funext i
  obtain ⟨b, r, n, e, rfl⟩ : ∃ (b : Fin 32) (r : Fin 1) (n : Fin 2048) (e : Fin 1536), i = ix4 b r n e := ⟨i 0, i 1, i 2, i 3, eq_ix4 i⟩
  rw [Cert.Reference3Ideal.Hand.classes1_apply, group_same m m' c hargs 0]
  exact Cert.Kernel3Ideal.Hand.side_congr m c 0 b e (by show n.val * 1 + r.val = n.val; omega)

theorem same_4 : Cert.Reference3Ideal.Hand.classes4 (F := Ideal) (Cert.Reference3Ideal.Hand.launchGroup m' c 1) = Cert.Kernel3Ideal.Hand.result4 m c := by
  funext i
  obtain ⟨b, r, n, e, rfl⟩ : ∃ (b : Fin 32) (r : Fin 4) (n : Fin 512) (e : Fin 1536), i = ix4 b r n e := ⟨i 0, i 1, i 2, i 3, eq_ix4 i⟩
  rw [Cert.Reference3Ideal.Hand.classes4_apply, group_same m m' c hargs 1]
  exact Cert.Kernel3Ideal.Hand.side_congr m c 1 b e (by show n.val * 4 + r.val = 4 * n.val + r.val; omega)

theorem same_16 : Cert.Reference3Ideal.Hand.classes16 (F := Ideal) (Cert.Reference3Ideal.Hand.launchGroup m' c 2) = Cert.Kernel3Ideal.Hand.result16 m c := by
  funext i
  obtain ⟨b, r, n, e, rfl⟩ : ∃ (b : Fin 32) (r : Fin 16) (n : Fin 128) (e : Fin 1536), i = ix4 b r n e := ⟨i 0, i 1, i 2, i 3, eq_ix4 i⟩
  rw [Cert.Reference3Ideal.Hand.classes16_apply, group_same m m' c hargs 2]
  exact Cert.Kernel3Ideal.Hand.side_congr m c 2 b e (by show n.val * 16 + r.val = 16 * n.val + r.val; omega)

/-- and the Fourier branch's columns. -/
theorem fourier_same : Cert.Reference3Ideal.Hand.fourier (F := Ideal) (Cert.Reference3Ideal.Hand.launchZ m' c) = Cert.Kernel3Ideal.Hand.resultF m c := by
  funext i
  obtain ⟨b, s, e, rfl⟩ : ∃ (b : Fin 32) (s : Fin 2048) (e : Fin 512), i = ix3 b s e := ⟨i 0, i 1, i 2, eq_ix3 i⟩
  rw [Cert.Reference3Ideal.Hand.fourier_apply, z_same m m' c hargs]
  rfl

end Same

/-- From equal arguments both end with equal results. -/
theorem algebraic3 : Cert.algebraic_Kernel3Ideal_Reference3Ideal (hKernel3Ideal := Cert.Kernel3Ideal.Gen.facts)
    (hReference3Ideal := Cert.Reference3Ideal.Gen.facts) := fun m g m' g' _ hargs =>
  ⟨Cert.Kernel3Ideal.Hand.result1 m, Cert.Kernel3Ideal.Hand.result4 m, Cert.Kernel3Ideal.Hand.result16 m, Cert.Kernel3Ideal.Hand.resultF m,
    Cert.Kernel3Ideal.Hand.run_results m g,
    θ_run_mono (Cert.Reference3Ideal.Hand.run_results m' g') fun _ hr c =>
      ⟨(hr c).1.trans (same_1 m m' c (hargs c)), (hr c).2.1.trans (same_4 m m' c (hargs c)), (hr c).2.2.1.trans (same_16 m m' c (hargs c)),
        (hr c).2.2.2.1.trans (fourier_same m m' c (hargs c)), (hr c).2.2.2.2⟩⟩

end Cert.Proof

end
-- ==== Proof.lean ====
/-
  The claims: the three frames, the named constants, and that the kernel's results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_some_block
public import proofs.«01_k».proof.Proof.KernelSound
public import proofs.«01_k».proof.Proof.Sound
public import proofs.«01_k».proof.Proof.ReferenceFrame
public import proofs.«01_k».proof.Proof.Algebra
public import proofs.«01_k».proof.Proof.ExpertAlgebra
public import proofs.«01_k».proof.Proof.InprojAlgebra
public import Idealize.ShloMosaic.Adequacy
public import Idealize.ShloMosaic.Init

@[expose] public section

noncomputable section

open Idealize.ShloMosaic

/-- Every claim of the certificate. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_some_block.Gen.facts,
    fun m ρ _ => Cert.Kernel.Hand.frame_main m ρ,
    fun m ρ _ => Cert.KernelIdeal.Hand.frame_main m ρ,
    fun m ρ _ => Cert.ReferenceIdeal.Hand.frame_main m ρ,
    Cert.Proof.frame2, Cert.Proof.frame2Ideal,
    fun m ρ _ => Cert.Reference2Ideal.Hand.frame_main m ρ,
    fun m ρ _ => Cert.Reference2Ideal.Hand.frame_main m ρ,
    fun m ρ _ => Cert.Kernel3.Gen.frame m ρ,
    fun m ρ _ => Cert.Kernel3Ideal.Gen.frame m ρ,
    fun m ρ _ => Cert.Reference3Ideal.Hand.frame_main m ρ,
    ⟨IdealRules.named_const.statement Cert.KernelIdeal.κ "mask" .f32 0xF149F2CA#32 _ rfl,
      IdealRules.named_const.statement Cert.KernelIdeal.κ "log2e" .f32 0x3FB8AA3B#32 _ rfl,
      IdealRules.named_const.statement Cert.KernelIdeal.κ "ln2" .f32 0x3F317218#32 _ rfl⟩,
    Cert.Proof.algebraic, trivial, Cert.Proof.algebraic2, trivial, Cert.Proof.algebraic3⟩

end
